-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Full (m : (ℓ : Loc Cert.Full.nD Cert.Full.τ Cert.Full.sig) → Buf (Elt Bits) ℓ) : Prop :=
  True

def Pre_FullIdeal (m : (ℓ : Loc Cert.FullIdeal.nD Cert.FullIdeal.τ Cert.FullIdeal.sig) → Buf (Elt Ideal) ℓ) : Prop :=
  True

def Pre_FullIdeal_finite [hPre_finite : Cert.Pre_finite.Facts] (m : (ℓ : Loc Cert.FullIdeal.nD Cert.FullIdeal.τ Cert.FullIdeal.sig) → Buf (Elt Ideal) ℓ) : Prop :=
  ∀ c : Dev Cert.FullIdeal.nD,
    (Cert.Pre_finite.fn (F := Ideal) (m ((c.tc : Thread Cert.FullIdeal.nD Cert.FullIdeal.τ).loc Cert.FullIdeal.main_arg0)) (m ((c.tc : Thread Cert.FullIdeal.nD Cert.FullIdeal.τ).loc Cert.FullIdeal.main_arg1)) (m ((c.tc : Thread Cert.FullIdeal.nD Cert.FullIdeal.τ).loc Cert.FullIdeal.main_arg2)) (m ((c.tc : Thread Cert.FullIdeal.nD Cert.FullIdeal.τ).loc Cert.FullIdeal.main_arg3)) (m ((c.tc : Thread Cert.FullIdeal.nD Cert.FullIdeal.τ).loc Cert.FullIdeal.main_arg4)) (m ((c.tc : Thread Cert.FullIdeal.nD Cert.FullIdeal.τ).loc Cert.FullIdeal.main_arg5)) (m ((c.tc : Thread Cert.FullIdeal.nD Cert.FullIdeal.τ).loc Cert.FullIdeal.main_arg6))) = (fun _ => 1#1)

def Pre_FullRefIdeal (m : (ℓ : Loc Cert.FullRefIdeal.nD Cert.FullRefIdeal.τ Cert.FullRefIdeal.sig) → Buf (Elt Ideal) ℓ) : Prop :=
  True

def Pre_FullRefIdeal_finite [hPre_finite : Cert.Pre_finite.Facts] (m : (ℓ : Loc Cert.FullRefIdeal.nD Cert.FullRefIdeal.τ Cert.FullRefIdeal.sig) → Buf (Elt Ideal) ℓ) : Prop :=
  ∀ c : Dev Cert.FullRefIdeal.nD,
    (Cert.Pre_finite.fn (F := Ideal) (m ((c.tc : Thread Cert.FullRefIdeal.nD Cert.FullRefIdeal.τ).loc Cert.FullRefIdeal.main_arg0)) (m ((c.tc : Thread Cert.FullRefIdeal.nD Cert.FullRefIdeal.τ).loc Cert.FullRefIdeal.main_arg1)) (m ((c.tc : Thread Cert.FullRefIdeal.nD Cert.FullRefIdeal.τ).loc Cert.FullRefIdeal.main_arg2)) (m ((c.tc : Thread Cert.FullRefIdeal.nD Cert.FullRefIdeal.τ).loc Cert.FullRefIdeal.main_arg3)) (m ((c.tc : Thread Cert.FullRefIdeal.nD Cert.FullRefIdeal.τ).loc Cert.FullRefIdeal.main_arg4)) (m ((c.tc : Thread Cert.FullRefIdeal.nD Cert.FullRefIdeal.τ).loc Cert.FullRefIdeal.main_arg5)) (m ((c.tc : Thread Cert.FullRefIdeal.nD Cert.FullRefIdeal.τ).loc Cert.FullRefIdeal.main_arg6))) = (fun _ => 1#1)

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Full [hFull : Cert.Full.Facts] : Prop :=
  ∀ (m : (ℓ : Loc Cert.Full.nD Cert.Full.τ Cert.Full.sig) → Buf (Elt Bits) ℓ) (g : Dev Cert.Full.nD → PrngReg), Pre_Full m →
    θ_run (Cert.Full.defs (F := Bits)) (onTc (τ := Cert.Full.τ) (Cert.Full.main (F := Bits))) ⟨m, fun _ => 0, g⟩ (fun r => (∀ c : Dev Cert.Full.nD,
      r.2.mem ((c.tc : Thread Cert.Full.nD Cert.Full.τ).loc Cert.Full.main_arg0) = m ((c.tc : Thread Cert.Full.nD Cert.Full.τ).loc Cert.Full.main_arg0)
      ∧ r.2.mem ((c.tc : Thread Cert.Full.nD Cert.Full.τ).loc Cert.Full.main_arg1) = m ((c.tc : Thread Cert.Full.nD Cert.Full.τ).loc Cert.Full.main_arg1)
      ∧ r.2.mem ((c.tc : Thread Cert.Full.nD Cert.Full.τ).loc Cert.Full.main_arg2) = m ((c.tc : Thread Cert.Full.nD Cert.Full.τ).loc Cert.Full.main_arg2)
      ∧ r.2.mem ((c.tc : Thread Cert.Full.nD Cert.Full.τ).loc Cert.Full.main_arg3) = m ((c.tc : Thread Cert.Full.nD Cert.Full.τ).loc Cert.Full.main_arg3)
      ∧ r.2.mem ((c.tc : Thread Cert.Full.nD Cert.Full.τ).loc Cert.Full.main_arg4) = m ((c.tc : Thread Cert.Full.nD Cert.Full.τ).loc Cert.Full.main_arg4)
      ∧ r.2.mem ((c.tc : Thread Cert.Full.nD Cert.Full.τ).loc Cert.Full.main_arg5) = m ((c.tc : Thread Cert.Full.nD Cert.Full.τ).loc Cert.Full.main_arg5)
      ∧ r.2.mem ((c.tc : Thread Cert.Full.nD Cert.Full.τ).loc Cert.Full.main_arg6) = m ((c.tc : Thread Cert.Full.nD Cert.Full.τ).loc Cert.Full.main_arg6))
      ∧ r.2.sem = fun _ => 0)

def quiescent_FullIdeal [hFullIdeal : Cert.FullIdeal.Facts] : Prop :=
  ∀ (m : (ℓ : Loc Cert.FullIdeal.nD Cert.FullIdeal.τ Cert.FullIdeal.sig) → Buf (Elt Ideal) ℓ) (g : Dev Cert.FullIdeal.nD → PrngReg), Pre_FullIdeal m →
    θ_run (Cert.FullIdeal.defs (F := Ideal)) (onTc (τ := Cert.FullIdeal.τ) (Cert.FullIdeal.main (F := Ideal))) ⟨m, fun _ => 0, g⟩ (fun r => (∀ c : Dev Cert.FullIdeal.nD,
      r.2.mem ((c.tc : Thread Cert.FullIdeal.nD Cert.FullIdeal.τ).loc Cert.FullIdeal.main_arg0) = m ((c.tc : Thread Cert.FullIdeal.nD Cert.FullIdeal.τ).loc Cert.FullIdeal.main_arg0)
      ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
      ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
      ∧ r.2.mem ((c.tc : Thread Cert.FullIdeal.nD Cert.FullIdeal.τ).loc Cert.FullIdeal.main_arg3) = m ((c.tc : Thread Cert.FullIdeal.nD Cert.FullIdeal.τ).loc Cert.FullIdeal.main_arg3)
      ∧ r.2.mem ((c.tc : Thread Cert.FullIdeal.nD Cert.FullIdeal.τ).loc Cert.FullIdeal.main_arg4) = m ((c.tc : Thread Cert.FullIdeal.nD Cert.FullIdeal.τ).loc Cert.FullIdeal.main_arg4)
      ∧ r.2.mem ((c.tc : Thread Cert.FullIdeal.nD Cert.FullIdeal.τ).loc Cert.FullIdeal.main_arg5) = m ((c.tc : Thread Cert.FullIdeal.nD Cert.FullIdeal.τ).loc Cert.FullIdeal.main_arg5)
      ∧ r.2.mem ((c.tc : Thread Cert.FullIdeal.nD Cert.FullIdeal.τ).loc Cert.FullIdeal.main_arg6) = m ((c.tc : Thread Cert.FullIdeal.nD Cert.FullIdeal.τ).loc Cert.FullIdeal.main_arg6))
      ∧ r.2.sem = fun _ => 0)

def quiescent_FullIdeal_pre_finite [hFullIdeal : Cert.FullIdeal.Facts] [hPre_finite : Cert.Pre_finite.Facts] : Prop :=
  ∀ (m : (ℓ : Loc Cert.FullIdeal.nD Cert.FullIdeal.τ Cert.FullIdeal.sig) → Buf (Elt Ideal) ℓ) (g : Dev Cert.FullIdeal.nD → PrngReg), Pre_FullIdeal_finite m →
    θ_run (Cert.FullIdeal.defs (F := Ideal)) (onTc (τ := Cert.FullIdeal.τ) (Cert.FullIdeal.main (F := Ideal))) ⟨m, fun _ => 0, g⟩ (fun r => (∀ c : Dev Cert.FullIdeal.nD,
      r.2.mem ((c.tc : Thread Cert.FullIdeal.nD Cert.FullIdeal.τ).loc Cert.FullIdeal.main_arg0) = m ((c.tc : Thread Cert.FullIdeal.nD Cert.FullIdeal.τ).loc Cert.FullIdeal.main_arg0)
      ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
      ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
      ∧ r.2.mem ((c.tc : Thread Cert.FullIdeal.nD Cert.FullIdeal.τ).loc Cert.FullIdeal.main_arg3) = m ((c.tc : Thread Cert.FullIdeal.nD Cert.FullIdeal.τ).loc Cert.FullIdeal.main_arg3)
      ∧ r.2.mem ((c.tc : Thread Cert.FullIdeal.nD Cert.FullIdeal.τ).loc Cert.FullIdeal.main_arg4) = m ((c.tc : Thread Cert.FullIdeal.nD Cert.FullIdeal.τ).loc Cert.FullIdeal.main_arg4)
      ∧ r.2.mem ((c.tc : Thread Cert.FullIdeal.nD Cert.FullIdeal.τ).loc Cert.FullIdeal.main_arg5) = m ((c.tc : Thread Cert.FullIdeal.nD Cert.FullIdeal.τ).loc Cert.FullIdeal.main_arg5)
      ∧ r.2.mem ((c.tc : Thread Cert.FullIdeal.nD Cert.FullIdeal.τ).loc Cert.FullIdeal.main_arg6) = m ((c.tc : Thread Cert.FullIdeal.nD Cert.FullIdeal.τ).loc Cert.FullIdeal.main_arg6))
      ∧ r.2.sem = fun _ => 0)

def quiescent_FullRefIdeal [hFullRefIdeal : Cert.FullRefIdeal.Facts] : Prop :=
  ∀ (m : (ℓ : Loc Cert.FullRefIdeal.nD Cert.FullRefIdeal.τ Cert.FullRefIdeal.sig) → Buf (Elt Ideal) ℓ) (g : Dev Cert.FullRefIdeal.nD → PrngReg), Pre_FullRefIdeal m →
    θ_run (Cert.FullRefIdeal.defs (F := Ideal)) (onTc (τ := Cert.FullRefIdeal.τ) (Cert.FullRefIdeal.main (F := Ideal))) ⟨m, fun _ => 0, g⟩ (fun r => (∀ c : Dev Cert.FullRefIdeal.nD,
      r.2.mem ((c.tc : Thread Cert.FullRefIdeal.nD Cert.FullRefIdeal.τ).loc Cert.FullRefIdeal.main_arg0) = m ((c.tc : Thread Cert.FullRefIdeal.nD Cert.FullRefIdeal.τ).loc Cert.FullRefIdeal.main_arg0)
      ∧ r.2.mem ((c.tc : Thread Cert.FullRefIdeal.nD Cert.FullRefIdeal.τ).loc Cert.FullRefIdeal.main_arg1) = m ((c.tc : Thread Cert.FullRefIdeal.nD Cert.FullRefIdeal.τ).loc Cert.FullRefIdeal.main_arg1)
      ∧ r.2.mem ((c.tc : Thread Cert.FullRefIdeal.nD Cert.FullRefIdeal.τ).loc Cert.FullRefIdeal.main_arg2) = m ((c.tc : Thread Cert.FullRefIdeal.nD Cert.FullRefIdeal.τ).loc Cert.FullRefIdeal.main_arg2)
      ∧ r.2.mem ((c.tc : Thread Cert.FullRefIdeal.nD Cert.FullRefIdeal.τ).loc Cert.FullRefIdeal.main_arg3) = m ((c.tc : Thread Cert.FullRefIdeal.nD Cert.FullRefIdeal.τ).loc Cert.FullRefIdeal.main_arg3)
      ∧ r.2.mem ((c.tc : Thread Cert.FullRefIdeal.nD Cert.FullRefIdeal.τ).loc Cert.FullRefIdeal.main_arg4) = m ((c.tc : Thread Cert.FullRefIdeal.nD Cert.FullRefIdeal.τ).loc Cert.FullRefIdeal.main_arg4)
      ∧ r.2.mem ((c.tc : Thread Cert.FullRefIdeal.nD Cert.FullRefIdeal.τ).loc Cert.FullRefIdeal.main_arg5) = m ((c.tc : Thread Cert.FullRefIdeal.nD Cert.FullRefIdeal.τ).loc Cert.FullRefIdeal.main_arg5)
      ∧ r.2.mem ((c.tc : Thread Cert.FullRefIdeal.nD Cert.FullRefIdeal.τ).loc Cert.FullRefIdeal.main_arg6) = m ((c.tc : Thread Cert.FullRefIdeal.nD Cert.FullRefIdeal.τ).loc Cert.FullRefIdeal.main_arg6))
      ∧ r.2.sem = fun _ => 0)

def quiescent_FullRefIdeal_pre_finite [hFullRefIdeal : Cert.FullRefIdeal.Facts] [hPre_finite : Cert.Pre_finite.Facts] : Prop :=
  ∀ (m : (ℓ : Loc Cert.FullRefIdeal.nD Cert.FullRefIdeal.τ Cert.FullRefIdeal.sig) → Buf (Elt Ideal) ℓ) (g : Dev Cert.FullRefIdeal.nD → PrngReg), Pre_FullRefIdeal_finite m →
    θ_run (Cert.FullRefIdeal.defs (F := Ideal)) (onTc (τ := Cert.FullRefIdeal.τ) (Cert.FullRefIdeal.main (F := Ideal))) ⟨m, fun _ => 0, g⟩ (fun r => (∀ c : Dev Cert.FullRefIdeal.nD,
      r.2.mem ((c.tc : Thread Cert.FullRefIdeal.nD Cert.FullRefIdeal.τ).loc Cert.FullRefIdeal.main_arg0) = m ((c.tc : Thread Cert.FullRefIdeal.nD Cert.FullRefIdeal.τ).loc Cert.FullRefIdeal.main_arg0)
      ∧ r.2.mem ((c.tc : Thread Cert.FullRefIdeal.nD Cert.FullRefIdeal.τ).loc Cert.FullRefIdeal.main_arg1) = m ((c.tc : Thread Cert.FullRefIdeal.nD Cert.FullRefIdeal.τ).loc Cert.FullRefIdeal.main_arg1)
      ∧ r.2.mem ((c.tc : Thread Cert.FullRefIdeal.nD Cert.FullRefIdeal.τ).loc Cert.FullRefIdeal.main_arg2) = m ((c.tc : Thread Cert.FullRefIdeal.nD Cert.FullRefIdeal.τ).loc Cert.FullRefIdeal.main_arg2)
      ∧ r.2.mem ((c.tc : Thread Cert.FullRefIdeal.nD Cert.FullRefIdeal.τ).loc Cert.FullRefIdeal.main_arg3) = m ((c.tc : Thread Cert.FullRefIdeal.nD Cert.FullRefIdeal.τ).loc Cert.FullRefIdeal.main_arg3)
      ∧ r.2.mem ((c.tc : Thread Cert.FullRefIdeal.nD Cert.FullRefIdeal.τ).loc Cert.FullRefIdeal.main_arg4) = m ((c.tc : Thread Cert.FullRefIdeal.nD Cert.FullRefIdeal.τ).loc Cert.FullRefIdeal.main_arg4)
      ∧ r.2.mem ((c.tc : Thread Cert.FullRefIdeal.nD Cert.FullRefIdeal.τ).loc Cert.FullRefIdeal.main_arg5) = m ((c.tc : Thread Cert.FullRefIdeal.nD Cert.FullRefIdeal.τ).loc Cert.FullRefIdeal.main_arg5)
      ∧ r.2.mem ((c.tc : Thread Cert.FullRefIdeal.nD Cert.FullRefIdeal.τ).loc Cert.FullRefIdeal.main_arg6) = m ((c.tc : Thread Cert.FullRefIdeal.nD Cert.FullRefIdeal.τ).loc Cert.FullRefIdeal.main_arg6))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2)
      ∧ r.2.mem ((c.tc : Thread Cert.Modulate.nD Cert.Modulate.τ).loc Cert.Modulate.main_arg3) = m ((c.tc : Thread Cert.Modulate.nD Cert.Modulate.τ).loc Cert.Modulate.main_arg3))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
      ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2)
      ∧ r.2.mem ((c.tc : Thread Cert.ModulateRefIdeal.nD Cert.ModulateRefIdeal.τ).loc Cert.ModulateRefIdeal.main_arg3) = m ((c.tc : Thread Cert.ModulateRefIdeal.nD Cert.ModulateRefIdeal.τ).loc Cert.ModulateRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def preserves_Kernel_KernelIdeal : Prop :=
  IdealRules.named_const.Statement Cert.KernelIdeal.κ "qscale" .f32 0x3E38AA3B#32 ((8⁻¹ * (Real.log 2)⁻¹ : ℝ) : EReal)
  ∧ IdealRules.named_const.Statement Cert.KernelIdeal.κ "mask" .f32 0xF149F2CA#32 ⊥
  ∧ IdealRules.named_const.Statement Cert.KernelIdeal.κ "log2e" .f32 0x3FB8AA3B#32 (((Real.log 2)⁻¹ : ℝ) : EReal)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v5)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v5) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v54) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)) →
    ∃ (v0 : (c : Dev Cert.InprojIdeal.nD) → Buf (Elt Ideal) ((c.tc : Thread Cert.InprojIdeal.nD Cert.InprojIdeal.τ).loc Cert.InprojIdeal.main_v29)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v29) = v0 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v53) = v0 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v77) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Full_FullIdeal : Prop :=
  IdealRules.named_const.Statement Cert.FullIdeal.κ "qscale" .f32 0x3E38AA3B#32 ((8⁻¹ * (Real.log 2)⁻¹ : ℝ) : EReal)
  ∧ IdealRules.named_const.Statement Cert.FullIdeal.κ "mask" .f32 0xF149F2CA#32 ⊥
  ∧ IdealRules.named_const.Statement Cert.FullIdeal.κ "log2e" .f32 0x3FB8AA3B#32 (((Real.log 2)⁻¹ : ℝ) : EReal)

def algebraic_FullIdeal_FullRefIdeal_pre_finite [hFullIdeal : Cert.FullIdeal.Facts] [hFullRefIdeal : Cert.FullRefIdeal.Facts] [hPre_finite : Cert.Pre_finite.Facts] : Prop :=
  ∀ (m : (ℓ : Loc Cert.FullIdeal.nD Cert.FullIdeal.τ Cert.FullIdeal.sig) → Buf (Elt Ideal) ℓ) (g : Dev Cert.FullIdeal.nD → PrngReg)
    (m' : (ℓ : Loc Cert.FullRefIdeal.nD Cert.FullRefIdeal.τ Cert.FullRefIdeal.sig) → Buf (Elt Ideal) ℓ) (g' : Dev Cert.FullRefIdeal.nD → PrngReg), Pre_FullIdeal_finite m →
    (∀ c : Dev Cert.FullIdeal.nD,
      m' ((c.tc : Thread Cert.FullRefIdeal.nD Cert.FullRefIdeal.τ).loc Cert.FullRefIdeal.main_arg0) = m ((c.tc : Thread Cert.FullIdeal.nD Cert.FullIdeal.τ).loc Cert.FullIdeal.main_arg0)
      ∧ m' ((c.tc : Thread Cert.FullRefIdeal.nD Cert.FullRefIdeal.τ).loc Cert.FullRefIdeal.main_arg1) = m ((c.tc : Thread Cert.FullIdeal.nD Cert.FullIdeal.τ).loc Cert.FullIdeal.main_arg1)
      ∧ m' ((c.tc : Thread Cert.FullRefIdeal.nD Cert.FullRefIdeal.τ).loc Cert.FullRefIdeal.main_arg2) = m ((c.tc : Thread Cert.FullIdeal.nD Cert.FullIdeal.τ).loc Cert.FullIdeal.main_arg2)
      ∧ m' ((c.tc : Thread Cert.FullRefIdeal.nD Cert.FullRefIdeal.τ).loc Cert.FullRefIdeal.main_arg3) = m ((c.tc : Thread Cert.FullIdeal.nD Cert.FullIdeal.τ).loc Cert.FullIdeal.main_arg3)
      ∧ m' ((c.tc : Thread Cert.FullRefIdeal.nD Cert.FullRefIdeal.τ).loc Cert.FullRefIdeal.main_arg4) = m ((c.tc : Thread Cert.FullIdeal.nD Cert.FullIdeal.τ).loc Cert.FullIdeal.main_arg4)
      ∧ m' ((c.tc : Thread Cert.FullRefIdeal.nD Cert.FullRefIdeal.τ).loc Cert.FullRefIdeal.main_arg5) = m ((c.tc : Thread Cert.FullIdeal.nD Cert.FullIdeal.τ).loc Cert.FullIdeal.main_arg5)
      ∧ m' ((c.tc : Thread Cert.FullRefIdeal.nD Cert.FullRefIdeal.τ).loc Cert.FullRefIdeal.main_arg6) = m ((c.tc : Thread Cert.FullIdeal.nD Cert.FullIdeal.τ).loc Cert.FullIdeal.main_arg6)) →
    ∃ (v0 : (c : Dev Cert.FullIdeal.nD) → Buf (Elt Ideal) ((c.tc : Thread Cert.FullIdeal.nD Cert.FullIdeal.τ).loc Cert.FullIdeal.main_v40)),
      θ_run (Cert.FullIdeal.defs (F := Ideal)) (onTc (τ := Cert.FullIdeal.τ) (Cert.FullIdeal.main (F := Ideal))) ⟨m, fun _ => 0, g⟩ (fun r => ∀ c : Dev Cert.FullIdeal.nD,
          r.2.mem ((c.tc : Thread Cert.FullIdeal.nD Cert.FullIdeal.τ).loc Cert.FullIdeal.main_v40) = v0 c
          ∧ r.2.mem ((c.tc : Thread Cert.FullIdeal.nD Cert.FullIdeal.τ).loc Cert.FullIdeal.main_arg0) = m ((c.tc : Thread Cert.FullIdeal.nD Cert.FullIdeal.τ).loc Cert.FullIdeal.main_arg0)
          ∧ r.2.mem ((c.tc : Thread Cert.FullIdeal.nD Cert.FullIdeal.τ).loc Cert.FullIdeal.main_arg1) = m ((c.tc : Thread Cert.FullIdeal.nD Cert.FullIdeal.τ).loc Cert.FullIdeal.main_arg1)
          ∧ r.2.mem ((c.tc : Thread Cert.FullIdeal.nD Cert.FullIdeal.τ).loc Cert.FullIdeal.main_arg2) = m ((c.tc : Thread Cert.FullIdeal.nD Cert.FullIdeal.τ).loc Cert.FullIdeal.main_arg2)
          ∧ r.2.mem ((c.tc : Thread Cert.FullIdeal.nD Cert.FullIdeal.τ).loc Cert.FullIdeal.main_arg3) = m ((c.tc : Thread Cert.FullIdeal.nD Cert.FullIdeal.τ).loc Cert.FullIdeal.main_arg3)
          ∧ r.2.mem ((c.tc : Thread Cert.FullIdeal.nD Cert.FullIdeal.τ).loc Cert.FullIdeal.main_arg4) = m ((c.tc : Thread Cert.FullIdeal.nD Cert.FullIdeal.τ).loc Cert.FullIdeal.main_arg4)
          ∧ r.2.mem ((c.tc : Thread Cert.FullIdeal.nD Cert.FullIdeal.τ).loc Cert.FullIdeal.main_arg5) = m ((c.tc : Thread Cert.FullIdeal.nD Cert.FullIdeal.τ).loc Cert.FullIdeal.main_arg5)
          ∧ r.2.mem ((c.tc : Thread Cert.FullIdeal.nD Cert.FullIdeal.τ).loc Cert.FullIdeal.main_arg6) = m ((c.tc : Thread Cert.FullIdeal.nD Cert.FullIdeal.τ).loc Cert.FullIdeal.main_arg6))
      ∧ θ_run (Cert.FullRefIdeal.defs (F := Ideal)) (onTc (τ := Cert.FullRefIdeal.τ) (Cert.FullRefIdeal.main (F := Ideal))) ⟨m', fun _ => 0, g'⟩ (fun r => ∀ c : Dev Cert.FullRefIdeal.nD,
          r.2.mem ((c.tc : Thread Cert.FullRefIdeal.nD Cert.FullRefIdeal.τ).loc Cert.FullRefIdeal.main_v127) = v0 c
          ∧ r.2.mem ((c.tc : Thread Cert.FullRefIdeal.nD Cert.FullRefIdeal.τ).loc Cert.FullRefIdeal.main_arg0) = m' ((c.tc : Thread Cert.FullRefIdeal.nD Cert.FullRefIdeal.τ).loc Cert.FullRefIdeal.main_arg0)
          ∧ r.2.mem ((c.tc : Thread Cert.FullRefIdeal.nD Cert.FullRefIdeal.τ).loc Cert.FullRefIdeal.main_arg1) = m' ((c.tc : Thread Cert.FullRefIdeal.nD Cert.FullRefIdeal.τ).loc Cert.FullRefIdeal.main_arg1)
          ∧ r.2.mem ((c.tc : Thread Cert.FullRefIdeal.nD Cert.FullRefIdeal.τ).loc Cert.FullRefIdeal.main_arg2) = m' ((c.tc : Thread Cert.FullRefIdeal.nD Cert.FullRefIdeal.τ).loc Cert.FullRefIdeal.main_arg2)
          ∧ r.2.mem ((c.tc : Thread Cert.FullRefIdeal.nD Cert.FullRefIdeal.τ).loc Cert.FullRefIdeal.main_arg3) = m' ((c.tc : Thread Cert.FullRefIdeal.nD Cert.FullRefIdeal.τ).loc Cert.FullRefIdeal.main_arg3)
          ∧ r.2.mem ((c.tc : Thread Cert.FullRefIdeal.nD Cert.FullRefIdeal.τ).loc Cert.FullRefIdeal.main_arg4) = m' ((c.tc : Thread Cert.FullRefIdeal.nD Cert.FullRefIdeal.τ).loc Cert.FullRefIdeal.main_arg4)
          ∧ r.2.mem ((c.tc : Thread Cert.FullRefIdeal.nD Cert.FullRefIdeal.τ).loc Cert.FullRefIdeal.main_arg5) = m' ((c.tc : Thread Cert.FullRefIdeal.nD Cert.FullRefIdeal.τ).loc Cert.FullRefIdeal.main_arg5)
          ∧ r.2.mem ((c.tc : Thread Cert.FullRefIdeal.nD Cert.FullRefIdeal.τ).loc Cert.FullRefIdeal.main_arg6) = m' ((c.tc : Thread Cert.FullRefIdeal.nD Cert.FullRefIdeal.τ).loc Cert.FullRefIdeal.main_arg6))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)
      ∧ m' ((c.tc : Thread Cert.ModulateRefIdeal.nD Cert.ModulateRefIdeal.τ).loc Cert.ModulateRefIdeal.main_arg3) = m ((c.tc : Thread Cert.ModulateIdeal.nD Cert.ModulateIdeal.τ).loc Cert.ModulateIdeal.main_arg3)) →
    ∃ (v0 : (c : Dev Cert.ModulateIdeal.nD) → Buf (Elt Ideal) ((c.tc : Thread Cert.ModulateIdeal.nD Cert.ModulateIdeal.τ).loc Cert.ModulateIdeal.main_v2)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v2) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2)
          ∧ r.2.mem ((c.tc : Thread Cert.ModulateIdeal.nD Cert.ModulateIdeal.τ).loc Cert.ModulateIdeal.main_arg3) = m ((c.tc : Thread Cert.ModulateIdeal.nD Cert.ModulateIdeal.τ).loc Cert.ModulateIdeal.main_arg3))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v12) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2)
          ∧ r.2.mem ((c.tc : Thread Cert.ModulateRefIdeal.nD Cert.ModulateRefIdeal.τ).loc Cert.ModulateRefIdeal.main_arg3) = m' ((c.tc : Thread Cert.ModulateRefIdeal.nD Cert.ModulateRefIdeal.τ).loc Cert.ModulateRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v4_0)) (v1 : (c : Dev Cert.ConvIdeal.nD) → Buf (Elt Ideal) ((c.tc : Thread Cert.ConvIdeal.nD Cert.ConvIdeal.τ).loc Cert.ConvIdeal.main_v4_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v4_0) = v0 c
          ∧ r.2.mem ((c.tc : Thread Cert.ConvIdeal.nD Cert.ConvIdeal.τ).loc Cert.ConvIdeal.main_v4_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v259) = v0 c
          ∧ r.2.mem ((c.tc : Thread Cert.ConvRefIdeal.nD Cert.ConvRefIdeal.τ).loc Cert.ConvRefIdeal.main_v260) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def Claim : Prop :=
  ∃ (hKernel : Cert.Kernel.Facts) (hKernelIdeal : Cert.KernelIdeal.Facts) (hMlp : Cert.Mlp.Facts) (hMlpIdeal : Cert.MlpIdeal.Facts) (hMlpRefIdeal : Cert.MlpRefIdeal.Facts) (hInproj : Cert.Inproj.Facts) (hInprojIdeal : Cert.InprojIdeal.Facts) (hInprojRefIdeal : Cert.InprojRefIdeal.Facts) (hMerge : Cert.Merge.Facts) (hMergeIdeal : Cert.MergeIdeal.Facts) (hMergeRefIdeal : Cert.MergeRefIdeal.Facts) (hFull : Cert.Full.Facts) (hFullIdeal : Cert.FullIdeal.Facts) (hFullRefIdeal : Cert.FullRefIdeal.Facts) (hModulate : Cert.Modulate.Facts) (hModulateIdeal : Cert.ModulateIdeal.Facts) (hModulateRefIdeal : Cert.ModulateRefIdeal.Facts) (hConv : Cert.Conv.Facts) (hConvIdeal : Cert.ConvIdeal.Facts) (hConvRefIdeal : Cert.ConvRefIdeal.Facts) (hPre_finite : Cert.Pre_finite.Facts),
    quiescent_Kernel (hKernel := hKernel)
    ∧ quiescent_KernelIdeal (hKernelIdeal := hKernelIdeal)
    ∧ quiescent_Mlp (hMlp := hMlp)
    ∧ quiescent_MlpIdeal (hMlpIdeal := hMlpIdeal)
    ∧ quiescent_MlpRefIdeal (hMlpRefIdeal := hMlpRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Merge (hMerge := hMerge)
    ∧ quiescent_MergeIdeal (hMergeIdeal := hMergeIdeal)
    ∧ quiescent_MergeRefIdeal (hMergeRefIdeal := hMergeRefIdeal)
    ∧ quiescent_Full (hFull := hFull)
    ∧ quiescent_FullIdeal (hFullIdeal := hFullIdeal)
    ∧ quiescent_FullIdeal_pre_finite (hFullIdeal := hFullIdeal) (hPre_finite := hPre_finite)
    ∧ quiescent_FullRefIdeal (hFullRefIdeal := hFullRefIdeal)
    ∧ quiescent_FullRefIdeal_pre_finite (hFullRefIdeal := hFullRefIdeal) (hPre_finite := hPre_finite)
    ∧ quiescent_Modulate (hModulate := hModulate)
    ∧ quiescent_ModulateIdeal (hModulateIdeal := hModulateIdeal)
    ∧ quiescent_ModulateRefIdeal (hModulateRefIdeal := hModulateRefIdeal)
    ∧ quiescent_Conv (hConv := hConv)
    ∧ quiescent_ConvIdeal (hConvIdeal := hConvIdeal)
    ∧ quiescent_ConvRefIdeal (hConvRefIdeal := hConvRefIdeal)
    ∧ preserves_Kernel_KernelIdeal
    ∧ preserves_Mlp_MlpIdeal
    ∧ algebraic_MlpIdeal_MlpRefIdeal (hMlpIdeal := hMlpIdeal) (hMlpRefIdeal := hMlpRefIdeal)
    ∧ preserves_Inproj_InprojIdeal
    ∧ algebraic_InprojIdeal_InprojRefIdeal (hInprojIdeal := hInprojIdeal) (hInprojRefIdeal := hInprojRefIdeal)
    ∧ preserves_Merge_MergeIdeal
    ∧ algebraic_MergeIdeal_MergeRefIdeal (hMergeIdeal := hMergeIdeal) (hMergeRefIdeal := hMergeRefIdeal)
    ∧ preserves_Full_FullIdeal
    ∧ algebraic_FullIdeal_FullRefIdeal_pre_finite (hFullIdeal := hFullIdeal) (hFullRefIdeal := hFullRefIdeal) (hPre_finite := hPre_finite)
    ∧ preserves_Modulate_ModulateIdeal
    ∧ algebraic_ModulateIdeal_ModulateRefIdeal (hModulateIdeal := hModulateIdeal) (hModulateRefIdeal := hModulateRefIdeal)
    ∧ preserves_Conv_ConvIdeal
    ∧ algebraic_ConvIdeal_ConvRefIdeal (hConvIdeal := hConvIdeal) (hConvRefIdeal := hConvRefIdeal)
-- ==== Pre_finite.lean ====
abbrev S16x64x10240 : Shape := ⟨3, ![16, 64, 10240]⟩
abbrev S4x16x2048x4x128 : Shape := ⟨5, ![4, 16, 2048, 4, 128]⟩
abbrev S32x12 : Shape := ⟨2, ![32, 12]⟩
abbrev S1 : Shape := ⟨1, ![1]⟩
abbrev S4x64 : Shape := ⟨2, ![4, 64]⟩
abbrev S128 : Shape := ⟨1, ![128]⟩
abbrev S_ : Shape := ⟨0, ![]⟩

class Facts : Prop where
  bcast_S_S16x64x10240 : S_.BroadcastsInDim S16x64x10240 (![] : Fin 0 → Fin S16x64x10240.rank)
  reducesTo_S16x64x10240_S_d0_1_2 : S16x64x10240.ReducesTo [0, 1, 2] S_
  h_S_ : 0 < S_.numel
  bcast_S_S4x16x2048x4x128 : S_.BroadcastsInDim S4x16x2048x4x128 (![] : Fin 0 → Fin S4x16x2048x4x128.rank)
  reducesTo_S4x16x2048x4x128_S_d0_1_2_3_4 : S4x16x2048x4x128.ReducesTo [0, 1, 2, 3, 4] S_
  bcast_S_S32x12 : S_.BroadcastsInDim S32x12 (![] : Fin 0 → Fin S32x12.rank)
  reducesTo_S32x12_S_d0_1 : S32x12.ReducesTo [0, 1] S_
  bcast_S_S1 : S_.BroadcastsInDim S1 (![] : Fin 0 → Fin S1.rank)
  reducesTo_S1_S_d0 : S1.ReducesTo [0] S_
  bcast_S_S4x64 : S_.BroadcastsInDim S4x64 (![] : Fin 0 → Fin S4x64.rank)
  reducesTo_S4x64_S_d0_1 : S4x64.ReducesTo [0, 1] S_

variable [Facts]

def fn_part1 {F : FTy → Type} [FloatOps F] (main_arg4 : FVec F S1 .f32) (main_arg5 : FVec F S4x64 .f32) (main_v13 : IVec S_ 1) (main_v16 : IVec S32x12 1) : IVec S_ 1 :=
  let main_c_5 : IVec S_ 1 := constantI S_ 1 1#1
  let main_v17 : IVec S_ 1 := (fun x v => Host.reduce IntOp.andi x v reducesTo_S32x12_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S4x64 .f32 := Host.absf main_arg5
  let main_cst_8 : FVec F S_ .f32 := constant S_ .f32 0x7F800000#32
  let main_v25 : FVec F S4x64 .f32 := broadcastInDim S4x64 ![] bcast_S_S4x64 main_cst_8
  let main_v26 : IVec S4x64 1 := cmpf .olt main_v24 main_v25
  let main_c_9 : IVec S_ 1 := constantI S_ 1 1#1
  let main_v27 : IVec S_ 1 := (fun x v => Host.reduce IntOp.andi x v reducesTo_S4x64_S_d0_1 h_S_) main_v26 main_c_9
  let main_v28 : IVec S_ 1 := andi main_v23 main_v27
  main_v28

def fn {F : FTy → Type} [FloatOps F] (main_arg0 : FVec F S16x64x10240 .f32) (main_arg1 : FVec F S4x16x2048x4x128 .f32) (main_arg2 : FVec F S4x16x2048x4x128 .f32) (main_arg3 : FVec F S32x12 .f32) (main_arg4 : FVec F S1 .f32) (main_arg5 : FVec F S4x64 .f32) (main_arg6 : FVec F S128 .f32) : IVec S_ 1 :=
  let main_v0 : FVec F S16x64x10240 .f32 := Host.absf main_arg0
  let main_cst : FVec F S_ .f32 := constant S_ .f32 0x7F800000#32
  let main_v1 : FVec F S16x64x10240 .f32 := broadcastInDim S16x64x10240 ![] bcast_S_S16x64x10240 main_cst
  let main_v2 : IVec S16x64x10240 1 := cmpf .olt main_v0 main_v1
  let main_c : IVec S_ 1 := constantI S_ 1 1#1
  let main_v3 : IVec S_ 1 := (fun x v => Host.reduce IntOp.andi x v reducesTo_S16x64x10240_S_d0_1_2 h_S_) main_v2 main_c
  let main_v4 : FVec F S4x16x2048x4x128 .f32 := Host.absf main_arg1
  let main_cst_0 : FVec F S_ .f32 := constant S_ .f32 0x7F800000#32
  let main_v5 : FVec F S4x16x2048x4x128 .f32 := broadcastInDim S4x16x2048x4x128 ![] bcast_S_S4x16x2048x4x128 main_cst_0
  let main_v6 : IVec S4x16x2048x4x128 1 := cmpf .olt main_v4 main_v5
  let main_c_1 : IVec S_ 1 := constantI S_ 1 1#1
  let main_v7 : IVec S_ 1 := (fun x v => Host.reduce IntOp.andi x v reducesTo_S4x16x2048x4x128_S_d0_1_2_3_4 h_S_) main_v6 main_c_1
  let main_v8 : IVec S_ 1 := andi main_v3 main_v7
  let main_v9 : FVec F S4x16x2048x4x128 .f32 := Host.absf main_arg2
  let main_cst_2 : FVec F S_ .f32 := constant S_ .f32 0x7F800000#32
  let main_v10 : FVec F S4x16x2048x4x128 .f32 := broadcastInDim S4x16x2048x4x128 ![] bcast_S_S4x16x2048x4x128 main_cst_2
  let main_v11 : IVec S4x16x2048x4x128 1 := cmpf .olt main_v9 main_v10
  let main_c_3 : IVec S_ 1 := constantI S_ 1 1#1
  let main_v12 : IVec S_ 1 := (fun x v => Host.reduce IntOp.andi x v reducesTo_S4x16x2048x4x128_S_d0_1_2_3_4 h_S_) main_v11 main_c_3
  let main_v13 : IVec S_ 1 := andi main_v8 main_v12
  let main_v14 : FVec F S32x12 .f32 := Host.absf main_arg3
  let main_cst_4 : FVec F S_ .f32 := constant S_ .f32 0x7F800000#32
  let main_v15 : FVec F S32x12 .f32 := broadcastInDim S32x12 ![] bcast_S_S32x12 main_cst_4
  let main_v16 : IVec S32x12 1 := cmpf .olt main_v14 main_v15
  fn_part1 (F := F) main_arg4 main_arg5 main_v13 main_v16
-- ==== Kernel.lean ====
abbrev S16x4096x10240 : Shape := ⟨3, ![16, 4096, 10240]⟩
abbrev S32x12 : Shape := ⟨2, ![32, 12]⟩
abbrev S1 : Shape := ⟨1, ![1]⟩
abbrev S4x64 : Shape := ⟨2, ![4, 64]⟩
abbrev S128 : Shape := ⟨1, ![128]⟩
abbrev S256x512 : Shape := ⟨2, ![256, 512]⟩
abbrev S_ : Shape := ⟨0, ![]⟩
abbrev S256x512x1 : Shape := ⟨3, ![256, 512, 1]⟩
abbrev S256x512x12 : Shape := ⟨3, ![256, 512, 12]⟩
abbrev S12x256x512 : Shape := ⟨3, ![12, 256, 512]⟩
abbrev S1x128 : Shape := ⟨2, ![1, 128]⟩
abbrev S16x4096x512 : Shape := ⟨3, ![16, 4096, 512]⟩
abbrev S1x256x256 : Shape := ⟨3, ![1, 256, 256]⟩
abbrev S1x4096x256 : Shape := ⟨3, ![1, 4096, 256]⟩
abbrev S2x256x512 : Shape := ⟨3, ![2, 256, 512]⟩
abbrev S4x256x1 : Shape := ⟨3, ![4, 256, 1]⟩
abbrev S4x256x128 : Shape := ⟨3, ![4, 256, 128]⟩
abbrev S1x256x128 : Shape := ⟨3, ![1, 256, 128]⟩
abbrev S256x128 : Shape := ⟨2, ![256, 128]⟩
abbrev S1x1 : Shape := ⟨2, ![1, 1]⟩
abbrev S1x2048x128 : Shape := ⟨3, ![1, 2048, 128]⟩
abbrev S2048x128 : Shape := ⟨2, ![2048, 128]⟩
abbrev S256x2048 : Shape := ⟨2, ![256, 2048]⟩
abbrev S1x256x1 : Shape := ⟨3, ![1, 256, 1]⟩
abbrev S256x1 : Shape := ⟨2, ![256, 1]⟩
abbrev S256 : Shape := ⟨1, ![256]⟩
abbrev S1x1024x128 : Shape := ⟨3, ![1, 1024, 128]⟩
abbrev S1024x128 : Shape := ⟨2, ![1024, 128]⟩
abbrev S256x1024 : Shape := ⟨2, ![256, 1024]⟩
abbrev S1x512x128 : Shape := ⟨3, ![1, 512, 128]⟩
abbrev S512x128 : Shape := ⟨2, ![512, 128]⟩
abbrev S256x256 : Shape := ⟨2, ![256, 256]⟩
abbrev S1x256x512 : Shape := ⟨3, ![1, 256, 512]⟩
abbrev S1x64 : Shape := ⟨2, ![1, 64]⟩

abbrev nBuf : Space → Nat
  | .hbm => 62
  | .vmem => 15
  | .smem => 2
  | _ => 0

abbrev bufTy : (tb : Table) → Fin (tcTables nBuf tb) → BufTy
  | .hbm, ⟨0, _⟩ => ⟨S16x4096x10240, .f32⟩
  | .hbm, ⟨1, _⟩ => ⟨S32x12, .f32⟩
  | .hbm, ⟨2, _⟩ => ⟨S1, .f32⟩
  | .hbm, ⟨3, _⟩ => ⟨S4x64, .f32⟩
  | .hbm, ⟨4, _⟩ => ⟨S128, .f32⟩
  | .hbm, ⟨5, _⟩ => ⟨S256x512, .i32⟩
  | .hbm, ⟨6, _⟩ => ⟨S256x512, .i32⟩
  | .hbm, ⟨7, _⟩ => ⟨S_, .i32⟩
  | .hbm, ⟨8, _⟩ => ⟨S256x512, .i32⟩
  | .hbm, ⟨9, _⟩ => ⟨S256x512, .i32⟩
  | .hbm, ⟨10, _⟩ => ⟨S256x512, .i32⟩
  | .hbm, ⟨11, _⟩ => ⟨S256x512, .i32⟩
  | .hbm, ⟨12, _⟩ => ⟨S_, .i32⟩
  | .hbm, ⟨13, _⟩ => ⟨S256x512, .i32⟩
  | .hbm, ⟨14, _⟩ => ⟨S256x512, .i32⟩
  | .hbm, ⟨15, _⟩ => ⟨S256x512, .f32⟩
  | .hbm, ⟨16, _⟩ => ⟨S_, .f32⟩
  | .hbm, ⟨17, _⟩ => ⟨S256x512, .f32⟩
  | .hbm, ⟨18, _⟩ => ⟨S256x512, .f32⟩
  | .hbm, ⟨19, _⟩ => ⟨S256x512, .f32⟩
  | .hbm, ⟨20, _⟩ => ⟨S_, .f32⟩
  | .hbm, ⟨21, _⟩ => ⟨S256x512, .f32⟩
  | .hbm, ⟨22, _⟩ => ⟨S256x512, .f32⟩
  | .hbm, ⟨23, _⟩ => ⟨S_, .f32⟩
  | .hbm, ⟨24, _⟩ => ⟨S256x512, .f32⟩
  | .hbm, ⟨25, _⟩ => ⟨S256x512, .f32⟩
  | .hbm, ⟨26, _⟩ => ⟨S256x512, .i32⟩
  | .hbm, ⟨27, _⟩ => ⟨S_, .i32⟩
  | .hbm, ⟨28, _⟩ => ⟨S256x512, .i32⟩
  | .hbm, ⟨29, _⟩ => ⟨S256x512, .i32⟩
  | .hbm, ⟨30, _⟩ => ⟨S_, .i32⟩
  | .hbm, ⟨31, _⟩ => ⟨S256x512, .i32⟩
  | .hbm, ⟨32, _⟩ => ⟨S256x512, .i32⟩
  | .hbm, ⟨33, _⟩ => ⟨S_, .i32⟩
  | .hbm, ⟨34, _⟩ => ⟨S256x512, .i32⟩
  | .hbm, ⟨35, _⟩ => ⟨S256x512, .i1⟩
  | .hbm, ⟨36, _⟩ => ⟨S_, .i32⟩
  | .hbm, ⟨37, _⟩ => ⟨S_, .i32⟩
  | .hbm, ⟨38, _⟩ => ⟨S256x512, .i32⟩
  | .hbm, ⟨39, _⟩ => ⟨S256x512, .i32⟩
  | .hbm, ⟨40, _⟩ => ⟨S256x512, .i32⟩
  | .hbm, ⟨41, _⟩ => ⟨S_, .i32⟩
  | .hbm, ⟨42, _⟩ => ⟨S256x512, .i32⟩
  | .hbm, ⟨43, _⟩ => ⟨S256x512, .i1⟩
  | .hbm, ⟨44, _⟩ => ⟨S256x512, .i32⟩
  | .hbm, ⟨45, _⟩ => ⟨S256x512, .i32⟩
  | .hbm, ⟨46, _⟩ => ⟨S256x512, .i32⟩
  | .hbm, ⟨47, _⟩ => ⟨S_, .i32⟩
  | .hbm, ⟨48, _⟩ => ⟨S256x512, .i32⟩
  | .hbm, ⟨49, _⟩ => ⟨S256x512, .i1⟩
  | .hbm, ⟨50, _⟩ => ⟨S_, .i32⟩
  | .hbm, ⟨51, _⟩ => ⟨S256x512, .i32⟩
  | .hbm, ⟨52, _⟩ => ⟨S256x512, .i32⟩
  | .hbm, ⟨53, _⟩ => ⟨S256x512, .i32⟩
  | .hbm, ⟨54, _⟩ => ⟨S256x512x1, .i32⟩
  | .hbm, ⟨55, _⟩ => ⟨S256x512x12, .f32⟩
  | .hbm, ⟨56, _⟩ => ⟨S12x256x512, .f32⟩
  | .hbm, ⟨57, _⟩ => ⟨S_, .f32⟩
  | .hbm, ⟨58, _⟩ => ⟨S12x256x512, .f32⟩
  | .hbm, ⟨59, _⟩ => ⟨S12x256x512, .f32⟩
  | .hbm, ⟨60, _⟩ => ⟨S1x128, .f32⟩
  | .hbm, ⟨61, _⟩ => ⟨S16x4096x512, .f32⟩
  | .local _ .vmem, ⟨0, _⟩ => ⟨S1x256x256, .f32⟩
  | .local _ .vmem, ⟨1, _⟩ => ⟨S1x256x256, .f32⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S2x256x512, .f32⟩
  | .local _ .vmem, ⟨7, _⟩ => ⟨S2x256x512, .f32⟩
  | .local _ .vmem, ⟨8, _⟩ => ⟨S4x64, .f32⟩
  | .local _ .vmem, ⟨9, _⟩ => ⟨S1x128, .f32⟩
  | .local _ .vmem, ⟨10, _⟩ => ⟨S1x256x256, .f32⟩
  | .local _ .vmem, ⟨11, _⟩ => ⟨S1x256x256, .f32⟩
  | .local _ .vmem, ⟨12, _⟩ => ⟨S4x256x1, .f32⟩
  | .local _ .vmem, ⟨13, _⟩ => ⟨S4x256x1, .f32⟩
  | .local _ .vmem, ⟨14, _⟩ => ⟨S4x256x128, .f32⟩
  | .local _ .smem, ⟨0, _⟩ => ⟨S32x12, .f32⟩
  | .local _ .smem, ⟨1, _⟩ => ⟨S1, .f32⟩
  | _, _ => ⟨S16x4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_c_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_c_7 : Ref sig .tc := ⟨.hbm, 37, rfl⟩
abbrev main_call0_v0 : Ref sig .tc := ⟨.hbm, 38, rfl⟩
abbrev main_call0_v1 : Ref sig .tc := ⟨.hbm, 39, rfl⟩
abbrev main_v23 : Ref sig .tc := ⟨.hbm, 40, rfl⟩
abbrev main_c_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_c_10 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨3, ![16, 2, 16], ![false, false, false]⟩

def k0_off1 (i : grid0.Coords) (c0_i32_24 : BitVec 32) : Fin 2 → Nat :=
  let c15 : Index := 15#32
  let c0_i32 : BitVec 32 := 0#32
  let c2_i32 : BitVec 32 := 2#32
  let arg1 : BitVec 32 := BitVec.ofNat 32 (i 1).val
  let v49 : BitVec 32 := Scalar.muli c2_i32 arg1
  let v50 : BitVec 32 := Scalar.addi c0_i32 v49
  let v51 : BitVec 32 := Scalar.addi v50 c0_i32_24
  let v52 : Index := Scalar.indexCast v51
  ![15, v52.toNat]
@[reducible] def k0_t1_loop (i : grid0.Coords) : Scf.Loop 32 :=
  let c0_i32_49 : BitVec 32 := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let v92 : BitVec 32 := Scalar.subi v91 c0_i32_49
  let c1_i32_50 : BitVec 32 := 1#32
  let v94 : BitVec 32 := Scalar.divsi v92 c1_i32_50
  let v95 : BitVec 32 := Scalar.muli v94 c1_i32_50
  let v96 : BitVec 32 := Scalar.addi c0_i32_49 v95
  let c1_i32_51 : BitVec 32 := 1#32
  ⟨c0_i32_49, v96, c1_i32_51⟩
def k0_mult1 (i : grid0.Coords) (k0_t1 : Fin (k0_t1_loop i).trips) : BitVec 32 :=
  let c0_i32_49 : BitVec 32 := 0#32
  let c1_i32_51 : BitVec 32 := 1#32
  let arg15 : BitVec 32 := Scf.iv c0_i32_49 c1_i32_51 k0_t1
  let c2048_i32 : BitVec 32 := 2048#32
  let v242 : BitVec 32 := Scalar.muli arg15 c2048_i32
  v242
def k0_off2 (i : grid0.Coords) (k0_t1 : Fin (k0_t1_loop i).trips) : Fin 3 → Nat :=
  let c0_121 : Index := 0#32
  let c0_i32_49 : BitVec 32 := 0#32
  let c1_i32_51 : BitVec 32 := 1#32
  let arg15 : BitVec 32 := Scf.iv c0_i32_49 c1_i32_51 k0_t1
  let c2048_i32 : BitVec 32 := 2048#32
  let v242 : BitVec 32 := Scalar.muli arg15 c2048_i32
  let v243 : BitVec 32 := v242
  let v244 : Index := Scalar.indexCast v243
  let c0_122 : Index := 0#32
  ![0, v244.toNat, 0]
def k0_off3 (i : grid0.Coords) (k0_t1 : Fin (k0_t1_loop i).trips) : Fin 3 → Nat :=
  let c0_123 : Index := 0#32
  let c0_i32_49 : BitVec 32 := 0#32
  let c1_i32_51 : BitVec 32 := 1#32
  let arg15 : BitVec 32 := Scf.iv c0_i32_49 c1_i32_51 k0_t1
  let c2048_i32 : BitVec 32 := 2048#32
  let v242 : BitVec 32 := Scalar.muli arg15 c2048_i32
  let v243 : BitVec 32 := v242
  let v248 : Index := Scalar.indexCast v243
  let c128_124 : Index := 128#32
  ![0, v248.toNat, 128]
@[reducible] def k0_t2_loop (i : grid0.Coords) : Scf.Loop 32 :=
  let c0_i32_49 : BitVec 32 := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let v92 : BitVec 32 := Scalar.subi v91 c0_i32_49
  let c1_i32_50 : BitVec 32 := 1#32
  let v94 : BitVec 32 := Scalar.divsi v92 c1_i32_50
  let v95 : BitVec 32 := Scalar.muli v94 c1_i32_50
  let v96 : BitVec 32 := Scalar.addi c0_i32_49 v95
  let v93 : BitVec 32 := Scalar.addi c0_i32_49 v92
  let c1_i32_52 : BitVec 32 := 1#32
  ⟨v96, v93, c1_i32_52⟩
def k0_mult2 (i : grid0.Coords) (k0_t2 : Fin (k0_t2_loop i).trips) : BitVec 32 :=
  let c0_i32_49 : BitVec 32 := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let v92 : BitVec 32 := Scalar.subi v91 c0_i32_49
  let c1_i32_50 : BitVec 32 := 1#32
  let v94 : BitVec 32 := Scalar.divsi v92 c1_i32_50
  let v95 : BitVec 32 := Scalar.muli v94 c1_i32_50
  let v96 : BitVec 32 := Scalar.addi c0_i32_49 v95
  let c1_i32_52 : BitVec 32 := 1#32
  let arg15 : BitVec 32 := Scf.iv v96 c1_i32_52 k0_t2
  let c2048_i32 : BitVec 32 := 2048#32
  let v242 : BitVec 32 := Scalar.muli arg15 c2048_i32
  v242
def k0_off4 (i : grid0.Coords) (k0_t2 : Fin (k0_t2_loop i).trips) : Fin 3 → Nat :=
  let c0_121 : Index := 0#32
  let c0_i32_49 : BitVec 32 := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let v92 : BitVec 32 := Scalar.subi v91 c0_i32_49
  let c1_i32_50 : BitVec 32 := 1#32
  let v94 : BitVec 32 := Scalar.divsi v92 c1_i32_50
  let v95 : BitVec 32 := Scalar.muli v94 c1_i32_50
  let v96 : BitVec 32 := Scalar.addi c0_i32_49 v95
  let c1_i32_52 : BitVec 32 := 1#32
  let arg15 : BitVec 32 := Scf.iv v96 c1_i32_52 k0_t2
  let c2048_i32 : BitVec 32 := 2048#32
  let v242 : BitVec 32 := Scalar.muli arg15 c2048_i32
  let v243 : BitVec 32 := v242
  let v244 : Index := Scalar.indexCast v243
  let c0_122 : Index := 0#32
  ![0, v244.toNat, 0]
def k0_off5 (i : grid0.Coords) (k0_t2 : Fin (k0_t2_loop i).trips) : Fin 3 → Nat :=
  let c0_123 : Index := 0#32
  let c0_i32_49 : BitVec 32 := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let v92 : BitVec 32 := Scalar.subi v91 c0_i32_49
  let c1_i32_50 : BitVec 32 := 1#32
  let v94 : BitVec 32 := Scalar.divsi v92 c1_i32_50
  let v95 : BitVec 32 := Scalar.muli v94 c1_i32_50
  let v96 : BitVec 32 := Scalar.addi c0_i32_49 v95
  let c1_i32_52 : BitVec 32 := 1#32
  let arg15 : BitVec 32 := Scf.iv v96 c1_i32_52 k0_t2
  let c2048_i32 : BitVec 32 := 2048#32
  let v242 : BitVec 32 := Scalar.muli arg15 c2048_i32
  let v243 : BitVec 32 := v242
  let v248 : Index := Scalar.indexCast v243
  let c128_124 : Index := 128#32
  ![0, v248.toNat, 128]
def k0_mult3 (i : grid0.Coords) : BitVec 32 :=
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let c256_i32_54 : BitVec 32 := 256#32
  let v101 : BitVec 32 := Scalar.muli v97 c256_i32_54
  v101
def k0_cond1 (i : grid0.Coords) : BitVec 1 :=
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let v98 : BitVec 32 := Scalar.subi v74 v97
  let c256_i32 : BitVec 32 := 256#32
  let v99 : BitVec 32 := Scalar.muli v98 c256_i32
  let c1024_i32 : BitVec 32 := 1024#32
  let v100 : BitVec 1 := Scalar.cmpi .sge v99 c1024_i32
  let v103 : BitVec 32 := Scalar.extui v100
  let c0_i32_55 : BitVec 32 := 0#32
  let v104 : BitVec 1 := Scalar.cmpi .ne v103 c0_i32_55
  v104

def k0_off6 (i : grid0.Coords) : Fin 3 → Nat :=
  let c0_121 : Index := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let c256_i32_54 : BitVec 32 := 256#32
  let v101 : BitVec 32 := Scalar.muli v97 c256_i32_54
  let v102 : BitVec 32 := v101
  let v242 : Index := Scalar.indexCast v102
  let c0_122 : Index := 0#32
  ![0, v242.toNat, 0]
def k0_off7 (i : grid0.Coords) : Fin 3 → Nat :=
  let c0_123 : Index := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let c256_i32_54 : BitVec 32 := 256#32
  let v101 : BitVec 32 := Scalar.muli v97 c256_i32_54
  let v102 : BitVec 32 := v101
  let v246 : Index := Scalar.indexCast v102
  let c128_124 : Index := 128#32
  ![0, v246.toNat, 128]
def k0_mult4 (i : grid0.Coords) : BitVec 32 :=
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let v98 : BitVec 32 := Scalar.subi v74 v97
  let c256_i32 : BitVec 32 := 256#32
  let v99 : BitVec 32 := Scalar.muli v98 c256_i32
  let c1024_i32 : BitVec 32 := 1024#32
  let v100 : BitVec 1 := Scalar.cmpi .sge v99 c1024_i32
  let c4_i32 : BitVec 32 := 4#32
  let c0_i32_56 : BitVec 32 := 0#32
  let v105 : BitVec 32 := Scalar.select v100 c4_i32 c0_i32_56
  let v106 : BitVec 32 := Scalar.addi v97 v105
  let c256_i32_58 : BitVec 32 := 256#32
  let v110 : BitVec 32 := Scalar.muli v106 c256_i32_58
  v110
def k0_cond2 (i : grid0.Coords) : BitVec 1 :=
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let v98 : BitVec 32 := Scalar.subi v74 v97
  let c256_i32 : BitVec 32 := 256#32
  let v99 : BitVec 32 := Scalar.muli v98 c256_i32
  let c1024_i32 : BitVec 32 := 1024#32
  let v100 : BitVec 1 := Scalar.cmpi .sge v99 c1024_i32
  let c4_i32 : BitVec 32 := 4#32
  let c0_i32_56 : BitVec 32 := 0#32
  let v105 : BitVec 32 := Scalar.select v100 c4_i32 c0_i32_56
  let v106 : BitVec 32 := Scalar.addi v97 v105
  let v107 : BitVec 32 := Scalar.subi v74 v106
  let c256_i32_57 : BitVec 32 := 256#32
  let v108 : BitVec 32 := Scalar.muli v107 c256_i32_57
  let c512_i32 : BitVec 32 := 512#32
  let v109 : BitVec 1 := Scalar.cmpi .sge v108 c512_i32
  let v112 : BitVec 32 := Scalar.extui v109
  let c0_i32_59 : BitVec 32 := 0#32
  let v113 : BitVec 1 := Scalar.cmpi .ne v112 c0_i32_59
  v113

def k0_off8 (i : grid0.Coords) : Fin 3 → Nat :=
  let c0_121 : Index := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let v98 : BitVec 32 := Scalar.subi v74 v97
  let c256_i32 : BitVec 32 := 256#32
  let v99 : BitVec 32 := Scalar.muli v98 c256_i32
  let c1024_i32 : BitVec 32 := 1024#32
  let v100 : BitVec 1 := Scalar.cmpi .sge v99 c1024_i32
  let c4_i32 : BitVec 32 := 4#32
  let c0_i32_56 : BitVec 32 := 0#32
  let v105 : BitVec 32 := Scalar.select v100 c4_i32 c0_i32_56
  let v106 : BitVec 32 := Scalar.addi v97 v105
  let c256_i32_58 : BitVec 32 := 256#32
  let v110 : BitVec 32 := Scalar.muli v106 c256_i32_58
  let v111 : BitVec 32 := v110
  let v242 : Index := Scalar.indexCast v111
  let c0_122 : Index := 0#32
  ![0, v242.toNat, 0]
def k0_off9 (i : grid0.Coords) : Fin 3 → Nat :=
  let c0_123 : Index := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let v98 : BitVec 32 := Scalar.subi v74 v97
  let c256_i32 : BitVec 32 := 256#32
  let v99 : BitVec 32 := Scalar.muli v98 c256_i32
  let c1024_i32 : BitVec 32 := 1024#32
  let v100 : BitVec 1 := Scalar.cmpi .sge v99 c1024_i32
  let c4_i32 : BitVec 32 := 4#32
  let c0_i32_56 : BitVec 32 := 0#32
  let v105 : BitVec 32 := Scalar.select v100 c4_i32 c0_i32_56
  let v106 : BitVec 32 := Scalar.addi v97 v105
  let c256_i32_58 : BitVec 32 := 256#32
  let v110 : BitVec 32 := Scalar.muli v106 c256_i32_58
  let v111 : BitVec 32 := v110
  let v246 : Index := Scalar.indexCast v111
  let c128_124 : Index := 128#32
  ![0, v246.toNat, 128]
def k0_mult5 (i : grid0.Coords) : BitVec 32 :=
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let v98 : BitVec 32 := Scalar.subi v74 v97
  let c256_i32 : BitVec 32 := 256#32
  let v99 : BitVec 32 := Scalar.muli v98 c256_i32
  let c1024_i32 : BitVec 32 := 1024#32
  let v100 : BitVec 1 := Scalar.cmpi .sge v99 c1024_i32
  let c4_i32 : BitVec 32 := 4#32
  let c0_i32_56 : BitVec 32 := 0#32
  let v105 : BitVec 32 := Scalar.select v100 c4_i32 c0_i32_56
  let v106 : BitVec 32 := Scalar.addi v97 v105
  let v107 : BitVec 32 := Scalar.subi v74 v106
  let c256_i32_57 : BitVec 32 := 256#32
  let v108 : BitVec 32 := Scalar.muli v107 c256_i32_57
  let c512_i32 : BitVec 32 := 512#32
  let v109 : BitVec 1 := Scalar.cmpi .sge v108 c512_i32
  let c2_i32_60 : BitVec 32 := 2#32
  let c0_i32_61 : BitVec 32 := 0#32
  let v114 : BitVec 32 := Scalar.select v109 c2_i32_60 c0_i32_61
  let v115 : BitVec 32 := Scalar.addi v106 v114
  let c256_i32_64 : BitVec 32 := 256#32
  let v119 : BitVec 32 := Scalar.muli v115 c256_i32_64
  v119
def k0_cond3 (i : grid0.Coords) : BitVec 1 :=
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let v98 : BitVec 32 := Scalar.subi v74 v97
  let c256_i32 : BitVec 32 := 256#32
  let v99 : BitVec 32 := Scalar.muli v98 c256_i32
  let c1024_i32 : BitVec 32 := 1024#32
  let v100 : BitVec 1 := Scalar.cmpi .sge v99 c1024_i32
  let c4_i32 : BitVec 32 := 4#32
  let c0_i32_56 : BitVec 32 := 0#32
  let v105 : BitVec 32 := Scalar.select v100 c4_i32 c0_i32_56
  let v106 : BitVec 32 := Scalar.addi v97 v105
  let v107 : BitVec 32 := Scalar.subi v74 v106
  let c256_i32_57 : BitVec 32 := 256#32
  let v108 : BitVec 32 := Scalar.muli v107 c256_i32_57
  let c512_i32 : BitVec 32 := 512#32
  let v109 : BitVec 1 := Scalar.cmpi .sge v108 c512_i32
  let c2_i32_60 : BitVec 32 := 2#32
  let c0_i32_61 : BitVec 32 := 0#32
  let v114 : BitVec 32 := Scalar.select v109 c2_i32_60 c0_i32_61
  let v115 : BitVec 32 := Scalar.addi v106 v114
  let v116 : BitVec 32 := Scalar.subi v74 v115
  let c256_i32_62 : BitVec 32 := 256#32
  let v117 : BitVec 32 := Scalar.muli v116 c256_i32_62
  let c256_i32_63 : BitVec 32 := 256#32
  let v118 : BitVec 1 := Scalar.cmpi .sge v117 c256_i32_63
  let v121 : BitVec 32 := Scalar.extui v118
  let c0_i32_65 : BitVec 32 := 0#32
  let v122 : BitVec 1 := Scalar.cmpi .ne v121 c0_i32_65
  v122

def k0_off10 (i : grid0.Coords) : Fin 3 → Nat :=
  let c0_121 : Index := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let v98 : BitVec 32 := Scalar.subi v74 v97
  let c256_i32 : BitVec 32 := 256#32
  let v99 : BitVec 32 := Scalar.muli v98 c256_i32
  let c1024_i32 : BitVec 32 := 1024#32
  let v100 : BitVec 1 := Scalar.cmpi .sge v99 c1024_i32
  let c4_i32 : BitVec 32 := 4#32
  let c0_i32_56 : BitVec 32 := 0#32
  let v105 : BitVec 32 := Scalar.select v100 c4_i32 c0_i32_56
  let v106 : BitVec 32 := Scalar.addi v97 v105
  let v107 : BitVec 32 := Scalar.subi v74 v106
  let c256_i32_57 : BitVec 32 := 256#32
  let v108 : BitVec 32 := Scalar.muli v107 c256_i32_57
  let c512_i32 : BitVec 32 := 512#32
  let v109 : BitVec 1 := Scalar.cmpi .sge v108 c512_i32
  let c2_i32_60 : BitVec 32 := 2#32
  let c0_i32_61 : BitVec 32 := 0#32
  let v114 : BitVec 32 := Scalar.select v109 c2_i32_60 c0_i32_61
  let v115 : BitVec 32 := Scalar.addi v106 v114
  let c256_i32_64 : BitVec 32 := 256#32
  let v119 : BitVec 32 := Scalar.muli v115 c256_i32_64
  let v120 : BitVec 32 := v119
  let v242 : Index := Scalar.indexCast v120
  let c0_122 : Index := 0#32
  ![0, v242.toNat, 0]
def k0_off11 (i : grid0.Coords) : Fin 3 → Nat :=
  let c0_123 : Index := 0#32
  let arg2 : BitVec 32 := BitVec.ofNat 32 (i 2).val
  let c1_i32_40 : BitVec 32 := 1#32
  let v73 : BitVec 32 := Scalar.subi arg2 c1_i32_40
  let c0_i32_41 : BitVec 32 := 0#32
  let v74 : BitVec 32 := Scalar.maxsi v73 c0_i32_41
  let c0_i32_42 : BitVec 32 := 0#32
  let v76 : BitVec 1 := Scalar.cmpi .sgt v74 c0_i32_42
  let v77 : BitVec 32 := Scalar.extui v76
  let c0_i32_43 : BitVec 32 := 0#32
  let v78 : BitVec 1 := Scalar.cmpi .slt v74 c0_i32_43
  let v79 : BitVec 32 := Scalar.extui v78
  let v80 : BitVec 32 := Scalar.subi v77 v79
  let c8_i32 : BitVec 32 := 8#32
  let c0_i32_44 : BitVec 32 := 0#32
  let v81 : BitVec 1 := Scalar.cmpi .sgt c8_i32 c0_i32_44
  let v82 : BitVec 32 := Scalar.extui v81
  let c0_i32_45 : BitVec 32 := 0#32
  let v83 : BitVec 1 := Scalar.cmpi .slt c8_i32 c0_i32_45
  let v84 : BitVec 32 := Scalar.extui v83
  let v85 : BitVec 32 := Scalar.subi v82 v84
  let v86 : BitVec 1 := Scalar.cmpi .ne v80 v85
  let v87 : BitVec 32 := Scalar.remsi v74 c8_i32
  let c0_i32_46 : BitVec 32 := 0#32
  let v88 : BitVec 1 := Scalar.cmpi .ne v87 c0_i32_46
  let v89 : BitVec 1 := Scalar.andi v86 v88
  let v75 : BitVec 32 := Scalar.divsi v74 c8_i32
  let c1_i32_47 : BitVec 32 := 1#32
  let v90 : BitVec 32 := Scalar.subi v75 c1_i32_47
  let v91 : BitVec 32 := Scalar.select v89 v90 v75
  let c8_i32_53 : BitVec 32 := 8#32
  let v97 : BitVec 32 := Scalar.muli v91 c8_i32_53
  let v98 : BitVec 32 := Scalar.subi v74 v97
  let c256_i32 : BitVec 32 := 256#32
  let v99 : BitVec 32 := Scalar.muli v98 c256_i32
  let c1024_i32 : BitVec 32 := 1024#32
  let v100 : BitVec 1 := Scalar.cmpi .sge v99 c1024_i32
  let c4_i32 : BitVec 32 := 4#32
  let c0_i32_56 : BitVec 32 := 0#32
  let v105 : BitVec 32 := Scalar.select v100 c4_i32 c0_i32_56
  let v106 : BitVec 32 := Scalar.addi v97 v105
  let v107 : BitVec 32 := Scalar.subi v74 v106
  let c256_i32_57 : BitVec 32 := 256#32
  let v108 : BitVec 32 := Scalar.muli v107 c256_i32_57
  let c512_i32 : BitVec 32 := 512#32
  let v109 : BitVec 1 := Scalar.cmpi .sge v108 c512_i32
  let c2_i32_60 : BitVec 32 := 2#32
  let c0_i32_61 : BitVec 32 := 0#32
  let v114 : BitVec 32 := Scalar.select v109 c2_i32_60 c0_i32_61
  let v115 : BitVec 32 := Scalar.addi v106 v114
  let c256_i32_64 : BitVec 32 := 256#32
  let v119 : BitVec 32 := Scalar.muli v115 c256_i32_64
  let v120 : BitVec 32 := v119
  let v246 : Index := Scalar.indexCast v120
  let c128_124 : Index := 128#32
  ![0, v246.toNat, 128]
def k0_cond5 (i : grid0.Coords) : BitVec 1 :=
  let arg2 : BitVec 32 := BitVec.ofNat 32 (i 2).val
  let c1_i32_70 : BitVec 32 := 1#32
  let v135 : BitVec 1 := Scalar.cmpi .sge arg2 c1_i32_70
  let v136 : BitVec 32 := Scalar.extui v135
  let c0_i32_71 : BitVec 32 := 0#32
  let v137 : BitVec 1 := Scalar.cmpi .ne v136 c0_i32_71
  v137

def k0_mult6 (i : grid0.Coords) : BitVec 32 :=
  let arg2 : BitVec 32 := BitVec.ofNat 32 (i 2).val
  let c1_i32_121 : BitVec 32 := 1#32
  let v242 : BitVec 32 := Scalar.subi arg2 c1_i32_121
  let c256_i32_122 : BitVec 32 := 256#32
  let v243 : BitVec 32 := Scalar.muli v242 c256_i32_122
  v243
def k0_off12 (i : grid0.Coords) : Fin 3 → Nat :=
  let c0_135 : Index := 0#32
  let arg2 : BitVec 32 := BitVec.ofNat 32 (i 2).val
  let c1_i32_121 : BitVec 32 := 1#32
  let v242 : BitVec 32 := Scalar.subi arg2 c1_i32_121
  let c256_i32_122 : BitVec 32 := 256#32
  let v243 : BitVec 32 := Scalar.muli v242 c256_i32_122
  let v244 : BitVec 32 := v243
  let v253 : Index := Scalar.indexCast v244
  let c0_136 : Index := 0#32
  ![0, v253.toNat, 0]
def k0_off13 (i : grid0.Coords) : Fin 3 → Nat :=
  let c0_137 : Index := 0#32
  let arg2 : BitVec 32 := BitVec.ofNat 32 (i 2).val
  let c1_i32_121 : BitVec 32 := 1#32
  let v242 : BitVec 32 := Scalar.subi arg2 c1_i32_121
  let c256_i32_122 : BitVec 32 := 256#32
  let v243 : BitVec 32 := Scalar.muli v242 c256_i32_122
  let v244 : BitVec 32 := v243
  let v257 : Index := Scalar.indexCast v244
  let c128_138 : Index := 128#32
  ![0, v257.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S32x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x4096x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 1 → Memref sig .tc .vmem S4x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "qscale" => some ((8⁻¹ * (Real.log 2)⁻¹ : ℝ) : EReal)
  | _ => none
-- ==== Mlp.lean ====
abbrev S16x4096x1024 : Shape := ⟨3, ![16, 4096, 1024]⟩
abbrev S16x6144 : Shape := ⟨2, ![16, 6144]⟩
abbrev S4x1024 : Shape := ⟨2, ![4, 1024]⟩
abbrev S1024x4096 : Shape := ⟨2, ![1024, 4096]⟩
abbrev S4096x1024 : Shape := ⟨2, ![4096, 1024]⟩
abbrev S16x1x6144 : Shape := ⟨3, ![16, 1, 6144]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024x1 : Shape := ⟨3, ![1, 1024, 1]⟩
abbrev S1024 : Shape := ⟨1, ![1024]⟩
abbrev S1024x1 : Shape := ⟨2, ![1024, 1]⟩

abbrev nBuf : Space → Nat
  | .hbm => 11
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S4x1024, .f32⟩
  | .hbm, ⟨3, _⟩ => ⟨S1024x4096, .f32⟩
  | .hbm, ⟨4, _⟩ => ⟨S4096x1024, .f32⟩
  | .hbm, ⟨5, _⟩ => ⟨S16x1x6144, .f32⟩
  | .hbm, ⟨6, _⟩ => ⟨S1x1024, .f32⟩
  | .hbm, ⟨7, _⟩ => ⟨S1x1024, .f32⟩
  | .hbm, ⟨8, _⟩ => ⟨S1024x4096, .bf16⟩
  | .hbm, ⟨9, _⟩ => ⟨S4096x1024, .bf16⟩
  | .hbm, ⟨10, _⟩ => ⟨S16x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .bf16⟩
  | .local _ .vmem, ⟨17, _⟩ => ⟨S1024x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== MlpRefIdeal.lean ====
abbrev S16x4096x1024 : Shape := ⟨3, ![16, 4096, 1024]⟩
abbrev S16x6144 : Shape := ⟨2, ![16, 6144]⟩
abbrev S4x1024 : Shape := ⟨2, ![4, 1024]⟩
abbrev S1024x4096 : Shape := ⟨2, ![1024, 4096]⟩
abbrev S4096x1024 : Shape := ⟨2, ![4096, 1024]⟩
abbrev S16x1024 : Shape := ⟨2, ![16, 1024]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩

abbrev nBuf : Space → Nat
  | .hbm => 69
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S4x1024, .f32⟩
  | .hbm, ⟨3, _⟩ => ⟨S1024x4096, .f32⟩
  | .hbm, ⟨4, _⟩ => ⟨S4096x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S1x1024, .f32⟩
  | .hbm, ⟨18, _⟩ => ⟨S1024, .f32⟩
  | .hbm, ⟨19, _⟩ => ⟨S16x4096x1024, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x1, .f32⟩
  | .hbm, ⟨30, _⟩ => ⟨S16x4096x1024, .f32⟩
  | .hbm, ⟨31, _⟩ => ⟨S16x4096x1024, .f32⟩
  | .hbm, ⟨32, _⟩ => ⟨S1x1x1024, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x1x1024, .f32⟩
  | .hbm, ⟨37, _⟩ => ⟨S16x1x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x4096, .f32⟩
  | .hbm, ⟨43, _⟩ => ⟨S_, .f32⟩
  | .hbm, ⟨44, _⟩ => ⟨S16x4096x4096, .f32⟩
  | .hbm, ⟨45, _⟩ => ⟨S16x4096x4096, .f32⟩
  | .hbm, ⟨46, _⟩ => ⟨S16x4096x4096, .f32⟩
  | .hbm, ⟨47, _⟩ => ⟨S16x4096x1024, .f32⟩
  | .hbm, ⟨48, _⟩ => ⟨S1x1024, .f32⟩
  | .hbm, ⟨49, _⟩ => ⟨S1024, .f32⟩
  | .hbm, ⟨50, _⟩ => ⟨S16x4096x1024, .f32⟩
  | .hbm, ⟨51, _⟩ => ⟨S_, .f32⟩
  | .hbm, ⟨52, _⟩ => ⟨S16x4096, .f32⟩
  | .hbm, ⟨53, _⟩ => ⟨S16x4096x1, .f32⟩
  | .hbm, ⟨54, _⟩ => ⟨S_, .f32⟩
  | .hbm, ⟨55, _⟩ => ⟨S16x4096x1, .f32⟩
  | .hbm, ⟨56, _⟩ => ⟨S16x4096x1, .f32⟩
  | .hbm, ⟨57, _⟩ => ⟨S_, .f32⟩
  | .hbm, ⟨58, _⟩ => ⟨S16x4096x1, .f32⟩
  | .hbm, ⟨59, _⟩ => ⟨S16x4096x1, .f32⟩
  | .hbm, ⟨60, _⟩ => ⟨S16x4096x1, .f32⟩
  | .hbm, ⟨61, _⟩ => ⟨S16x4096x1024, .f32⟩
  | .hbm, ⟨62, _⟩ => ⟨S16x4096x1024, .f32⟩
  | .hbm, ⟨63, _⟩ => ⟨S1x1x1024, .f32⟩
  | .hbm, ⟨64, _⟩ => ⟨S16x4096x1024, .f32⟩
  | .hbm, ⟨65, _⟩ => ⟨S16x4096x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_cst : Ref sig .tc := ⟨.hbm, 43, rfl⟩
abbrev main_call0_v0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_3 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Inproj.lean ====
abbrev S16x4096x1024 : Shape := ⟨3, ![16, 4096, 1024]⟩
abbrev S16x6144 : Shape := ⟨2, ![16, 6144]⟩
abbrev S4x1024 : Shape := ⟨2, ![4, 1024]⟩
abbrev S1024x5964 : Shape := ⟨2, ![1024, 5964]⟩
abbrev S4x1024x1024 : Shape := ⟨3, ![4, 1024, 1024]⟩
abbrev S16x1x6144 : Shape := ⟨3, ![16, 1, 6144]⟩
abbrev S1x1024 : Shape := ⟨2, ![1, 1024]⟩
abbrev S1024x512 : Shape := ⟨2, ![1024, 512]⟩
abbrev S1024x1024 : Shape := ⟨2, ![1024, 1024]⟩
abbrev S1024x256 : Shape := ⟨2, ![1024, 256]⟩
abbrev S1024x64 : Shape := ⟨2, ![1024, 64]⟩
abbrev S1024x4 : Shape := ⟨2, ![1024, 4]⟩
abbrev S_ : Shape := ⟨0, ![]⟩
abbrev S1024x52 : Shape := ⟨2, ![1024, 52]⟩
abbrev S1024x128 : Shape := ⟨2, ![1024, 128]⟩
abbrev S1x1024x1024 : Shape := ⟨3, ![1, 1024, 1024]⟩
abbrev S1024x10240 : Shape := ⟨2, ![1024, 10240]⟩
abbrev S16x4096x10240 : Shape := ⟨3, ![16, 4096, 10240]⟩
abbrev S1x1x1024 : Shape := ⟨3, ![1, 1, 1024]⟩
abbrev S1024x2048 : Shape := ⟨2, ![1024, 2048]⟩
abbrev S1x1024x2048 : Shape := ⟨3, ![1, 1024, 2048]⟩
abbrev S1x1024x1 : Shape := ⟨3, ![1, 1024, 1]⟩

abbrev nBuf : Space → Nat
  | .hbm => 37
  | .vmem => 12
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S4x1024, .f32⟩
  | .hbm, ⟨3, _⟩ => ⟨S1024x5964, .f32⟩
  | .hbm, ⟨4, _⟩ => ⟨S4x1024x1024, .f32⟩
  | .hbm, ⟨5, _⟩ => ⟨S16x1x6144, .f32⟩
  | .hbm, ⟨6, _⟩ => ⟨S1x1024, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x1024, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S1024x256, .f32⟩
  | .hbm, ⟨15, _⟩ => ⟨S1024x64, .f32⟩
  | .hbm, ⟨16, _⟩ => ⟨S1024x4, .f32⟩
  | .hbm, ⟨17, _⟩ => ⟨S1024x1024, .f32⟩
  | .hbm, ⟨18, _⟩ => ⟨S1024x512, .f32⟩
  | .hbm, ⟨19, _⟩ => ⟨S1024x4, .f32⟩
  | .hbm, ⟨20, _⟩ => ⟨S1024x4, .f32⟩
  | .hbm, ⟨21, _⟩ => ⟨S_, .f32⟩
  | .hbm, ⟨22, _⟩ => ⟨S1024x52, .f32⟩
  | .hbm, ⟨23, _⟩ => ⟨S1024x128, .f32⟩
  | .hbm, ⟨24, _⟩ => ⟨S_, .f32⟩
  | .hbm, ⟨25, _⟩ => ⟨S1024x128, .f32⟩
  | .hbm, ⟨26, _⟩ => ⟨S1x1024x1024, .f32⟩
  | .hbm, ⟨27, _⟩ => ⟨S1024x1024, .f32⟩
  | .hbm, ⟨28, _⟩ => ⟨S1x1024x1024, .f32⟩
  | .hbm, ⟨29, _⟩ => ⟨S1024x1024, .f32⟩
  | .hbm, ⟨30, _⟩ => ⟨S1x1024x1024, .f32⟩
  | .hbm, ⟨31, _⟩ => ⟨S1024x1024, .f32⟩
  | .hbm, ⟨32, _⟩ => ⟨S1x1024x1024, .f32⟩
  | .hbm, ⟨33, _⟩ => ⟨S1024x1024, .f32⟩
  | .hbm, ⟨34, _⟩ => ⟨S1024x10240, .f32⟩
  | .hbm, ⟨35, _⟩ => ⟨S1024x10240, .bf16⟩
  | .hbm, ⟨36, _⟩ => ⟨S16x4096x10240, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | .local _ .vmem, ⟨9, _⟩ => ⟨S1x1024x2048, .f32⟩
  | .local _ .vmem, ⟨10, _⟩ => ⟨S1x1024x2048, .f32⟩
  | .local _ .vmem, ⟨11, _⟩ => ⟨S1024x1024, .bf16⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![16, 4, 5], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== InprojRefIdeal.lean ====
abbrev S16x4096x1024 : Shape := ⟨3, ![16, 4096, 1024]⟩
abbrev S16x6144 : Shape := ⟨2, ![16, 6144]⟩
abbrev S4x1024 : Shape := ⟨2, ![4, 1024]⟩
abbrev S1024x5964 : Shape := ⟨2, ![1024, 5964]⟩
abbrev S4x1024x1024 : Shape := ⟨3, ![4, 1024, 1024]⟩
abbrev S16x1024 : Shape := ⟨2, ![16, 1024]⟩
abbrev S16x1x1024 : Shape := ⟨3, ![16, 1, 1024]⟩
abbrev S1x1024 : Shape := ⟨2, ![1, 1024]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5964 : Shape := ⟨3, ![16, 4096, 5964]⟩
abbrev S16x4096x180 : Shape := ⟨3, ![16, 4096, 180]⟩
abbrev S16x4096x4096 : Shape := ⟨3, ![16, 4096, 4096]⟩
abbrev S16x4096x512 : Shape := ⟨3, ![16, 4096, 512]⟩
abbrev S16x4096x256 : Shape := ⟨3, ![16, 4096, 256]⟩
abbrev S16x4096x68 : Shape := ⟨3, ![16, 4096, 68]⟩
abbrev S16x4096x8 : Shape := ⟨3, ![16, 4096, 8]⟩
abbrev S1x1024x1024 : Shape := ⟨3, ![1, 1024, 1024]⟩
abbrev S1024x1024 : Shape := ⟨2, ![1024, 1024]⟩
abbrev S16x4096x10240 : Shape := ⟨3, ![16, 4096, 10240]⟩

abbrev nBuf : Space → Nat
  | .hbm => 64
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x6144, .f32⟩
  | .hbm, ⟨2, _⟩ => ⟨S4x1024, .f32⟩
  | .hbm, ⟨3, _⟩ => ⟨S1024x5964, .f32⟩
  | .hbm, ⟨4, _⟩ => ⟨S4x1024x1024, .f32⟩
  | .hbm, ⟨5, _⟩ => ⟨S16x1024, .f32⟩
  | .hbm, ⟨6, _⟩ => ⟨S16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S1x1024, .f32⟩
  | .hbm, ⟨18, _⟩ => ⟨S1024, .f32⟩
  | .hbm, ⟨19, _⟩ => ⟨S16x4096x1024, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x1, .f32⟩
  | .hbm, ⟨30, _⟩ => ⟨S16x4096x1024, .f32⟩
  | .hbm, ⟨31, _⟩ => ⟨S16x4096x1024, .f32⟩
  | .hbm, ⟨32, _⟩ => ⟨S1x1x1024, .f32⟩
  | .hbm, ⟨33, _⟩ => ⟨S16x4096x1024, .f32⟩
  | .hbm, ⟨34, _⟩ => ⟨S16x4096x1024, .f32⟩
  | .hbm, ⟨35, _⟩ => ⟨S_, .f32⟩
  | .hbm, ⟨36, _⟩ => ⟨S16x1x1024, .f32⟩
  | .hbm, ⟨37, _⟩ => ⟨S16x1x1024, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S16x4096x1024, .f32⟩
  | .hbm, ⟨42, _⟩ => ⟨S16x4096x5964, .f32⟩
  | .hbm, ⟨43, _⟩ => ⟨S_, .f32⟩
  | .hbm, ⟨44, _⟩ => ⟨S16x4096x180, .f32⟩
  | .hbm, ⟨45, _⟩ => ⟨S16x4096x4096, .f32⟩
  | .hbm, ⟨46, _⟩ => ⟨S16x4096x1024, .f32⟩
  | .hbm, ⟨47, _⟩ => ⟨S16x4096x512, .f32⟩
  | .hbm, ⟨48, _⟩ => ⟨S16x4096x256, .f32⟩
  | .hbm, ⟨49, _⟩ => ⟨S16x4096x68, .f32⟩
  | .hbm, ⟨50, _⟩ => ⟨S16x4096x8, .f32⟩
  | .hbm, ⟨51, _⟩ => ⟨S1x1024x1024, .f32⟩
  | .hbm, ⟨52, _⟩ => ⟨S1024x1024, .f32⟩
  | .hbm, ⟨53, _⟩ => ⟨S16x4096x1024, .f32⟩
  | .hbm, ⟨54, _⟩ => ⟨S1x1024x1024, .f32⟩
  | .hbm, ⟨55, _⟩ => ⟨S1024x1024, .f32⟩
  | .hbm, ⟨56, _⟩ => ⟨S16x4096x1024, .f32⟩
  | .hbm, ⟨57, _⟩ => ⟨S1x1024x1024, .f32⟩
  | .hbm, ⟨58, _⟩ => ⟨S1024x1024, .f32⟩
  | .hbm, ⟨59, _⟩ => ⟨S16x4096x1024, .f32⟩
  | .hbm, ⟨60, _⟩ => ⟨S1x1024x1024, .f32⟩
  | .hbm, ⟨61, _⟩ => ⟨S1024x1024, .f32⟩
  | .hbm, ⟨62, _⟩ => ⟨S16x4096x1024, .f32⟩
  | .hbm, ⟨63, _⟩ => ⟨S16x4096x10240, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩

abbrev nD : Nat := 1
abbrev τ : Topo := Topo.v7x

variable {F : FTy → Type} [FloatOps F]
-- ==== Merge.lean ====
abbrev S16x4096x512 : Shape := ⟨3, ![16, 4096, 512]⟩
abbrev S16x4096x10240 : Shape := ⟨3, ![16, 4096, 10240]⟩
abbrev S16x4096x1024 : Shape := ⟨3, ![16, 4096, 1024]⟩
abbrev S16x6144 : Shape := ⟨2, ![16, 6144]⟩
abbrev S4x1024 : Shape := ⟨2, ![4, 1024]⟩
abbrev S4x512x1024 : Shape := ⟨3, ![4, 512, 1024]⟩
abbrev S1024x1024 : Shape := ⟨2, ![1024, 1024]⟩
abbrev S16x1x6144 : Shape := ⟨3, ![16, 1, 6144]⟩
abbrev S1x1024 : Shape := ⟨2, ![1, 1024]⟩
abbrev S1x256x512 : Shape := ⟨3, ![1, 256, 512]⟩
abbrev S1x256x1024 : Shape := ⟨3, ![1, 256, 1024]⟩
abbrev S1x1x1024 : Shape := ⟨3, ![1, 1, 1024]⟩
abbrev S256x1024 : Shape := ⟨2, ![256, 1024]⟩
abbrev S256x512 : Shape := ⟨2, ![256, 512]⟩
abbrev S1x512x1024 : Shape := ⟨3, ![1, 512, 1024]⟩
abbrev S512x1024 : Shape := ⟨2, ![512, 1024]⟩
abbrev S256 : Shape := ⟨1, ![256]⟩
abbrev S256x1 : Shape := ⟨2, ![256, 1]⟩

abbrev nBuf : Space → Nat
  | .hbm => 15
  | .vmem => 25
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S16x4096x10240, .f32⟩
  | .hbm, ⟨5, _⟩ => ⟨S16x4096x1024, .f32⟩
  | .hbm, ⟨6, _⟩ => ⟨S16x6144, .f32⟩
  | .hbm, ⟨7, _⟩ => ⟨S4x1024, .f32⟩
  | .hbm, ⟨8, _⟩ => ⟨S4x512x1024, .f32⟩
  | .hbm, ⟨9, _⟩ => ⟨S1024x1024, .f32⟩
  | .hbm, ⟨10, _⟩ => ⟨S16x1x6144, .f32⟩
  | .hbm, ⟨11, _⟩ => ⟨S1x1024, .f32⟩
  | .hbm, ⟨12, _⟩ => ⟨S4x512x1024, .bf16⟩
  | .hbm, ⟨13, _⟩ => ⟨S1024x1024, .bf16⟩
  | .hbm, ⟨14, _⟩ => ⟨S16x4096x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | .local _ .vmem, ⟨21, _⟩ => ⟨S4x512x1024, .bf16⟩
  | .local _ .vmem, ⟨22, _⟩ => ⟨S1024x1024, .bf16⟩
  | .local _ .vmem, ⟨23, _⟩ => ⟨S1x256x1024, .f32⟩
  | .local _ .vmem, ⟨24, _⟩ => ⟨S1x256x1024, .f32⟩
  | _, _ => ⟨S16x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_5 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_6 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_7 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MergeRefIdeal.lean ====
abbrev S16x4096x512 : Shape := ⟨3, ![16, 4096, 512]⟩
abbrev S16x4096x10240 : Shape := ⟨3, ![16, 4096, 10240]⟩
abbrev S16x4096x1024 : Shape := ⟨3, ![16, 4096, 1024]⟩
abbrev S16x6144 : Shape := ⟨2, ![16, 6144]⟩
abbrev S4x1024 : Shape := ⟨2, ![4, 1024]⟩
abbrev S4x512x1024 : Shape := ⟨3, ![4, 512, 1024]⟩
abbrev S1024x1024 : Shape := ⟨2, ![1024, 1024]⟩
abbrev S16x1024 : Shape := ⟨2, ![16, 1024]⟩
abbrev S16x1x1024 : Shape := ⟨3, ![16, 1, 1024]⟩
abbrev S_ : Shape := ⟨0, ![]⟩
abbrev S1x512x1024 : Shape := ⟨3, ![1, 512, 1024]⟩
abbrev S512x1024 : Shape := ⟨2, ![512, 1024]⟩
abbrev S1x1024 : Shape := ⟨2, ![1, 1024]⟩
abbrev S1024 : Shape := ⟨1, ![1024]⟩
abbrev S16x4096 : Shape := ⟨2, ![16, 4096]⟩
abbrev S16x4096x1 : Shape := ⟨3, ![16, 4096, 1]⟩
abbrev S1x1x1024 : Shape := ⟨3, ![1, 1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096x512, .f32⟩
  | .hbm, ⟨2, _⟩ => ⟨S16x4096x512, .f32⟩
  | .hbm, ⟨3, _⟩ => ⟨S16x4096x512, .f32⟩
  | .hbm, ⟨4, _⟩ => ⟨S16x4096x10240, .f32⟩
  | .hbm, ⟨5, _⟩ => ⟨S16x4096x1024, .f32⟩
  | .hbm, ⟨6, _⟩ => ⟨S16x6144, .f32⟩
  | .hbm, ⟨7, _⟩ => ⟨S4x1024, .f32⟩
  | .hbm, ⟨8, _⟩ => ⟨S4x512x1024, .f32⟩
  | .hbm, ⟨9, _⟩ => ⟨S1024x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S16x1x1024, .f32⟩
  | .hbm, ⟨17, _⟩ => ⟨S16x1x1024, .f32⟩
  | .hbm, ⟨18, _⟩ => ⟨S16x1x1024, .f32⟩
  | .hbm, ⟨19, _⟩ => ⟨S16x1x1024, .f32⟩
  | .hbm, ⟨20, _⟩ => ⟨S16x1x1024, .f32⟩
  | .hbm, ⟨21, _⟩ => ⟨S16x1x1024, .f32⟩
  | .hbm, ⟨22, _⟩ => ⟨S16x4096x1024, .f32⟩
  | .hbm, ⟨23, _⟩ => ⟨S16x4096x1024, .f32⟩
  | .hbm, ⟨24, _⟩ => ⟨S16x4096x1024, .f32⟩
  | .hbm, ⟨25, _⟩ => ⟨S_, .f32⟩
  | .hbm, ⟨26, _⟩ => ⟨S16x4096x1024, .f32⟩
  | .hbm, ⟨27, _⟩ => ⟨S16x4096x1024, .f32⟩
  | .hbm, ⟨28, _⟩ => ⟨S_, .f32⟩
  | .hbm, ⟨29, _⟩ => ⟨S16x4096x1024, .f32⟩
  | .hbm, ⟨30, _⟩ => ⟨S16x4096x1024, .f32⟩
  | .hbm, ⟨31, _⟩ => ⟨S1x512x1024, .f32⟩
  | .hbm, ⟨32, _⟩ => ⟨S512x1024, .f32⟩
  | .hbm, ⟨33, _⟩ => ⟨S16x4096x1024, .f32⟩
  | .hbm, ⟨34, _⟩ => ⟨S16x4096x1024, .f32⟩
  | .hbm, ⟨35, _⟩ => ⟨S16x4096x1024, .f32⟩
  | .hbm, ⟨36, _⟩ => ⟨S16x4096x1024, .f32⟩
  | .hbm, ⟨37, _⟩ => ⟨S16x4096x1024, .f32⟩
  | .hbm, ⟨38, _⟩ => ⟨S_, .f32⟩
  | .hbm, ⟨39, _⟩ => ⟨S16x4096x1024, .f32⟩
  | .hbm, ⟨40, _⟩ => ⟨S16x4096x1024, .f32⟩
  | .hbm, ⟨41, _⟩ => ⟨S_, .f32⟩
  | .hbm, ⟨42, _⟩ => ⟨S16x4096x1024, .f32⟩
  | .hbm, ⟨43, _⟩ => ⟨S16x4096x1024, .f32⟩
  | .hbm, ⟨44, _⟩ => ⟨S1x512x1024, .f32⟩
  | .hbm, ⟨45, _⟩ => ⟨S512x1024, .f32⟩
  | .hbm, ⟨46, _⟩ => ⟨S16x4096x1024, .f32⟩
  | .hbm, ⟨47, _⟩ => ⟨S16x4096x1024, .f32⟩
  | .hbm, ⟨48, _⟩ => ⟨S16x4096x1024, .f32⟩
  | .hbm, ⟨49, _⟩ => ⟨S16x4096x1024, .f32⟩
  | .hbm, ⟨50, _⟩ => ⟨S16x4096x1024, .f32⟩
  | .hbm, ⟨51, _⟩ => ⟨S16x4096x1024, .f32⟩
  | .hbm, ⟨52, _⟩ => ⟨S_, .f32⟩
  | .hbm, ⟨53, _⟩ => ⟨S16x4096x1024, .f32⟩
  | .hbm, ⟨54, _⟩ => ⟨S16x4096x1024, .f32⟩
  | .hbm, ⟨55, _⟩ => ⟨S_, .f32⟩
  | .hbm, ⟨56, _⟩ => ⟨S16x4096x1024, .f32⟩
  | .hbm, ⟨57, _⟩ => ⟨S16x4096x1024, .f32⟩
  | .hbm, ⟨58, _⟩ => ⟨S1x512x1024, .f32⟩
  | .hbm, ⟨59, _⟩ => ⟨S512x1024, .f32⟩
  | .hbm, ⟨60, _⟩ => ⟨S16x4096x1024, .f32⟩
  | .hbm, ⟨61, _⟩ => ⟨S16x4096x1024, .f32⟩
  | .hbm, ⟨62, _⟩ => ⟨S16x4096x1024, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S_, .f32⟩
  | .hbm, ⟨67, _⟩ => ⟨S16x4096x1024, .f32⟩
  | .hbm, ⟨68, _⟩ => ⟨S16x4096x1024, .f32⟩
  | .hbm, ⟨69, _⟩ => ⟨S_, .f32⟩
  | .hbm, ⟨70, _⟩ => ⟨S16x4096x1024, .f32⟩
  | .hbm, ⟨71, _⟩ => ⟨S16x4096x1024, .f32⟩
  | .hbm, ⟨72, _⟩ => ⟨S1x512x1024, .f32⟩
  | .hbm, ⟨73, _⟩ => ⟨S512x1024, .f32⟩
  | .hbm, ⟨74, _⟩ => ⟨S16x4096x1024, .f32⟩
  | .hbm, ⟨75, _⟩ => ⟨S16x4096x1024, .f32⟩
  | .hbm, ⟨76, _⟩ => ⟨S16x4096x1024, .f32⟩
  | .hbm, ⟨77, _⟩ => ⟨S16x4096x1024, .f32⟩
  | .hbm, ⟨78, _⟩ => ⟨S1x1024, .f32⟩
  | .hbm, ⟨79, _⟩ => ⟨S1024, .f32⟩
  | .hbm, ⟨80, _⟩ => ⟨S16x4096x1024, .f32⟩
  | .hbm, ⟨81, _⟩ => ⟨S_, .f32⟩
  | .hbm, ⟨82, _⟩ => ⟨S16x4096, .f32⟩
  | .hbm, ⟨83, _⟩ => ⟨S16x4096x1, .f32⟩
  | .hbm, ⟨84, _⟩ => ⟨S_, .f32⟩
  | .hbm, ⟨85, _⟩ => ⟨S16x4096x1, .f32⟩
  | .hbm, ⟨86, _⟩ => ⟨S16x4096x1, .f32⟩
  | .hbm, ⟨87, _⟩ => ⟨S_, .f32⟩
  | .hbm, ⟨88, _⟩ => ⟨S16x4096x1, .f32⟩
  | .hbm, ⟨89, _⟩ => ⟨S16x4096x1, .f32⟩
  | .hbm, ⟨90, _⟩ => ⟨S16x4096x1, .f32⟩
  | .hbm, ⟨91, _⟩ => ⟨S16x4096x1024, .f32⟩
  | .hbm, ⟨92, _⟩ => ⟨S16x4096x1024, .f32⟩
  | .hbm, ⟨93, _⟩ => ⟨S1x1x1024, .f32⟩
  | .hbm, ⟨94, _⟩ => ⟨S16x4096x1024, .f32⟩
  | .hbm, ⟨95, _⟩ => ⟨S16x4096x1024, .f32⟩
  | .hbm, ⟨96, _⟩ => ⟨S16x4096x1024, .f32⟩
  | .hbm, ⟨97, _⟩ => ⟨S16x4096x1024, .f32⟩
  | .hbm, ⟨98, _⟩ => ⟨S16x4096x1024, .f32⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_1 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_3 : Ref sig .tc := ⟨.hbm, 52, rfl⟩
abbrev main_v38 : Ref sig .tc := ⟨.hbm, 53, rfl⟩
abbrev main_v39 : Ref sig .tc := ⟨.hbm, 54, rfl⟩
abbrev main_cst_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_7 : Ref sig .tc := ⟨.hbm, 81, rfl⟩
abbrev main_v63 : Ref sig .tc := ⟨.hbm, 82, rfl⟩
abbrev main_v64 : Ref sig .tc := ⟨.hbm, 83, rfl⟩
abbrev main_cst_8 : Ref sig .tc := ⟨.hbm, 84, rfl⟩
abbrev main_v65 : Ref sig .tc := ⟨.hbm, 85, rfl⟩
abbrev main_v66 : Ref sig .tc := ⟨.hbm, 86, rfl⟩
abbrev main_cst_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩

abbrev nD : Nat := 1
abbrev τ : Topo := Topo.v7x

variable {F : FTy → Type} [FloatOps F]
-- ==== Full.lean ====
abbrev S16x64x10240 : Shape := ⟨3, ![16, 64, 10240]⟩
abbrev S4x16x2048x4x128 : Shape := ⟨5, ![4, 16, 2048, 4, 128]⟩
abbrev S32x12 : Shape := ⟨2, ![32, 12]⟩
abbrev S1 : Shape := ⟨1, ![1]⟩
abbrev S4x64 : Shape := ⟨2, ![4, 64]⟩
abbrev S128 : Shape := ⟨1, ![128]⟩
abbrev S64x2112 : Shape := ⟨2, ![64, 2112]⟩
abbrev S_ : Shape := ⟨0, ![]⟩
abbrev S64x2112x1 : Shape := ⟨3, ![64, 2112, 1]⟩
abbrev S64x2112x12 : Shape := ⟨3, ![64, 2112, 12]⟩
abbrev S12x64x2112 : Shape := ⟨3, ![12, 64, 2112]⟩
abbrev S4x16x2048x512 : Shape := ⟨4, ![4, 16, 2048, 512]⟩
abbrev S1x128 : Shape := ⟨2, ![1, 128]⟩
abbrev S16x64x512 : Shape := ⟨3, ![16, 64, 512]⟩
abbrev S1x64x128 : Shape := ⟨3, ![1, 64, 128]⟩
abbrev S1x1x2048x128 : Shape := ⟨4, ![1, 1, 2048, 128]⟩
abbrev S1x64x2112 : Shape := ⟨3, ![1, 64, 2112]⟩
abbrev S2x64x1 : Shape := ⟨3, ![2, 64, 1]⟩
abbrev S2x64x128 : Shape := ⟨3, ![2, 64, 128]⟩
abbrev S64x128 : Shape := ⟨2, ![64, 128]⟩
abbrev S2048x128 : Shape := ⟨2, ![2048, 128]⟩
abbrev S1x64x2048 : Shape := ⟨3, ![1, 64, 2048]⟩
abbrev S64x2048 : Shape := ⟨2, ![64, 2048]⟩
abbrev S1x64x1 : Shape := ⟨3, ![1, 64, 1]⟩
abbrev S64x1 : Shape := ⟨2, ![64, 1]⟩
abbrev S64 : Shape := ⟨1, ![64]⟩
abbrev S1x64x64 : Shape := ⟨3, ![1, 64, 64]⟩
abbrev S64x64 : Shape := ⟨2, ![64, 64]⟩
abbrev S1x64 : Shape := ⟨2, ![1, 64]⟩
abbrev S1x1 : Shape := ⟨2, ![1, 1]⟩

abbrev nBuf : Space → Nat
  | .hbm => 63
  | .vmem => 19
  | .smem => 1
  | _ => 0

abbrev bufTy : (tb : Table) → Fin (tcTables nBuf tb) → BufTy
  | .hbm, ⟨0, _⟩ => ⟨S16x64x10240, .f32⟩
  | .hbm, ⟨1, _⟩ => ⟨S4x16x2048x4x128, .f32⟩
  | .hbm, ⟨2, _⟩ => ⟨S4x16x2048x4x128, .f32⟩
  | .hbm, ⟨3, _⟩ => ⟨S32x12, .f32⟩
  | .hbm, ⟨4, _⟩ => ⟨S1, .f32⟩
  | .hbm, ⟨5, _⟩ => ⟨S4x64, .f32⟩
  | .hbm, ⟨6, _⟩ => ⟨S128, .f32⟩
  | .hbm, ⟨7, _⟩ => ⟨S64x2112, .i32⟩
  | .hbm, ⟨8, _⟩ => ⟨S64x2112, .i32⟩
  | .hbm, ⟨9, _⟩ => ⟨S_, .i32⟩
  | .hbm, ⟨10, _⟩ => ⟨S64x2112, .i32⟩
  | .hbm, ⟨11, _⟩ => ⟨S64x2112, .i32⟩
  | .hbm, ⟨12, _⟩ => ⟨S64x2112, .i32⟩
  | .hbm, ⟨13, _⟩ => ⟨S64x2112, .i32⟩
  | .hbm, ⟨14, _⟩ => ⟨S_, .i32⟩
  | .hbm, ⟨15, _⟩ => ⟨S64x2112, .i32⟩
  | .hbm, ⟨16, _⟩ => ⟨S64x2112, .i32⟩
  | .hbm, ⟨17, _⟩ => ⟨S64x2112, .f32⟩
  | .hbm, ⟨18, _⟩ => ⟨S_, .f32⟩
  | .hbm, ⟨19, _⟩ => ⟨S64x2112, .f32⟩
  | .hbm, ⟨20, _⟩ => ⟨S64x2112, .f32⟩
  | .hbm, ⟨21, _⟩ => ⟨S64x2112, .f32⟩
  | .hbm, ⟨22, _⟩ => ⟨S_, .f32⟩
  | .hbm, ⟨23, _⟩ => ⟨S64x2112, .f32⟩
  | .hbm, ⟨24, _⟩ => ⟨S64x2112, .f32⟩
  | .hbm, ⟨25, _⟩ => ⟨S_, .f32⟩
  | .hbm, ⟨26, _⟩ => ⟨S64x2112, .f32⟩
  | .hbm, ⟨27, _⟩ => ⟨S64x2112, .f32⟩
  | .hbm, ⟨28, _⟩ => ⟨S64x2112, .i32⟩
  | .hbm, ⟨29, _⟩ => ⟨S_, .i32⟩
  | .hbm, ⟨30, _⟩ => ⟨S64x2112, .i32⟩
  | .hbm, ⟨31, _⟩ => ⟨S64x2112, .i32⟩
  | .hbm, ⟨32, _⟩ => ⟨S_, .i32⟩
  | .hbm, ⟨33, _⟩ => ⟨S64x2112, .i32⟩
  | .hbm, ⟨34, _⟩ => ⟨S64x2112, .i32⟩
  | .hbm, ⟨35, _⟩ => ⟨S_, .i32⟩
  | .hbm, ⟨36, _⟩ => ⟨S64x2112, .i32⟩
  | .hbm, ⟨37, _⟩ => ⟨S64x2112, .i1⟩
  | .hbm, ⟨38, _⟩ => ⟨S_, .i32⟩
  | .hbm, ⟨39, _⟩ => ⟨S_, .i32⟩
  | .hbm, ⟨40, _⟩ => ⟨S64x2112, .i32⟩
  | .hbm, ⟨41, _⟩ => ⟨S64x2112, .i32⟩
  | .hbm, ⟨42, _⟩ => ⟨S64x2112, .i32⟩
  | .hbm, ⟨43, _⟩ => ⟨S_, .i32⟩
  | .hbm, ⟨44, _⟩ => ⟨S64x2112, .i32⟩
  | .hbm, ⟨45, _⟩ => ⟨S64x2112, .i1⟩
  | .hbm, ⟨46, _⟩ => ⟨S64x2112, .i32⟩
  | .hbm, ⟨47, _⟩ => ⟨S64x2112, .i32⟩
  | .hbm, ⟨48, _⟩ => ⟨S64x2112, .i32⟩
  | .hbm, ⟨49, _⟩ => ⟨S_, .i32⟩
  | .hbm, ⟨50, _⟩ => ⟨S64x2112, .i32⟩
  | .hbm, ⟨51, _⟩ => ⟨S64x2112, .i1⟩
  | .hbm, ⟨52, _⟩ => ⟨S_, .i32⟩
  | .hbm, ⟨53, _⟩ => ⟨S64x2112, .i32⟩
  | .hbm, ⟨54, _⟩ => ⟨S64x2112, .i32⟩
  | .hbm, ⟨55, _⟩ => ⟨S64x2112, .i32⟩
  | .hbm, ⟨56, _⟩ => ⟨S64x2112x1, .i32⟩
  | .hbm, ⟨57, _⟩ => ⟨S64x2112x12, .f32⟩
  | .hbm, ⟨58, _⟩ => ⟨S12x64x2112, .f32⟩
  | .hbm, ⟨59, _⟩ => ⟨S4x16x2048x512, .f32⟩
  | .hbm, ⟨60, _⟩ => ⟨S4x16x2048x512, .f32⟩
  | .hbm, ⟨61, _⟩ => ⟨S1x128, .f32⟩
  | .hbm, ⟨62, _⟩ => ⟨S16x64x512, .f32⟩
  | .local _ .vmem, ⟨0, _⟩ => ⟨S1x64x128, .f32⟩
  | .local _ .vmem, ⟨1, _⟩ => ⟨S1x64x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x64x128, .f32⟩
  | .local _ .vmem, ⟨7, _⟩ => ⟨S1x64x128, .f32⟩
  | .local _ .vmem, ⟨8, _⟩ => ⟨S1x64x128, .f32⟩
  | .local _ .vmem, ⟨9, _⟩ => ⟨S1x64x128, .f32⟩
  | .local _ .vmem, ⟨10, _⟩ => ⟨S1x64x2112, .f32⟩
  | .local _ .vmem, ⟨11, _⟩ => ⟨S1x64x2112, .f32⟩
  | .local _ .vmem, ⟨12, _⟩ => ⟨S4x64, .f32⟩
  | .local _ .vmem, ⟨13, _⟩ => ⟨S1x128, .f32⟩
  | .local _ .vmem, ⟨14, _⟩ => ⟨S1x64x128, .f32⟩
  | .local _ .vmem, ⟨15, _⟩ => ⟨S1x64x128, .f32⟩
  | .local _ .vmem, ⟨16, _⟩ => ⟨S2x64x1, .f32⟩
  | .local _ .vmem, ⟨17, _⟩ => ⟨S2x64x1, .f32⟩
  | .local _ .vmem, ⟨18, _⟩ => ⟨S2x64x128, .f32⟩
  | .local _ .smem, ⟨0, _⟩ => ⟨S1, .f32⟩
  | _, _ => ⟨S16x64x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_c_7 : Ref sig .tc := ⟨.hbm, 39, rfl⟩
abbrev main_call0_v0 : Ref sig .tc := ⟨.hbm, 40, rfl⟩
abbrev main_call0_v1 : Ref sig .tc := ⟨.hbm, 41, rfl⟩
abbrev main_v23 : Ref sig .tc := ⟨.hbm, 42, rfl⟩
abbrev main_c_8 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_c_9 : Ref sig .tc := ⟨.hbm, 49, rfl⟩
abbrev main_v29 : Ref sig .tc := ⟨.hbm, 50, rfl⟩
abbrev main_v30 : Ref sig .tc := ⟨.hbm, 51, rfl⟩
abbrev main_c_10 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![v0.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x2112 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S4x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FullIdeal.lean ====
variable {F : FTy → Type} [FloatOps F] [Named F]
def κ : String → Option EReal := fun
  | "log2e" => some (((Real.log 2)⁻¹ : ℝ) : EReal)
  | "mask" => some ⊥
  | "qscale" => some ((8⁻¹ * (Real.log 2)⁻¹ : ℝ) : EReal)
  | _ => none
-- ==== FullRefIdeal.lean ====
abbrev S16x64x10240 : Shape := ⟨3, ![16, 64, 10240]⟩
abbrev S4x16x2048x4x128 : Shape := ⟨5, ![4, 16, 2048, 4, 128]⟩
abbrev S32x12 : Shape := ⟨2, ![32, 12]⟩
abbrev S1 : Shape := ⟨1, ![1]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S16x64x512 : Shape := ⟨3, ![16, 64, 512]⟩
abbrev S16x64x4x2x64 : Shape := ⟨5, ![16, 64, 4, 2, 64]⟩
abbrev S1x16x2048x4x128 : Shape := ⟨5, ![1, 16, 2048, 4, 128]⟩
abbrev S16x2048x4x128 : Shape := ⟨4, ![16, 2048, 4, 128]⟩
abbrev S16x64x4x128 : Shape := ⟨4, ![16, 64, 4, 128]⟩
abbrev S16x2112x4x128 : Shape := ⟨4, ![16, 2112, 4, 128]⟩
abbrev S16x2112x4x2x64 : Shape := ⟨5, ![16, 2112, 4, 2, 64]⟩
abbrev S2112 : Shape := ⟨1, ![2112]⟩
abbrev S16x2x4x64x2112 : Shape := ⟨5, ![16, 2, 4, 64, 2112]⟩
abbrev S32x4 : Shape := ⟨2, ![32, 4]⟩
abbrev S1x2112 : Shape := ⟨2, ![1, 2112]⟩
abbrev S64x1 : Shape := ⟨2, ![64, 1]⟩
abbrev S64x2112 : Shape := ⟨2, ![64, 2112]⟩
abbrev S64x2112x1 : Shape := ⟨3, ![64, 2112, 1]⟩
abbrev S64x2112x4 : Shape := ⟨3, ![64, 2112, 4]⟩
abbrev S4x64x2112 : Shape := ⟨3, ![4, 64, 2112]⟩
abbrev S1x1x4x64x2112 : Shape := ⟨5, ![1, 1, 4, 64, 2112]⟩
abbrev S16x2x4x64 : Shape := ⟨4, ![16, 2, 4, 64]⟩
abbrev S16x2x4x64x1 : Shape := ⟨5, ![16, 2, 4, 64, 1]⟩
abbrev S16x1x4x64x2112 : Shape := ⟨5, ![16, 1, 4, 64, 2112]⟩
abbrev S16x4x64x2112 : Shape := ⟨4, ![16, 4, 64, 2112]⟩
abbrev S1x1x1x1 : Shape := ⟨4, ![1, 1, 1, 1]⟩
abbrev S16x4x128x64 : Shape := ⟨4, ![16, 4, 128, 64]⟩
abbrev S16x64x4 : Shape := ⟨3, ![16, 64, 4]⟩
abbrev S16x64x4x1 : Shape := ⟨4, ![16, 64, 4, 1]⟩
abbrev S1x1x1x128 : Shape := ⟨4, ![1, 1, 1, 128]⟩

abbrev nBuf : Space → Nat
  | .hbm => 166
  | .vmem => 0
  | .smem => 0
  | _ => 0

abbrev hbmTy0_0 (i : Nat) : BufTy := match i % 128 with
  | 0 => ⟨S16x64x10240, .f32⟩
  | 1 => ⟨S4x16x2048x4x128, .f32⟩
  | 2 => ⟨S4x16x2048x4x128, .f32⟩
  | 3 => ⟨S32x12, .f32⟩
  | 4 => ⟨S1, .f32⟩
  | 5 => ⟨S4x64, .f32⟩
  | 6 => ⟨S128, .f32⟩
  | 7 => ⟨S1x64, .f32⟩
  | 8 => ⟨S64, .f32⟩
  | 9 => ⟨S1x64, .f32⟩
  | 10 => ⟨S64, .f32⟩
  | 11 => ⟨S64, .f32⟩
  | 12 => ⟨S_, .f32⟩
  | 13 => ⟨S_, .f32⟩
  | 14 => ⟨S_, .f32⟩
  | 15 => ⟨S1x64, .f32⟩
  | 16 => ⟨S64, .f32⟩
  | 17 => ⟨S1x64, .f32⟩
  | 18 => ⟨S64, .f32⟩
  | 19 => ⟨S64, .f32⟩
  | 20 => ⟨S_, .f32⟩
  | 21 => ⟨S_, .f32⟩
  | 22 => ⟨S_, .f32⟩
  | 23 => ⟨S_, .f32⟩
  | 24 => ⟨S1, .f32⟩
  | 25 => ⟨S1, .f32⟩
  | 26 => ⟨S16x64x512, .f32⟩
  | 27 => ⟨S16x64x4x2x64, .f32⟩
  | 28 => ⟨S1x16x2048x4x128, .f32⟩
  | 29 => ⟨S16x2048x4x128, .f32⟩
  | 30 => ⟨S16x64x512, .f32⟩
  | 31 => ⟨S16x64x4x128, .f32⟩
  | 32 => ⟨S16x2112x4x128, .f32⟩
  | 33 => ⟨S1x16x2048x4x128, .f32⟩
  | 34 => ⟨S16x2048x4x128, .f32⟩
  | 35 => ⟨S16x64x512, .f32⟩
  | 36 => ⟨S16x64x4x128, .f32⟩
  | 37 => ⟨S16x2112x4x128, .f32⟩
  | 38 => ⟨S16x2112x4x2x64, .f32⟩
  | 39 => ⟨S64, .i32⟩
  | 40 => ⟨S_, .i32⟩
  | 41 => ⟨S64, .i32⟩
  | 42 => ⟨S64, .i32⟩
  | 43 => ⟨S2112, .i32⟩
  | 44 => ⟨S16x2x4x64x2112, .f32⟩
  | 45 => ⟨S_, .f32⟩
  | 46 => ⟨S16x2x4x64x2112, .f32⟩
  | 47 => ⟨S16x2x4x64x2112, .f32⟩
  | 48 => ⟨S32x4, .f32⟩
  | 49 => ⟨S1x2112, .i32⟩
  | 50 => ⟨S64x1, .i32⟩
  | 51 => ⟨S64x2112, .i32⟩
  | 52 => ⟨S64x2112, .i32⟩
  | 53 => ⟨S64x2112, .i32⟩
  | 54 => ⟨S64x2112, .i32⟩
  | 55 => ⟨S_, .i32⟩
  | 56 => ⟨S64x2112, .i32⟩
  | 57 => ⟨S64x2112, .i32⟩
  | 58 => ⟨S64x2112, .f32⟩
  | 59 => ⟨S_, .f32⟩
  | 60 => ⟨S64x2112, .f32⟩
  | 61 => ⟨S64x2112, .f32⟩
  | 62 => ⟨S64x2112, .f32⟩
  | 63 => ⟨S_, .f32⟩
  | 64 => ⟨S64x2112, .f32⟩
  | 65 => ⟨S64x2112, .f32⟩
  | 66 => ⟨S_, .f32⟩
  | 67 => ⟨S64x2112, .f32⟩
  | 68 => ⟨S64x2112, .f32⟩
  | 69 => ⟨S64x2112, .i32⟩
  | 70 => ⟨S_, .i32⟩
  | 71 => ⟨S64x2112, .i32⟩
  | 72 => ⟨S64x2112, .i32⟩
  | 73 => ⟨S_, .i32⟩
  | 74 => ⟨S64x2112, .i32⟩
  | 75 => ⟨S64x2112, .i32⟩
  | 76 => ⟨S_, .i32⟩
  | 77 => ⟨S64x2112, .i32⟩
  | 78 => ⟨S64x2112, .i1⟩
  | 79 => ⟨S_, .i32⟩
  | 80 => ⟨S_, .i32⟩
  | 81 => ⟨S64x2112, .i32⟩
  | 82 => ⟨S64x2112, .i32⟩
  | 83 => ⟨S64x2112, .i32⟩
  | 84 => ⟨S_, .i32⟩
  | 85 => ⟨S64x2112, .i32⟩
  | 86 => ⟨S64x2112, .i1⟩
  | 87 => ⟨S64x2112, .i32⟩
  | 88 => ⟨S64x2112, .i32⟩
  | 89 => ⟨S64x2112, .i32⟩
  | 90 => ⟨S_, .i32⟩
  | 91 => ⟨S64x2112, .i32⟩
  | 92 => ⟨S64x2112, .i1⟩
  | 93 => ⟨S_, .i32⟩
  | 94 => ⟨S64x2112, .i32⟩
  | 95 => ⟨S64x2112, .i32⟩
  | 96 => ⟨S64x2112, .i32⟩
  | 97 => ⟨S64x2112x1, .i32⟩
  | 98 => ⟨S64x2112x4, .f32⟩
  | 99 => ⟨S4x64x2112, .f32⟩
  | 100 => ⟨S1x1x4x64x2112, .f32⟩
  | 101 => ⟨S16x2x4x64x2112, .f32⟩
  | 102 => ⟨S16x2x4x64x2112, .f32⟩
  | 103 => ⟨S_, .i32⟩
  | 104 => ⟨S2112, .i32⟩
  | 105 => ⟨S2112, .i32⟩
  | 106 => ⟨S1x2112, .i32⟩
  | 107 => ⟨S_, .i32⟩
  | 108 => ⟨S64, .i32⟩
  | 109 => ⟨S64, .i32⟩
  | 110 => ⟨S64x1, .i32⟩
  | 111 => ⟨S64x2112, .i32⟩
  | 112 => ⟨S64x2112, .i32⟩
  | 113 => ⟨S64x2112, .i1⟩
  | 114 => ⟨S_, .f32⟩
  | 115 => ⟨S_, .f32⟩
  | 116 => ⟨S16x2x4x64x2112, .i1⟩
  | 117 => ⟨S16x2x4x64x2112, .f32⟩
  | 118 => ⟨S16x2x4x64x2112, .f32⟩
  | 119 => ⟨S_, .f32⟩
  | 120 => ⟨S16x2x4x64, .f32⟩
  | 121 => ⟨S_, .f32⟩
  | 122 => ⟨S16x2x4x64, .f32⟩
  | 123 => ⟨S16x2x4x64, .f32⟩
  | 124 => ⟨S16x2x4x64x1, .f32⟩
  | 125 => ⟨S16x2x4x64x2112, .f32⟩
  | 126 => ⟨S16x2x4x64x2112, .f32⟩
  | 127 => ⟨S16x2x4x64x2112, .f32⟩
  | _ => ⟨S16x64x10240, .f32⟩

abbrev hbmTy0_1 (i : Nat) : BufTy := match i % 128 with
  | 0 => ⟨S_, .f32⟩
  | 1 => ⟨S16x2x4x64, .f32⟩
  | 2 => ⟨S16x2x4x64x1, .f32⟩
  | 3 => ⟨S16x2x4x64x2112, .f32⟩
  | 4 => ⟨S16x2x4x64x2112, .f32⟩
  | 5 => ⟨S16x1x4x64x2112, .f32⟩
  | 6 => ⟨S16x4x64x2112, .f32⟩
  | 7 => ⟨S16x1x4x64x2112, .f32⟩
  | 8 => ⟨S16x4x64x2112, .f32⟩
  | 9 => ⟨S1x1x1x1, .f32⟩
  | 10 => ⟨S16x4x64x2112, .f32⟩
  | 11 => ⟨S16x4x64x2112, .f32⟩
  | 12 => ⟨S16x4x64x2112, .f32⟩
  | 13 => ⟨S16x4x128x64, .f32⟩
  | 14 => ⟨S16x64x4x128, .f32⟩
  | 15 => ⟨S16x64x4x128, .f32⟩
  | 16 => ⟨S_, .f32⟩
  | 17 => ⟨S16x64x4, .f32⟩
  | 18 => ⟨S16x64x4x1, .f32⟩
  | 19 => ⟨S_, .f32⟩
  | 20 => ⟨S16x64x4x1, .f32⟩
  | 21 => ⟨S16x64x4x1, .f32⟩
  | 22 => ⟨S_, .f32⟩
  | 23 => ⟨S16x64x4x1, .f32⟩
  | 24 => ⟨S16x64x4x1, .f32⟩
  | 25 => ⟨S16x64x4x1, .f32⟩
  | 26 => ⟨S16x64x4x128, .f32⟩
  | 27 => ⟨S16x64x4x128, .f32⟩
  | 28 => ⟨S1x1x1x128, .f32⟩
  | 29 => ⟨S16x64x4x128, .f32⟩
  | 30 => ⟨S16x64x4x128, .f32⟩
  | 31 => ⟨S_, .f32⟩
  | 32 => ⟨S1, .f32⟩
  | 33 => ⟨S1, .f32⟩
  | 34 => ⟨S1x1x1x1, .f32⟩
  | 35 => ⟨S16x64x4x128, .f32⟩
  | 36 => ⟨S16x64x4x128, .f32⟩
  | 37 => ⟨S16x64x512, .f32⟩
  | _ => ⟨S16x64x10240, .f32⟩

abbrev hbmTy (i : Nat) : BufTy := match i / 128 with
  | 0 => hbmTy0_0 i
  | 1 => hbmTy0_1 i
  | _ => ⟨S16x64x10240, .f32⟩

abbrev bufTy : (tb : Table) → Fin (tcTables nBuf tb) → BufTy
  | .hbm, ⟨i, _⟩ => hbmTy i
  | _, _ => ⟨S16x64x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_1 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_6 : Ref sig .tc := ⟨.hbm, 70, rfl⟩
abbrev main_v55 : Ref sig .tc := ⟨.hbm, 71, rfl⟩
abbrev main_v56 : Ref sig .tc := ⟨.hbm, 72, rfl⟩
abbrev main_c_7 : Ref sig .tc := ⟨.hbm, 73, rfl⟩
abbrev main_v57 : Ref sig .tc := ⟨.hbm, 74, rfl⟩
abbrev main_v58 : Ref sig .tc := ⟨.hbm, 75, rfl⟩
abbrev main_c_8 : Ref sig .tc := ⟨.hbm, 76, rfl⟩
abbrev main_v59 : Ref sig .tc := ⟨.hbm, 77, rfl⟩
abbrev main_v60 : Ref sig .tc := ⟨.hbm, 78, rfl⟩
abbrev main_c_9 : Ref sig .tc := ⟨.hbm, 79, rfl⟩
abbrev main_c_10 : Ref sig .tc := ⟨.hbm, 80, rfl⟩
abbrev main_call0_v0 : Ref sig .tc := ⟨.hbm, 81, rfl⟩
abbrev main_call0_v1 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_c_12 : Ref sig .tc := ⟨.hbm, 90, rfl⟩
abbrev main_v67 : Ref sig .tc := ⟨.hbm, 91, rfl⟩
abbrev main_v68 : Ref sig .tc := ⟨.hbm, 92, rfl⟩
abbrev main_c_13 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_c_14 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_c_15 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_16 : Ref sig .tc := ⟨.hbm, 114, rfl⟩
abbrev main_call2_v0 : Ref sig .tc := ⟨.hbm, 115, rfl⟩
abbrev main_call2_v1 : Ref sig .tc := ⟨.hbm, 116, rfl⟩
abbrev main_call2_v2 : Ref sig .tc := ⟨.hbm, 117, rfl⟩
abbrev main_v87 : Ref sig .tc := ⟨.hbm, 118, rfl⟩
abbrev main_cst_17 : Ref sig .tc := ⟨.hbm, 119, rfl⟩
abbrev main_v88 : Ref sig .tc := ⟨.hbm, 120, rfl⟩
abbrev main_cst_18 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_cst_19 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_20 : Ref sig .tc := ⟨.hbm, 144, rfl⟩
abbrev main_v110 : Ref sig .tc := ⟨.hbm, 145, rfl⟩
abbrev main_v111 : Ref sig .tc := ⟨.hbm, 146, rfl⟩
abbrev main_cst_21 : Ref sig .tc := ⟨.hbm, 147, rfl⟩
abbrev main_v112 : Ref sig .tc := ⟨.hbm, 148, rfl⟩
abbrev main_v113 : Ref sig .tc := ⟨.hbm, 149, rfl⟩
abbrev main_cst_22 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_cst_23 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩

abbrev nD : Nat := 1
abbrev τ : Topo := Topo.v7x

variable {F : FTy → Type} [FloatOps F]
-- ==== Modulate.lean ====
abbrev S16x1024 : Shape := ⟨2, ![16, 1024]⟩
abbrev S4x1024x6144 : Shape := ⟨3, ![4, 1024, 6144]⟩
abbrev S4x6144 : Shape := ⟨2, ![4, 6144]⟩
abbrev S32x1024 : Shape := ⟨2, ![32, 1024]⟩
abbrev S4x1x6144 : Shape := ⟨3, ![4, 1, 6144]⟩
abbrev S4x32x6144 : Shape := ⟨3, ![4, 32, 6144]⟩
abbrev S1x1024x1024 : Shape := ⟨3, ![1, 1024, 1024]⟩
abbrev S1x1x1024 : Shape := ⟨3, ![1, 1, 1024]⟩
abbrev S1x32x1024 : Shape := ⟨3, ![1, 32, 1024]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S4x1024x6144, .f32⟩
  | .hbm, ⟨3, _⟩ => ⟨S4x6144, .f32⟩
  | .hbm, ⟨4, _⟩ => ⟨S32x1024, .f32⟩
  | .hbm, ⟨5, _⟩ => ⟨S4x1x6144, .f32⟩
  | .hbm, ⟨6, _⟩ => ⟨S4x32x6144, .f32⟩
  | .local _ .vmem, ⟨0, _⟩ => ⟨S32x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x32x1024, .f32⟩
  | .local _ .vmem, ⟨6, _⟩ => ⟨S1x32x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulateRefIdeal.lean ====
abbrev S16x1024 : Shape := ⟨2, ![16, 1024]⟩
abbrev S4x1024x6144 : Shape := ⟨3, ![4, 1024, 6144]⟩
abbrev S4x6144 : Shape := ⟨2, ![4, 6144]⟩
abbrev S32x1024 : Shape := ⟨2, ![32, 1024]⟩
abbrev S_ : Shape := ⟨0, ![]⟩
abbrev S4x6144x32 : Shape := ⟨3, ![4, 6144, 32]⟩
abbrev S4x32x6144 : Shape := ⟨3, ![4, 32, 6144]⟩
abbrev S4x1x6144 : Shape := ⟨3, ![4, 1, 6144]⟩

abbrev nBuf : Space → Nat
  | .hbm => 19
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S4x1024x6144, .f32⟩
  | .hbm, ⟨3, _⟩ => ⟨S4x6144, .f32⟩
  | .hbm, ⟨4, _⟩ => ⟨S32x1024, .f32⟩
  | .hbm, ⟨5, _⟩ => ⟨S32x1024, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S_, .f32⟩
  | .hbm, ⟨11, _⟩ => ⟨S32x1024, .f32⟩
  | .hbm, ⟨12, _⟩ => ⟨S32x1024, .f32⟩
  | .hbm, ⟨13, _⟩ => ⟨S32x1024, .f32⟩
  | .hbm, ⟨14, _⟩ => ⟨S4x6144x32, .f32⟩
  | .hbm, ⟨15, _⟩ => ⟨S4x32x6144, .f32⟩
  | .hbm, ⟨16, _⟩ => ⟨S4x1x6144, .f32⟩
  | .hbm, ⟨17, _⟩ => ⟨S4x32x6144, .f32⟩
  | .hbm, ⟨18, _⟩ => ⟨S4x32x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Conv.lean ====
abbrev S16x4096x10240 : Shape := ⟨3, ![16, 4096, 10240]⟩
abbrev S31x512 : Shape := ⟨2, ![31, 512]⟩
abbrev S512 : Shape := ⟨1, ![512]⟩
abbrev S_ : Shape := ⟨0, ![]⟩
abbrev S16x32x512 : Shape := ⟨3, ![16, 32, 512]⟩
abbrev S1x512 : Shape := ⟨2, ![1, 512]⟩
abbrev S16x4096x512 : Shape := ⟨3, ![16, 4096, 512]⟩
abbrev S1x256x512 : Shape := ⟨3, ![1, 256, 512]⟩
abbrev S1x32x512 : Shape := ⟨3, ![1, 32, 512]⟩
abbrev S288x512 : Shape := ⟨2, ![288, 512]⟩
abbrev S8x280x512 : Shape := ⟨3, ![8, 280, 512]⟩
abbrev S32x512 : Shape := ⟨2, ![32, 512]⟩
abbrev S256x512 : Shape := ⟨2, ![256, 512]⟩
abbrev S280x512 : Shape := ⟨2, ![280, 512]⟩
abbrev S1x280x512 : Shape := ⟨3, ![1, 280, 512]⟩
abbrev S1x64x512 : Shape := ⟨3, ![1, 64, 512]⟩
abbrev S64x512 : Shape := ⟨2, ![64, 512]⟩
abbrev S64 : Shape := ⟨1, ![64]⟩
abbrev S64x1 : Shape := ⟨2, ![64, 1]⟩

abbrev nBuf : Space → Nat
  | .hbm => 12
  | .vmem => 16
  | .smem => 0
  | _ => 0

abbrev bufTy : (tb : Table) → Fin (tcTables nBuf tb) → BufTy
  | .hbm, ⟨0, _⟩ => ⟨S16x4096x10240, .f32⟩
  | .hbm, ⟨1, _⟩ => ⟨S31x512, .f32⟩
  | .hbm, ⟨2, _⟩ => ⟨S512, .f32⟩
  | .hbm, ⟨3, _⟩ => ⟨S512, .f32⟩
  | .hbm, ⟨4, _⟩ => ⟨S512, .f32⟩
  | .hbm, ⟨5, _⟩ => ⟨S_, .f32⟩
  | .hbm, ⟨6, _⟩ => ⟨S16x32x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S16x4096x512, .f32⟩
  | .hbm, ⟨11, _⟩ => ⟨S16x32x512, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x32x512, .f32⟩
  | .local _ .vmem, ⟨5, _⟩ => ⟨S1x32x512, .f32⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x256x512, .f32⟩
  | .local _ .vmem, ⟨11, _⟩ => ⟨S1x256x512, .f32⟩
  | .local _ .vmem, ⟨12, _⟩ => ⟨S1x32x512, .f32⟩
  | .local _ .vmem, ⟨13, _⟩ => ⟨S1x32x512, .f32⟩
  | .local _ .vmem, ⟨14, _⟩ => ⟨S288x512, .f32⟩
  | .local _ .vmem, ⟨15, _⟩ => ⟨S8x280x512, .f32⟩
  | _, _ => ⟨S16x4096x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvRefIdeal.lean ====
abbrev S16x4096x10240 : Shape := ⟨3, ![16, 4096, 10240]⟩
abbrev S31x512 : Shape := ⟨2, ![31, 512]⟩
abbrev S512 : Shape := ⟨1, ![512]⟩
abbrev S16x4096x1024 : Shape := ⟨3, ![16, 4096, 1024]⟩
abbrev S16x4096x512 : Shape := ⟨3, ![16, 4096, 512]⟩
abbrev S_ : Shape := ⟨0, ![]⟩
abbrev S16x30x512 : Shape := ⟨3, ![16, 30, 512]⟩
abbrev S16x4126x512 : Shape := ⟨3, ![16, 4126, 512]⟩
abbrev S1x512 : Shape := ⟨2, ![1, 512]⟩
abbrev S1x1x512 : Shape := ⟨3, ![1, 1, 512]⟩
abbrev S16x4096 : Shape := ⟨2, ![16, 4096]⟩
abbrev S16x4096x1 : Shape := ⟨3, ![16, 4096, 1]⟩
abbrev S16x32x512 : Shape := ⟨3, ![16, 32, 512]⟩

abbrev nBuf : Space → Nat
  | .hbm => 276
  | .vmem => 0
  | .smem => 0
  | _ => 0

abbrev hbmTy0_0 (i : Nat) : BufTy := match i % 128 with
  | 0 => ⟨S16x4096x10240, .f32⟩
  | 1 => ⟨S31x512, .f32⟩
  | 2 => ⟨S512, .f32⟩
  | 3 => ⟨S512, .f32⟩
  | 4 => ⟨S512, .f32⟩
  | 5 => ⟨S16x4096x1024, .f32⟩
  | 6 => ⟨S16x4096x512, .f32⟩
  | 7 => ⟨S16x4096x512, .f32⟩
  | 8 => ⟨S16x4096x512, .f32⟩
  | 9 => ⟨S16x4096x512, .f32⟩
  | 10 => ⟨S_, .f32⟩
  | 11 => ⟨S16x4096x512, .f32⟩
  | 12 => ⟨S16x4096x512, .f32⟩
  | 13 => ⟨S_, .f32⟩
  | 14 => ⟨S16x4096x512, .f32⟩
  | 15 => ⟨S16x4096x512, .f32⟩
  | 16 => ⟨S16x4096x512, .f32⟩
  | 17 => ⟨S_, .f32⟩
  | 18 => ⟨S16x30x512, .f32⟩
  | 19 => ⟨S16x4126x512, .f32⟩
  | 20 => ⟨S1x512, .f32⟩
  | 21 => ⟨S512, .f32⟩
  | 22 => ⟨S16x4096x512, .f32⟩
  | 23 => ⟨S1x1x512, .f32⟩
  | 24 => ⟨S16x4096x512, .f32⟩
  | 25 => ⟨S16x4096x512, .f32⟩
  | 26 => ⟨S1x512, .f32⟩
  | 27 => ⟨S512, .f32⟩
  | 28 => ⟨S16x4096x512, .f32⟩
  | 29 => ⟨S1x1x512, .f32⟩
  | 30 => ⟨S16x4096x512, .f32⟩
  | 31 => ⟨S16x4096x512, .f32⟩
  | 32 => ⟨S16x4096x512, .f32⟩
  | 33 => ⟨S1x512, .f32⟩
  | 34 => ⟨S512, .f32⟩
  | 35 => ⟨S16x4096x512, .f32⟩
  | 36 => ⟨S1x1x512, .f32⟩
  | 37 => ⟨S16x4096x512, .f32⟩
  | 38 => ⟨S16x4096x512, .f32⟩
  | 39 => ⟨S16x4096x512, .f32⟩
  | 40 => ⟨S1x512, .f32⟩
  | 41 => ⟨S512, .f32⟩
  | 42 => ⟨S16x4096x512, .f32⟩
  | 43 => ⟨S1x1x512, .f32⟩
  | 44 => ⟨S16x4096x512, .f32⟩
  | 45 => ⟨S16x4096x512, .f32⟩
  | 46 => ⟨S16x4096x512, .f32⟩
  | 47 => ⟨S1x512, .f32⟩
  | 48 => ⟨S512, .f32⟩
  | 49 => ⟨S16x4096x512, .f32⟩
  | 50 => ⟨S1x1x512, .f32⟩
  | 51 => ⟨S16x4096x512, .f32⟩
  | 52 => ⟨S16x4096x512, .f32⟩
  | 53 => ⟨S16x4096x512, .f32⟩
  | 54 => ⟨S1x512, .f32⟩
  | 55 => ⟨S512, .f32⟩
  | 56 => ⟨S16x4096x512, .f32⟩
  | 57 => ⟨S1x1x512, .f32⟩
  | 58 => ⟨S16x4096x512, .f32⟩
  | 59 => ⟨S16x4096x512, .f32⟩
  | 60 => ⟨S16x4096x512, .f32⟩
  | 61 => ⟨S1x512, .f32⟩
  | 62 => ⟨S512, .f32⟩
  | 63 => ⟨S16x4096x512, .f32⟩
  | 64 => ⟨S1x1x512, .f32⟩
  | 65 => ⟨S16x4096x512, .f32⟩
  | 66 => ⟨S16x4096x512, .f32⟩
  | 67 => ⟨S16x4096x512, .f32⟩
  | 68 => ⟨S1x512, .f32⟩
  | 69 => ⟨S512, .f32⟩
  | 70 => ⟨S16x4096x512, .f32⟩
  | 71 => ⟨S1x1x512, .f32⟩
  | 72 => ⟨S16x4096x512, .f32⟩
  | 73 => ⟨S16x4096x512, .f32⟩
  | 74 => ⟨S16x4096x512, .f32⟩
  | 75 => ⟨S1x512, .f32⟩
  | 76 => ⟨S512, .f32⟩
  | 77 => ⟨S16x4096x512, .f32⟩
  | 78 => ⟨S1x1x512, .f32⟩
  | 79 => ⟨S16x4096x512, .f32⟩
  | 80 => ⟨S16x4096x512, .f32⟩
  | 81 => ⟨S16x4096x512, .f32⟩
  | 82 => ⟨S1x512, .f32⟩
  | 83 => ⟨S512, .f32⟩
  | 84 => ⟨S16x4096x512, .f32⟩
  | 85 => ⟨S1x1x512, .f32⟩
  | 86 => ⟨S16x4096x512, .f32⟩
  | 87 => ⟨S16x4096x512, .f32⟩
  | 88 => ⟨S16x4096x512, .f32⟩
  | 89 => ⟨S1x512, .f32⟩
  | 90 => ⟨S512, .f32⟩
  | 91 => ⟨S16x4096x512, .f32⟩
  | 92 => ⟨S1x1x512, .f32⟩
  | 93 => ⟨S16x4096x512, .f32⟩
  | 94 => ⟨S16x4096x512, .f32⟩
  | 95 => ⟨S16x4096x512, .f32⟩
  | 96 => ⟨S1x512, .f32⟩
  | 97 => ⟨S512, .f32⟩
  | 98 => ⟨S16x4096x512, .f32⟩
  | 99 => ⟨S1x1x512, .f32⟩
  | 100 => ⟨S16x4096x512, .f32⟩
  | 101 => ⟨S16x4096x512, .f32⟩
  | 102 => ⟨S16x4096x512, .f32⟩
  | 103 => ⟨S1x512, .f32⟩
  | 104 => ⟨S512, .f32⟩
  | 105 => ⟨S16x4096x512, .f32⟩
  | 106 => ⟨S1x1x512, .f32⟩
  | 107 => ⟨S16x4096x512, .f32⟩
  | 108 => ⟨S16x4096x512, .f32⟩
  | 109 => ⟨S16x4096x512, .f32⟩
  | 110 => ⟨S1x512, .f32⟩
  | 111 => ⟨S512, .f32⟩
  | 112 => ⟨S16x4096x512, .f32⟩
  | 113 => ⟨S1x1x512, .f32⟩
  | 114 => ⟨S16x4096x512, .f32⟩
  | 115 => ⟨S16x4096x512, .f32⟩
  | 116 => ⟨S16x4096x512, .f32⟩
  | 117 => ⟨S1x512, .f32⟩
  | 118 => ⟨S512, .f32⟩
  | 119 => ⟨S16x4096x512, .f32⟩
  | 120 => ⟨S1x1x512, .f32⟩
  | 121 => ⟨S16x4096x512, .f32⟩
  | 122 => ⟨S16x4096x512, .f32⟩
  | 123 => ⟨S16x4096x512, .f32⟩
  | 124 => ⟨S1x512, .f32⟩
  | 125 => ⟨S512, .f32⟩
  | 126 => ⟨S16x4096x512, .f32⟩
  | 127 => ⟨S1x1x512, .f32⟩
  | _ => ⟨S16x4096x10240, .f32⟩

abbrev hbmTy0_1 (i : Nat) : BufTy := match i % 128 with
  | 0 => ⟨S16x4096x512, .f32⟩
  | 1 => ⟨S16x4096x512, .f32⟩
  | 2 => ⟨S16x4096x512, .f32⟩
  | 3 => ⟨S1x512, .f32⟩
  | 4 => ⟨S512, .f32⟩
  | 5 => ⟨S16x4096x512, .f32⟩
  | 6 => ⟨S1x1x512, .f32⟩
  | 7 => ⟨S16x4096x512, .f32⟩
  | 8 => ⟨S16x4096x512, .f32⟩
  | 9 => ⟨S16x4096x512, .f32⟩
  | 10 => ⟨S1x512, .f32⟩
  | 11 => ⟨S512, .f32⟩
  | 12 => ⟨S16x4096x512, .f32⟩
  | 13 => ⟨S1x1x512, .f32⟩
  | 14 => ⟨S16x4096x512, .f32⟩
  | 15 => ⟨S16x4096x512, .f32⟩
  | 16 => ⟨S16x4096x512, .f32⟩
  | 17 => ⟨S1x512, .f32⟩
  | 18 => ⟨S512, .f32⟩
  | 19 => ⟨S16x4096x512, .f32⟩
  | 20 => ⟨S1x1x512, .f32⟩
  | 21 => ⟨S16x4096x512, .f32⟩
  | 22 => ⟨S16x4096x512, .f32⟩
  | 23 => ⟨S16x4096x512, .f32⟩
  | 24 => ⟨S1x512, .f32⟩
  | 25 => ⟨S512, .f32⟩
  | 26 => ⟨S16x4096x512, .f32⟩
  | 27 => ⟨S1x1x512, .f32⟩
  | 28 => ⟨S16x4096x512, .f32⟩
  | 29 => ⟨S16x4096x512, .f32⟩
  | 30 => ⟨S16x4096x512, .f32⟩
  | 31 => ⟨S1x512, .f32⟩
  | 32 => ⟨S512, .f32⟩
  | 33 => ⟨S16x4096x512, .f32⟩
  | 34 => ⟨S1x1x512, .f32⟩
  | 35 => ⟨S16x4096x512, .f32⟩
  | 36 => ⟨S16x4096x512, .f32⟩
  | 37 => ⟨S16x4096x512, .f32⟩
  | 38 => ⟨S1x512, .f32⟩
  | 39 => ⟨S512, .f32⟩
  | 40 => ⟨S16x4096x512, .f32⟩
  | 41 => ⟨S1x1x512, .f32⟩
  | 42 => ⟨S16x4096x512, .f32⟩
  | 43 => ⟨S16x4096x512, .f32⟩
  | 44 => ⟨S16x4096x512, .f32⟩
  | 45 => ⟨S1x512, .f32⟩
  | 46 => ⟨S512, .f32⟩
  | 47 => ⟨S16x4096x512, .f32⟩
  | 48 => ⟨S1x1x512, .f32⟩
  | 49 => ⟨S16x4096x512, .f32⟩
  | 50 => ⟨S16x4096x512, .f32⟩
  | 51 => ⟨S16x4096x512, .f32⟩
  | 52 => ⟨S1x512, .f32⟩
  | 53 => ⟨S512, .f32⟩
  | 54 => ⟨S16x4096x512, .f32⟩
  | 55 => ⟨S1x1x512, .f32⟩
  | 56 => ⟨S16x4096x512, .f32⟩
  | 57 => ⟨S16x4096x512, .f32⟩
  | 58 => ⟨S16x4096x512, .f32⟩
  | 59 => ⟨S1x512, .f32⟩
  | 60 => ⟨S512, .f32⟩
  | 61 => ⟨S16x4096x512, .f32⟩
  | 62 => ⟨S1x1x512, .f32⟩
  | 63 => ⟨S16x4096x512, .f32⟩
  | 64 => ⟨S16x4096x512, .f32⟩
  | 65 => ⟨S16x4096x512, .f32⟩
  | 66 => ⟨S1x512, .f32⟩
  | 67 => ⟨S512, .f32⟩
  | 68 => ⟨S16x4096x512, .f32⟩
  | 69 => ⟨S1x1x512, .f32⟩
  | 70 => ⟨S16x4096x512, .f32⟩
  | 71 => ⟨S16x4096x512, .f32⟩
  | 72 => ⟨S16x4096x512, .f32⟩
  | 73 => ⟨S1x512, .f32⟩
  | 74 => ⟨S512, .f32⟩
  | 75 => ⟨S16x4096x512, .f32⟩
  | 76 => ⟨S1x1x512, .f32⟩
  | 77 => ⟨S16x4096x512, .f32⟩
  | 78 => ⟨S16x4096x512, .f32⟩
  | 79 => ⟨S16x4096x512, .f32⟩
  | 80 => ⟨S1x512, .f32⟩
  | 81 => ⟨S512, .f32⟩
  | 82 => ⟨S16x4096x512, .f32⟩
  | 83 => ⟨S1x1x512, .f32⟩
  | 84 => ⟨S16x4096x512, .f32⟩
  | 85 => ⟨S16x4096x512, .f32⟩
  | 86 => ⟨S16x4096x512, .f32⟩
  | 87 => ⟨S1x512, .f32⟩
  | 88 => ⟨S512, .f32⟩
  | 89 => ⟨S16x4096x512, .f32⟩
  | 90 => ⟨S1x1x512, .f32⟩
  | 91 => ⟨S16x4096x512, .f32⟩
  | 92 => ⟨S16x4096x512, .f32⟩
  | 93 => ⟨S16x4096x512, .f32⟩
  | 94 => ⟨S1x512, .f32⟩
  | 95 => ⟨S512, .f32⟩
  | 96 => ⟨S16x4096x512, .f32⟩
  | 97 => ⟨S1x1x512, .f32⟩
  | 98 => ⟨S16x4096x512, .f32⟩
  | 99 => ⟨S16x4096x512, .f32⟩
  | 100 => ⟨S16x4096x512, .f32⟩
  | 101 => ⟨S1x512, .f32⟩
  | 102 => ⟨S512, .f32⟩
  | 103 => ⟨S16x4096x512, .f32⟩
  | 104 => ⟨S1x1x512, .f32⟩
  | 105 => ⟨S16x4096x512, .f32⟩
  | 106 => ⟨S16x4096x512, .f32⟩
  | 107 => ⟨S16x4096x512, .f32⟩
  | 108 => ⟨S1x1x512, .f32⟩
  | 109 => ⟨S16x4096x512, .f32⟩
  | 110 => ⟨S16x4096x512, .f32⟩
  | 111 => ⟨S_, .f32⟩
  | 112 => ⟨S16x4096, .f32⟩
  | 113 => ⟨S16x4096x1, .f32⟩
  | 114 => ⟨S_, .f32⟩
  | 115 => ⟨S16x4096x1, .f32⟩
  | 116 => ⟨S16x4096x1, .f32⟩
  | 117 => ⟨S16x4096x512, .f32⟩
  | 118 => ⟨S16x4096x512, .f32⟩
  | 119 => ⟨S16x4096x512, .f32⟩
  | 120 => ⟨S_, .f32⟩
  | 121 => ⟨S16x4096, .f32⟩
  | 122 => ⟨S16x4096x1, .f32⟩
  | 123 => ⟨S_, .f32⟩
  | 124 => ⟨S16x4096x1, .f32⟩
  | 125 => ⟨S16x4096x1, .f32⟩
  | 126 => ⟨S_, .f32⟩
  | 127 => ⟨S16x4096x1, .f32⟩
  | _ => ⟨S16x4096x10240, .f32⟩

abbrev hbmTy0_2 (i : Nat) : BufTy := match i % 128 with
  | 0 => ⟨S16x4096x1, .f32⟩
  | 1 => ⟨S16x4096x1, .f32⟩
  | 2 => ⟨S16x4096x512, .f32⟩
  | 3 => ⟨S16x4096x512, .f32⟩
  | 4 => ⟨S1x1x512, .f32⟩
  | 5 => ⟨S16x4096x512, .f32⟩
  | 6 => ⟨S16x4096x512, .f32⟩
  | 7 => ⟨S1x1x512, .f32⟩
  | 8 => ⟨S16x4096x512, .f32⟩
  | 9 => ⟨S16x4096x512, .f32⟩
  | 10 => ⟨S16x4096x512, .f32⟩
  | 11 => ⟨S16x4096x512, .f32⟩
  | 12 => ⟨S_, .f32⟩
  | 13 => ⟨S16x4096x512, .f32⟩
  | 14 => ⟨S16x4096x512, .f32⟩
  | 15 => ⟨S_, .f32⟩
  | 16 => ⟨S16x4096x512, .f32⟩
  | 17 => ⟨S16x4096x512, .f32⟩
  | 18 => ⟨S16x4096x512, .f32⟩
  | 19 => ⟨S16x32x512, .f32⟩
  | _ => ⟨S16x4096x10240, .f32⟩

abbrev hbmTy (i : Nat) : BufTy := match i / 128 with
  | 0 => hbmTy0_0 i
  | 1 => hbmTy0_1 i
  | 2 => hbmTy0_2 i
  | _ => ⟨S16x4096x10240, .f32⟩

abbrev bufTy : (tb : Table) → Fin (tcTables nBuf tb) → BufTy
  | .hbm, ⟨i, _⟩ => hbmTy i
  | _, _ => ⟨S16x4096x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_2 : Ref sig .tc := ⟨.hbm, 239, rfl⟩
abbrev main_v231 : Ref sig .tc := ⟨.hbm, 240, rfl⟩
abbrev main_v232 : Ref sig .tc := ⟨.hbm, 241, rfl⟩
abbrev main_cst_3 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_4 : Ref sig .tc := ⟨.hbm, 248, rfl⟩
abbrev main_v238 : Ref sig .tc := ⟨.hbm, 249, rfl⟩
abbrev main_v239 : Ref sig .tc := ⟨.hbm, 250, rfl⟩
abbrev main_cst_5 : Ref sig .tc := ⟨.hbm, 251, rfl⟩
abbrev main_v240 : Ref sig .tc := ⟨.hbm, 252, rfl⟩
abbrev main_v241 : Ref sig .tc := ⟨.hbm, 253, rfl⟩
abbrev main_cst_6 : Ref sig .tc := ⟨.hbm, 254, rfl⟩
abbrev main_v242 : Ref sig .tc := ⟨.hbm, 255, rfl⟩
abbrev main_v243 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_cst_7 : Ref sig .tc := ⟨.hbm, 268, rfl⟩
abbrev main_v255 : Ref sig .tc := ⟨.hbm, 269, rfl⟩
abbrev main_v256 : Ref sig .tc := ⟨.hbm, 270, rfl⟩
abbrev main_cst_8 : Ref sig .tc := ⟨.hbm, 271, rfl⟩
abbrev main_v257 : Ref sig .tc := ⟨.hbm, 272, rfl⟩
abbrev main_v258 : Ref sig .tc := ⟨.hbm, 273, rfl⟩
abbrev main_v259 : Ref sig .tc := ⟨.hbm, 274, rfl⟩
abbrev main_v260 : Ref sig .tc := ⟨.hbm, 275, rfl⟩

abbrev nD : Nat := 1
abbrev τ : Topo := Topo.v7x

variable {F : FTy → Type} [FloatOps F]
-- ==== Proof.MlpRef.lean ====
module

public import proofs.«01_k».proof.Proof.Gen.MlpRefIdeal.Run
public import Idealize.ShloMosaic.Lib.Pipeline.ValueKit

@[expose] public section

set_option maxRecDepth 16384

noncomputable section

open Idealize.ShloMosaic Idealize.ShloMosaic.TcCoe Idealize.SL.Sem

namespace Cert.MlpRefIdeal.Ff

open Cert.MlpRefIdeal Cert.MlpRefIdeal.Gen

/-- The normed and modulated rows. -/
def normMod (x : FVec Ideal S16x4096x1024 .f32) (md : FVec Ideal S16x6144 .f32) (g : FVec Ideal S4x1024 .f32) :
    FVec Ideal S16x4096x1024 .f32 :=
    (addf (mulf (mulf (mulf x (broadcastInDim S16x4096x1024 ![0, 1, 2] bcast_S16x4096x1_S16x4096x1024_0_1_2 (Host.rsqrt (addf (Host.divf
      (broadcastInDim S16x4096x1 ![0, 1] bcast_S16x4096_S16x4096x1_0_1 (Host.reduceAdd (mulf x x) (constant S_ .f32 0x00000000#32)
      reducesTo_S16x4096x1024_S16x4096_d2 h_S_)) (broadcastInDim S16x4096x1 ![] bcast_S_S16x4096x1 (constant S_ .f32 0x44800000#32))) (broadcastInDim
      S16x4096x1 ![] bcast_S_S16x4096x1 (constant S_ .f32 0x358637BD#32)))))) (broadcastInDim S16x4096x1024 ![0, 1, 2]
      bcast_S1x1x1024_S16x4096x1024_0_1_2 (broadcastInDim S1x1x1024 ![2] bcast_S1024_S1x1x1024_2 (shapeCast S1024 (extractStridedSlice S1x1024 ![2, 0]
      g slices_S4x1024_S1x1024_2_0) shapeCasts_S1x1024_S1024)))) (broadcastInDim S16x4096x1024 ![0, 1, 2] bcast_S16x1x1024_S16x4096x1024_0_1_2 (addf
      (broadcastInDim S16x1x1024 ![] bcast_S_S16x1x1024 (constant S_ .f32 0x3F800000#32)) (broadcastInDim S16x1x1024 ![0, 2]
      bcast_S16x1024_S16x1x1024_0_2 (extractStridedSlice S16x1024 ![0, 4096] md slices_S16x6144_S16x1024_0_4096))))) (broadcastInDim S16x4096x1024
      ![0, 1, 2] bcast_S16x1x1024_S16x4096x1024_0_1_2 (broadcastInDim S16x1x1024 ![0, 2] bcast_S16x1024_S16x1x1024_0_2 (extractStridedSlice S16x1024
      ![0, 3072] md slices_S16x6144_S16x1024_0_3072))))

/-- The rows times the first weight. -/
def up (h : FVec Ideal S16x4096x1024 .f32) (w1 : FVec Ideal S1024x4096 .f32) : FVec Ideal S16x4096x4096 .f32 :=
  Host.dotGeneral dot_S16x4096x1024_S1024x4096_S16x4096x4096_2_0_01_1_n_n none h w1

/-- The squared positive part. -/
def act (u : FVec Ideal S16x4096x4096 .f32) : FVec Ideal S16x4096x4096 .f32 :=
    (mulf (maximumf u (broadcastInDim S16x4096x4096 ![] bcast_S_S16x4096x4096 (constant S_ .f32 0x00000000#32))) (maximumf u (broadcastInDim
      S16x4096x4096 ![] bcast_S_S16x4096x4096 (constant S_ .f32 0x00000000#32))))

/-- The hidden rows times the second weight. -/
def down (a : FVec Ideal S16x4096x4096 .f32) (w2 : FVec Ideal S4096x1024 .f32) : FVec Ideal S16x4096x1024 .f32 :=
  Host.dotGeneral dot_S16x4096x4096_S4096x1024_S16x4096x1024_2_0_01_1_n_n none a w2

/-- The residual sum: `x` plus the gated normed rows `y`. -/
def added (x : FVec Ideal S16x4096x1024 .f32) (md : FVec Ideal S16x6144 .f32) (g : FVec Ideal S4x1024 .f32) (y : FVec Ideal S16x4096x1024 .f32) :
    FVec Ideal S16x4096x1024 .f32 :=
    addf x (mulf (broadcastInDim S16x4096x1024 ![0, 1, 2] bcast_S16x1x1024_S16x4096x1024_0_1_2 (broadcastInDim S16x1x1024 ![0, 2]
      bcast_S16x1024_S16x1x1024_0_2 (extractStridedSlice S16x1024 ![0, 5120] md slices_S16x6144_S16x1024_0_5120))) (mulf (mulf y (broadcastInDim
      S16x4096x1024 ![0, 1, 2] bcast_S16x4096x1_S16x4096x1024_0_1_2 (Host.rsqrt (addf (Host.divf (broadcastInDim S16x4096x1 ![0, 1]
      bcast_S16x4096_S16x4096x1_0_1 (Host.reduceAdd (mulf y y) (constant S_ .f32 0x00000000#32) reducesTo_S16x4096x1024_S16x4096_d2 h_S_))
      (broadcastInDim S16x4096x1 ![] bcast_S_S16x4096x1 (constant S_ .f32 0x44800000#32))) (broadcastInDim S16x4096x1 ![] bcast_S_S16x4096x1 (constant
      S_ .f32 0x358637BD#32)))))) (broadcastInDim S16x4096x1024 ![0, 1, 2] bcast_S1x1x1024_S16x4096x1024_0_1_2 (broadcastInDim S1x1x1024 ![2]
      bcast_S1024_S1x1x1024_2 (shapeCast S1024 (extractStridedSlice S1x1024 ![3, 0] g slices_S4x1024_S1x1024_3_0) shapeCasts_S1x1024_S1024)))))

theorem res_eq (m : (ℓ : Loc nD τ sig) → Buf (Elt Ideal) ℓ) (c : Dev nD)
    (x : FVec Ideal S16x4096x1024 .f32) (md : FVec Ideal S16x6144 .f32) (g : FVec Ideal S4x1024 .f32)
    (w1 : FVec Ideal S1024x4096 .f32) (w2 : FVec Ideal S4096x1024 .f32)
    (e0 : x = (m ((c.tc : Thread nD τ).loc main_arg0))) (e1 : md = (m ((c.tc : Thread nD τ).loc main_arg1))) (e2 : g = (m ((c.tc : Thread nD τ).loc main_arg2)))
    (e3 : w1 = (m ((c.tc : Thread nD τ).loc main_arg3))) (e4 : w2 = (m ((c.tc : Thread nD τ).loc main_arg4))) :
    Value.res_main_v54 m c = added x md g (down (act (up (normMod x md g) w1)) w2) := by
  subst e0 e1 e2 e3 e4
  unfold Value.res_main_v54 added down act up normMod
  rfl

theorem normMod_at (x : FVec Ideal S16x4096x1024 .f32) (md : FVec Ideal S16x6144 .f32) (g : FVec Ideal S4x1024 .f32)
    (b : Fin 16) (s : Fin 4096) (d : Fin 1024) : normMod x md g (ix3 b s d) =
      x (ix3 b s d) * Ideal.rsqrt (Ideal.div (∑ k : Fin 1024, x (ix3 b s k) * x (ix3 b s k)) (Ideal.ofBits .f32 0x44800000#32)
        + Ideal.ofBits .f32 0x358637BD#32) * g (ix2 2 d) * (1 + md (ix2 b ⟨4096 + d.val, by omega⟩)) + md (ix2 b ⟨3072 + d.val, by omega⟩) := by
  pointwise [normMod]

/-- One hidden value: the squared positive part of a row times a column of the first weight. -/
def hid (h : FVec Ideal S16x4096x1024 .f32) (w1 : FVec Ideal S1024x4096 .f32) (b : Fin 16) (s : Fin 4096) (e : Fin 4096) : EReal :=
  max (∑ k : Fin 1024, h (ix3 b s k) * w1 (ix2 k e)) 0 * max (∑ k : Fin 1024, h (ix3 b s k) * w1 (ix2 k e)) 0

theorem act_at (h : FVec Ideal S16x4096x1024 .f32) (w1 : FVec Ideal S1024x4096 .f32) (b : Fin 16) (s : Fin 4096) (e : Fin 4096) :
    act (up h w1) (ix3 b s e) = hid h w1 b s e := by
  pointwise [act, up, hid]

theorem down_at (a : FVec Ideal S16x4096x4096 .f32) (w2 : FVec Ideal S4096x1024 .f32) (b : Fin 16) (s : Fin 4096) (d : Fin 1024) :
    down a w2 (ix3 b s d) = ∑ e : Fin 4096, a (ix3 b s e) * w2 (ix2 e d) := by
  pointwise [down]

theorem added_at (x : FVec Ideal S16x4096x1024 .f32) (md : FVec Ideal S16x6144 .f32) (g : FVec Ideal S4x1024 .f32) (y : FVec Ideal S16x4096x1024 .f32)
    (b : Fin 16) (s : Fin 4096) (d : Fin 1024) :
    added x md g y (ix3 b s d) = x (ix3 b s d) + md (ix2 b ⟨5120 + d.val, by omega⟩) *
      (y (ix3 b s d) * Ideal.rsqrt (Ideal.div (∑ k : Fin 1024, y (ix3 b s k) * y (ix3 b s k)) (Ideal.ofBits .f32 0x44800000#32)
        + Ideal.ofBits .f32 0x358637BD#32) * g (ix2 3 d)) := by
  pointwise [added]

end Cert.MlpRefIdeal.Ff
-- ==== Proof.MlpValue.lean ====
module

public import proofs.«01_k».proof.Proof.Gen.MlpIdeal.Frame
public import proofs.«01_k».proof.Proof.MlpRef
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlpIdeal.Ff

open Cert.MlpIdeal Cert.MlpIdeal.Gen
open Cert.MlpRefIdeal.Ff (normMod normMod_at hid added added_at)

/-! ## The payloads, at any arguments -/

theorem pay3_at (h w1 : Vec Ideal S1024x1024 .bf16) (a : Vec Ideal S1024x1024 .f32) (w2 : Vec Ideal S1024x1024 .bf16) (r d : Fin 1024) :
    k0_pay3 (F := Ideal) h w1 a w2 (ix2 r d) = a (ix2 r d) + ∑ e : Fin 1024,
      max (∑ k : Fin 1024, h (ix2 r k) * w1 (ix2 k e)) 0 * max (∑ k : Fin 1024, h (ix2 r k) * w1 (ix2 k e)) 0 * w2 (ix2 e d) := by
  pointwise [k0_pay3]

theorem pay2_at (r d : Fin 1024) : k0_pay2 (F := Ideal) (ix2 r d) = 0 := by
  pointwise [k0_pay2]

theorem pay4_at (x : Vec Ideal S1x1024x1024 .f32) (gt : Vec Ideal S1x1x1024 .f32) (a : Vec Ideal S1024x1024 .f32)
    (g : Vec Ideal S1x1024 .f32) (z : Fin 1) (r d : Fin 1024) :
    k0_pay4 (F := Ideal) x gt a g (ix3 z r d) = x (ix3 z r d) + gt (ix3 0 0 d) * (a (ix2 r d)
      * Ideal.rsqrt (Ideal.div (∑ k : Fin 1024, a (ix2 r k) * a (ix2 r k)) (Ideal.ofBits .f32 0x44800000#32)
        + Ideal.ofBits .f32 0x358637BD#32) * g (ix2 0 d)) := by
  pointwise [k0_pay4]

/-! ## The grid: point `t` has row block `t / 4` and hidden block `t % 4` -/

variable (m : (ℓ : Loc nD τ sig) → Buf (Elt Ideal) ℓ)

theorem idx : ∀ t : Fin cfg0.N, win0_0.index t = ![t.val / 16, t.val / 4 % 4, 0] ∧ win0_1.index t = ![t.val / 16, 0, 3]
    ∧ win0_2.index t = ![t.val / 16, 0, 4] ∧ win0_3.index t = ![t.val / 16, 0, 5] ∧ win0_4.index t = ![0, 0]
    ∧ win0_5.index t = ![0, 0] ∧ win0_6.index t = ![0, t.val % 4] ∧ win0_7.index t = ![t.val % 4, 0]
    ∧ win0_8.index t = ![t.val / 16, t.val / 4 % 4, 0] ∧ t.val < 256 :=
  (by decide +kernel : ∀ t : Fin grid0.N, _)

/-- The normed rows, from the launch's arguments. -/
abbrev H (c : Dev nD) : FVec Ideal S16x4096x1024 .f32 :=
  normMod (m ((c : Thread nD τ).loc main_arg0)) (m ((c : Thread nD τ).loc main_arg1)) (m ((c : Thread nD τ).loc main_arg2))

abbrev W1 (c : Dev nD) : FVec Ideal S1024x4096 .f32 := m ((c : Thread nD τ).loc main_arg3)
abbrev W2 (c : Dev nD) : FVec Ideal S4096x1024 .f32 := m ((c : Thread nD τ).loc main_arg4)

/-- The batch and the row of row `r` of row block `q`. -/
def bat (q : ℕ) (hq : q < 64) : Fin 16 := ⟨q / 4, by omega⟩
def row (q : ℕ) (r : Fin 1024) : Fin 4096 := ⟨q % 4 * 1024 + r.val, by omega⟩

/-- The normed rows of row block `q`. -/
def rowsOf (c : Dev nD) (q : ℕ) (hq : q < 64) : FVec Ideal S1024x1024 .bf16 :=
  fun y => H m c (ix3 (bat q hq) (row q (y 0)) (y 1))

/-- What hidden block `f` adds to row block `q`. -/
def part (c : Dev nD) (q : ℕ) (hq : q < 64) (f : ℕ) (r d : Fin 1024) : EReal :=
  ∑ e : Fin 1024, hid (H m c) (W1 m c) (bat q hq) (row q r) ⟨f % 4 * 1024 + e.val, by omega⟩ * W2 m c (ix2 ⟨f % 4 * 1024 + e.val, by omega⟩ d)

/-- The sum over the first `n` hidden blocks. -/
def sumTo (c : Dev nD) (q : ℕ) (hq : q < 64) (n : ℕ) : FVec Ideal S1024x1024 .f32 :=
  fun y => ∑ f ∈ Finset.range n, part m c q hq f (y 0) (y 1)

theorem stored_rows (c : Dev nD) (t : Fin cfg0.N) (hq : t.val / 4 < 64) (y : S1024x1024.Idx) :
    k0_pay1 (iblk m c 0 t) (iblk m c 4 t) (iblk m c 2 t) (iblk m c 1 t) y = rowsOf m c (t.val / 4) hq y := by
  idx_vars y
  obtain ⟨e0, e1, e2, e3, e4, e5, e6, e7, e8, e9⟩ := idx t
  unfold rowsOf bat row
  refine Eq.trans ?_ (normMod_at _ _ _ _ _ _).symm
  pointwise [k0_pay1]
  blk_point [iblk, V, e0, e1, e2, e3, e4]

theorem w1_at (c : Dev nD) (t : Fin cfg0.N) (k e : Fin 1024) (h : t.val % 4 * 1024 + e.val < 4096) :
    (show FVec Ideal S1024x1024 .bf16 from iblk m c 6 t) (ix2 k e) = W1 m c (ix2 k ⟨t.val % 4 * 1024 + e.val, h⟩) := by
  obtain ⟨e0, e1, e2, e3, e4, e5, e6, e7, e8, e9⟩ := idx t
  blk_point [iblk, V, e6]

theorem w2_at (c : Dev nD) (t : Fin cfg0.N) (e d : Fin 1024) (h : t.val % 4 * 1024 + e.val < 4096) :
    (show FVec Ideal S1024x1024 .bf16 from iblk m c 7 t) (ix2 e d) = W2 m c (ix2 ⟨t.val % 4 * 1024 + e.val, h⟩ d) := by
  obtain ⟨e0, e1, e2, e3, e4, e5, e6, e7, e8, e9⟩ := idx t
  blk_point [iblk, V, e7]

/-- One step adds one hidden block. -/
theorem step (c : Dev nD) (t : Fin cfg0.N) (hq : t.val / 4 < 64) (a : FVec Ideal S1024x1024 .f32) (y : S1024x1024.Idx) :
    k0_pay3 (F := Ideal) (rowsOf m c (t.val / 4) hq) (iblk m c 6 t) a (iblk m c 7 t) y
      = a y + part m c (t.val / 4) hq (t.val % 4) (y 0) (y 1) := by
  idx_vars y
  refine (pay3_at _ _ _ _ y0 y1).trans ?_
  refine congrArg (a (ix2 y0 y1) + ·) (Finset.sum_congr rfl fun e _ => ?_)
  have h : t.val % 4 * 1024 + e.val < 4096 := by omega
  have e4 : t.val % 4 % 4 = t.val % 4 := Nat.mod_mod _ _
  simp only [e4]
  unfold hid
  exact congrArg₂ (· * ·) (congrArg (fun z => max z 0 * max z 0) (Finset.sum_congr rfl fun k _ =>
    congrArg (rowsOf m c (t.val / 4) hq (ix2 y0 k) * ·) (w1_at m c t k e h))) (w2_at m c t e y1 h)

theorem rowsOf_congr (c : Dev nD) {q q' : ℕ} (e : q = q') (h : q < 64) (h' : q' < 64) : rowsOf m c q h = rowsOf m c q' h' := by
  subst e; rfl

theorem partial_congr (c : Dev nD) {q q' n n' : ℕ} (e : q = q') (en : n = n') (h : q < 64) (h' : q' < 64) :
    sumTo m c q h n = sumTo m c q' h' n' := by
  subst e en; rfl

/-- A step from the sum over the hidden blocks before gives the sum with this block. -/
theorem step_partial (c : Dev nD) (t : Fin cfg0.N) (hq : t.val / 4 < 64) (a : FVec Ideal S1024x1024 .f32)
    (ha : a = sumTo m c (t.val / 4) hq (t.val % 4)) :
    k0_pay3 (F := Ideal) (rowsOf m c (t.val / 4) hq) (iblk m c 6 t) a (iblk m c 7 t) = sumTo m c (t.val / 4) hq (t.val % 4 + 1) := by
  subst ha
  refine funext fun y => (step m c t hq _ y).trans ?_
  unfold sumTo
  exact (Finset.sum_range_succ _ _).symm

theorem zero_partial (c : Dev nD) (q : ℕ) (hq : q < 64) : k0_pay2 (F := Ideal) = sumTo m c q hq 0 := by
  funext y
  idx_vars y
  exact (pay2_at y0 y1).trans (Finset.sum_range_zero _).symm

/-- Every point leaves its row block's rows and the sum over the hidden blocks so far. -/
theorem carried (c : Dev nD) : ∀ (n : ℕ) (hn : n < cfg0.N) (hq : n / 4 < 64),
    (outsAt0 m c n hn).2 = (rowsOf m c (n / 4) hq, sumTo m c (n / 4) hq (n % 4 + 1)) := by
  intro n
  induction n using Nat.strong_induction_on with
  | _ n ih =>
    intro hn hq
    by_cases h : n % 4 = 0
    · have h' : ¬ n % 4 = 3 := by omega
      have e := congrArg Prod.snd (outsAt0_A m c ⟨n, hn⟩ h h')
      refine e.trans ?_
      dsimp only
      frame_out
      have hr := funext (stored_rows m c ⟨n, hn⟩ hq)
      refine Prod.ext hr ?_
      refine (congrArg (fun s => k0_pay3 (F := Ideal) s (iblk m c 6 ⟨n, hn⟩) (k0_pay2 (F := Ideal)) (iblk m c 7 ⟨n, hn⟩)) hr).trans ?_
      exact step_partial m c ⟨n, hn⟩ hq _ ((zero_partial m c (n / 4) hq).trans (partial_congr m c rfl h.symm _ _))
    · have hp := ih (n - 1) (by omega) (Nat.lt_of_le_of_lt (Nat.sub_le _ _) hn) (by omega)
      have e4 : (n - 1) / 4 = n / 4 := by omega
      have ea := partial_congr m c e4 (show (n - 1) % 4 + 1 = n % 4 by omega) (by omega) hq
      rw [rowsOf_congr m c e4 _ hq, ea] at hp
      by_cases h' : n % 4 = 3
      · have e := congrArg Prod.snd (outsAt0_C m c ⟨n, hn⟩ h h')
        refine e.trans ?_
        dsimp only [sout0_C_0]
        simp only [hp]
        frame_out
        simp only [read_unread_whole]
        exact Prod.ext rfl (step_partial m c ⟨n, hn⟩ hq _ rfl)
      · have e := congrArg Prod.snd (outsAt0_B m c ⟨n, hn⟩ h h')
        refine e.trans ?_
        dsimp only [sout0_B_0]
        simp only [hp]
        frame_out
        simp only [read_unread_whole]
        exact Prod.ext rfl (step_partial m c ⟨n, hn⟩ hq _ rfl)

/-- The hidden rows times the second weight, from the launch's arguments. -/
def rowsOut (c : Dev nD) : FVec Ideal S16x4096x1024 .f32 := fun i =>
  ∑ e : Fin 4096, hid (H m c) (W1 m c) (i 0) (i 1) e * W2 m c (ix2 e (i 2))

/-- The four hidden blocks together are the whole sum. -/
theorem partial_four (c : Dev nD) (q : ℕ) (hq : q < 64) (r d : Fin 1024) :
    sumTo m c q hq 4 (ix2 r d) = rowsOut m c (ix3 (bat q hq) (row q r) d) := by
  refine Eq.trans ?_ (Fin.sum_univ_tiles 4 1024 rfl (fun e : Fin 4096 => hid (H m c) (W1 m c) (bat q hq) (row q r) e * W2 m c (ix2 e d))).symm
  refine (Finset.sum_range _).trans (Finset.sum_congr rfl fun f _ => Finset.sum_congr rfl fun e _ => ?_)
  have hf : f.val % 4 = f.val := Nat.mod_eq_of_lt f.isLt
  simp only [hf]
  rfl

/-- What the launch leaves in the result. -/
abbrev result (c : Dev nD) : FVec Ideal S16x4096x1024 .f32 :=
  added (m ((c : Thread nD τ).loc main_arg0)) (m ((c : Thread nD τ).loc main_arg1)) (m ((c : Thread nD τ).loc main_arg2)) (rowsOut m c)

theorem stored (c : Dev nD) (t : Fin cfg0.N) (hq : t.val / 4 < 64) (y : S1x1024x1024.Idx) :
    k0_pay4 (F := Ideal) (iblk m c 0 t) (iblk m c 3 t) (sumTo m c (t.val / 4) hq 4) (iblk m c 5 t) y
      = result m c (((cfg0.win 8).blk t).view.emb y) := by
  idx_vars y
  obtain ⟨e0, e1, e2, e3, e4, e5, e6, e7, e8, e9⟩ := idx t
  have h0 : y0.val < 1 := y0.isLt
  have hemb : (((cfg0.win 8).blk t).view.emb (ix3 y0 y1 y2) : S16x4096x1024.Idx) = ix3 (bat (t.val / 4) hq) (row (t.val / 4) y1) y2 := by
    unfold bat row
    blk_ext [e8]
  rw [hemb]
  refine (pay4_at _ _ _ _ y0 y1 y2).trans (Eq.trans ?_ (added_at _ _ _ _ _ _ _).symm)
  simp only [partial_four]
  generalize rowsOut m c = R
  unfold bat row
  blk_point [iblk, V, e0, e3, e5]

/-- The result array after the launch. -/
theorem final (c : Dev nD) : (dats m 0 c).arrAt 8 (cfgs 0).N = result m c := by
  refine (dats m 0 c).arrAt_eq_of_covers 8 _ (by decide +kernel) fun t hf y => ?_
  have h3 : t.val % 4 = 3 := (flush0_8 t).mp hf
  have h0 : ¬ t.val % 4 = 0 := by omega
  have hq : t.val / 4 < 64 := by have := (idx t).2.2.2.2.2.2.2.2.2; omega
  refine Eq.trans ?_ (stored m c t hq y)
  have hp := carried m c (t.val - 1) (Nat.lt_of_le_of_lt (Nat.sub_le _ _) t.isLt) (by omega)
  have e4 : (t.val - 1) / 4 = t.val / 4 := by omega
  rw [rowsOf_congr m c e4 _ hq, partial_congr m c e4 (show (t.val - 1) % 4 + 1 = t.val % 4 by omega) (by omega) hq] at hp
  blk_simp
  rw [after0_8, outsAt0_C m c t h0 h3, hp]
  frame_out
  simp only [read_unread_whole]
  rw [step_partial m c t hq _ rfl, partial_congr m c rfl (show t.val % 4 + 1 = 4 by omega) hq hq]

open Cert.MlpRefIdeal.Ff (act up down act_at down_at) in
/-- The reference's result from agreeing arguments. -/
theorem ref_eq (m' : (ℓ : Loc Cert.MlpRefIdeal.nD Cert.MlpRefIdeal.τ Cert.MlpRefIdeal.sig) → Buf (Elt Ideal) ℓ) (c : Dev nD)
    (e0 : m' ((c.tc : Thread Cert.MlpRefIdeal.nD Cert.MlpRefIdeal.τ).loc Cert.MlpRefIdeal.main_arg0) = m ((c : Thread nD τ).loc main_arg0))
    (e1 : m' ((c.tc : Thread Cert.MlpRefIdeal.nD Cert.MlpRefIdeal.τ).loc Cert.MlpRefIdeal.main_arg1) = m ((c : Thread nD τ).loc main_arg1))
    (e2 : m' ((c.tc : Thread Cert.MlpRefIdeal.nD Cert.MlpRefIdeal.τ).loc Cert.MlpRefIdeal.main_arg2) = m ((c : Thread nD τ).loc main_arg2))
    (e3 : m' ((c.tc : Thread Cert.MlpRefIdeal.nD Cert.MlpRefIdeal.τ).loc Cert.MlpRefIdeal.main_arg3) = m ((c : Thread nD τ).loc main_arg3))
    (e4 : m' ((c.tc : Thread Cert.MlpRefIdeal.nD Cert.MlpRefIdeal.τ).loc Cert.MlpRefIdeal.main_arg4) = m ((c : Thread nD τ).loc main_arg4)) :
    Cert.MlpRefIdeal.Value.res_main_v54 m' c = result m c := by
  have hrows : down (act (up (H m c) (W1 m c))) (W2 m c) = rowsOut m c := by
    funext i
    idx_vars i
    refine (down_at _ _ i0 i1 i2).trans (Finset.sum_congr rfl fun e _ => ?_)
    rw [act_at]
    rfl
  refine (Cert.MlpRefIdeal.Ff.res_eq m' c _ _ _ _ _ e0.symm e1.symm e2.symm e3.symm e4.symm).trans ?_
  exact congrArg (added _ _ _) hrows

end Cert.MlpIdeal.Ff
-- ==== Proof.ConcatCols.lean ====
module

public import Idealize.ShloMosaic.Lib.Pipeline.ValueKit

@[expose] public section

set_option maxRecDepth 16384

noncomputable section

open Idealize.ShloMosaic

/-! Matrices with the same rows, side by side, read one column at a time. -/

namespace Cert.Cols

variable {R N : ℕ}

/-- A matrix of `R` rows with its number of columns. -/
abbrev Piece (R : ℕ) := (n : ℕ) × ((⟨2, ![R, n]⟩ : Shape).Idx → EReal)

/-- The matrix with its shape, as the concatenation takes it. -/
abbrev Piece.arr (p : Piece R) : (s : Shape) × (s.Idx → EReal) := ⟨⟨2, ![R, p.1]⟩, p.2⟩

/-- Column `c` of the matrices laid side by side, at row `r`. -/
def rd : List (Piece R) → Fin R → ℕ → EReal
  | [], _, _ => 0
  | p :: xs, r, c => if h : c < p.1 then p.2 (ix2 r ⟨c, h⟩) else rd xs r (c - p.1)

theorem rd_cons (p : Piece R) (xs : List (Piece R)) (r : Fin R) (c : ℕ) :
    rd (p :: xs) r c = if h : c < p.1 then p.2 (ix2 r ⟨c, h⟩) else rd xs r (c - p.1) := rfl

theorem rd_at (r : Fin R) (e : Fin N) : ∀ (xs : List (Piece R)) hs (c : ℕ) hc,
    concatenateAt (⟨2, ![R, N]⟩ : Shape) (1 : Fin 2) (ix2 r e) (xs.map Piece.arr) hs c hc = rd xs r c
  | [], _, _, hc => absurd hc (Nat.not_lt_zero _)
  | [p], hs, c, hc => by
    have h : c < p.1 := by simpa [axisSizes] using hc
    rw [rd_cons, dif_pos h]
    refine (concatenateAt_singleton (s := ⟨2, ![R, p.1]⟩) _ _ p.2 _ _ _).trans ?_
    refine congrArg p.2 ?_
    rw [Shape.Idx.norm_def]
    funext a
    fin_cases a <;> rfl
  | p :: q :: xs, hs, c, hc => by
    have ih := rd_at r e (q :: xs)
    rw [rd_cons]
    refine (concatenateAt_cons (s := ⟨2, ![R, p.1]⟩) _ _ p.2 q.arr (xs.map Piece.arr) _ _ _).trans ?_
    by_cases h : c < p.1
    · rw [dif_pos h]
      refine (dif_pos h).trans (congrArg p.2 ?_)
      rw [Shape.Idx.norm_def]
      funext a
      fin_cases a <;> rfl
    · rw [dif_neg h]
      exact (dif_neg h).trans (ih _ _ _)

theorem concat_at (p q : Piece R) (xs : List (Piece R))
    (h : Shape.Concatenates (((p :: q :: xs).map Piece.arr).map (·.1)) (⟨2, ![R, N]⟩ : Shape) (1 : Fin 2))
    (r : Fin R) (c : Fin N) :
    concatenate (⟨2, ![R, N]⟩ : Shape) (1 : Fin 2) ((p :: q :: xs).map Piece.arr) h (ix2 r c) = rd (p :: q :: xs) r c.val := by
  rw [concatenate_apply]
  exact rd_at r c _ _ _ _

/-- A choice equals `x` when each branch does. -/
theorem of_branches {α : Type} {p : Prop} [Decidable p] {a : p → α} {b : ¬p → α} {x : α}
    (ha : ∀ h, a h = x) (hb : ∀ h, b h = x) : dite p a b = x := by
  by_cases h : p
  · rw [dif_pos h]; exact ha h
  · rw [dif_neg h]; exact hb h

end Cert.Cols
-- ==== Proof.InprojRef.lean ====
module

public import proofs.«01_k».proof.Proof.Gen.InprojRefIdeal.Run
public import proofs.«01_k».proof.Proof.ConcatCols
public import Idealize.ShloMosaic.Lib.Pipeline.ValueKit

@[expose] public section

set_option maxRecDepth 16384

noncomputable section

open Idealize.ShloMosaic Idealize.ShloMosaic.TcCoe Idealize.SL.Sem

namespace Cert.InprojRefIdeal.Proj

open Cert.InprojRefIdeal Cert.InprojRefIdeal.Gen

/-- The normed and modulated rows that all the projections read. -/
def normMod (x : FVec Ideal S16x4096x1024 .f32) (md : FVec Ideal S16x6144 .f32) (g : FVec Ideal S4x1024 .f32) :
    FVec Ideal S16x4096x1024 .f32 :=
  (addf (mulf (mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 (shapeCast S1024 (extractStridedSlice S1x1024 ![0, 0] g slices_S4x1024_S1x1024_0_0) shapeCasts_S1x1024_S1024)))) (broadcastInDim S16x4096x1024 ![0, 1, 2] bcast_S16x1x1024_S16x4096x1024_0_1_2 (addf (broadcastInDim S16x1x1024 ![] bcast_S_S16x1x1024 (constant S_ .f32 0x3F800000#32)) (broadcastInDim S16x1x1024 ![0, 2] bcast_S16x1024_S16x1x1024_0_2 (extractStridedSlice S16x1024 ![0, 1024] md slices_S16x6144_S16x1024_0_1024))))) (broadcastInDim S16x4096x1024 ![0, 1, 2] bcast_S16x1x1024_S16x4096x1024_0_1_2 (broadcastInDim S16x1x1024 ![0, 2] bcast_S16x1024_S16x1x1024_0_2 (extractStridedSlice S16x1024 ![0, 0] md slices_S16x6144_S16x1024_0_0))))

/-- The rows times the input weight. -/
def proj (h : FVec Ideal S16x4096x1024 .f32) (w : FVec Ideal S1024x5964 .f32) : FVec Ideal S16x4096x5964 .f32 :=
  Host.dotGeneral dot_S16x4096x1024_S1024x5964_S16x4096x5964_2_0_01_1_n_n none h w

/-- The rows times the weight of one gate. -/
def gate (h : FVec Ideal S16x4096x1024 .f32) (v : FVec Ideal S1x1024x1024 .f32) : FVec Ideal S16x4096x1024 .f32 :=
  Host.dotGeneral dot_S16x4096x1024_S1024x1024_S16x4096x1024_2_0_01_1_n_n none h
    (shapeCast S1024x1024 v shapeCasts_S1x1024x1024_S1024x1024 : FVec Ideal S1024x1024 .f32)

/-- The 180 columns that no projection fills. -/
def blank : FVec Ideal S16x4096x180 .f32 :=
  broadcastInDim S16x4096x180 ![] bcast_S_S16x4096x180 (constant S_ .f32 0x00000000#32 : FVec Ideal S_ .f32)

/-- Column ranges of `p`, the blank columns and four gates, side by side in the kernel's column order. -/
def joined (p : FVec Ideal S16x4096x5964 .f32) (z : FVec Ideal S16x4096x180 .f32) (g0 g1 g2 g3 : FVec Ideal S16x4096x1024 .f32) :
    FVec Ideal S16x4096x10240 .f32 :=
  Value.fn_main_v53 (F := Ideal)
    (extractStridedSlice S16x4096x4096 ![0, 0, 0] p slices_S16x4096x5964_S16x4096x4096_0_0_0)
    (extractStridedSlice S16x4096x1024 ![0, 0, 4420] p slices_S16x4096x5964_S16x4096x1024_0_0_4420)
    (extractStridedSlice S16x4096x512 ![0, 0, 5444] p slices_S16x4096x5964_S16x4096x512_0_0_5444)
    (extractStridedSlice S16x4096x256 ![0, 0, 4096] p slices_S16x4096x5964_S16x4096x256_0_0_4096)
    (extractStridedSlice S16x4096x68 ![0, 0, 4352] p slices_S16x4096x5964_S16x4096x68_0_0_4352)
    (extractStridedSlice S16x4096x8 ![0, 0, 5956] p slices_S16x4096x5964_S16x4096x8_0_0_5956)
    z g0 g1 g2 g3

theorem res_eq (m : (ℓ : Loc nD τ sig) → Buf (Elt Ideal) ℓ) (c : Dev nD) :
    ∀ h, h = normMod (m ((c.tc : Thread nD τ).loc main_arg0)) (m ((c.tc : Thread nD τ).loc main_arg1)) (m ((c.tc : Thread nD τ).loc main_arg2)) →
    ∀ wg, wg = (show FVec Ideal S4x1024x1024 .f32 from m ((c.tc : Thread nD τ).loc main_arg4)) →
    Value.res_main_v53 m c = joined (proj h (m ((c.tc : Thread nD τ).loc main_arg3))) blank
      (gate h (extractStridedSlice S1x1024x1024 ![0, 0, 0] wg slices_S4x1024x1024_S1x1024x1024_0_0_0))
      (gate h (extractStridedSlice S1x1024x1024 ![1, 0, 0] wg slices_S4x1024x1024_S1x1024x1024_1_0_0))
      (gate h (extractStridedSlice S1x1024x1024 ![2, 0, 0] wg slices_S4x1024x1024_S1x1024x1024_2_0_0))
      (gate h (extractStridedSlice S1x1024x1024 ![3, 0, 0] wg slices_S4x1024x1024_S1x1024x1024_3_0_0)) := by
  rintro h rfl wg rfl
  unfold Value.res_main_v53 joined normMod proj gate blank
  rfl

theorem normMod_at (x : FVec Ideal S16x4096x1024 .f32) (md : FVec Ideal S16x6144 .f32) (g : FVec Ideal S4x1024 .f32)
    (b : Fin 16) (s : Fin 4096) (d : Fin 1024) : normMod x md g (ix3 b s d) =
      x (ix3 b s d) * Ideal.rsqrt (Ideal.div (∑ k : Fin 1024, x (ix3 b s k) * x (ix3 b s k)) (Ideal.ofBits .f32 0x44800000#32)
        + Ideal.ofBits .f32 0x358637BD#32) * g (ix2 0 d) * (1 + md (ix2 b ⟨1024 + d.val, by omega⟩)) + md (ix2 b ⟨d.val, by omega⟩) := by
  pointwise [normMod]

theorem proj_at (h : FVec Ideal S16x4096x1024 .f32) (w : FVec Ideal S1024x5964 .f32) (b : Fin 16) (s : Fin 4096) (j : Fin 5964) :
    proj h w (ix3 b s j) = ∑ d : Fin 1024, h (ix3 b s d) * w (ix2 d j) := by
  pointwise [proj]

theorem gate_at (h : FVec Ideal S16x4096x1024 .f32) (v : FVec Ideal S1x1024x1024 .f32) (b : Fin 16) (s : Fin 4096) (j : Fin 1024) :
    gate h v (ix3 b s j) = ∑ d : Fin 1024, h (ix3 b s d) * v (ix3 0 d j) := by
  pointwise [gate]

theorem joined_at (p : FVec Ideal S16x4096x5964 .f32) (z : FVec Ideal S16x4096x180 .f32) (g : Fin 4 → FVec Ideal S16x4096x1024 .f32)
    (b : Fin 16) (s : Fin 4096) (j : Fin 10240) : joined p z (g 0) (g 1) (g 2) (g 3) (ix3 b s j) =
      if h : j.val < 4096 then p (ix3 b s ⟨j.val, by omega⟩)
      else if h : j.val < 5632 then p (ix3 b s ⟨j.val + 324, by omega⟩)
      else if h : j.val < 5956 then p (ix3 b s ⟨j.val - 1536, by omega⟩)
      else if h : j.val < 5964 then p (ix3 b s ⟨j.val, by omega⟩)
      else if h : j.val < 6144 then z (ix3 b s ⟨j.val - 5964, by omega⟩)
      else g ⟨(j.val - 6144) / 1024, by omega⟩ (ix3 b s ⟨(j.val - 6144) % 1024, by omega⟩) := by
  have hg : ∀ (n : Fin 4) (i i' : Fin 1024) (n' : Fin 4), n = n' → i = i' → g n (ix3 b s i) = g n' (ix3 b s i') := by
    rintro n i _ _ rfl rfl; rfl
  pointwise [joined, Value.fn_main_v53]
  repeat' refine Cols.of_branches (fun _ => ?_) (fun _ => ?_)
  all_goals symm
  repeat' refine Cols.of_branches (fun _ => ?_) (fun _ => ?_)
  all_goals first
    | (exfalso; omega)
    | (refine hg _ _ _ _ (Fin.ext ?_) (Fin.ext ?_) <;> simp <;> omega)
    | (refine congrArg p (congrArg (ix3 b s) (Fin.ext ?_)); simp only []; omega)
    | (refine congrArg z (congrArg (ix3 b s) (Fin.ext ?_)); simp only []; omega)
    | rfl

/-- Column `j` of the combined weight: the input weight's columns in the kernel's order, blank columns, then the gates. -/
def wcol (w : FVec Ideal S1024x5964 .f32) (wg : FVec Ideal S4x1024x1024 .f32) (d : Fin 1024) (j : Fin 10240) : EReal :=
  if h : j.val < 4096 then w (ix2 d ⟨j.val, by omega⟩)
  else if h : j.val < 5632 then w (ix2 d ⟨j.val + 324, by omega⟩)
  else if h : j.val < 5956 then w (ix2 d ⟨j.val - 1536, by omega⟩)
  else if h : j.val < 5964 then w (ix2 d ⟨j.val, by omega⟩)
  else if h : j.val < 6144 then 0
  else wg (ix3 ⟨(j.val - 6144) / 1024, by omega⟩ d ⟨(j.val - 6144) % 1024, by omega⟩)

/-- Gate `n`'s weight, as a slice of the four. -/
def gslice (wg : FVec Ideal S4x1024x1024 .f32) (n : Fin 4) : FVec Ideal S1x1024x1024 .f32 :=
  fun i => wg (ix3 n (i 1) (i 2))

theorem slice_eq (wg : FVec Ideal S4x1024x1024 .f32) (n : Fin 4) (o : Fin 3 → ℕ) (ho : o = ![n.val, 0, 0])
    (h : S4x1024x1024.Slices o S1x1024x1024) : extractStridedSlice S1x1024x1024 o wg h = gslice wg n := by
  subst ho
  funext i
  idx_vars i
  refine congrArg wg ?_
  funext a
  fin_cases a <;> apply Fin.ext <;> simp [ix3]

/-- The four gates of the rows `h`. -/
def gates (h : FVec Ideal S16x4096x1024 .f32) (wg : FVec Ideal S4x1024x1024 .f32) (n : Fin 4) :
    FVec Ideal S16x4096x1024 .f32 :=
  gate h (gslice wg n)

theorem gates_at (h : FVec Ideal S16x4096x1024 .f32) (wg : FVec Ideal S4x1024x1024 .f32) (n : Fin 4)
    (b : Fin 16) (s : Fin 4096) (j : Fin 1024) :
    gates h wg n (ix3 b s j) = ∑ d : Fin 1024, h (ix3 b s d) * wg (ix3 n d j) :=
  gate_at h _ b s j

theorem blank_at (b : Fin 16) (s : Fin 4096) (j : Fin 180) : blank (ix3 b s j) = 0 := by
  pointwise [blank]

/-- Every row times every column of the combined weight. -/
def rowsCols (h : FVec Ideal S16x4096x1024 .f32) (w : FVec Ideal S1024x5964 .f32) (wg : FVec Ideal S4x1024x1024 .f32) :
    FVec Ideal S16x4096x10240 .f32 :=
  fun i => ∑ d : Fin 1024, h (ix3 (i 0) (i 1) d) * wcol w wg d (i 2)

theorem rowsCols_at (h : FVec Ideal S16x4096x1024 .f32) (w : FVec Ideal S1024x5964 .f32) (wg : FVec Ideal S4x1024x1024 .f32)
    (b : Fin 16) (s : Fin 4096) (j : Fin 10240) :
    rowsCols h w wg (ix3 b s j) = ∑ d : Fin 1024, h (ix3 b s d) * wcol w wg d j := rfl

theorem joined_rows (h : FVec Ideal S16x4096x1024 .f32) (w : FVec Ideal S1024x5964 .f32) (wg : FVec Ideal S4x1024x1024 .f32)
    (b : Fin 16) (s : Fin 4096) (j : Fin 10240) :
    joined (proj h w) blank (gates h wg 0) (gates h wg 1) (gates h wg 2) (gates h wg 3) (ix3 b s j)
      = ∑ d : Fin 1024, h (ix3 b s d) * wcol w wg d j := by
  rw [joined_at (proj h w) blank (gates h wg) b s j]
  unfold wcol
  repeat' refine Cols.of_branches (fun _ => ?_) (fun _ => ?_)
  case refine_2.refine_2.refine_2.refine_2.refine_1 =>
    rw [blank_at]
    refine (Finset.sum_eq_zero fun d _ => mul_eq_zero_of_right _ ?_).symm
    repeat' refine Cols.of_branches (fun _ => ?_) (fun _ => ?_)
    all_goals first | rfl | (exfalso; omega)
  case refine_2.refine_2.refine_2.refine_2.refine_2 =>
    rw [gates_at]
    refine Finset.sum_congr rfl fun d _ => congrArg (h (ix3 b s d) * ·) ?_
    symm
    repeat' refine Cols.of_branches (fun _ => ?_) (fun _ => ?_)
    all_goals first | (exfalso; omega) | rfl
  all_goals
    rw [proj_at]
    refine Finset.sum_congr rfl fun d _ => congrArg (h (ix3 b s d) * ·) ?_
    symm
    repeat' refine Cols.of_branches (fun _ => ?_) (fun _ => ?_)
    all_goals first | (exfalso; omega) | rfl

/-- The reference's result: every normed row times every column. -/
theorem res_rows (m : (ℓ : Loc nD τ sig) → Buf (Elt Ideal) ℓ) (c : Dev nD) :
    Value.res_main_v53 m c = rowsCols (normMod (m ((c.tc : Thread nD τ).loc main_arg0)) (m ((c.tc : Thread nD τ).loc main_arg1))
        (m ((c.tc : Thread nD τ).loc main_arg2))) (m ((c.tc : Thread nD τ).loc main_arg3)) (m ((c.tc : Thread nD τ).loc main_arg4)) :=
 by
  refine (res_eq m c _ rfl (m ((c.tc : Thread nD τ).loc main_arg4)) rfl).trans ?_
  rw [slice_eq _ 0 ![0, 0, 0] rfl, slice_eq _ 1 ![1, 0, 0] rfl, slice_eq _ 2 ![2, 0, 0] rfl, slice_eq _ 3 ![3, 0, 0] rfl]
  funext i
  rw [eq_ix3 i]
  exact joined_rows _ _ _ _ _ _

end Cert.InprojRefIdeal.Proj
-- ==== Proof.InprojValue.lean ====
module

public import proofs.«01_k».proof.Proof.Gen.InprojIdeal.Frame
public import proofs.«01_k».proof.Proof.InprojRef
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InprojIdeal.Proj

open Cert.InprojIdeal Cert.InprojIdeal.Gen

variable (m : (ℓ : Loc nD τ sig) → Buf (Elt Ideal) ℓ)

/-- The narrow columns: the index keys and weights, two head scalars and blank columns. -/
def miscPieces (w : FVec Ideal S1024x5964 .f32) : List (Cols.Piece 1024) :=
  [⟨64, extractStridedSlice S1024x64 ![0, 4352] w slices_S1024x5964_S1024x64_0_4352⟩,
    ⟨4, extractStridedSlice S1024x4 ![0, 4416] w slices_S1024x5964_S1024x4_0_4416⟩,
    ⟨4, extractStridedSlice S1024x4 ![0, 5956] w slices_S1024x5964_S1024x4_0_5956⟩,
    ⟨4, extractStridedSlice S1024x4 ![0, 5960] w slices_S1024x5964_S1024x4_0_5960⟩,
    ⟨52, broadcastInDim S1024x52 ![] bcast_S_S1024x52 (constant S_ .f32 0x00000000#32 : FVec Ideal S_ .f32)⟩]

def misc (w : FVec Ideal S1024x5964 .f32) : FVec Ideal S1024x128 .f32 :=
  concatenate S1024x128 1 ((miscPieces w).map Cols.Piece.arr) concatenates_S1024x64_S1024x4_S1024x4_S1024x4_S1024x52_S1024x128_d1

/-- One gate's weight. -/
def gateW (wg : FVec Ideal S1x1024x1024 .f32) : FVec Ideal S1024x1024 .f32 :=
  shapeCast S1024x1024 wg shapeCasts_S1x1024x1024_S1024x1024

/-- The blocks of the combined weight that the launch builds from the input weight and the gates. -/
def pieces (w : FVec Ideal S1024x5964 .f32) (ms : FVec Ideal S1024x128 .f32) (g : Fin 4 → FVec Ideal S1x1024x1024 .f32) :
    List (Cols.Piece 1024) :=
  [⟨512, extractStridedSlice S1024x512 ![0, 0] w slices_S1024x5964_S1024x512_0_0⟩,
    ⟨512, extractStridedSlice S1024x512 ![0, 512] w slices_S1024x5964_S1024x512_0_512⟩,
    ⟨512, extractStridedSlice S1024x512 ![0, 1024] w slices_S1024x5964_S1024x512_0_1024⟩,
    ⟨1024, extractStridedSlice S1024x1024 ![0, 1536] w slices_S1024x5964_S1024x1024_0_1536⟩,
    ⟨512, extractStridedSlice S1024x512 ![0, 2560] w slices_S1024x5964_S1024x512_0_2560⟩,
    ⟨512, extractStridedSlice S1024x512 ![0, 3072] w slices_S1024x5964_S1024x512_0_3072⟩,
    ⟨512, extractStridedSlice S1024x512 ![0, 3584] w slices_S1024x5964_S1024x512_0_3584⟩,
    ⟨1024, extractStridedSlice S1024x1024 ![0, 4420] w slices_S1024x5964_S1024x1024_0_4420⟩,
    ⟨512, extractStridedSlice S1024x512 ![0, 5444] w slices_S1024x5964_S1024x512_0_5444⟩,
    ⟨256, extractStridedSlice S1024x256 ![0, 4096] w slices_S1024x5964_S1024x256_0_4096⟩,
    ⟨128, ms⟩,
    ⟨128, broadcastInDim S1024x128 ![] bcast_S_S1024x128 (constant S_ .f32 0x00000000#32 : FVec Ideal S_ .f32)⟩,
    ⟨1024, gateW (g 0)⟩, ⟨1024, gateW (g 1)⟩, ⟨1024, gateW (g 2)⟩, ⟨1024, gateW (g 3)⟩]

def combined (w : FVec Ideal S1024x5964 .f32) (wg : FVec Ideal S4x1024x1024 .f32) : FVec Ideal S1024x10240 .f32 :=
  concatenate S1024x10240 1 ((pieces w (misc w) ![extractStridedSlice S1x1024x1024 ![0, 0, 0] wg slices_S4x1024x1024_S1x1024x1024_0_0_0,
      extractStridedSlice S1x1024x1024 ![1, 0, 0] wg slices_S4x1024x1024_S1x1024x1024_1_0_0,
      extractStridedSlice S1x1024x1024 ![2, 0, 0] wg slices_S4x1024x1024_S1x1024x1024_2_0_0,
      extractStridedSlice S1x1024x1024 ![3, 0, 0] wg slices_S4x1024x1024_S1x1024x1024_3_0_0]).map Cols.Piece.arr)
    concatenates_S1024x512_S1024x512_S1024x512_S1024x1024_S1024x512_S1024x512_S1024x512_S1024x1024_S1024x512_S1024x256_S1024x128_S1024x128_S1024x1024_S1024x1024_S1024x1024_S1024x1024_S1024x10240_d1

set_option maxHeartbeats 1000000 in
theorem V_weight (c : Dev nD) : V m c main_v28 =
    truncf .bf16 (combined (m ((c : Thread nD τ).loc main_arg3)) (m ((c : Thread nD τ).loc main_arg4))) bitsLt_bf16_f32 := by
  show StableHlo.after hostOps0 (fun b => m (c, b)) main_v28 = _
  after_results_simp <;> (try dsimp only [Matrix.cons_val]) <;> (try after_results_simp) <;> rfl

theorem slice_cols (w : FVec Ideal S1024x5964 .f32) (n o : ℕ) (h : S1024x5964.Slices ![0, o] (⟨2, ![1024, n]⟩ : Shape))
    (d : Fin 1024) (j : Fin n) (hj : o + j.val < 5964) :
    extractStridedSlice (⟨2, ![1024, n]⟩ : Shape) ![0, o] w h (ix2 d j) = w (ix2 d ⟨o + j.val, hj⟩) := by
  refine congrArg w ?_
  funext a
  fin_cases a
  · apply Fin.ext
    show 0 + d.val = d.val
    omega
  · rfl

theorem gateW_at (g : FVec Ideal S1x1024x1024 .f32) (d j : Fin 1024) : gateW g (ix2 d j) = g (ix3 0 d j) := by
  pointwise [gateW]

theorem misc_at (w : FVec Ideal S1024x5964 .f32) (d : Fin 1024) (j : Fin 128) :
    misc w (ix2 d j) = if h : j.val < 68 then w (ix2 d ⟨j.val + 4352, by omega⟩)
      else if h : j.val < 76 then w (ix2 d ⟨j.val + 5888, by omega⟩) else 0 := by
  unfold misc miscPieces
  refine (Cols.concat_at _ _ _ _ d j).trans ?_
  simp only [Cols.rd_cons, Cols.rd]
  repeat' split
  all_goals first
    | (exfalso; omega)
    | ((refine (slice_cols w _ _ _ _ _ (by simp only []; omega)).trans (congrArg w (congrArg (ix2 d) (Fin.ext ?_)))); simp only []; omega)
    | (pointwise; done)

theorem pieces_at (w : FVec Ideal S1024x5964 .f32) (ms : FVec Ideal S1024x128 .f32) (g : Fin 4 → FVec Ideal S1x1024x1024 .f32)
    (d : Fin 1024) (j : Fin 10240) :
    Cols.rd (pieces w ms g) d j.val =
      if h : j.val < 4096 then w (ix2 d ⟨j.val, by omega⟩)
      else if h : j.val < 5632 then w (ix2 d ⟨j.val + 324, by omega⟩)
      else if h : j.val < 5888 then w (ix2 d ⟨j.val - 1536, by omega⟩)
      else if h : j.val < 6016 then ms (ix2 d ⟨j.val - 5888, by omega⟩)
      else if h : j.val < 6144 then 0
      else g ⟨(j.val - 6144) / 1024, by omega⟩ (ix3 0 d ⟨(j.val - 6144) % 1024, by omega⟩) := by
  have hg : ∀ (n : Fin 4) (i i' : Fin 1024) (n' : Fin 4), n = n' → i = i' → g n (ix3 0 d i) = g n' (ix3 0 d i') := by
    rintro n i _ _ rfl rfl; rfl
  simp only [pieces, Cols.rd_cons, Cols.rd, gateW_at]
  repeat' refine Cols.of_branches (fun _ => ?_) (fun _ => ?_)
  all_goals symm
  repeat' refine Cols.of_branches (fun _ => ?_) (fun _ => ?_)
  all_goals first
    | (exfalso; omega)
    | ((refine (congrArg w (congrArg (ix2 d) (Fin.ext ?_))).trans (slice_cols w _ _ _ _ _ (by simp only []; omega)).symm); simp only []; omega)
    | (refine hg _ _ _ _ (Fin.ext ?_) (Fin.ext ?_) <;> simp <;> omega)
    | (refine congrArg ms (congrArg (ix2 d) (Fin.ext ?_)); simp only []; omega)
    | (pointwise; done)

open Cert.InprojRefIdeal.Proj (normMod normMod_at wcol rowsCols rowsCols_at gslice slice_eq)

theorem combined_at (w : FVec Ideal S1024x5964 .f32) (wg : FVec Ideal S4x1024x1024 .f32) (d : Fin 1024) (j : Fin 10240) :
    combined w wg (ix2 d j) = wcol w wg d j := by
  have hq : ∀ n : Fin 4, (![extractStridedSlice S1x1024x1024 ![0, 0, 0] wg slices_S4x1024x1024_S1x1024x1024_0_0_0,
      extractStridedSlice S1x1024x1024 ![1, 0, 0] wg slices_S4x1024x1024_S1x1024x1024_1_0_0,
      extractStridedSlice S1x1024x1024 ![2, 0, 0] wg slices_S4x1024x1024_S1x1024x1024_2_0_0,
      extractStridedSlice S1x1024x1024 ![3, 0, 0] wg slices_S4x1024x1024_S1x1024x1024_3_0_0] : Fin 4 → FVec Ideal S1x1024x1024 .f32) n
      = gslice wg n := by
    intro n
    fin_cases n
    · exact slice_eq wg 0 ![0, 0, 0] rfl slices_S4x1024x1024_S1x1024x1024_0_0_0
    · exact slice_eq wg 1 ![1, 0, 0] rfl slices_S4x1024x1024_S1x1024x1024_1_0_0
    · exact slice_eq wg 2 ![2, 0, 0] rfl slices_S4x1024x1024_S1x1024x1024_2_0_0
    · exact slice_eq wg 3 ![3, 0, 0] rfl slices_S4x1024x1024_S1x1024x1024_3_0_0
  unfold combined
  rw [funext hq]
  refine (Cols.concat_at _ _ _ _ d j).trans ((pieces_at w (misc w) (gslice wg) d j).trans ?_)
  simp only [misc_at]
  unfold wcol
  repeat' refine Cols.of_branches (fun _ => ?_) (fun _ => ?_)
  all_goals symm
  all_goals repeat' refine Cols.of_branches (fun _ => ?_) (fun _ => ?_)
  all_goals first
    | (exfalso; omega)
    | rfl
    | (refine congrArg w (congrArg (ix2 d) (Fin.ext ?_)); simp only []; omega)

/-! ## The grid: point `t` has row block `t / 5` and column block `t % 5` -/

theorem idx : ∀ t : Fin cfg0.N, win0_0.index t = ![t.val / 20, t.val / 5 % 4, 0] ∧ win0_1.index t = ![t.val / 20, 0, 0]
    ∧ win0_2.index t = ![t.val / 20, 0, 1] ∧ win0_3.index t = ![0, 0] ∧ win0_4.index t = ![0, t.val % 5]
    ∧ win0_5.index t = ![t.val / 20, t.val / 5 % 4, t.val % 5] ∧ t.val < 320 :=
  (by decide +kernel : ∀ t : Fin grid0.N, _)

/-- The normed rows, from the launch's arguments. -/
abbrev H (c : Dev nD) : FVec Ideal S16x4096x1024 .f32 :=
  normMod (m ((c : Thread nD τ).loc main_arg0)) (m ((c : Thread nD τ).loc main_arg1)) (m ((c : Thread nD τ).loc main_arg2))

/-- The rows of row block `q`. -/
def rowsOf (c : Dev nD) (q : ℕ) (hq : q < 64) : FVec Ideal S1024x1024 .bf16 :=
  fun y => H m c (ix3 ⟨q / 4, by omega⟩ ⟨q % 4 * 1024 + (y 0).val, by have := (y 0).isLt; have : (y 0).val < 1024 := this; omega⟩ (y 1))

theorem stored_rows (c : Dev nD) (t : Fin cfg0.N) (hq : t.val / 5 < 64) (y : S1024x1024.Idx) :
    k0_pay1 (iblk m c 0 t) (iblk m c 3 t) (iblk m c 2 t) (iblk m c 1 t) y = rowsOf m c (t.val / 5) hq y := by
  idx_vars y
  obtain ⟨e0, e1, e2, e3, e4, e5, e6⟩ := idx t
  unfold rowsOf
  refine Eq.trans ?_ (normMod_at _ _ _ _ _ _).symm
  pointwise [k0_pay1]
  blk_point [iblk, V, e0, e1, e2, e3]

theorem rowsOf_congr (c : Dev nD) {q q' : ℕ} (e : q = q') (h : q < 64) (h' : q' < 64) : rowsOf m c q h = rowsOf m c q' h' := by
  subst e; rfl

/-- Every point finds or leaves its row block's rows in the carried buffer. -/
theorem carried (c : Dev nD) : ∀ (n : ℕ) (hn : n < cfg0.N) (hq : n / 5 < 64), (outsAt0 m c n hn).2 = rowsOf m c (n / 5) hq := by
  intro n
  induction n using Nat.strong_induction_on with
  | _ n ih =>
    intro hn hq
    by_cases h : n % 5 = 0
    · have e := congrArg Prod.snd (outsAt0_A m c ⟨n, hn⟩ h)
      refine e.trans ?_
      dsimp only
      frame_out
      exact funext fun y => stored_rows m c ⟨n, hn⟩ hq y
    · have e : (outsAt0 m c n hn).2 = (outsAt0 m c (n - 1) (Nat.lt_of_le_of_lt (Nat.sub_le _ _) hn)).2 := by
        rw [outsAt0_B m c ⟨n, hn⟩ h]
        dsimp only [sout0_B_0]
      rw [e, ih (n - 1) (by omega) _ (by omega)]
      exact rowsOf_congr m c (by omega) _ _

/-- One stored block: the carried rows times the block's columns. -/
theorem stored (c : Dev nD) (t : Fin cfg0.N) (hq : t.val / 5 < 64) (y : S1x1024x2048.Idx) :
    k0_pay2 (F := Ideal) (rowsOf m c (t.val / 5) hq) (iblk m c 4 t) y
      = rowsCols (H m c) (m ((c : Thread nD τ).loc main_arg3)) (m ((c : Thread nD τ).loc main_arg4))
          (((cfg0.win 5).blk t).view.emb y) := by
  idx_vars y
  obtain ⟨e0, e1, e2, e3, e4, e5, e6⟩ := idx t
  have h0 : y0.val < 1 := y0.isLt
  have hemb : (((cfg0.win 5).blk t).view.emb (ix3 y0 y1 y2) : S16x4096x10240.Idx) = ix3 (⟨t.val / 5 / 4, by omega⟩ : Fin 16)
      (⟨t.val / 5 % 4 * 1024 + y1.val, by omega⟩ : Fin 4096) (⟨t.val % 5 * 2048 + y2.val, by omega⟩ : Fin 10240) := by
    blk_ext [e5]
  have hw : ∀ (d : Fin 1024) (l : Fin 2048) (hl : t.val % 5 * 2048 + l.val < 10240),
      (show FVec Ideal S1024x2048 .bf16 from iblk m c 4 t) (ix2 d l) = wcol (m ((c : Thread nD τ).loc main_arg3)) (m ((c : Thread nD τ).loc main_arg4))
        d ⟨t.val % 5 * 2048 + l.val, hl⟩ := by
    intro d l hl
    refine Eq.trans ?_ (combined_at _ _ d _)
    have hv := V_weight m c
    have : (show FVec Ideal S1024x2048 .bf16 from iblk m c 4 t) (ix2 d l) = (V m c main_v28 : FVec Ideal S1024x10240 .bf16) (ix2 d ⟨t.val % 5 * 2048 + l.val, hl⟩) := by
      blk_ext [iblk, e4]
    rw [this, hv]
    rfl
  rw [hemb, rowsCols_at]
  refine Eq.trans (b := ∑ d : Fin 1024, rowsOf m c (t.val / 5) hq (ix2 y1 d) * (show FVec Ideal S1024x2048 .bf16 from iblk m c 4 t) (ix2 d y2)) ?_ ?_
  · pointwise [k0_pay2]
  · exact Finset.sum_congr rfl fun d _ => congrArg (rowsOf m c (t.val / 5) hq (ix2 y1 d) * ·) (hw d y2 (by omega))

/-- The result array after the launch. -/
theorem final (c : Dev nD) : (dats m 0 c).arrAt 5 (cfgs 0).N
    = rowsCols (H m c) (m ((c : Thread nD τ).loc main_arg3)) (m ((c : Thread nD τ).loc main_arg4)) := by
  refine (dats m 0 c).arrAt_eq_of_covers 5 _ (by decide +kernel) fun t _ y => ?_
  obtain ⟨e0, e1, e2, e3, e4, e5, e6⟩ := idx t
  have hq : t.val / 5 < 64 := by omega
  refine Eq.trans ?_ (stored m c t hq y)
  blk_simp
  rw [after0_5]
  by_cases h : t.val % 5 = 0
  · rw [outsAt0_A m c t h]
    frame_out
    exact congrArg (fun s => k0_pay2 (F := Ideal) s (iblk m c 4 t) y) (funext (stored_rows m c t hq))
  · have hc := carried m c (t.val - 1) (Nat.lt_of_le_of_lt (Nat.sub_le _ _) t.isLt) (by omega)
    rw [outsAt0_B m c t h, hc]
    frame_out
    have e : (t.val - 1) / 5 = t.val / 5 := by omega
    rw [rowsOf_congr m c e _ hq]
    simp only [read_unread_whole]

end Cert.InprojIdeal.Proj
-- ==== Proof.MergeRef.lean ====
module

public import proofs.«01_k».proof.Proof.Gen.MergeRefIdeal.Run
public import Idealize.ShloMosaic.Lib.Pipeline.ValueKit

@[expose] public section

set_option maxRecDepth 16384

noncomputable section

open Idealize.ShloMosaic Idealize.ShloMosaic.TcCoe Idealize.SL.Sem

namespace Cert.MergeRefIdeal.Out

open Cert.MergeRefIdeal Cert.MergeRefIdeal.Gen

/-- One branch: its gate's logistic value times the branch's rows times its weight. -/
def branch (p : FVec Ideal S16x4096x1024 .f32) (o : FVec Ideal S16x4096x512 .f32) (w : FVec Ideal S1x512x1024 .f32) :
    FVec Ideal S16x4096x1024 .f32 :=
    (mulf (Host.divf (broadcastInDim S16x4096x1024 ![] bcast_S_S16x4096x1024 (constant S_ .f32 0x3F800000#32)) (addf (broadcastInDim S16x4096x1024 ![]
      bcast_S_S16x4096x1024 (constant S_ .f32 0x3F800000#32)) (Host.exp (Host.negf p)))) (Host.dotGeneral
      dot_S16x4096x512_S512x1024_S16x4096x1024_2_0_01_1_n_n none o (shapeCast S512x1024 w shapeCasts_S1x512x1024_S512x1024)))

/-- The four branches added in order. -/
def merged (b0 b1 b2 b3 : FVec Ideal S16x4096x1024 .f32) : FVec Ideal S16x4096x1024 .f32 :=
  addf (addf (addf b0 b1) b2) b3

/-- The merged rows times the output weight. -/
def mixed (h : FVec Ideal S16x4096x1024 .f32) (wo : FVec Ideal S1024x1024 .f32) : FVec Ideal S16x4096x1024 .f32 :=
  Host.dotGeneral dot_S16x4096x1024_S1024x1024_S16x4096x1024_2_0_01_1_n_n none h wo

/-- The residual sum: `x` plus the gated normed rows `y`. -/
def added (x : FVec Ideal S16x4096x1024 .f32) (md : FVec Ideal S16x6144 .f32) (g : FVec Ideal S4x1024 .f32) (y : FVec Ideal S16x4096x1024 .f32) :
    FVec Ideal S16x4096x1024 .f32 :=
    addf x (mulf (broadcastInDim S16x4096x1024 ![0, 1, 2] bcast_S16x1x1024_S16x4096x1024_0_1_2 (broadcastInDim S16x1x1024 ![0, 2]
      bcast_S16x1024_S16x1x1024_0_2 (extractStridedSlice S16x1024 ![0, 2048] md slices_S16x6144_S16x1024_0_2048))) (mulf (mulf y (broadcastInDim
      S16x4096x1024 ![0, 1, 2] bcast_S16x4096x1_S16x4096x1024_0_1_2 (Host.rsqrt (addf (Host.divf (broadcastInDim S16x4096x1 ![0, 1]
      bcast_S16x4096_S16x4096x1_0_1 (Host.reduceAdd (mulf y y) (constant S_ .f32 0x00000000#32) reducesTo_S16x4096x1024_S16x4096_d2 h_S_))
      (broadcastInDim S16x4096x1 ![] bcast_S_S16x4096x1 (constant S_ .f32 0x44800000#32))) (broadcastInDim S16x4096x1 ![] bcast_S_S16x4096x1 (constant
      S_ .f32 0x358637BD#32)))))) (broadcastInDim S16x4096x1024 ![0, 1, 2] bcast_S1x1x1024_S16x4096x1024_0_1_2 (broadcastInDim S1x1x1024 ![2]
      bcast_S1024_S1x1x1024_2 (shapeCast S1024 (extractStridedSlice S1x1024 ![1, 0] g slices_S4x1024_S1x1024_1_0) shapeCasts_S1x1024_S1024)))))

theorem res_eq (m : (ℓ : Loc nD τ sig) → Buf (Elt Ideal) ℓ) (c : Dev nD)
    (o0 : FVec Ideal S16x4096x512 .f32)
    (o1 : FVec Ideal S16x4096x512 .f32)
    (o2 : FVec Ideal S16x4096x512 .f32)
    (o3 : FVec Ideal S16x4096x512 .f32)
    (p : FVec Ideal S16x4096x10240 .f32)
    (x : FVec Ideal S16x4096x1024 .f32)
    (md : FVec Ideal S16x6144 .f32)
    (g : FVec Ideal S4x1024 .f32)
    (wb : FVec Ideal S4x512x1024 .f32)
    (wo : FVec Ideal S1024x1024 .f32)
    (e0 : o0 = (m ((c.tc : Thread nD τ).loc main_arg0))) (e1 : o1 = (m ((c.tc : Thread nD τ).loc main_arg1))) (e2 : o2 = (m ((c.tc : Thread nD τ).loc main_arg2)))
    (e3 : o3 = (m ((c.tc : Thread nD τ).loc main_arg3))) (e4 : p = (m ((c.tc : Thread nD τ).loc main_arg4))) (e5 : x = (m ((c.tc : Thread nD τ).loc main_arg5)))
    (e6 : md = (m ((c.tc : Thread nD τ).loc main_arg6))) (e7 : g = (m ((c.tc : Thread nD τ).loc main_arg7))) (e8 : wb = (m ((c.tc : Thread nD τ).loc main_arg8)))
    (e9 : wo = (m ((c.tc : Thread nD τ).loc main_arg9))) :
    Value.res_main_v77 m c = added x md g (mixed (merged
      (branch (extractStridedSlice S16x4096x1024 ![0, 0, 6144] p slices_S16x4096x10240_S16x4096x1024_0_0_6144) o0
      (extractStridedSlice S1x512x1024 ![0, 0, 0] wb slices_S4x512x1024_S1x512x1024_0_0_0))
      (branch (extractStridedSlice S16x4096x1024 ![0, 0, 7168] p slices_S16x4096x10240_S16x4096x1024_0_0_7168) o1
      (extractStridedSlice S1x512x1024 ![1, 0, 0] wb slices_S4x512x1024_S1x512x1024_1_0_0))
      (branch (extractStridedSlice S16x4096x1024 ![0, 0, 8192] p slices_S16x4096x10240_S16x4096x1024_0_0_8192) o2
      (extractStridedSlice S1x512x1024 ![2, 0, 0] wb slices_S4x512x1024_S1x512x1024_2_0_0))
      (branch (extractStridedSlice S16x4096x1024 ![0, 0, 9216] p slices_S16x4096x10240_S16x4096x1024_0_0_9216) o3
      (extractStridedSlice S1x512x1024 ![3, 0, 0] wb slices_S4x512x1024_S1x512x1024_3_0_0))) wo) := by
  subst e0 e1 e2 e3 e4 e5 e6 e7 e8 e9
  unfold Value.res_main_v77 added mixed merged branch
  rfl

theorem branch_at (p : FVec Ideal S16x4096x1024 .f32) (o : FVec Ideal S16x4096x512 .f32) (w : FVec Ideal S1x512x1024 .f32)
    (b : Fin 16) (s : Fin 4096) (d : Fin 1024) :
    branch p o w (ix3 b s d) = Ideal.logistic (p (ix3 b s d)) * ∑ k : Fin 512, o (ix3 b s k) * w (ix3 0 k d) := by
  pointwise [branch]
  rfl

theorem mixed_at (h : FVec Ideal S16x4096x1024 .f32) (wo : FVec Ideal S1024x1024 .f32) (b : Fin 16) (s : Fin 4096) (d : Fin 1024) :
    mixed h wo (ix3 b s d) = ∑ k : Fin 1024, h (ix3 b s k) * wo (ix2 k d) := by
  pointwise [mixed]

theorem added_at (x : FVec Ideal S16x4096x1024 .f32) (md : FVec Ideal S16x6144 .f32) (g : FVec Ideal S4x1024 .f32) (y : FVec Ideal S16x4096x1024 .f32)
    (b : Fin 16) (s : Fin 4096) (d : Fin 1024) :
    added x md g y (ix3 b s d) = x (ix3 b s d) + md (ix2 b ⟨2048 + d.val, by omega⟩) *
      (y (ix3 b s d) * Ideal.rsqrt (Ideal.div (∑ k : Fin 1024, y (ix3 b s k) * y (ix3 b s k)) (Ideal.ofBits .f32 0x44800000#32)
        + Ideal.ofBits .f32 0x358637BD#32) * g (ix2 1 d)) := by
  pointwise [added]

end Cert.MergeRefIdeal.Out
-- ==== Proof.MergeValue.lean ====
module

public import proofs.«01_k».proof.Proof.Gen.MergeIdeal.Frame
public import proofs.«01_k».proof.Proof.MergeRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.Out

open Cert.MergeIdeal Cert.MergeIdeal.Gen
open Cert.MergeRefIdeal.Out (branch branch_at merged mixed mixed_at added added_at)

/-! ## The payloads, at any arguments -/

/-- One value of the block's rows times the output weight, from the two partial sums the first half leaves. -/
def mixVal (v20 v23 : Vec Ideal S256x1024 .f32) (v26 : Vec Ideal S256x512 .bf16) (v28 : Vec Ideal S512x1024 .bf16)
    (v32 : Vec Ideal S1x256x1024 .f32) (v35 : Vec Ideal S1x256x512 .f32) (v38 : Vec Ideal S1x512x1024 .bf16)
    (v44 : Vec Ideal S1024x1024 .bf16) (r : Fin 256) (d : Fin 1024) : EReal :=
  ∑ k : Fin 1024, (v20 (ix2 r k) + v23 (ix2 r k) * (∑ e : Fin 512, v26 (ix2 r e) * v28 (ix2 e k))
    + Ideal.logistic (v32 (ix3 0 r k)) * (∑ e : Fin 512, v35 (ix3 0 r e) * v38 (ix3 0 e k))) * v44 (ix2 k d)

theorem pay7_at (v20 v23 : Vec Ideal S256x1024 .f32) (v26 : Vec Ideal S256x512 .bf16) (v28 : Vec Ideal S512x1024 .bf16)
    (v32 : Vec Ideal S1x256x1024 .f32) (v35 : Vec Ideal S1x256x512 .f32) (v38 : Vec Ideal S1x512x1024 .bf16)
    (v44 : Vec Ideal S1024x1024 .bf16) (v50 : Vec Ideal S1x1024 .f32) (r : Fin 256) (d : Fin 1024) :
    k0_pay7 (F := Ideal) v20 v23 v26 v28 v32 v35 v38 v44 v50 (ix2 r d) =
      mixVal v20 v23 v26 v28 v32 v35 v38 v44 r d
        * Ideal.rsqrt (Ideal.div (∑ j : Fin 1024, mixVal v20 v23 v26 v28 v32 v35 v38 v44 r j * mixVal v20 v23 v26 v28 v32 v35 v38 v44 r j)
          (Ideal.ofBits .f32 0x44800000#32) + Ideal.ofBits .f32 0x358637BD#32) * v50 (ix2 0 d) := by
  unfold mixVal
  pointwise [k0_pay7]

theorem pay2_at (p0 : Vec Ideal S1x256x1024 .f32) (o0 : Vec Ideal S1x256x512 .f32) (w0 : Vec Ideal S1x512x1024 .bf16)
    (p1 : Vec Ideal S1x256x1024 .f32) (o1 : Vec Ideal S1x256x512 .f32) (w1 : Vec Ideal S1x512x1024 .bf16) (r : Fin 256) (k : Fin 1024) :
    k0_pay2 (F := Ideal) p0 o0 w0 p1 o1 w1 (ix2 r k) =
      Ideal.logistic (p0 (ix3 0 r k)) * (∑ e : Fin 512, o0 (ix3 0 r e) * w0 (ix3 0 e k))
        + Ideal.logistic (p1 (ix3 0 r k)) * (∑ e : Fin 512, o1 (ix3 0 r e) * w1 (ix3 0 e k)) := by
  pointwise [k0_pay2]

theorem pay1_at (x : Vec Ideal S1x256x1024 .f32) (gt : Vec Ideal S1x1x1024 .f32) (y : Vec Ideal S256x1024 .f32)
    (z : Fin 1) (r : Fin 256) (d : Fin 1024) :
    k0_pay1 (F := Ideal) x (k0_pay6 gt) y (ix3 z r d) = x (ix3 z r d) + gt (ix3 0 0 d) * y (ix2 r d) := by
  pointwise [k0_pay1, k0_pay6]

/-! ## The grid: point `t` has batch `t / 16` and row block `t % 16` -/

variable (m : (ℓ : Loc nD τ sig) → Buf (Elt Ideal) ℓ)

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![t.val / 16, t.val % 16, 6] ∧ win0_5.index t = ![t.val / 16, t.val % 16, 7]
    ∧ win0_6.index t = ![t.val / 16, t.val % 16, 8] ∧ win0_7.index t = ![t.val / 16, t.val % 16, 9]
    ∧ win0_8.index t = ![t.val / 16, t.val % 16, 0] ∧ win0_9.index t = ![t.val / 16, 0, 2] ∧ win0_10.index t = ![0, 0]
    ∧ win0_11.index t = ![0, 0, 0] ∧ win0_12.index t = ![0, 0] ∧ win0_13.index t = ![t.val / 16, t.val % 16, 0] ∧ t.val < 256 :=
  (by decide +kernel : ∀ t : Fin grid0.N, _)

/-- Branch `n` of the merge from the launch's arguments: its gate columns, its rows, its weight. -/
abbrev term (p : FVec Ideal S16x4096x10240 .f32) (wb : FVec Ideal S4x512x1024 .f32) (o : FVec Ideal S16x4096x512 .f32)
    (n : Fin 4) (b : Fin 16) (s : Fin 4096) (d : Fin 1024) : EReal :=
  Ideal.logistic (p (ix3 b s ⟨6144 + n.val * 1024 + d.val, by omega⟩)) * ∑ k : Fin 512, o (ix3 b s k) * wb (ix3 n k d)

/-- The merged rows times the output weight, from the launch's arguments. -/
def rowsOut (c : Dev nD) : FVec Ideal S16x4096x1024 .f32 := fun i =>
  ∑ k : Fin 1024, (term (m ((c : Thread nD τ).loc main_arg4)) (m ((c : Thread nD τ).loc main_arg8)) (m ((c : Thread nD τ).loc main_arg0)) 0 (i 0) (i 1) k
    + term (m ((c : Thread nD τ).loc main_arg4)) (m ((c : Thread nD τ).loc main_arg8)) (m ((c : Thread nD τ).loc main_arg1)) 1 (i 0) (i 1) k
    + term (m ((c : Thread nD τ).loc main_arg4)) (m ((c : Thread nD τ).loc main_arg8)) (m ((c : Thread nD τ).loc main_arg2)) 2 (i 0) (i 1) k
    + term (m ((c : Thread nD τ).loc main_arg4)) (m ((c : Thread nD τ).loc main_arg8)) (m ((c : Thread nD τ).loc main_arg3)) 3 (i 0) (i 1) k)
      * (show FVec Ideal S1024x1024 .f32 from m ((c : Thread nD τ).loc main_arg9)) (ix2 k (i 2))

/-- What the launch leaves in the result. -/
abbrev result (c : Dev nD) : FVec Ideal S16x4096x1024 .f32 :=
  added (m ((c : Thread nD τ).loc main_arg5)) (m ((c : Thread nD τ).loc main_arg6)) (m ((c : Thread nD τ).loc main_arg7)) (rowsOut m c)

/-- The stored value, from what each part of it is. -/
theorem pay_at (x : Vec Ideal S1x256x1024 .f32) (gt : Vec Ideal S1x1x1024 .f32)
    (v20 v23 : Vec Ideal S256x1024 .f32) (v26 : Vec Ideal S256x512 .bf16) (v28 : Vec Ideal S512x1024 .bf16)
    (v32 : Vec Ideal S1x256x1024 .f32) (v35 : Vec Ideal S1x256x512 .f32) (v38 : Vec Ideal S1x512x1024 .bf16)
    (v44 : Vec Ideal S1024x1024 .bf16) (v50 : Vec Ideal S1x1024 .f32) (z : Fin 1) (r : Fin 256) (d : Fin 1024)
    {a g n : EReal} {R : Fin 1024 → EReal} (ha : x (ix3 z r d) = a) (hg : gt (ix3 0 0 d) = g) (hn : v50 (ix2 0 d) = n)
    (h : ∀ d, mixVal v20 v23 v26 v28 v32 v35 v38 v44 r d = R d) :
    k0_pay1 (F := Ideal) x (k0_pay6 gt) (k0_pay7 (F := Ideal) v20 v23 v26 v28 v32 v35 v38 v44 v50) (ix3 z r d)
      = a + g * (R d * Ideal.rsqrt (Ideal.div (∑ j, R j * R j) (Ideal.ofBits .f32 0x44800000#32)
        + Ideal.ofBits .f32 0x358637BD#32) * n) := by
  rw [pay1_at, pay7_at, ha, hg, hn]
  obtain rfl := funext h
  rfl

theorem point (c : Dev nD) (t : Fin cfg0.N) (y : S1x256x1024.Idx) :
    out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) y
      = result m c (((cfg0.win 13).blk t).view.emb y) := by
  idx_vars y
  obtain ⟨e0, e1, e2, e3, e4, e5, e6, e7, e8, e9, e10, e11, e12, e13, e14⟩ := idx t
  have h0 : y0.val < 1 := y0.isLt
  have hemb : (((cfg0.win 13).blk t).view.emb (ix3 y0 y1 y2) : S16x4096x1024.Idx) = ix3 (⟨t.val / 16, by omega⟩ : Fin 16)
      (⟨t.val % 16 * 256 + y1.val, by omega⟩ : Fin 4096) y2 := by
    blk_ext [e13]
  rw [hemb]
  refine Eq.trans ?_ (added_at _ _ _ _ _ _ _).symm
  frame_out
  refine pay_at _ _ _ _ _ _ _ _ _ _ _ y0 y1 y2 (R := fun d => rowsOut m c (ix3 (⟨t.val / 16, by omega⟩ : Fin 16) (⟨t.val % 16 * 256 + y1.val, by omega⟩ : Fin 4096) d)) ?_ ?_ ?_ (fun d => ?_)
  · blk_point [iblk, V, e8]
  · blk_point [iblk, V, e9]
  · blk_point [iblk, V, e10]
  · unfold mixVal rowsOut term
    simp only [pay2_at]
    pointwise [k0_pay3, k0_pay4, k0_pay5]
    blk_point [iblk, V, e0, e1, e2, e3, e4, e5, e6, e7, e11, e12]

/-- The result array after the launch. -/
theorem final (c : Dev nD) : (dats m 0 c).arrAt 13 (cfgs 0).N = result m c := by
  refine (dats m 0 c).arrAt_eq_of_covers 13 _ (by decide +kernel) fun t _ y => ?_
  refine Eq.trans ?_ (point m c t y)
  blk_simp
  rw [after0_13]

/-- The reference's result from agreeing arguments. -/
theorem ref_eq (m' : (ℓ : Loc Cert.MergeRefIdeal.nD Cert.MergeRefIdeal.τ Cert.MergeRefIdeal.sig) → Buf (Elt Ideal) ℓ) (c : Dev nD)
    (e0 : m' ((c.tc : Thread Cert.MergeRefIdeal.nD Cert.MergeRefIdeal.τ).loc Cert.MergeRefIdeal.main_arg0) = m ((c : Thread nD τ).loc main_arg0))
    (e1 : m' ((c.tc : Thread Cert.MergeRefIdeal.nD Cert.MergeRefIdeal.τ).loc Cert.MergeRefIdeal.main_arg1) = m ((c : Thread nD τ).loc main_arg1))
    (e2 : m' ((c.tc : Thread Cert.MergeRefIdeal.nD Cert.MergeRefIdeal.τ).loc Cert.MergeRefIdeal.main_arg2) = m ((c : Thread nD τ).loc main_arg2))
    (e3 : m' ((c.tc : Thread Cert.MergeRefIdeal.nD Cert.MergeRefIdeal.τ).loc Cert.MergeRefIdeal.main_arg3) = m ((c : Thread nD τ).loc main_arg3))
    (e4 : m' ((c.tc : Thread Cert.MergeRefIdeal.nD Cert.MergeRefIdeal.τ).loc Cert.MergeRefIdeal.main_arg4) = m ((c : Thread nD τ).loc main_arg4))
    (e5 : m' ((c.tc : Thread Cert.MergeRefIdeal.nD Cert.MergeRefIdeal.τ).loc Cert.MergeRefIdeal.main_arg5) = m ((c : Thread nD τ).loc main_arg5))
    (e6 : m' ((c.tc : Thread Cert.MergeRefIdeal.nD Cert.MergeRefIdeal.τ).loc Cert.MergeRefIdeal.main_arg6) = m ((c : Thread nD τ).loc main_arg6))
    (e7 : m' ((c.tc : Thread Cert.MergeRefIdeal.nD Cert.MergeRefIdeal.τ).loc Cert.MergeRefIdeal.main_arg7) = m ((c : Thread nD τ).loc main_arg7))
    (e8 : m' ((c.tc : Thread Cert.MergeRefIdeal.nD Cert.MergeRefIdeal.τ).loc Cert.MergeRefIdeal.main_arg8) = m ((c : Thread nD τ).loc main_arg8))
    (e9 : m' ((c.tc : Thread Cert.MergeRefIdeal.nD Cert.MergeRefIdeal.τ).loc Cert.MergeRefIdeal.main_arg9) = m ((c : Thread nD τ).loc main_arg9)) :
    Cert.MergeRefIdeal.Value.res_main_v77 m' c = result m c := by
  refine (Cert.MergeRefIdeal.Out.res_eq m' c _ _ _ _ _ _ _ _ _ _ e0.symm e1.symm e2.symm e3.symm e4.symm e5.symm e6.symm e7.symm
    e8.symm e9.symm).trans (congrArg (added _ _ _) ?_)
  funext i
  idx_vars i
  refine (mixed_at _ _ i0 i1 i2).trans ?_
  unfold rowsOut term merged
  pointwise [branch_at]

end Cert.MergeIdeal.Out
-- ==== Proof.FullPay.lean ====
module

public import proofs.«01_k».proof.Proof.Gen.FullIdeal.Frame
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem

namespace Cert.FullIdeal.Attn
open Cert.FullIdeal Cert.FullIdeal.Gen

/-! ## What each payload holds at an index -/

/-- The factor of a query: a score's scale and the change of base. -/
def qs : EReal := ((8⁻¹ * (Real.log 2)⁻¹ : ℝ) : EReal)

/-- The factor of a bias: the change of base. -/
def lg : EReal := (((Real.log 2)⁻¹ : ℝ) : EReal)

theorem qs_named : (Named.named κ "qscale" 0x3E38AA3B#32 : Ideal .f32) = qs := rfl

theorem lg_named : (Named.named κ "log2e" 0x3FB8AA3B#32 : Ideal .f32) = lg := rfl

theorem mask_named : (Named.named κ "mask" 0xF149F2CA#32 : Ideal .f32) = (⊥ : EReal) := rfl

theorem low_bit : ∀ k : Fin 128, IntOp.cmpi .slt (BitVec.ofNat 32 k.val) 64#32 = if k.val < 64 then 1#1 else 0#1 := by
  decide +kernel

theorem high_bit : ∀ k : Fin 128, IntOp.cmpi .sge (BitVec.ofNat 32 k.val) 64#32 = if 64 ≤ k.val then 1#1 else 0#1 := by
  decide +kernel

theorem query0_at (x1 : Vec Ideal S1x64x128 .f32) (r : Fin 64) (k : Fin 128) :
    k0_pay3 x1 (ix2 r k) = if k.val < 64 then x1 (ix3 0 r k) * qs else 0 := by
  pointwise [k0_pay3, k0_pay2]
  rw [low_bit k, qs_named]
  by_cases h : k.val < 64
  · rw [if_pos h, if_pos h]; rfl
  · rw [if_neg h, if_neg h]; rfl

theorem query1_at (x1 : Vec Ideal S1x64x128 .f32) (r : Fin 64) (k : Fin 128) :
    k0_pay4 x1 (ix2 r k) = if 64 ≤ k.val then x1 (ix3 0 r k) * qs else 0 := by
  pointwise [k0_pay4, k0_pay2]
  rw [high_bit k, qs_named]
  by_cases h : 64 ≤ k.val
  · rw [if_pos h, if_pos h]; rfl
  · rw [if_neg h, if_neg h]; rfl

theorem cached0_at (q : FVec Ideal S64x128 .bf16) (x2 : Vec Ideal S1x1x2048x128 .f32) (bi : Vec Ideal S1x64x2048 .f32) (r : Fin 64) (j : Fin 2048) :
    k0_pay12 q x2 bi (ix2 r j) = (∑ k : Fin 128, q (ix2 r k) * x2 (ix4 0 0 j k)) + bi (ix3 0 r j) * lg := by
  pointwise [k0_pay12, k0_pay8]
  rw [lg_named]

theorem cached1_at (q : FVec Ideal S64x128 .bf16) (x2 : Vec Ideal S1x1x2048x128 .f32) (bi : Vec Ideal S1x64x2048 .f32) (r : Fin 64) (j : Fin 2048) :
    k0_pay21 (k0_pay10 bi) (k0_pay11 q x2) (ix2 r j) = (∑ k : Fin 128, q (ix2 r k) * x2 (ix4 0 0 j k)) + bi (ix3 0 r j) * lg := by
  pointwise [k0_pay21, k0_pay10, k0_pay11, k0_pay8]
  rw [lg_named]

theorem fresh0_at (q : FVec Ideal S64x128 .bf16) (x4 : Vec Ideal S1x64x128 .f32) (bi : Vec Ideal S1x64x64 .f32) (r : Fin 64) (j : Fin 64) :
    k0_pay33 q x4 bi (ix2 r j) = (∑ k : Fin 128, q (ix2 r k) * x4 (ix3 0 j k)) + bi (ix3 0 r j) * lg := by
  pointwise [k0_pay33, k0_pay29]
  rw [lg_named]

theorem fresh1_at (q : FVec Ideal S64x128 .bf16) (x4 : Vec Ideal S1x64x128 .f32) (bi : Vec Ideal S1x64x64 .f32) (r : Fin 64) (j : Fin 64) :
    k0_pay41 (k0_pay31 bi) (k0_pay32 q x4) (ix2 r j) = (∑ k : Fin 128, q (ix2 r k) * x4 (ix3 0 j k)) + bi (ix3 0 r j) * lg := by
  pointwise [k0_pay41, k0_pay31, k0_pay32, k0_pay29]
  rw [lg_named]

/-! ### The first step, over the cached keys -/

theorem start_max_at (o : Fin 3 → ℕ) (inb) (y : S1x64x1.Idx) :
    View.ld (Val := Elt Ideal) (e' := .f32) (k0_pay5 (F := Ideal)) (Rect.unit (s := S2x64x1) o S1x64x1.size inb) y = (⊥ : EReal) := by
  rfl

theorem start_sum_at (o : Fin 3 → ℕ) (inb) (y : S1x64x1.Idx) :
    View.ld (Val := Elt Ideal) (e' := .f32) (k0_pay6 (F := Ideal)) (Rect.unit (s := S2x64x1) o S1x64x1.size inb) y = (0 : EReal) := by
  show Ideal.ofBits .f32 0x00000000#32 = _
  simp

theorem start_acc_at (o : Fin 3 → ℕ) (inb) (y : S1x64x128.Idx) :
    View.ld (Val := Elt Ideal) (e' := .f32) (k0_pay7 (F := Ideal)) (Rect.unit (s := S2x64x128) o S1x64x128.size inb) y = (0 : EReal) := by
  show Ideal.ofBits .f32 0x00000000#32 = _
  simp

/-- The running maximum after the cached keys, by `step_max`. -/
theorem max0_at (q : FVec Ideal S64x128 .bf16) (x2 : Vec Ideal S1x1x2048x128 .f32) (bi : Vec Ideal S1x64x2048 .f32) (m0 : Vec Ideal S1x64x1 .f32)
    (r : Fin 64) : k0_pay14 q x2 bi m0 (ix2 r 0) =
      max (m0 (ix3 0 r 0)) (multiReduction .maximumf [1] S64 (k0_pay12 q x2 bi) 0xFF800000#32 reduces_S64x2048_S64 (.inl rfl) rfl (ix1 r)) := by
  pointwise [k0_pay14, k0_pay13]

theorem max1_at (b s : FVec Ideal S64x2048 .f32) (m0 : Vec Ideal S1x64x1 .f32) (r : Fin 64) : k0_pay23 b s m0 (ix2 r 0) =
      max (m0 (ix3 0 r 0)) (multiReduction .maximumf [1] S64 (k0_pay21 b s) 0xFF800000#32 reduces_S64x2048_S64 (.inl rfl) rfl (ix1 r)) := by
  pointwise [k0_pay23, k0_pay22]

theorem max2_at (s : FVec Ideal S64x64 .f32) (m0 : Vec Ideal S1x64x1 .f32) (r : Fin 64) : k0_pay35 s m0 (ix2 r 0) =
      max (m0 (ix3 0 r 0)) (multiReduction .maximumf [1] S64 s 0xFF800000#32 reduces_S64x64_S64 (.inl rfl) rfl (ix1 r)) := by
  pointwise [k0_pay35, k0_pay34]

theorem max3_at (s : FVec Ideal S64x64 .f32) (m0 : FVec Ideal S64x1 .f32) (r : Fin 64) : k0_pay43 s m0 (ix2 r 0) =
      max (m0 (ix2 r 0)) (multiReduction .maximumf [1] S64 s 0xFF800000#32 reduces_S64x64_S64 (.inl rfl) rfl (ix1 r)) := by
  pointwise [k0_pay43]

/-- The sum over the cached keys, first map. -/
theorem sum0_at (q : FVec Ideal S64x128 .bf16) (x2 : Vec Ideal S1x1x2048x128 .f32) (bi : Vec Ideal S1x64x2048 .f32) (m0 l0 : Vec Ideal S1x64x1 .f32)
    (r : Fin 64) : k0_pay18 (k0_pay17 q x2 bi m0 l0) (ix3 0 r 0) =
      Ideal.exp2 (m0 (ix3 0 r 0) - k0_pay14 q x2 bi m0 (ix2 r 0)) * l0 (ix3 0 r 0)
        + ∑ j : Fin 2048, Ideal.exp2 (k0_pay12 q x2 bi (ix2 r j) - k0_pay14 q x2 bi m0 (ix2 r 0)) := by
  pointwise [k0_pay18, k0_pay17, k0_pay15, k0_pay16, k0_pay13]
  rfl

theorem acc0_at (x3 : Vec Ideal S1x1x2048x128 .f32) (q : FVec Ideal S64x128 .bf16) (x2 : Vec Ideal S1x1x2048x128 .f32) (bi : Vec Ideal S1x64x2048 .f32)
    (m0 : Vec Ideal S1x64x1 .f32) (a0 : Vec Ideal S1x64x128 .f32) (r : Fin 64) (e : Fin 128) :
    k0_pay19 (k0_pay9 x3) (k0_pay15 q x2 bi m0) (k0_pay16 q x2 bi m0) a0 (ix3 0 r e) =
      Ideal.exp2 (m0 (ix3 0 r 0) - k0_pay14 q x2 bi m0 (ix2 r 0)) * a0 (ix3 0 r e)
        + ∑ j : Fin 2048, Ideal.exp2 (k0_pay12 q x2 bi (ix2 r j) - k0_pay14 q x2 bi m0 (ix2 r 0)) * x3 (ix4 0 0 j e) := by
  pointwise [k0_pay19, k0_pay9, k0_pay15, k0_pay16, k0_pay13]
  rfl

/-- The sum over the cached keys, second map. -/
theorem sum1_at (b s : FVec Ideal S64x2048 .f32) (m0 l0 : Vec Ideal S1x64x1 .f32) (r : Fin 64) : k0_pay26 b s m0 l0 (ix3 0 r 0) =
      Ideal.exp2 (m0 (ix3 0 r 0) - k0_pay23 b s m0 (ix2 r 0)) * l0 (ix3 0 r 0)
        + ∑ j : Fin 2048, Ideal.exp2 (k0_pay21 b s (ix2 r j) - k0_pay23 b s m0 (ix2 r 0)) := by
  pointwise [k0_pay26, k0_pay24, k0_pay25, k0_pay22]
  rfl

theorem acc1_at (x3 : Vec Ideal S1x1x2048x128 .f32) (b s : FVec Ideal S64x2048 .f32) (m0 : Vec Ideal S1x64x1 .f32) (a0 : Vec Ideal S1x64x128 .f32)
    (r : Fin 64) (e : Fin 128) : k0_pay27 (k0_pay9 x3) (k0_pay24 b s m0) (k0_pay25 b s m0) a0 (ix3 0 r e) =
      Ideal.exp2 (m0 (ix3 0 r 0) - k0_pay23 b s m0 (ix2 r 0)) * a0 (ix3 0 r e)
        + ∑ j : Fin 2048, Ideal.exp2 (k0_pay21 b s (ix2 r j) - k0_pay23 b s m0 (ix2 r 0)) * x3 (ix4 0 0 j e) := by
  pointwise [k0_pay27, k0_pay9, k0_pay24, k0_pay25, k0_pay22]
  rfl

/-! ### The second step, over the new keys -/

theorem sum2_at (s : FVec Ideal S64x64 .f32) (m0 l0 : Vec Ideal S1x64x1 .f32) (r : Fin 64) : k0_pay50 (k0_pay38 s m0 l0) (ix2 r 0) =
      Ideal.exp2 (m0 (ix3 0 r 0) - k0_pay35 s m0 (ix2 r 0)) * l0 (ix3 0 r 0)
        + ∑ j : Fin 64, Ideal.exp2 (s (ix2 r j) - k0_pay35 s m0 (ix2 r 0)) := by
  pointwise [k0_pay50, k0_pay38, k0_pay36, k0_pay37, k0_pay34]
  rfl

theorem acc2_at (x5 : Vec Ideal S1x64x128 .f32) (s : FVec Ideal S64x64 .f32) (m0 : Vec Ideal S1x64x1 .f32) (a0 : Vec Ideal S1x64x128 .f32)
    (r : Fin 64) (e : Fin 128) : k0_pay49 (k0_pay39 (k0_pay30 x5) s m0 a0) (ix2 r e) =
      Ideal.exp2 (m0 (ix3 0 r 0) - k0_pay35 s m0 (ix2 r 0)) * a0 (ix3 0 r e)
        + ∑ j : Fin 64, Ideal.exp2 (s (ix2 r j) - k0_pay35 s m0 (ix2 r 0)) * x5 (ix3 0 j e) := by
  pointwise [k0_pay49, k0_pay39, k0_pay30, k0_pay36, k0_pay37, k0_pay34]
  rfl

theorem sum3_at (s : FVec Ideal S64x64 .f32) (m0 : FVec Ideal S64x1 .f32) (l0 : Vec Ideal S1x64x1 .f32) (r : Fin 64) : k0_pay46 s m0 l0 (ix3 0 r 0) =
      Ideal.exp2 (m0 (ix2 r 0) - k0_pay43 s m0 (ix2 r 0)) * l0 (ix3 0 r 0)
        + ∑ j : Fin 64, Ideal.exp2 (s (ix2 r j) - k0_pay43 s m0 (ix2 r 0)) := by
  pointwise [k0_pay46, k0_pay44, k0_pay45]
  rfl

theorem acc3_at (x5 : Vec Ideal S1x64x128 .f32) (s : FVec Ideal S64x64 .f32) (m0 : FVec Ideal S64x1 .f32) (a0 : Vec Ideal S1x64x128 .f32)
    (r : Fin 64) (e : Fin 128) : k0_pay47 (k0_pay30 x5) s m0 a0 (ix3 0 r e) =
      Ideal.exp2 (m0 (ix2 r 0) - k0_pay43 s m0 (ix2 r 0)) * a0 (ix3 0 r e)
        + ∑ j : Fin 64, Ideal.exp2 (s (ix2 r j) - k0_pay43 s m0 (ix2 r 0)) * x5 (ix3 0 j e) := by
  pointwise [k0_pay47, k0_pay30, k0_pay44, k0_pay45]
  rfl

theorem kept0_at (a : FVec Ideal S64x1 .f32) (r : Fin 64) : k0_pay20 a (ix3 0 r 0) = a (ix2 r 0) := by
  pointwise [k0_pay20]

theorem kept1_at (a : FVec Ideal S64x1 .f32) (r : Fin 64) : k0_pay42 (k0_pay28 a) (ix2 r 0) = a (ix2 r 0) := by
  pointwise [k0_pay42, k0_pay28]

/-! ### The difference of the two maps, normed -/

/-- The factor of the second map. -/
def lam (al : Vec Ideal S4x64 .f32) (li : EReal) : EReal :=
  Ideal.exp (∑ k : Fin 64, al (ix2 0 k) * al (ix2 1 k)) - Ideal.exp (∑ k : Fin 64, al (ix2 2 k) * al (ix2 3 k)) + li

/-- Row `r` of `o`, normed and scaled. -/
def normed (o : Fin 128 → EReal) (g : Fin 128 → EReal) (li : EReal) (e : Fin 128) : EReal :=
  o e * Ideal.rsqrt (Ideal.div (∑ k : Fin 128, o k * o k) (Ideal.ofBits .f32 0x43000000#32) + Ideal.ofBits .f32 0x358637BD#32) * g e
    * (1 - li)

theorem last_at (n0 : FVec Ideal S64x128 .f32) (l0 : FVec Ideal S64x1 .f32) (n1 : Vec Ideal S1x64x128 .f32) (l1 : Vec Ideal S1x64x1 .f32)
    (al : Vec Ideal S4x64 .f32) (li : Elt Ideal .f32) (g : Vec Ideal S1x128 .f32) (r : Fin 64) (e : Fin 128) :
    k0_pay1 (k0_pay51 n0 l0 n1 l1 al li g) (k0_pay52 li) (ix3 0 r e) =
      normed (fun k => Ideal.div (n0 (ix2 r k)) (l0 (ix2 r 0)) - lam al li * Ideal.div (n1 (ix3 0 r k)) (l1 (ix3 0 r 0)))
        (fun k => g (ix2 0 k)) li e := by
  pointwise [k0_pay1, k0_pay51, k0_pay52, normed, lam]

end Cert.FullIdeal.Attn
-- ==== Proof.Soft.lean ====
module

public import Idealize.ShloMosaic.Lib.Pipeline.ValueKit

@[expose] public section

noncomputable section

open Idealize.ShloMosaic

/-! Softmax rows over the extended reals, when every score and value is a real number. -/

namespace Cert.Soft

variable {ι κ : Type} [Fintype ι] [Fintype κ]

theorem coe_sum (f : ι → ℝ) : ∑ i, (f i : EReal) = ((∑ i, f i : ℝ) : EReal) :=
  (map_sum (⟨⟨Real.toEReal, EReal.coe_zero⟩, EReal.coe_add⟩ : ℝ →+ EReal) f Finset.univ).symm

theorem exp2_real (a : ℝ) : Ideal.exp2 (a : EReal) = ((Real.exp (a * Real.log 2) : ℝ) : EReal) := by
  rw [Ideal.exp2_coe]
  congr 1
  show (2 : ℝ) ^ a = _
  rw [Real.rpow_def_of_pos (by norm_num), mul_comm]

theorem div_real (a b : ℝ) (h : b ≠ 0) : Ideal.div (a : EReal) (b : EReal) = ((a / b : ℝ) : EReal) := by
  unfold Ideal.div
  rw [if_neg (by exact_mod_cast h), div_eq_mul_inv, EReal.coe_mul, EReal.coe_inv]

/-- The weighted mean of `v` under the weights `exp s`. -/
def mean (s v : ι → ℝ) : ℝ := (∑ j, Real.exp (s j) * v j) / ∑ j, Real.exp (s j)

theorem sum_exp_pos [Nonempty ι] (s : ι → ℝ) : 0 < ∑ j, Real.exp (s j) :=
  Finset.sum_pos (fun _ _ => Real.exp_pos _) Finset.univ_nonempty

/-- A common shift of the scores does not change the mean. -/
theorem mean_shift (s v : ι → ℝ) (M : ℝ) :
    (∑ j, Real.exp (s j - M) * v j) / (∑ j, Real.exp (s j - M)) = mean s v := by
  have hM : Real.exp (-M) ≠ 0 := (Real.exp_pos _).ne'
  have e : ∀ j, Real.exp (s j - M) = Real.exp (-M) * Real.exp (s j) := fun j => by
    rw [← Real.exp_add]; congr 1; ring
  simp only [e, mul_assoc, ← Finset.mul_sum]
  exact mul_div_mul_left _ _ hM

/-- A running sum over two tiles, the first of them rescaled from its maximum `a` to the later one `b`. -/
def tiles (t₁ w₁ : ι → EReal) (t₂ w₂ : κ → EReal) (a b : EReal) : EReal :=
  Ideal.exp2 (a - b) * (Ideal.exp2 (⊥ - a) * 0 + ∑ j, Ideal.exp2 (t₁ j - a) * w₁ j) + ∑ j, Ideal.exp2 (t₂ j - b) * w₂ j

theorem tiles_real (s₁ w₁ : ι → ℝ) (s₂ w₂ : κ → ℝ) (a b : ℝ) :
    tiles (fun j => ((s₁ j * (Real.log 2)⁻¹ : ℝ) : EReal)) (fun j => (w₁ j : EReal))
      (fun j => ((s₂ j * (Real.log 2)⁻¹ : ℝ) : EReal)) (fun j => (w₂ j : EReal)) a b
      = ((∑ j, Real.exp (s₁ j - b * Real.log 2) * w₁ j + ∑ j, Real.exp (s₂ j - b * Real.log 2) * w₂ j : ℝ) : EReal) := by
  have h2 : Real.log 2 ≠ 0 := (Real.log_pos (by norm_num)).ne'
  have e : ∀ s M : ℝ, (s * (Real.log 2)⁻¹ - M) * Real.log 2 = s - M * Real.log 2 := fun s M => by
    field_simp
  unfold tiles
  simp only [← EReal.coe_sub, exp2_real, ← EReal.coe_mul, coe_sum, e, mul_zero, zero_add, ← EReal.coe_add]
  congr 2
  rw [Finset.mul_sum]
  refine Finset.sum_congr rfl fun j _ => ?_
  rw [← mul_assoc, ← Real.exp_add]
  congr 2
  ring

/-- The quotient of two running sums is the mean over both tiles. -/
theorem tiles_mean [Nonempty ι] (s₁ w₁ : ι → ℝ) (s₂ w₂ : κ → ℝ) (a b : ℝ) :
    Ideal.div
      (tiles (fun j => ((s₁ j * (Real.log 2)⁻¹ : ℝ) : EReal)) (fun j => (w₁ j : EReal))
        (fun j => ((s₂ j * (Real.log 2)⁻¹ : ℝ) : EReal)) (fun j => (w₂ j : EReal)) a b)
      (tiles (fun j => ((s₁ j * (Real.log 2)⁻¹ : ℝ) : EReal)) (fun _ => 1)
        (fun j => ((s₂ j * (Real.log 2)⁻¹ : ℝ) : EReal)) (fun _ => 1) a b)
      = ((mean (Sum.elim s₁ s₂) (Sum.elim w₁ w₂) : ℝ) : EReal) := by
  have h1 := tiles_real s₁ (fun _ => 1) s₂ (fun _ => 1) a b
  simp only [EReal.coe_one, mul_one] at h1
  rw [tiles_real, h1, div_real, ← mean_shift _ _ (b * Real.log 2)]
  · simp only [Fintype.sum_sum_type, Sum.elim_inl, Sum.elim_inr]
  · have h : (0 : ℝ) < ∑ j, Real.exp (s₁ j - b * Real.log 2) := sum_exp_pos _
    have h' : (0 : ℝ) ≤ ∑ j, Real.exp (s₂ j - b * Real.log 2) := Finset.sum_nonneg fun _ _ => (Real.exp_pos _).le
    exact (add_pos_of_pos_of_nonneg h h').ne'

/-- A row of the difference of two softmaxes against the values is the difference of the two means. -/
theorem diff_mean [Nonempty ι] (s s' v : ι → ℝ) (M M' l : ℝ) :
    ∑ j, (Ideal.div (Ideal.exp ((s j : EReal) - (M : EReal))) (∑ i, Ideal.exp ((s i : EReal) - (M : EReal)))
        - (l : EReal) * Ideal.div (Ideal.exp ((s' j : EReal) - (M' : EReal))) (∑ i, Ideal.exp ((s' i : EReal) - (M' : EReal))))
        * (v j : EReal)
      = ((mean s v - l * mean s' v : ℝ) : EReal) := by
  have h : ∑ j, Real.exp (s j - M) ≠ 0 := (sum_exp_pos fun j => s j - M).ne'
  have h' : ∑ j, Real.exp (s' j - M') ≠ 0 := (sum_exp_pos fun j => s' j - M').ne'
  simp only [← EReal.coe_sub, Ideal.exp_coe, coe_sum, div_real _ _ h, div_real _ _ h', ← EReal.coe_mul]
  congr 1
  rw [← mean_shift s v M, ← mean_shift s' v M']
  simp only [Finset.sum_div, sub_mul, Finset.sum_sub_distrib, Finset.mul_sum]
  congr 1 <;> refine Finset.sum_congr rfl fun j _ => ?_ <;> ring

/-- The maximum of finitely many reals, started at minus infinity, is a real. -/
theorem max_real {ι : Type} (t : Finset ι) (ht : t.Nonempty) (f : ι → EReal) (hf : ∀ i ∈ t, ∃ r : ℝ, f i = (r : EReal))
    (op : EReal → EReal → EReal) [Std.Commutative op] [Std.Associative op] (hop : ∀ a b, op a b = max a b) :
    ∃ r : ℝ, t.fold op (⊥ : EReal) f = (r : EReal) := by
  classical
  have key : ∀ u : Finset ι, u ⊆ t → u.fold op (⊥ : EReal) f = ⊥ ∧ u = ∅ ∨ ∃ r : ℝ, u.fold op (⊥ : EReal) f = (r : EReal) := by
    intro u
    induction u using Finset.induction_on with
    | empty => exact fun _ => Or.inl ⟨Finset.fold_empty, rfl⟩
    | insert a u ha ih =>
      intro hu
      right
      rw [Finset.fold_insert ha, hop]
      obtain ⟨q, hq⟩ := hf a (hu (Finset.mem_insert_self a u))
      rcases ih (fun i hi => hu (Finset.mem_insert_of_mem hi)) with ⟨h, -⟩ | ⟨r, h⟩
      · exact ⟨q, by rw [h, hq]; exact max_eq_left bot_le⟩
      · rw [h, hq]
        rcases max_choice (q : EReal) (r : EReal) with e | e
        · exact ⟨q, e⟩
        · exact ⟨r, e⟩
  rcases key t (Finset.Subset.refl t) with ⟨-, h⟩ | h
  · exact absurd h ht.ne_empty
  · exact h

/-- The larger of minus infinity or a real and a real is a real. -/
theorem max_two (a b : EReal) (ha : a = ⊥ ∨ ∃ r : ℝ, a = (r : EReal)) (hb : ∃ r : ℝ, b = (r : EReal)) : ∃ r : ℝ, max a b = (r : EReal) := by
  obtain ⟨q, rfl⟩ := hb
  rcases ha with rfl | ⟨r, rfl⟩
  · exact ⟨q, max_eq_right bot_le⟩
  · rcases max_choice (r : EReal) (q : EReal) with e | e
    · exact ⟨r, e⟩
    · exact ⟨q, e⟩

end Cert.Soft
-- ==== Proof.FullTile.lean ====
module

public import proofs.«01_k».proof.Proof.FullPay
public import proofs.«01_k».proof.Proof.Soft

@[expose] public section

set_option maxRecDepth 16384

noncomputable section

open Idealize.ShloMosaic Idealize.ShloMosaic.TcCoe Idealize.SL.Sem

namespace Cert.FullIdeal.Attn
open Cert.FullIdeal Cert.FullIdeal.Gen Cert.Soft

/-! ## A row's maximum -/

theorem wide_max (s : FVec Ideal S64x2048 .f32) (r : Fin 64) (h : ∀ j : Fin 2048, ∃ q : ℝ, s (ix2 r j) = (q : EReal)) :
    ∃ q : ℝ, multiReduction (F := Ideal) .maximumf [1] S64 s 0xFF800000#32 reduces_S64x2048_S64 (.inl rfl) rfl (ix1 r) = (q : EReal) := by
  have hi : (FloatOps.ofBits .f32 0xFF800000#32 : Ideal .f32) = (⊥ : EReal) := by simp [Ideal.ofBits, Ideal.ieee]
  suffices key : ∃ q : ℝ, (Finset.univ.filter fun i => reduces_S64x2048_S64.drop i = ix1 r).fold FloatOps.maximumf
      (⊥ : EReal) s = (q : EReal) by
    obtain ⟨q, hq⟩ := key
    rw [← hi] at hq
    exact ⟨q, (multiReduction_maximumf_eq_fold _ _ _ _ _ _).trans hq⟩
  refine max_real _ ⟨ix2 r 0, ?_⟩ s (fun i hm => ?_) _ fun _ _ => rfl
  · rw [Finset.mem_filter]
    refine ⟨Finset.mem_univ _, ?_⟩
    funext a
    obtain rfl : a = 0 := Subsingleton.elim _ _
    exact Fin.ext (reduces_S64x2048_S64.drop_apply_val_of_eq _ 0 0)
  · have h0 : (i 0 : ℕ) = r := by
      rw [← reduces_S64x2048_S64.drop_apply_val_of_eq i 0 0, (Finset.mem_filter.mp hm).2]
      rfl
    have e : i = ix2 r (i 1) := by
      funext a
      match a with
      | ⟨0, _⟩ => exact Fin.ext h0
      | ⟨1, _⟩ => rfl
    rw [e]
    exact h _

theorem narrow_max (s : FVec Ideal S64x64 .f32) (r : Fin 64) (h : ∀ j : Fin 64, ∃ q : ℝ, s (ix2 r j) = (q : EReal)) :
    ∃ q : ℝ, multiReduction (F := Ideal) .maximumf [1] S64 s 0xFF800000#32 reduces_S64x64_S64 (.inl rfl) rfl (ix1 r) = (q : EReal) := by
  have hi : (FloatOps.ofBits .f32 0xFF800000#32 : Ideal .f32) = (⊥ : EReal) := by simp [Ideal.ofBits, Ideal.ieee]
  suffices key : ∃ q : ℝ, (Finset.univ.filter fun i => reduces_S64x64_S64.drop i = ix1 r).fold FloatOps.maximumf
      (⊥ : EReal) s = (q : EReal) by
    obtain ⟨q, hq⟩ := key
    rw [← hi] at hq
    exact ⟨q, (multiReduction_maximumf_eq_fold _ _ _ _ _ _).trans hq⟩
  refine max_real _ ⟨ix2 r 0, ?_⟩ s (fun i hm => ?_) _ fun _ _ => rfl
  · rw [Finset.mem_filter]
    refine ⟨Finset.mem_univ _, ?_⟩
    funext a
    obtain rfl : a = 0 := Subsingleton.elim _ _
    exact Fin.ext (reduces_S64x64_S64.drop_apply_val_of_eq _ 0 0)
  · have h0 : (i 0 : ℕ) = r := by
      rw [← reduces_S64x64_S64.drop_apply_val_of_eq i 0 0, (Finset.mem_filter.mp hm).2]
      rfl
    have e : i = ix2 r (i 1) := by
      funext a
      match a with
      | ⟨0, _⟩ => exact Fin.ext h0
      | ⟨1, _⟩ => rfl
    rw [e]
    exact h _

/-! ## The output block of a grid point, of its input blocks -/

abbrev biasOld (x6 : Vec Ideal S1x64x2112 .f32) : Vec Ideal S1x64x2048 .f32 :=
  View.ld (Val := Elt Ideal) (e' := .f32) x6 (Rect.unit (s := S1x64x2112) ![0, 0, 0] S1x64x2048.size inb_S1x64x2112_S1x64x2048_0_0_0)

abbrev biasNew (x6 : Vec Ideal S1x64x2112 .f32) : Vec Ideal S1x64x64 .f32 :=
  View.ld (Val := Elt Ideal) (e' := .f32) x6 (Rect.unit (s := S1x64x2112) ![0, 0, 2048] S1x64x64.size inb_S1x64x2112_S1x64x64_0_0_2048)

abbrev noMax (h : Fin 2) : Vec Ideal S1x64x1 .f32 :=
  match h with
  | 0 => View.ld (Val := Elt Ideal) (e' := .f32) (k0_pay5 (F := Ideal)) (Rect.unit (s := S2x64x1) ![0, 0, 0] S1x64x1.size inb_S2x64x1_S1x64x1_0_0_0)
  | 1 => View.ld (Val := Elt Ideal) (e' := .f32) (k0_pay5 (F := Ideal)) (Rect.unit (s := S2x64x1) ![1, 0, 0] S1x64x1.size inb_S2x64x1_S1x64x1_1_0_0)

abbrev noSum (h : Fin 2) : Vec Ideal S1x64x1 .f32 :=
  match h with
  | 0 => View.ld (Val := Elt Ideal) (e' := .f32) (k0_pay6 (F := Ideal)) (Rect.unit (s := S2x64x1) ![0, 0, 0] S1x64x1.size inb_S2x64x1_S1x64x1_0_0_0)
  | 1 => View.ld (Val := Elt Ideal) (e' := .f32) (k0_pay6 (F := Ideal)) (Rect.unit (s := S2x64x1) ![1, 0, 0] S1x64x1.size inb_S2x64x1_S1x64x1_1_0_0)

abbrev noAcc (h : Fin 2) : Vec Ideal S1x64x128 .f32 :=
  match h with
  | 0 => View.ld (Val := Elt Ideal) (e' := .f32) (k0_pay7 (F := Ideal)) (Rect.unit (s := S2x64x128) ![0, 0, 0] S1x64x128.size inb_S2x64x128_S1x64x128_0_0_0)
  | 1 => View.ld (Val := Elt Ideal) (e' := .f32) (k0_pay7 (F := Ideal)) (Rect.unit (s := S2x64x128) ![1, 0, 0] S1x64x128.size inb_S2x64x128_S1x64x128_1_0_0)

/-- The first map's scores of the cached and of the new keys, and their running maxima. -/
abbrev old0 (x1 : Vec Ideal S1x64x128 .f32) (x2 : Vec Ideal S1x1x2048x128 .f32) (x6 : Vec Ideal S1x64x2112 .f32) : FVec Ideal S64x2048 .f32 :=
  k0_pay12 (k0_pay3 x1) x2 (biasOld x6)
abbrev new0 (x1 x4 : Vec Ideal S1x64x128 .f32) (x6 : Vec Ideal S1x64x2112 .f32) : FVec Ideal S64x64 .f32 :=
  k0_pay33 (k0_pay3 x1) x4 (biasNew x6)
abbrev top0 (x1 : Vec Ideal S1x64x128 .f32) (x2 : Vec Ideal S1x1x2048x128 .f32) (x6 : Vec Ideal S1x64x2112 .f32) : FVec Ideal S64x1 .f32 :=
  k0_pay14 (k0_pay3 x1) x2 (biasOld x6) (noMax 0)

/-- The second map's. -/
abbrev old1 (x1 : Vec Ideal S1x64x128 .f32) (x2 : Vec Ideal S1x1x2048x128 .f32) (x6 : Vec Ideal S1x64x2112 .f32) : FVec Ideal S64x2048 .f32 :=
  k0_pay21 (k0_pay10 (biasOld x6)) (k0_pay11 (k0_pay4 x1) x2)
abbrev new1 (x1 x4 : Vec Ideal S1x64x128 .f32) (x6 : Vec Ideal S1x64x2112 .f32) : FVec Ideal S64x64 .f32 :=
  k0_pay41 (k0_pay31 (biasNew x6)) (k0_pay32 (k0_pay4 x1) x4)
abbrev top1 (x1 : Vec Ideal S1x64x128 .f32) (x2 : Vec Ideal S1x1x2048x128 .f32) (x6 : Vec Ideal S1x64x2112 .f32) : FVec Ideal S64x1 .f32 :=
  k0_pay23 (k0_pay10 (biasOld x6)) (k0_pay11 (k0_pay4 x1) x2) (noMax 1)

/-- The block. -/
def block (x1 : Vec Ideal S1x64x128 .f32) (x2 x3 : Vec Ideal S1x1x2048x128 .f32) (x4 x5 : Vec Ideal S1x64x128 .f32) (x6 : Vec Ideal S1x64x2112 .f32)
    (x7 : Vec Ideal S4x64 .f32) (x8 : Vec Ideal S1x128 .f32) (li : Elt Ideal .f32) : Vec Ideal S1x64x128 .f32 :=
  k0_pay1
    (k0_pay51
      (k0_pay49 (k0_pay39 (k0_pay30 x5) (new0 x1 x4 x6) (k0_pay20 (top0 x1 x2 x6))
        (k0_pay19 (k0_pay9 x3) (k0_pay15 (k0_pay3 x1) x2 (biasOld x6) (noMax 0)) (k0_pay16 (k0_pay3 x1) x2 (biasOld x6) (noMax 0)) (noAcc 0))))
      (k0_pay50 (k0_pay38 (new0 x1 x4 x6) (k0_pay20 (top0 x1 x2 x6))
        (k0_pay18 (k0_pay17 (k0_pay3 x1) x2 (biasOld x6) (noMax 0) (noSum 0)))))
      (k0_pay47 (k0_pay30 x5) (new1 x1 x4 x6) (k0_pay42 (k0_pay28 (top1 x1 x2 x6)))
        (k0_pay27 (k0_pay9 x3) (k0_pay24 (k0_pay10 (biasOld x6)) (k0_pay11 (k0_pay4 x1) x2) (noMax 1))
          (k0_pay25 (k0_pay10 (biasOld x6)) (k0_pay11 (k0_pay4 x1) x2) (noMax 1)) (noAcc 1)))
      (k0_pay46 (new1 x1 x4 x6) (k0_pay42 (k0_pay28 (top1 x1 x2 x6)))
        (k0_pay26 (k0_pay10 (biasOld x6)) (k0_pay11 (k0_pay4 x1) x2) (noMax 1) (noSum 1)))
      x7 li x8)
    (k0_pay52 li)

variable (m : (ℓ : Loc nD τ sig) → Buf (Elt Ideal) ℓ)

theorem stored (c : Dev nD) (t : Fin cfg0.N) (li : Elt Ideal .f32) (hli : (iblk m c 0 t : Vec Ideal S1 .f32) (ix1 0) = li) :
    outsAt0 m c t = block (iblk m c 1 t) (iblk m c 2 t) (iblk m c 3 t) (iblk m c 4 t) (iblk m c 5 t) (iblk m c 6 t) (iblk m c 7 t)
      (iblk m c 8 t) li := by
  subst hli
  unfold outsAt0
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  frame_open
  simp (disch := decide) only [↓ View.readCov_skip, ↓ View.readCov_cons_toLoadRect, ↓ View.readCov_fill]
  frame_out
  refine congrArg (block x1 x2 x3 x4 x5 x6 x7 x8) ?_
  refine congrArg x0 ?_
  funext a
  obtain rfl : a = 0 := Subsingleton.elim _ _
  rfl

/-- A row of the block: with real scores and values, the two maps' means of the values, their difference normed. -/
theorem block_at (x1 : Vec Ideal S1x64x128 .f32) (x2 x3 : Vec Ideal S1x1x2048x128 .f32) (x4 x5 : Vec Ideal S1x64x128 .f32)
    (x6 : Vec Ideal S1x64x2112 .f32) (x7 : Vec Ideal S4x64 .f32) (x8 : Vec Ideal S1x128 .f32) (li : Elt Ideal .f32) (r : Fin 64)
    (s s' : Fin 2048 → ℝ) (u u' : Fin 64 → ℝ) (v : Fin 2048 → Fin 128 → ℝ) (w : Fin 64 → Fin 128 → ℝ)
    (hs : ∀ j, old0 x1 x2 x6 (ix2 r j) = ((s j * (Real.log 2)⁻¹ : ℝ) : EReal))
    (hs' : ∀ j, old1 x1 x2 x6 (ix2 r j) = ((s' j * (Real.log 2)⁻¹ : ℝ) : EReal))
    (hu : ∀ j, new0 x1 x4 x6 (ix2 r j) = ((u j * (Real.log 2)⁻¹ : ℝ) : EReal))
    (hu' : ∀ j, new1 x1 x4 x6 (ix2 r j) = ((u' j * (Real.log 2)⁻¹ : ℝ) : EReal))
    (hv : ∀ j e, x3 (ix4 0 0 j e) = (v j e : EReal)) (hw : ∀ j e, x5 (ix3 0 j e) = (w j e : EReal)) (e : Fin 128) :
    block x1 x2 x3 x4 x5 x6 x7 x8 li (ix3 0 r e) =
      normed (fun k => (mean (Sum.elim s u) (Sum.elim (fun j => v j k) (fun j => w j k)) : EReal)
          - lam x7 li * (mean (Sum.elim s' u') (Sum.elim (fun j => v j k) (fun j => w j k)) : EReal))
        (fun k => x8 (ix2 0 k)) li e := by
  have hm0 : noMax 0 (ix3 0 r 0) = (⊥ : EReal) := start_max_at _ _ _
  have hm1 : noMax 1 (ix3 0 r 0) = (⊥ : EReal) := start_max_at _ _ _
  have hl0 : noSum 0 (ix3 0 r 0) = (0 : EReal) := start_sum_at _ _ _
  have hl1 : noSum 1 (ix3 0 r 0) = (0 : EReal) := start_sum_at _ _ _
  have hn0 : ∀ k, noAcc 0 (ix3 0 r k) = (0 : EReal) := fun k => start_acc_at _ _ _
  have hn1 : ∀ k, noAcc 1 (ix3 0 r k) = (0 : EReal) := fun k => start_acc_at _ _ _
  obtain ⟨a, ha⟩ : ∃ q : ℝ, top0 x1 x2 x6 (ix2 r 0) = (q : EReal) := by
    obtain ⟨q, hq⟩ := max_two _ _ (Or.inl hm0) (wide_max (old0 x1 x2 x6) r fun j => ⟨_, hs j⟩)
    exact ⟨q, (max0_at _ _ _ _ _).trans hq⟩
  obtain ⟨a', ha'⟩ : ∃ q : ℝ, top1 x1 x2 x6 (ix2 r 0) = (q : EReal) := by
    obtain ⟨q, hq⟩ := max_two _ _ (Or.inl hm1) (wide_max (old1 x1 x2 x6) r fun j => ⟨_, hs' j⟩)
    exact ⟨q, (max1_at _ _ _ _).trans hq⟩
  have hk : k0_pay20 (top0 x1 x2 x6) (ix3 0 r 0) = (a : EReal) := (kept0_at _ _).trans ha
  have hk' : k0_pay42 (k0_pay28 (top1 x1 x2 x6)) (ix2 r 0) = (a' : EReal) := (kept1_at _ _).trans ha'
  obtain ⟨b, hb⟩ : ∃ q : ℝ, k0_pay35 (new0 x1 x4 x6) (k0_pay20 (top0 x1 x2 x6)) (ix2 r 0) = (q : EReal) := by
    obtain ⟨q, hq⟩ := max_two _ _ (Or.inr ⟨a, hk⟩) (narrow_max (new0 x1 x4 x6) r fun j => ⟨_, hu j⟩)
    exact ⟨q, (max2_at _ _ _).trans hq⟩
  obtain ⟨b', hb'⟩ : ∃ q : ℝ, k0_pay43 (new1 x1 x4 x6) (k0_pay42 (k0_pay28 (top1 x1 x2 x6))) (ix2 r 0) = (q : EReal) := by
    obtain ⟨q, hq⟩ := max_two _ _ (Or.inr ⟨a', hk'⟩) (narrow_max (new1 x1 x4 x6) r fun j => ⟨_, hu' j⟩)
    exact ⟨q, (max3_at _ _ _).trans hq⟩
  unfold block
  refine (last_at _ _ _ _ _ _ _ _ _).trans ?_
  refine congrArg (fun o => normed o (fun k => x8 (ix2 0 k)) li e) (funext fun k => ?_)
  refine congrArg₂ (fun p q : EReal => p - lam x7 li * q) ?_ ?_
  · have en := acc2_at x5 (new0 x1 x4 x6) (k0_pay20 (top0 x1 x2 x6)) (k0_pay19 (k0_pay9 x3) (k0_pay15 (k0_pay3 x1) x2 (biasOld x6) (noMax 0))
      (k0_pay16 (k0_pay3 x1) x2 (biasOld x6) (noMax 0)) (noAcc 0)) r k
    have el := sum2_at (new0 x1 x4 x6) (k0_pay20 (top0 x1 x2 x6)) (k0_pay18 (k0_pay17 (k0_pay3 x1) x2 (biasOld x6) (noMax 0) (noSum 0))) r
    have en' := acc0_at x3 (k0_pay3 x1) x2 (biasOld x6) (noMax 0) (noAcc 0) r k
    have el' := sum0_at (k0_pay3 x1) x2 (biasOld x6) (noMax 0) (noSum 0) r
    rw [hm0, hn0] at en'
    rw [hm0, hl0] at el'
    rw [hk, hb, en'] at en
    rw [hk, hb, el'] at el
    change ∀ j, k0_pay12 (k0_pay3 x1) x2 (biasOld x6) (ix2 r j) = _ at hs
    change k0_pay14 (k0_pay3 x1) x2 (biasOld x6) (noMax 0) (ix2 r 0) = _ at ha
    simp only [hs, hu, hv, hw, ha] at en el
    rw [en, el]
    refine Eq.trans ?_ (tiles_mean s (fun j => v j k) u (fun j => w j k) a b)
    unfold tiles
    simp only [mul_one]
  · have en := acc3_at x5 (new1 x1 x4 x6) (k0_pay42 (k0_pay28 (top1 x1 x2 x6))) (k0_pay27 (k0_pay9 x3)
      (k0_pay24 (k0_pay10 (biasOld x6)) (k0_pay11 (k0_pay4 x1) x2) (noMax 1)) (k0_pay25 (k0_pay10 (biasOld x6)) (k0_pay11 (k0_pay4 x1) x2) (noMax 1))
      (noAcc 1)) r k
    have el := sum3_at (new1 x1 x4 x6) (k0_pay42 (k0_pay28 (top1 x1 x2 x6)))
      (k0_pay26 (k0_pay10 (biasOld x6)) (k0_pay11 (k0_pay4 x1) x2) (noMax 1) (noSum 1)) r
    have en' := acc1_at x3 (k0_pay10 (biasOld x6)) (k0_pay11 (k0_pay4 x1) x2) (noMax 1) (noAcc 1) r k
    have el' := sum1_at (k0_pay10 (biasOld x6)) (k0_pay11 (k0_pay4 x1) x2) (noMax 1) (noSum 1) r
    rw [hm1, hn1] at en'
    rw [hm1, hl1] at el'
    rw [hk', hb', en'] at en
    rw [hk', hb', el'] at el
    change ∀ j, k0_pay21 (k0_pay10 (biasOld x6)) (k0_pay11 (k0_pay4 x1) x2) (ix2 r j) = _ at hs'
    change k0_pay23 (k0_pay10 (biasOld x6)) (k0_pay11 (k0_pay4 x1) x2) (noMax 1) (ix2 r 0) = _ at ha'
    simp only [hs', hu', hv, hw, ha'] at en el
    rw [en, el]
    refine Eq.trans ?_ (tiles_mean s' (fun j => v j k) u' (fun j => w j k) a' b')
    unfold tiles
    simp only [mul_one]

end Cert.FullIdeal.Attn
-- ==== Proof.FullRef.lean ====
module

public import proofs.«01_k».proof.Proof.Gen.FullRefIdeal.Run
public import proofs.«01_k».proof.Proof.Soft
public import Idealize.ShloMosaic.Lib.Pipeline.ValueKit

@[expose] public section

set_option maxRecDepth 16384

noncomputable section

open Idealize.ShloMosaic Idealize.ShloMosaic.TcCoe Idealize.SL.Sem

namespace Cert.FullRefIdeal.Attn

open Cert.FullRefIdeal Cert.FullRefIdeal.Gen Cert.Soft

/-! ## Named pieces of the reference -/

/-- Layer 0 of a cache followed by the 64 new rows. -/
def joined (c : FVec Ideal S4x16x2048x4x128 .f32) (n : FVec Ideal S16x64x512 .f32) : FVec Ideal S16x2112x4x128 .f32 :=
  concatenate S16x2112x4x128 1 [⟨S16x2048x4x128, (shapeCast _ (extractStridedSlice S1x16x2048x4x128 ![0, 0, 0, 0, 0] c
      slices_S4x16x2048x4x128_S1x16x2048x4x128_0_0_0_0_0) shapeCasts_S1x16x2048x4x128_S16x2048x4x128)⟩,
    ⟨S16x64x4x128, (shapeCast _ n shapeCasts_S16x64x512_S16x64x4x128)⟩] concatenates_S16x2048x4x128_S16x64x4x128_S16x2112x4x128_d1

/-- The positions of the queries and of the keys. -/
def qpos : IVec S64 32 := addi (broadcastInDim S64 ![] bcast_S_S64 (constantI S_ 32 2048#32)) (iotaInDim S64 32 0)
def kpos : IVec S2112 32 := iotaInDim S2112 32 0

/-- Which keys a query may read. -/
def mask : IVec S64x2112 1 :=
  cmpi .sle (broadcastInDim S64x2112 ![0, 1] bcast_S1x2112_S64x2112_0_1 (broadcastInDim S1x2112 ![1] bcast_S2112_S1x2112_1
      (Host.divsi kpos (broadcastInDim S2112 ![] bcast_S_S2112 (constantI S_ 32 64#32)))))
    (broadcastInDim S64x2112 ![0, 1] bcast_S64x1_S64x2112_0_1 (broadcastInDim S64x1 ![0] bcast_S64_S64x1_0
      (Host.divsi qpos (broadcastInDim S64 ![] bcast_S_S64 (constantI S_ 32 64#32)))))

/-- The scores, before the mask. -/
def scores (q : FVec Ideal S16x64x512 .f32) (k : FVec Ideal S16x2112x4x128 .f32) (bi : FVec Ideal S64x2112x4 .f32) :
    FVec Ideal S16x2x4x64x2112 .f32 :=
  addf (mulf (Host.dotGeneral dot_S16x64x4x2x64_S16x2112x4x2x64_S16x2x4x64x2112_4_4_1_1_032_032 none
      (shapeCast _ q shapeCasts_S16x64x512_S16x64x4x2x64) (shapeCast _ k shapeCasts_S16x2112x4x128_S16x2112x4x2x64))
      (broadcastInDim S16x2x4x64x2112 ![] bcast_S_S16x2x4x64x2112 (constant S_ .f32 0x3E000000#32)))
    (broadcastInDim S16x2x4x64x2112 ![0, 1, 2, 3, 4] bcast_S1x1x4x64x2112_S16x2x4x64x2112_0_1_2_3_4
      (broadcastInDim S1x1x4x64x2112 ![2, 3, 4] bcast_S4x64x2112_S1x1x4x64x2112_2_3_4
        (transpose S4x64x2112 [2, 0, 1] bi transposes_S64x2112x4_S4x64x2112_2_0_1)))

def masked (s : FVec Ideal S16x2x4x64x2112 .f32) : FVec Ideal S16x2x4x64x2112 .f32 :=
  select (broadcastInDim S16x2x4x64x2112 ![3, 4] bcast_S64x2112_S16x2x4x64x2112_3_4 mask) s
    (broadcastInDim S16x2x4x64x2112 ![] bcast_S_S16x2x4x64x2112 (id (constant S_ .f32 0xFF800000#32)))

/-- A row's maximum. -/
def top (s : FVec Ideal S16x2x4x64x2112 .f32) : FVec Ideal S16x2x4x64 .f32 :=
  maximumf (broadcastInDim S16x2x4x64 ![] bcast_S_S16x2x4x64 (constant S_ .f32 0xFF800000#32))
    (Host.reduce FloatOps.maximumf s (constant S_ .f32 0xFF800000#32) reducesTo_S16x2x4x64x2112_S16x2x4x64_d4 h_S_)

def expd (s : FVec Ideal S16x2x4x64x2112 .f32) (t : FVec Ideal S16x2x4x64 .f32) : FVec Ideal S16x2x4x64x2112 .f32 :=
  Host.exp (subf s (broadcastInDim S16x2x4x64x2112 ![0, 1, 2, 3, 4] bcast_S16x2x4x64x1_S16x2x4x64x2112_0_1_2_3_4
    (broadcastInDim S16x2x4x64x1 ![0, 1, 2, 3] bcast_S16x2x4x64_S16x2x4x64x1_0_1_2_3 t)))

def soft (e : FVec Ideal S16x2x4x64x2112 .f32) : FVec Ideal S16x2x4x64x2112 .f32 :=
  Host.divf e (broadcastInDim S16x2x4x64x2112 ![0, 1, 2, 3, 4] bcast_S16x2x4x64x1_S16x2x4x64x2112_0_1_2_3_4
    (broadcastInDim S16x2x4x64x1 ![0, 1, 2, 3] bcast_S16x2x4x64_S16x2x4x64x1_0_1_2_3
      (Host.reduceAdd e (constant S_ .f32 0x00000000#32) reducesTo_S16x2x4x64x2112_S16x2x4x64_d4 h_S_)))

/-- The weight of the second softmax. -/
def weight (a : FVec Ideal S4x64 .f32) (li : FVec Ideal S1 .f32) : FVec Ideal S1 .f32 :=
  addf (broadcastInDim S1 ![] bcast_S_S1 (subf
    (Host.exp (Host.reduceAdd (mulf (shapeCast _ (extractStridedSlice S1x64 ![0, 0] a slices_S4x64_S1x64_0_0) shapeCasts_S1x64_S64)
      (shapeCast _ (extractStridedSlice S1x64 ![1, 0] a slices_S4x64_S1x64_1_0) shapeCasts_S1x64_S64))
      (constant S_ .f32 0x00000000#32) reducesTo_S64_S_d0 h_S_))
    (Host.exp (Host.reduceAdd (mulf (shapeCast _ (extractStridedSlice S1x64 ![2, 0] a slices_S4x64_S1x64_2_0) shapeCasts_S1x64_S64)
      (shapeCast _ (extractStridedSlice S1x64 ![3, 0] a slices_S4x64_S1x64_3_0) shapeCasts_S1x64_S64))
      (constant S_ .f32 0x00000000#32) reducesTo_S64_S_d0 h_S_)))) li

/-- The difference of the two softmaxes times the values. -/
def mixed (p : FVec Ideal S16x2x4x64x2112 .f32) (l : FVec Ideal S1 .f32) (v : FVec Ideal S16x2112x4x128 .f32) :
    FVec Ideal S16x64x4x128 .f32 :=
  transpose S16x64x4x128 [0, 3, 1, 2] (Host.dotGeneral dot_S16x2112x4x128_S16x4x64x2112_S16x4x128x64_1_3_3_2_02_01 none v
    (subf (shapeCast _ (extractStridedSlice S16x1x4x64x2112 ![0, 0, 0, 0, 0] p slices_S16x2x4x64x2112_S16x1x4x64x2112_0_0_0_0_0)
        shapeCasts_S16x1x4x64x2112_S16x4x64x2112)
      (mulf (broadcastInDim S16x4x64x2112 ![0, 1, 2, 3] bcast_S1x1x1x1_S16x4x64x2112_0_1_2_3
          (broadcastInDim S1x1x1x1 ![3] bcast_S1_S1x1x1x1_3 l))
        (shapeCast _ (extractStridedSlice S16x1x4x64x2112 ![0, 1, 0, 0, 0] p slices_S16x2x4x64x2112_S16x1x4x64x2112_0_1_0_0_0)
          shapeCasts_S16x1x4x64x2112_S16x4x64x2112)))) transposes_S16x4x128x64_S16x64x4x128_0_3_1_2

/-- Each head's row over its root mean square, times the gain and `1 - li`. -/
def scaled (o : FVec Ideal S16x64x4x128 .f32) (g : FVec Ideal S128 .f32) (li : FVec Ideal S1 .f32) : FVec Ideal S16x64x512 .f32 :=
  shapeCast _ (mulf (mulf (mulf o (broadcastInDim S16x64x4x128 ![0, 1, 2, 3] bcast_S16x64x4x1_S16x64x4x128_0_1_2_3
    (Host.rsqrt (addf (Host.divf (broadcastInDim S16x64x4x1 ![0, 1, 2] bcast_S16x64x4_S16x64x4x1_0_1_2
      (Host.reduceAdd (mulf o o) (constant S_ .f32 0x00000000#32) reducesTo_S16x64x4x128_S16x64x4_d3 h_S_))
      (broadcastInDim S16x64x4x1 ![] bcast_S_S16x64x4x1 (constant S_ .f32 0x43000000#32)))
      (broadcastInDim S16x64x4x1 ![] bcast_S_S16x64x4x1 (constant S_ .f32 0x358637BD#32))))))
    (broadcastInDim S16x64x4x128 ![0, 1, 2, 3] bcast_S1x1x1x128_S16x64x4x128_0_1_2_3
      (broadcastInDim S1x1x1x128 ![3] bcast_S128_S1x1x1x128_3 g)))
    (broadcastInDim S16x64x4x128 ![0, 1, 2, 3] bcast_S1x1x1x1_S16x64x4x128_0_1_2_3 (broadcastInDim S1x1x1x1 ![3] bcast_S1_S1x1x1x1_3
      (subf (broadcastInDim S1 ![] bcast_S_S1 (constant S_ .f32 0x3F800000#32)) li)))) shapeCasts_S16x64x4x128_S16x64x512

/-- The bucket of each relative position. -/
def bucket (rel : IVec S64x2112 32) : IVec S64x2112 32 :=
  addi (id (select (cmpi .sgt rel (broadcastInDim S64x2112 ![] bcast_S_S64x2112 (constantI S_ 32 0#32)))
      (broadcastInDim S64x2112 ![] bcast_S_S64x2112 (constantI S_ 32 16#32)) (broadcastInDim S64x2112 ![] bcast_S_S64x2112 (constantI S_ 32 0#32))))
    (select (cmpi .slt (absi rel) (broadcastInDim S64x2112 ![] bcast_S_S64x2112 (constantI S_ 32 8#32))) (absi rel)
      (minsi (addi (broadcastInDim S64x2112 ![] bcast_S_S64x2112 (constantI S_ 32 8#32))
        (fptosi 32 (mulf (Host.divf (Host.log (Host.divf (sitofp .f32 (maxsi (absi rel)
            (broadcastInDim S64x2112 ![] bcast_S_S64x2112 (constantI S_ 32 8#32))))
            (broadcastInDim S64x2112 ![] bcast_S_S64x2112 (constant S_ .f32 0x41000000#32))))
            (broadcastInDim S64x2112 ![] bcast_S_S64x2112 (constant S_ .f32 0x40317218#32)))
          (broadcastInDim S64x2112 ![] bcast_S_S64x2112 (constant S_ .f32 0x41000000#32)) : FVec Ideal S64x2112 .f32)))
        (broadcastInDim S64x2112 ![] bcast_S_S64x2112 (constantI S_ 32 15#32))))

/-- A table's row numbers as the gather takes them. -/
def rowNo (b : IVec S64x2112 32) : IVec S64x2112x1 32 :=
  broadcastInDim S64x2112x1 ![0, 1] bcast_S64x2112_S64x2112x1_0_1 (select (cmpi .slt b
    (broadcastInDim S64x2112 ![] bcast_S_S64x2112 (constantI S_ 32 0#32)))
    (addi b (broadcastInDim S64x2112 ![] bcast_S_S64x2112 (constantI S_ 32 32#32))) b)

def rel : IVec S64x2112 32 :=
  subi (broadcastInDim S64x2112 ![0, 1] bcast_S1x2112_S64x2112_0_1 (broadcastInDim S1x2112 ![1] bcast_S2112_S1x2112_1 kpos))
    (broadcastInDim S64x2112 ![0, 1] bcast_S64x1_S64x2112_0_1 (broadcastInDim S64x1 ![0] bcast_S64_S64x1_0 qpos))

/-- The bias from the first four columns of the table. -/
def biased (t : FVec Ideal S32x12 .f32) (i : IVec S64x2112x1 32) : FVec Ideal S64x2112x4 .f32 :=
  Host.gather gather_S32x4_S64x2112x1_S64x2112x4_2_0_n_n_0_2_14 (extractStridedSlice S32x4 ![0, 0] t slices_S32x12_S32x4_0_0) i

def keys (p : FVec Ideal S16x64x10240 .f32) (c : FVec Ideal S4x16x2048x4x128 .f32) : FVec Ideal S16x2112x4x128 .f32 :=
  joined c (extractStridedSlice S16x64x512 ![0, 0, 512] p slices_S16x64x10240_S16x64x512_0_0_512)

def vals (p : FVec Ideal S16x64x10240 .f32) (c : FVec Ideal S4x16x2048x4x128 .f32) : FVec Ideal S16x2112x4x128 .f32 :=
  joined c (extractStridedSlice S16x64x512 ![0, 0, 1024] p slices_S16x64x10240_S16x64x512_0_0_1024)

def logits (p : FVec Ideal S16x64x10240 .f32) (c : FVec Ideal S4x16x2048x4x128 .f32) (t : FVec Ideal S32x12 .f32) :
    FVec Ideal S16x2x4x64x2112 .f32 :=
  scores (extractStridedSlice S16x64x512 ![0, 0, 0] p slices_S16x64x10240_S16x64x512_0_0_0) (keys p c) (biased t (rowNo (bucket rel)))

/-- The reference's result from its arguments. -/
def attended (p : FVec Ideal S16x64x10240 .f32) (ck cv : FVec Ideal S4x16x2048x4x128 .f32) (t : FVec Ideal S32x12 .f32)
    (li : FVec Ideal S1 .f32) (a : FVec Ideal S4x64 .f32) (g : FVec Ideal S128 .f32) : FVec Ideal S16x64x512 .f32 :=
  scaled (mixed (soft (expd (masked (logits p ck t)) (top (masked (logits p ck t))))) (weight a li) (vals p cv)) g li

open Value in
theorem rel_eq (V0 : Valuation τ sig (Elt Ideal)) : res_main_v42 V0 = rel := rfl

open Value in
theorem bucket_eq (V0 : Valuation τ sig (Elt Ideal)) : res_main_v66 V0 = bucket rel := rfl

open Value in
theorem masked_eq (V0 : Valuation τ sig (Elt Ideal)) : res_main_v87 V0 =
    masked (logits (V0 (Proc.devRef .tc main_arg0)) (V0 (Proc.devRef .tc main_arg1)) (V0 (Proc.devRef .tc main_arg3))) := by
  unfold res_main_v87
  rw [bucket_eq]
  rfl

open Value in
theorem soft_eq (V0 : Valuation τ sig (Elt Ideal)) : res_main_v98 V0 =
    soft (expd (masked (logits (V0 (Proc.devRef .tc main_arg0)) (V0 (Proc.devRef .tc main_arg1)) (V0 (Proc.devRef .tc main_arg3))))
      (top (masked (logits (V0 (Proc.devRef .tc main_arg0)) (V0 (Proc.devRef .tc main_arg1)) (V0 (Proc.devRef .tc main_arg3)))))) := by
  unfold res_main_v98 res_main_v94
  rw [masked_eq]
  rfl

open Value in
theorem mixed_eq (V0 : Valuation τ sig (Elt Ideal)) : res_main_v108 V0 =
    mixed (soft (expd (masked (logits (V0 (Proc.devRef .tc main_arg0)) (V0 (Proc.devRef .tc main_arg1)) (V0 (Proc.devRef .tc main_arg3))))
      (top (masked (logits (V0 (Proc.devRef .tc main_arg0)) (V0 (Proc.devRef .tc main_arg1)) (V0 (Proc.devRef .tc main_arg3)))))))
      (weight (V0 (Proc.devRef .tc main_arg5)) (V0 (Proc.devRef .tc main_arg4)))
      (vals (V0 (Proc.devRef .tc main_arg0)) (V0 (Proc.devRef .tc main_arg2))) := by
  unfold res_main_v108
  rw [soft_eq]
  rfl

/-! ## The pieces at an index -/

theorem joined_old (c : FVec Ideal S4x16x2048x4x128 .f32) (n : FVec Ideal S16x64x512 .f32) (b : Fin 16) (j : Fin 2048) (h : Fin 4) (e : Fin 128) :
    joined c n (ix4 b ⟨j.val, by omega⟩ h e) = c (ix5 0 b j h e) := by
  pointwise [joined]

theorem joined_new (c : FVec Ideal S4x16x2048x4x128 .f32) (n : FVec Ideal S16x64x512 .f32) (b : Fin 16) (j : Fin 64) (h : Fin 4) (e : Fin 128) :
    joined c n (ix4 b ⟨2048 + j.val, by omega⟩ h e) = n (ix3 b j ⟨h.val * 128 + e.val, by omega⟩) := by
  pointwise [joined]

theorem scores_at (q : FVec Ideal S16x64x512 .f32) (k : FVec Ideal S16x2112x4x128 .f32) (bi : FVec Ideal S64x2112x4 .f32)
    (b : Fin 16) (f : Fin 2) (h : Fin 4) (r : Fin 64) (j : Fin 2112) :
    scores q k bi (ix5 b f h r j) = (∑ e : Fin 64, q (ix3 b r ⟨h.val * 128 + f.val * 64 + e.val, by omega⟩)
      * k (ix4 b j h ⟨f.val * 64 + e.val, by omega⟩)) * Ideal.ofBits .f32 0x3E000000#32 + bi (ix3 r j h) := by
  pointwise [scores]

theorem expd_at (s : FVec Ideal S16x2x4x64x2112 .f32) (t : FVec Ideal S16x2x4x64 .f32)
    (b : Fin 16) (f : Fin 2) (h : Fin 4) (r : Fin 64) (j : Fin 2112) :
    expd s t (ix5 b f h r j) = Ideal.exp (s (ix5 b f h r j) - t (ix4 b f h r)) := by
  pointwise [expd]

theorem soft_at (e : FVec Ideal S16x2x4x64x2112 .f32) (b : Fin 16) (f : Fin 2) (h : Fin 4) (r : Fin 64) (j : Fin 2112) :
    soft e (ix5 b f h r j) = Ideal.div (e (ix5 b f h r j)) (∑ i : Fin 2112, e (ix5 b f h r i)) := by
  pointwise [soft]

theorem weight_at (a : FVec Ideal S4x64 .f32) (li : FVec Ideal S1 .f32) :
    weight a li (ix1 0) = Ideal.exp (∑ k : Fin 64, a (ix2 0 k) * a (ix2 1 k)) - Ideal.exp (∑ k : Fin 64, a (ix2 2 k) * a (ix2 3 k))
      + li (ix1 0) := by
  pointwise [weight]

theorem mixed_at (p : FVec Ideal S16x2x4x64x2112 .f32) (l : FVec Ideal S1 .f32) (v : FVec Ideal S16x2112x4x128 .f32)
    (b : Fin 16) (r : Fin 64) (h : Fin 4) (e : Fin 128) :
    mixed p l v (ix4 b r h e) = ∑ j : Fin 2112, v (ix4 b j h e) * (p (ix5 b 0 h r j) - l (ix1 0) * p (ix5 b 1 h r j)) := by
  pointwise [mixed]

theorem scaled_at (o : FVec Ideal S16x64x4x128 .f32) (g : FVec Ideal S128 .f32) (li : FVec Ideal S1 .f32)
    (b : Fin 16) (r : Fin 64) (h : Fin 4) (e : Fin 128) :
    scaled o g li (ix3 b r ⟨h.val * 128 + e.val, by omega⟩) = o (ix4 b r h e)
      * Ideal.rsqrt (Ideal.div (∑ k : Fin 128, o (ix4 b r h k) * o (ix4 b r h k)) (Ideal.ofBits .f32 0x43000000#32)
        + Ideal.ofBits .f32 0x358637BD#32) * g (ix1 e) * (1 - li (ix1 0)) := by
  pointwise [scaled]

theorem mask_at (r : Fin 64) (j : Fin 2112) : mask (ix2 r j) = 1#1 := by
  pointwise [mask, kpos, qpos]
  revert r j
  decide +kernel

end Cert.FullRefIdeal.Attn
-- ==== Proof.FullRow.lean ====
module

public import proofs.«01_k».proof.Proof.FullRef

@[expose] public section

set_option maxRecDepth 16384

noncomputable section

open Idealize.ShloMosaic Idealize.ShloMosaic.TcCoe Idealize.SL.Sem

namespace Cert.FullRefIdeal.Attn

open Cert.FullRefIdeal Cert.FullRefIdeal.Gen Cert.Soft

theorem lowest : (Ideal.ofBits .f32 0xFF800000#32 : Ideal .f32) = (⊥ : EReal) := by simp [Ideal.ofBits, Ideal.ieee]

/-- The row of an index of the scores. -/
theorem drop_row (b : Fin 16) (f : Fin 2) (h : Fin 4) (r : Fin 64) (j : Fin 2112) :
    reducesTo_S16x2x4x64x2112_S16x2x4x64_d4.drop (ix5 b f h r j) = ix4 b f h r := by
  funext a
  match a with
  | ⟨0, _⟩ => exact Fin.ext (reducesTo_S16x2x4x64x2112_S16x2x4x64_d4.drop_apply_val_of_eq (ix5 b f h r j) 0 0)
  | ⟨1, _⟩ => exact Fin.ext (reducesTo_S16x2x4x64x2112_S16x2x4x64_d4.drop_apply_val_of_eq (ix5 b f h r j) 1 1)
  | ⟨2, _⟩ => exact Fin.ext (reducesTo_S16x2x4x64x2112_S16x2x4x64_d4.drop_apply_val_of_eq (ix5 b f h r j) 2 2)
  | ⟨3, _⟩ => exact Fin.ext (reducesTo_S16x2x4x64x2112_S16x2x4x64_d4.drop_apply_val_of_eq (ix5 b f h r j) 3 3)

theorem row_drop (i : S16x2x4x64x2112.Idx) (b : Fin 16) (f : Fin 2) (h : Fin 4) (r : Fin 64)
    (hd : reducesTo_S16x2x4x64x2112_S16x2x4x64_d4.drop i = ix4 b f h r) : ∃ j : Fin 2112, i = ix5 b f h r j := by
  idx_vars i
  rw [drop_row] at hd
  have e0 : i0 = b := congrFun hd 0
  have e1 : i1 = f := congrFun hd 1
  have e2 : i2 = h := congrFun hd 2
  have e3 : i3 = r := congrFun hd 3
  subst e0 e1 e2 e3
  exact ⟨i4, rfl⟩

theorem red_real (s : FVec Ideal S16x2x4x64x2112 .f32) (b : Fin 16) (f : Fin 2) (h : Fin 4) (r : Fin 64)
    (hs : ∀ j : Fin 2112, ∃ q : ℝ, s (ix5 b f h r j) = (q : EReal)) :
    ∃ q : ℝ, (Finset.univ.filter fun i => reducesTo_S16x2x4x64x2112_S16x2x4x64_d4.drop i = ix4 b f h r).fold FloatOps.maximumf
      (⊥ : EReal) s = (q : EReal) := by
  refine max_real _ ⟨ix5 b f h r 0, ?_⟩ s (fun i hm => ?_) _ fun _ _ => rfl
  · rw [Finset.mem_filter]
    exact ⟨Finset.mem_univ _, drop_row b f h r 0⟩
  · obtain ⟨j, rfl⟩ := row_drop i b f h r (Finset.mem_filter.mp hm).2
    exact hs j

theorem red_eq (s : FVec Ideal S16x2x4x64x2112 .f32) (y : S16x2x4x64.Idx) :
    Host.reduce FloatOps.maximumf s (constant S_ .f32 0xFF800000#32) reducesTo_S16x2x4x64x2112_S16x2x4x64_d4 h_S_ y
      = (Finset.univ.filter fun i => reducesTo_S16x2x4x64x2112_S16x2x4x64_d4.drop i = y).fold FloatOps.maximumf (⊥ : EReal) s := by
  rw [Host.reduce_eq_fold]
  rw [show constant (F := Ideal) S_ .f32 0xFF800000#32 (Shape.Idx.first h_S_) = (⊥ : EReal) from lowest]

theorem top_real (s : FVec Ideal S16x2x4x64x2112 .f32) (b : Fin 16) (f : Fin 2) (h : Fin 4) (r : Fin 64)
    (hs : ∀ j : Fin 2112, ∃ q : ℝ, s (ix5 b f h r j) = (q : EReal)) : ∃ q : ℝ, top s (ix4 b f h r) = (q : EReal) := by
  unfold top
  rw [ValueIdx.maximumf_apply, red_eq]
  obtain ⟨q, hq⟩ := red_real s b f h r hs
  rw [hq]
  exact max_two _ _ (Or.inl lowest) ⟨q, rfl⟩

/-- A sum over the 2112 keys is the sum over the cached ones plus the sum over the new ones. -/
theorem sum_split (f : Fin 2112 → ℝ) :
    ∑ j, f j = ∑ j : Fin 2048, f ⟨j.val, by omega⟩ + ∑ j : Fin 64, f ⟨2048 + j.val, by omega⟩ :=
  Fin.sum_univ_add (a := 2048) (b := 64) f

theorem mean_split (s v : Fin 2112 → ℝ) :
    mean s v = mean (Sum.elim (fun j : Fin 2048 => s ⟨j.val, by omega⟩) (fun j : Fin 64 => s ⟨2048 + j.val, by omega⟩))
      (Sum.elim (fun j : Fin 2048 => v ⟨j.val, by omega⟩) (fun j : Fin 64 => v ⟨2048 + j.val, by omega⟩)) := by
  unfold mean
  rw [sum_split, sum_split, Fintype.sum_sum_type, Fintype.sum_sum_type]
  rfl

theorem masked_at (s : FVec Ideal S16x2x4x64x2112 .f32) (b : Fin 16) (f : Fin 2) (h : Fin 4) (r : Fin 64) (j : Fin 2112) :
    masked s (ix5 b f h r j) = s (ix5 b f h r j) := by
  have e : broadcastInDim S16x2x4x64x2112 ![3, 4] bcast_S64x2112_S16x2x4x64x2112_3_4 mask (ix5 b f h r j) = 1#1 := by
    refine Eq.trans ?_ (mask_at r j)
    pointwise
  unfold masked
  rw [ValueIdx.select_apply, e]
  rfl

/-- One value of the attention with real scores and values: the difference of two means of the values. -/
theorem row_at (s : FVec Ideal S16x2x4x64x2112 .f32) (lw : FVec Ideal S1 .f32) (v : FVec Ideal S16x2112x4x128 .f32)
    (b : Fin 16) (r : Fin 64) (h : Fin 4) (s0 s1 : Fin 2112 → ℝ) (w : Fin 2112 → Fin 128 → ℝ) (l : ℝ)
    (h0 : ∀ j, s (ix5 b 0 h r j) = (s0 j : EReal)) (h1 : ∀ j, s (ix5 b 1 h r j) = (s1 j : EReal))
    (hv : ∀ j e, v (ix4 b j h e) = (w j e : EReal)) (hl : lw (ix1 0) = (l : EReal)) (e : Fin 128) :
    mixed (soft (expd (masked s) (top (masked s)))) lw v (ix4 b r h e)
      = ((mean s0 (fun j => w j e) - l * mean s1 (fun j => w j e) : ℝ) : EReal) := by
  obtain ⟨M, hM⟩ := top_real (masked s) b 0 h r fun j => ⟨s0 j, (masked_at _ _ _ _ _ _).trans (h0 j)⟩
  obtain ⟨M', hM'⟩ := top_real (masked s) b 1 h r fun j => ⟨s1 j, (masked_at _ _ _ _ _ _).trans (h1 j)⟩
  rw [mixed_at, ← diff_mean s0 s1 (fun j => w j e) M M' l]
  refine Finset.sum_congr rfl fun j _ => ?_
  rw [mul_comm]
  simp only [soft_at, expd_at, masked_at, h0, h1, hv, hl, hM, hM']

end Cert.FullRefIdeal.Attn
-- ==== Proof.Rows.lean ====
module

public import Idealize.ShloMosaic.Lib.Pipeline.ValueKit

@[expose] public section

open Idealize.ShloMosaic

namespace Cert.Rows

/-! # Rows of a table taken at a rank-2 array of row numbers -/

abbrev dims (N C R J : Nat) (wf : GatherDims.WF ⟨2, ![N, C]⟩ ⟨3, ![R, J, 1]⟩ ⟨3, ![R, J, C]⟩ [2] [0] [] [0] [] 2 ![1, C]) :
    GatherDims ⟨2, ![N, C]⟩ ⟨3, ![R, J, 1]⟩ ⟨3, ![R, J, C]⟩ where
  offsetDims := [2]
  collapsedSliceDims := [0]
  operandBatchingDims := []
  startIndicesBatchingDims := []
  startIndexMap := [0]
  indexVectorDim := 2
  sliceSizes := ![1, C]
  wf := wf

/-- The row a word names: read signed, clamped to the table. -/
abbrev row (N : Nat) (hN : 0 < N) {w : Nat} (b : BitVec w) : Fin N := ⟨min b.toInt.toNat (N - 1), by omega⟩

theorem take_at {α : Type} {N C R J w : Nat} (hN : 0 < N)
    (wf : GatherDims.WF ⟨2, ![N, C]⟩ ⟨3, ![R, J, 1]⟩ ⟨3, ![R, J, C]⟩ [2] [0] [] [0] [] 2 ![1, C])
    (x : (⟨2, ![N, C]⟩ : Shape).Idx → α) (i : IVec ⟨3, ![R, J, 1]⟩ w) (r : Fin R) (j : Fin J) (h : Fin C) :
    Host.gather (dims N C R J wf) x i (ix3 r j h) = x (ix2 (row N hN (i (ix3 r j 0))) h) := by
  refine congrArg x (funext fun a => Fin.ext ?_)
  show (dims N C R J wf).start (ix3 r j h) i a + (dims N C R J wf).batchCoord (ix3 r j h) a + (dims N C R J wf).offCoord (ix3 r j h) a = _
  rw [GatherDims.batchCoord_eq_zero _ _ _ List.not_mem_nil, Nat.add_zero]
  match a with
  | ⟨0, _⟩ =>
    have ho : (dims N C R J wf).offCoord (ix3 r j h) 0 = 0 :=
      GatherDims.offCoord_eq_zero _ _ _ fun hk => ((GatherDims.mem_sKept _ _).mp hk).1 (List.mem_singleton.mpr rfl)
    have hs : (dims N C R J wf).start (ix3 r j h) i 0 = min (i (ix3 r j 0)).toInt.toNat (N - 1) := by
      unfold GatherDims.start
      rw [dif_pos (show (0 : Fin 2) ∈ (dims N C R J wf).startIndexMap from List.mem_singleton.mpr rfl)]
      refine congrArg (fun k => min (i k).toInt.toNat (N - 1)) (funext fun b => Fin.ext ?_)
      match b with
      | ⟨0, _⟩ => rfl
      | ⟨1, _⟩ => rfl
      | ⟨2, _⟩ => rfl
    exact (congrArg₂ (· + ·) hs ho).trans (Nat.add_zero _)
  | ⟨1, _⟩ =>
    have hs : (dims N C R J wf).start (ix3 r j h) i 1 = 0 := by
      unfold GatherDims.start
      rw [dif_neg (show ¬ (1 : Fin 2) ∈ (dims N C R J wf).startIndexMap from fun hk => Nat.one_ne_zero (congrArg Fin.val (List.mem_singleton.mp hk)))]
    have ho : (dims N C R J wf).offCoord (ix3 r j h) 1 = h.val := rfl
    exact (congrArg₂ (· + ·) hs ho).trans (Nat.zero_add _)

end Cert.Rows
-- ==== Proof.FullHost.lean ====
module

public import proofs.«01_k».proof.Proof.FullTile
public import proofs.«01_k».proof.Proof.FullRow
public import proofs.«01_k».proof.Proof.Rows

@[expose] public section

set_option maxRecDepth 16384

noncomputable section

open Idealize.ShloMosaic Idealize.ShloMosaic.TcCoe Idealize.SL.Sem

namespace Cert.FullIdeal.Attn
open Cert.FullIdeal Cert.FullIdeal.Gen
open Cert.FullRefIdeal.Attn (bucket rowNo rel biased)

/-! ## The arrays the launch builds before the grid -/

/-- The relative positions, as the launch computes them. -/
def relHost : IVec S64x2112 32 :=
  subi (iotaInDim S64x2112 32 1) (addi (iotaInDim S64x2112 32 0) (broadcastInDim S64x2112 ![] bcast_S_S64x2112 (constantI S_ 32 2048#32)))

theorem rel_host : relHost = rel := by
  funext i
  idx_vars i
  pointwise [relHost, rel, Cert.FullRefIdeal.Attn.kpos, Cert.FullRefIdeal.Attn.qpos]
  exact congrArg (IntOp.subi _) (BitVec.add_comm _ _)

variable (m : (ℓ : Loc nD τ sig) → Buf (Elt Ideal) ℓ)

def biasHost (t : FVec Ideal S32x12 .f32) (i : IVec S64x2112x1 32) : FVec Ideal S12x64x2112 .f32 :=
  transpose S12x64x2112 [2, 0, 1] (Host.gather gather_S32x12_S64x2112x1_S64x2112x12_2_0_n_n_0_2_112 t i) transposes_S64x2112x12_S12x64x2112_2_0_1

set_option maxHeartbeats 4000000 in
theorem V_bias (c : Dev nD) : V m c main_v36 = biasHost (m ((c : Thread nD τ).loc main_arg3)) (rowNo (bucket relHost)) := by
  entry_read
  rfl

theorem V_keys (c : Dev nD) : V m c main_v37 = shapeCast _ (show FVec Ideal S4x16x2048x4x128 .f32 from m ((c : Thread nD τ).loc main_arg1))
    shapeCasts_S4x16x2048x4x128_S4x16x2048x512 := by
  entry_read
  rfl

theorem V_vals (c : Dev nD) : V m c main_v38 = shapeCast _ (show FVec Ideal S4x16x2048x4x128 .f32 from m ((c : Thread nD τ).loc main_arg2))
    shapeCasts_S4x16x2048x4x128_S4x16x2048x512 := by
  entry_read
  rfl

theorem V_gain (c : Dev nD) : V m c main_v39 = shapeCast _ (show FVec Ideal S128 .f32 from m ((c : Thread nD τ).loc main_arg6)) shapeCasts_S128_S1x128 := by
  entry_read
  rfl

/-- A bias: the table's row of the key's bucket. -/
theorem biasHost_at (t : FVec Ideal S32x12 .f32) (i : IVec S64x2112x1 32) (h : Fin 12) (r : Fin 64) (j : Fin 2112) :
    biasHost t i (ix3 h r j) = t (ix2 (Rows.row 32 (by decide) (i (ix3 r j 0))) h) := by
  refine Eq.trans ?_ (Rows.take_at (by decide) gather_S32x12_S64x2112x1_S64x2112x12_2_0_n_n_0_2_112_wf t i r j h)
  pointwise [biasHost]
  rfl

theorem biased_at (t : FVec Ideal S32x12 .f32) (i : IVec S64x2112x1 32) (h : Fin 4) (r : Fin 64) (j : Fin 2112) :
    biased t i (ix3 r j h) = t (ix2 (Rows.row 32 (by decide) (i (ix3 r j 0))) ⟨h.val, by omega⟩) := by
  refine (Rows.take_at (by decide) Cert.FullRefIdeal.Gen.gather_S32x4_S64x2112x1_S64x2112x4_2_0_n_n_0_2_14_wf _ i r j h).trans ?_
  pointwise

end Cert.FullIdeal.Attn
-- ==== Proof.FullValue.lean ====
module

public import proofs.«01_k».proof.Proof.FullHost

@[expose] public section

set_option maxRecDepth 16384

noncomputable section

open Idealize.ShloMosaic Idealize.ShloMosaic.TcCoe Idealize.SL.Sem
open Idealize.ShloMosaic.Pipeline (Dat)

namespace Cert.FullIdeal.Attn
open Cert.FullIdeal Cert.FullIdeal.Gen Cert.Soft
open Cert.FullRefIdeal.Attn (bucket rowNo rel biased joined joined_old joined_new keys vals logits attended scores_at weight weight_at row_at
  mean_split scaled_at)

variable (m : (ℓ : Loc nD τ sig) → Buf (Elt Ideal) ℓ)

/-! ## The grid: point `t` has batch `t / 4` and head `t % 4` -/

theorem idx : ∀ t : Fin cfg0.N, win0_0.index t = ![0] ∧ win0_1.index t = ![t.val / 4, 0, t.val % 4]
    ∧ win0_2.index t = ![0, t.val / 4, 0, t.val % 4] ∧ win0_3.index t = ![0, t.val / 4, 0, t.val % 4]
    ∧ win0_4.index t = ![t.val / 4, 0, 4 + t.val % 4] ∧ win0_5.index t = ![t.val / 4, 0, 8 + t.val % 4]
    ∧ win0_6.index t = ![t.val % 4, 0, 0] ∧ win0_7.index t = ![0, 0] ∧ win0_8.index t = ![0, 0]
    ∧ win0_9.index t = ![t.val / 4, 0, t.val % 4] ∧ t.val < 64 :=
  (by decide +kernel : ∀ t : Fin grid0.N, _)

theorem lt64 (t : Fin cfg0.N) : t.val < 64 := (idx t).2.2.2.2.2.2.2.2.2.2

abbrev bat (t : Fin cfg0.N) : Fin 16 := ⟨t.val / 4, by have := lt64 t; omega⟩
abbrev head (t : Fin cfg0.N) : Fin 4 := ⟨t.val % 4, by omega⟩

theorem read0 (c : Dev nD) (t : Fin cfg0.N) :
    (iblk m c 0 t : Vec Ideal S1 .f32) (ix1 0) = (m ((c : Thread nD τ).loc main_arg4) : FVec Ideal S1 .f32) (ix1 0) := by
  obtain ⟨e0, e1, e2, e3, e4, e5, e6, e7, e8, e9, e10⟩ := idx t
  have e : (iblk m c 0 t : Vec Ideal S1 .f32) = ((cfg0.win 0).blk t).view.read (Elt Ideal) (m ((c : Thread nD τ).loc main_arg4)) :=
    congrArg (((cfg0.win 0).blk t).view.read (Elt Ideal)) (V_main_arg4 m c)
  rw [e]
  blk_point [e0]

theorem read1 (c : Dev nD) (t : Fin cfg0.N) (r : Fin 64) (k : Fin 128) : (iblk m c 1 t : Vec Ideal S1x64x128 .f32) (ix3 0 r k)
    = (m ((c : Thread nD τ).loc main_arg0) : FVec Ideal S16x64x10240 .f32) (ix3 (bat t) r ⟨(head t).val * 128 + k.val, by omega⟩) := by
  obtain ⟨e0, e1, e2, e3, e4, e5, e6, e7, e8, e9, e10⟩ := idx t
  have e : (iblk m c 1 t : Vec Ideal S1x64x128 .f32) = ((cfg0.win 1).blk t).view.read (Elt Ideal) (m ((c : Thread nD τ).loc main_arg0)) :=
    congrArg (((cfg0.win 1).blk t).view.read (Elt Ideal)) (V_main_arg0 m c)
  rw [e]
  blk_point [e1]

theorem read4 (c : Dev nD) (t : Fin cfg0.N) (r : Fin 64) (k : Fin 128) : (iblk m c 4 t : Vec Ideal S1x64x128 .f32) (ix3 0 r k)
    = (m ((c : Thread nD τ).loc main_arg0) : FVec Ideal S16x64x10240 .f32) (ix3 (bat t) r ⟨512 + ((head t).val * 128 + k.val), by omega⟩) := by
  obtain ⟨e0, e1, e2, e3, e4, e5, e6, e7, e8, e9, e10⟩ := idx t
  have e : (iblk m c 4 t : Vec Ideal S1x64x128 .f32) = ((cfg0.win 4).blk t).view.read (Elt Ideal) (m ((c : Thread nD τ).loc main_arg0)) :=
    congrArg (((cfg0.win 4).blk t).view.read (Elt Ideal)) (V_main_arg0 m c)
  rw [e]
  blk_point [e4]

theorem read5 (c : Dev nD) (t : Fin cfg0.N) (r : Fin 64) (k : Fin 128) : (iblk m c 5 t : Vec Ideal S1x64x128 .f32) (ix3 0 r k)
    = (m ((c : Thread nD τ).loc main_arg0) : FVec Ideal S16x64x10240 .f32) (ix3 (bat t) r ⟨1024 + ((head t).val * 128 + k.val), by omega⟩) := by
  obtain ⟨e0, e1, e2, e3, e4, e5, e6, e7, e8, e9, e10⟩ := idx t
  have e : (iblk m c 5 t : Vec Ideal S1x64x128 .f32) = ((cfg0.win 5).blk t).view.read (Elt Ideal) (m ((c : Thread nD τ).loc main_arg0)) :=
    congrArg (((cfg0.win 5).blk t).view.read (Elt Ideal)) (V_main_arg0 m c)
  rw [e]
  blk_point [e5]

theorem read2 (c : Dev nD) (t : Fin cfg0.N) (j : Fin 2048) (k : Fin 128) : (iblk m c 2 t : Vec Ideal S1x1x2048x128 .f32) (ix4 0 0 j k)
    = (m ((c : Thread nD τ).loc main_arg1) : FVec Ideal S4x16x2048x4x128 .f32) (ix5 0 (bat t) j (head t) k) := by
  obtain ⟨e0, e1, e2, e3, e4, e5, e6, e7, e8, e9, e10⟩ := idx t
  have e : (iblk m c 2 t : Vec Ideal S1x1x2048x128 .f32) = ((cfg0.win 2).blk t).view.read (Elt Ideal) _ :=
    congrArg (((cfg0.win 2).blk t).view.read (Elt Ideal)) (V_keys m c)
  have he : (((cfg0.win 2).blk t).view.emb (ix4 0 0 j k) : S4x16x2048x512.Idx) = ix4 (0 : Fin 4) (bat t) j (⟨(head t).val * 128 + k.val, by omega⟩ : Fin 512) := by
    blk_ext [e2]
  rw [e]
  show shapeCast S4x16x2048x512 (m ((c : Thread nD τ).loc main_arg1) : FVec Ideal S4x16x2048x4x128 .f32) shapeCasts_S4x16x2048x4x128_S4x16x2048x512
    (((cfg0.win 2).blk t).view.emb (ix4 0 0 j k)) = _
  rw [he]
  pointwise
  exact congrArg (fun x => (m ((c : Thread nD τ).loc main_arg1) : FVec Ideal S4x16x2048x4x128 .f32) (ix5 0 (bat t) j x k))
    (Fin.ext (by show (t.val % 4 * 128 + k.val) / 128 = t.val % 4; omega))

theorem read3 (c : Dev nD) (t : Fin cfg0.N) (j : Fin 2048) (k : Fin 128) : (iblk m c 3 t : Vec Ideal S1x1x2048x128 .f32) (ix4 0 0 j k)
    = (m ((c : Thread nD τ).loc main_arg2) : FVec Ideal S4x16x2048x4x128 .f32) (ix5 0 (bat t) j (head t) k) := by
  obtain ⟨e0, e1, e2, e3, e4, e5, e6, e7, e8, e9, e10⟩ := idx t
  have e : (iblk m c 3 t : Vec Ideal S1x1x2048x128 .f32) = ((cfg0.win 3).blk t).view.read (Elt Ideal) _ :=
    congrArg (((cfg0.win 3).blk t).view.read (Elt Ideal)) (V_vals m c)
  have he : (((cfg0.win 3).blk t).view.emb (ix4 0 0 j k) : S4x16x2048x512.Idx) = ix4 (0 : Fin 4) (bat t) j (⟨(head t).val * 128 + k.val, by omega⟩ : Fin 512) := by
    blk_ext [e3]
  rw [e]
  show shapeCast S4x16x2048x512 (m ((c : Thread nD τ).loc main_arg2) : FVec Ideal S4x16x2048x4x128 .f32) shapeCasts_S4x16x2048x4x128_S4x16x2048x512
    (((cfg0.win 3).blk t).view.emb (ix4 0 0 j k)) = _
  rw [he]
  pointwise
  exact congrArg (fun x => (m ((c : Thread nD τ).loc main_arg2) : FVec Ideal S4x16x2048x4x128 .f32) (ix5 0 (bat t) j x k))
    (Fin.ext (by show (t.val % 4 * 128 + k.val) / 128 = t.val % 4; omega))

theorem read6 (c : Dev nD) (t : Fin cfg0.N) (r : Fin 64) (j : Fin 2112) : (iblk m c 6 t : Vec Ideal S1x64x2112 .f32) (ix3 0 r j)
    = biased (m ((c : Thread nD τ).loc main_arg3)) (rowNo (bucket rel)) (ix3 r j (head t)) := by
  obtain ⟨e0, e1, e2, e3, e4, e5, e6, e7, e8, e9, e10⟩ := idx t
  have e : (iblk m c 6 t : Vec Ideal S1x64x2112 .f32) = ((cfg0.win 6).blk t).view.read (Elt Ideal)
      (biasHost (m ((c : Thread nD τ).loc main_arg3)) (rowNo (bucket relHost))) :=
    congrArg (((cfg0.win 6).blk t).view.read (Elt Ideal)) (V_bias m c)
  rw [e, rel_host]
  refine Eq.trans ?_ ((biasHost_at _ _ ⟨(head t).val, by omega⟩ r j).trans (biased_at _ _ (head t) r j).symm)
  generalize biasHost _ _ = A
  blk_point [e6]

theorem read7 (c : Dev nD) (t : Fin cfg0.N) (i : Fin 4) (k : Fin 64) : (iblk m c 7 t : Vec Ideal S4x64 .f32) (ix2 i k)
    = (m ((c : Thread nD τ).loc main_arg5) : FVec Ideal S4x64 .f32) (ix2 i k) := by
  obtain ⟨e0, e1, e2, e3, e4, e5, e6, e7, e8, e9, e10⟩ := idx t
  have e : (iblk m c 7 t : Vec Ideal S4x64 .f32) = ((cfg0.win 7).blk t).view.read (Elt Ideal) (m ((c : Thread nD τ).loc main_arg5)) :=
    congrArg (((cfg0.win 7).blk t).view.read (Elt Ideal)) (V_main_arg5 m c)
  rw [e]
  blk_point [e7]

theorem read8 (c : Dev nD) (t : Fin cfg0.N) (k : Fin 128) : (iblk m c 8 t : Vec Ideal S1x128 .f32) (ix2 0 k)
    = (m ((c : Thread nD τ).loc main_arg6) : FVec Ideal S128 .f32) (ix1 k) := by
  obtain ⟨e0, e1, e2, e3, e4, e5, e6, e7, e8, e9, e10⟩ := idx t
  have e : (iblk m c 8 t : Vec Ideal S1x128 .f32) = ((cfg0.win 8).blk t).view.read (Elt Ideal) _ :=
    congrArg (((cfg0.win 8).blk t).view.read (Elt Ideal)) (V_gain m c)
  have he : (((cfg0.win 8).blk t).view.emb (ix2 0 k) : S1x128.Idx) = ix2 (0 : Fin 1) k := by
    blk_ext [e8]
  rw [e]
  show shapeCast S1x128 (m ((c : Thread nD τ).loc main_arg6) : FVec Ideal S128 .f32) shapeCasts_S128_S1x128
    (((cfg0.win 8).blk t).view.emb (ix2 0 k)) = _
  rw [he]
  pointwise

theorem biasOld_at (x6 : Vec Ideal S1x64x2112 .f32) (r : Fin 64) (j : Fin 2048) : biasOld x6 (ix3 0 r j) = x6 (ix3 0 r ⟨j.val, by omega⟩) := by
  refine congrArg x6 (funext fun a => ?_)
  match a with
  | ⟨0, _⟩ => rfl
  | ⟨1, _⟩ => exact Fin.ext (by show 0 + 1 * r.val = r.val; omega)
  | ⟨2, _⟩ => exact Fin.ext (by show 0 + 1 * j.val = j.val; omega)

theorem biasNew_at (x6 : Vec Ideal S1x64x2112 .f32) (r : Fin 64) (j : Fin 64) : biasNew x6 (ix3 0 r j) = x6 (ix3 0 r ⟨2048 + j.val, by omega⟩) := by
  refine congrArg x6 (funext fun a => ?_)
  match a with
  | ⟨0, _⟩ => rfl
  | ⟨1, _⟩ => exact Fin.ext (by show 0 + 1 * r.val = r.val; omega)
  | ⟨2, _⟩ => exact Fin.ext (by show 2048 + 1 * j.val = 2048 + j.val; omega)

/-! ## A score over the 128 lanes of a head is the score over the 64 lanes of its map -/

theorem half (f : Fin 2) (q k : Fin 128 → ℝ) (B : ℝ) (w : Fin 128 → EReal)
    (hw : ∀ e, w e = if e.val / 64 = f.val then (q e : EReal) * qs else 0) :
    (∑ e : Fin 128, w e * (k e : EReal)) + (B : EReal) * lg
      = ((((∑ e : Fin 64, q ⟨f.val * 64 + e.val, by omega⟩ * k ⟨f.val * 64 + e.val, by omega⟩) * 8⁻¹ + B) * (Real.log 2)⁻¹ : ℝ) : EReal) := by
  have e1 : ∀ e, w e * (k e : EReal) = ((if e.val / 64 = f.val then q e * (8⁻¹ * (Real.log 2)⁻¹) * k e else 0 : ℝ) : EReal) := fun e => by
    rw [hw]
    split
    · unfold qs; simp only [EReal.coe_mul]
    · rw [zero_mul, EReal.coe_zero]
  simp only [e1]
  rw [coe_sum]
  unfold lg
  rw [← EReal.coe_mul, ← EReal.coe_add]
  refine congrArg _ ?_
  have hs : ∑ e : Fin 128, (if e.val / 64 = f.val then q e * (8⁻¹ * (Real.log 2)⁻¹) * k e else 0)
      = ∑ e : Fin 64, q ⟨f.val * 64 + e.val, by omega⟩ * k ⟨f.val * 64 + e.val, by omega⟩ * (8⁻¹ * (Real.log 2)⁻¹) := by
    refine (Fin.sum_univ_add (a := 64) (b := 64) _).trans ?_
    match f with
    | ⟨0, _⟩ =>
      refine (congrArg₂ (· + ·) (Finset.sum_congr rfl fun e _ => ?_) (Finset.sum_eq_zero fun e _ => ?_)).trans (add_zero _)
      · rw [if_pos (by show e.val / 64 = 0; omega)]
        have he : Fin.castAdd 64 e = (⟨0 * 64 + e.val, by omega⟩ : Fin 128) := Fin.ext (by show e.val = 0 * 64 + e.val; omega)
        rw [he]; ring
      · rw [if_neg (by show ¬ (64 + e.val) / 64 = 0; omega)]
    | ⟨1, _⟩ =>
      refine (congrArg₂ (· + ·) (Finset.sum_eq_zero fun e _ => ?_) (Finset.sum_congr rfl fun e _ => ?_)).trans (zero_add _)
      · rw [if_neg (by show ¬ e.val / 64 = 1; omega)]
      · rw [if_pos (by show (64 + e.val) / 64 = 1; omega)]
        have he : Fin.natAdd 64 e = (⟨1 * 64 + e.val, by omega⟩ : Fin 128) := Fin.ext (by show 64 + e.val = 1 * 64 + e.val; omega)
        rw [he]; ring
  rw [hs, ← Finset.sum_mul]
  ring

end Cert.FullIdeal.Attn
-- ==== Proof.FullPoint.lean ====
module

public import proofs.«01_k».proof.Proof.FullValue

@[expose] public section

set_option maxRecDepth 16384

noncomputable section

open Idealize.ShloMosaic Idealize.ShloMosaic.TcCoe Idealize.SL.Sem
open Idealize.ShloMosaic.Pipeline (Dat)

namespace Cert.FullIdeal.Attn
open Cert.FullIdeal Cert.FullIdeal.Gen Cert.Soft
open Cert.FullRefIdeal.Attn (bucket rowNo rel biased joined joined_old joined_new keys vals logits attended scores_at weight weight_at row_at
  mean_split scaled_at)

/-- Every element is a real number. -/
abbrev AllReal {s : Shape} (x : FVec Ideal s .f32) : Prop := ∀ i, x i = ((EReal.toReal (x i) : ℝ) : EReal)

theorem keys_old (p : FVec Ideal S16x64x10240 .f32) (c : FVec Ideal S4x16x2048x4x128 .f32) (b : Fin 16) (j : Fin 2048) (h : Fin 4) (e : Fin 128) :
    keys p c (ix4 b ⟨j.val, by omega⟩ h e) = c (ix5 0 b j h e) := joined_old _ _ _ _ _ _

theorem keys_new (p : FVec Ideal S16x64x10240 .f32) (c : FVec Ideal S4x16x2048x4x128 .f32) (b : Fin 16) (j : Fin 64) (h : Fin 4) (e : Fin 128) :
    keys p c (ix4 b ⟨2048 + j.val, by omega⟩ h e) = p (ix3 b j ⟨512 + (h.val * 128 + e.val), by omega⟩) := by
  refine (joined_new _ _ _ _ _ _).trans ?_
  pointwise

theorem vals_old (p : FVec Ideal S16x64x10240 .f32) (c : FVec Ideal S4x16x2048x4x128 .f32) (b : Fin 16) (j : Fin 2048) (h : Fin 4) (e : Fin 128) :
    vals p c (ix4 b ⟨j.val, by omega⟩ h e) = c (ix5 0 b j h e) := joined_old _ _ _ _ _ _

theorem vals_new (p : FVec Ideal S16x64x10240 .f32) (c : FVec Ideal S4x16x2048x4x128 .f32) (b : Fin 16) (j : Fin 64) (h : Fin 4) (e : Fin 128) :
    vals p c (ix4 b ⟨2048 + j.val, by omega⟩ h e) = p (ix3 b j ⟨1024 + (h.val * 128 + e.val), by omega⟩) := by
  refine (joined_new _ _ _ _ _ _).trans ?_
  pointwise

theorem keys_real (p : FVec Ideal S16x64x10240 .f32) (c : FVec Ideal S4x16x2048x4x128 .f32) (hp : AllReal p) (hc : AllReal c)
    (b : Fin 16) (j : Fin 2112) (h : Fin 4) (e : Fin 128) :
    keys p c (ix4 b j h e) = ((EReal.toReal (keys p c (ix4 b j h e)) : ℝ) : EReal) := by
  by_cases hj : j.val < 2048
  · have k : keys p c (ix4 b j h e) = _ := keys_old p c b ⟨j.val, hj⟩ h e
    rw [k]; exact hc _
  · have k := keys_new p c b ⟨j.val - 2048, by omega⟩ h e
    have hj' : (⟨2048 + (j.val - 2048), by omega⟩ : Fin 2112) = j := Fin.ext (by show 2048 + (j.val - 2048) = j.val; omega)
    rw [hj'] at k
    rw [k]; exact hp _

theorem vals_real (p : FVec Ideal S16x64x10240 .f32) (c : FVec Ideal S4x16x2048x4x128 .f32) (hp : AllReal p) (hc : AllReal c)
    (b : Fin 16) (j : Fin 2112) (h : Fin 4) (e : Fin 128) :
    vals p c (ix4 b j h e) = ((EReal.toReal (vals p c (ix4 b j h e)) : ℝ) : EReal) := by
  by_cases hj : j.val < 2048
  · have k : vals p c (ix4 b j h e) = _ := vals_old p c b ⟨j.val, hj⟩ h e
    rw [k]; exact hc _
  · have k := vals_new p c b ⟨j.val - 2048, by omega⟩ h e
    have hj' : (⟨2048 + (j.val - 2048), by omega⟩ : Fin 2112) = j := Fin.ext (by show 2048 + (j.val - 2048) = j.val; omega)
    rw [hj'] at k
    rw [k]; exact hp _

theorem biased_real (t : FVec Ideal S32x12 .f32) (ht : AllReal t) (i : IVec S64x2112x1 32) (r : Fin 64) (j : Fin 2112) (h : Fin 4) :
    biased t i (ix3 r j h) = ((EReal.toReal (biased t i (ix3 r j h)) : ℝ) : EReal) := by
  rw [biased_at]
  exact ht _

/-- One score. -/
def score (p : FVec Ideal S16x64x10240 .f32) (ck : FVec Ideal S4x16x2048x4x128 .f32) (t : FVec Ideal S32x12 .f32)
    (b : Fin 16) (f : Fin 2) (h : Fin 4) (r : Fin 64) (j : Fin 2112) : ℝ :=
  (∑ e : Fin 64, EReal.toReal (p (ix3 b r ⟨h.val * 128 + (f.val * 64 + e.val), by omega⟩))
    * EReal.toReal (keys p ck (ix4 b j h ⟨f.val * 64 + e.val, by omega⟩))) * 8⁻¹
    + EReal.toReal (biased t (rowNo (bucket rel)) (ix3 r j h))

theorem eighth : Ideal.ofBits .f32 0x3E000000#32 = ((8⁻¹ : ℝ) : EReal) := by
  simp [Ideal.ofBits, Ideal.ieee]
  rw [← EReal.coe_mul]
  norm_num

theorem logits_real (p : FVec Ideal S16x64x10240 .f32) (ck : FVec Ideal S4x16x2048x4x128 .f32) (t : FVec Ideal S32x12 .f32)
    (hp : AllReal p) (hc : AllReal ck) (ht : AllReal t) (b : Fin 16) (f : Fin 2) (h : Fin 4) (r : Fin 64) (j : Fin 2112) :
    logits p ck t (ix5 b f h r j) = (score p ck t b f h r j : EReal) := by
  refine (scores_at _ _ _ b f h r j).trans ?_
  unfold score
  rw [eighth, biased_real t ht, EReal.coe_add, EReal.coe_mul, ← coe_sum]
  refine congrArg (fun x : EReal => x * ((8⁻¹ : ℝ) : EReal) + _) (Finset.sum_congr rfl fun e _ => ?_)
  rw [EReal.coe_mul, ← hp, ← keys_real p ck hp hc]
  refine congrArg (· * keys p ck (ix4 b j h ⟨f.val * 64 + e.val, by omega⟩)) ?_
  have ha : h.val * 128 + f.val * 64 + e.val = h.val * 128 + (f.val * 64 + e.val) := Nat.add_assoc _ _ _
  pointwise
  first | done | exact congrArg (fun x => p (ix3 b r x)) (Fin.ext (by simp only []; omega))

/-- A score as the kernel sums it, over the 128 lanes and in base 2. -/
theorem lanes (p : FVec Ideal S16x64x10240 .f32) (ck : FVec Ideal S4x16x2048x4x128 .f32) (t : FVec Ideal S32x12 .f32)
    (hp : AllReal p) (hc : AllReal ck) (ht : AllReal t) (b : Fin 16) (f : Fin 2) (h : Fin 4) (r : Fin 64) (j : Fin 2112)
    (w x : Fin 128 → EReal) (bi : EReal)
    (hw : ∀ k, w k = if k.val / 64 = f.val then p (ix3 b r ⟨h.val * 128 + k.val, by omega⟩) * qs else 0)
    (hx : ∀ k, x k = keys p ck (ix4 b j h k)) (hb : bi = biased t (rowNo (bucket rel)) (ix3 r j h)) :
    (∑ k : Fin 128, w k * x k) + bi * lg = ((score p ck t b f h r j * (Real.log 2)⁻¹ : ℝ) : EReal) := by
  have hw' : ∀ k, w k = if k.val / 64 = f.val then (((p (ix3 b r ⟨h.val * 128 + k.val, by omega⟩)).toReal : ℝ) : EReal) * qs else 0 := fun k => by
    rw [hw, ← hp]
  have e := half f (fun k => EReal.toReal (p (ix3 b r ⟨h.val * 128 + k.val, by omega⟩))) (fun k => EReal.toReal (keys p ck (ix4 b j h k)))
    (EReal.toReal (biased t (rowNo (bucket rel)) (ix3 r j h))) w hw'
  refine Eq.trans ?_ e
  rw [hb, ← biased_real t ht]
  refine congrArg (· + _) (Finset.sum_congr rfl fun k _ => ?_)
  rw [hx, ← keys_real p ck hp hc]

theorem low_half (k : Fin 128) : k.val < 64 ↔ k.val / 64 = (0 : Fin 2).val := by
  show k.val < 64 ↔ k.val / 64 = 0
  omega

theorem high_half (k : Fin 128) : 64 ≤ k.val ↔ k.val / 64 = (1 : Fin 2).val := by
  show 64 ≤ k.val ↔ k.val / 64 = 1
  omega

variable (m : (ℓ : Loc nD τ sig) → Buf (Elt Ideal) ℓ)

/-- What the launch leaves in the result. -/
abbrev result (c : Dev nD) : FVec Ideal S16x64x512 .f32 :=
  attended (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- The arguments a score depends on are real. -/
structure Reals (c : Dev nD) : Prop where
  p : AllReal (s := S16x64x10240) (m ((c : Thread nD τ).loc main_arg0))
  ck : AllReal (s := S4x16x2048x4x128) (m ((c : Thread nD τ).loc main_arg1))
  cv : AllReal (s := S4x16x2048x4x128) (m ((c : Thread nD τ).loc main_arg2))
  t : AllReal (s := S32x12) (m ((c : Thread nD τ).loc main_arg3))
  li : AllReal (s := S1) (m ((c : Thread nD τ).loc main_arg4))
  a : AllReal (s := S4x64) (m ((c : Thread nD τ).loc main_arg5))

abbrev sc (c : Dev nD) := score (m ((c : Thread nD τ).loc main_arg0)) (m ((c : Thread nD τ).loc main_arg1)) (m ((c : Thread nD τ).loc main_arg3))

theorem old0_real (c : Dev nD) (H : Reals m c) (t : Fin cfg0.N) (r : Fin 64) (j : Fin 2048) :
    old0 (iblk m c 1 t) (iblk m c 2 t) (iblk m c 6 t) (ix2 r j)
      = ((sc m c (bat t) 0 (head t) r ⟨j.val, by omega⟩ * (Real.log 2)⁻¹ : ℝ) : EReal) := by
  refine (cached0_at _ _ _ r j).trans (lanes _ _ _ H.p H.ck H.t (bat t) 0 (head t) r ⟨j.val, by omega⟩ _ _ _ (fun k => ?_) (fun k => ?_) ?_)
  · rw [query0_at, read1]; exact if_congr (low_half k) rfl rfl
  · rw [read2]; exact (keys_old _ _ _ _ _ _).symm
  · exact (biasOld_at _ _ _).trans (read6 m c t r _)

theorem old1_real (c : Dev nD) (H : Reals m c) (t : Fin cfg0.N) (r : Fin 64) (j : Fin 2048) :
    old1 (iblk m c 1 t) (iblk m c 2 t) (iblk m c 6 t) (ix2 r j)
      = ((sc m c (bat t) 1 (head t) r ⟨j.val, by omega⟩ * (Real.log 2)⁻¹ : ℝ) : EReal) := by
  refine (cached1_at _ _ _ r j).trans (lanes _ _ _ H.p H.ck H.t (bat t) 1 (head t) r ⟨j.val, by omega⟩ _ _ _ (fun k => ?_) (fun k => ?_) ?_)
  · rw [query1_at, read1]; exact if_congr (high_half k) rfl rfl
  · rw [read2]; exact (keys_old _ _ _ _ _ _).symm
  · exact (biasOld_at _ _ _).trans (read6 m c t r _)

theorem new0_real (c : Dev nD) (H : Reals m c) (t : Fin cfg0.N) (r : Fin 64) (j : Fin 64) :
    new0 (iblk m c 1 t) (iblk m c 4 t) (iblk m c 6 t) (ix2 r j)
      = ((sc m c (bat t) 0 (head t) r ⟨2048 + j.val, by omega⟩ * (Real.log 2)⁻¹ : ℝ) : EReal) := by
  refine (fresh0_at _ _ _ r j).trans (lanes _ _ _ H.p H.ck H.t (bat t) 0 (head t) r ⟨2048 + j.val, by omega⟩ _ _ _ (fun k => ?_) (fun k => ?_) ?_)
  · rw [query0_at, read1]; exact if_congr (low_half k) rfl rfl
  · rw [read4]; exact (keys_new _ _ _ _ _ _).symm
  · exact (biasNew_at _ _ _).trans (read6 m c t r _)

theorem new1_real (c : Dev nD) (H : Reals m c) (t : Fin cfg0.N) (r : Fin 64) (j : Fin 64) :
    new1 (iblk m c 1 t) (iblk m c 4 t) (iblk m c 6 t) (ix2 r j)
      = ((sc m c (bat t) 1 (head t) r ⟨2048 + j.val, by omega⟩ * (Real.log 2)⁻¹ : ℝ) : EReal) := by
  refine (fresh1_at _ _ _ r j).trans (lanes _ _ _ H.p H.ck H.t (bat t) 1 (head t) r ⟨2048 + j.val, by omega⟩ _ _ _ (fun k => ?_) (fun k => ?_) ?_)
  · rw [query1_at, read1]; exact if_congr (high_half k) rfl rfl
  · rw [read4]; exact (keys_new _ _ _ _ _ _).symm
  · exact (biasNew_at _ _ _).trans (read6 m c t r _)

theorem weight_real (a : FVec Ideal S4x64 .f32) (li : FVec Ideal S1 .f32) (ha : AllReal a) (hl : AllReal li) :
    ∃ l : ℝ, weight a li (ix1 0) = (l : EReal) := by
  have hs : ∀ i j : Fin 4, ∃ q : ℝ, Ideal.exp (∑ k : Fin 64, a (ix2 i k) * a (ix2 j k)) = (q : EReal) := fun i j => by
    have e : ∀ k : Fin 64, a (ix2 i k) * a (ix2 j k) = ((EReal.toReal (a (ix2 i k)) * EReal.toReal (a (ix2 j k)) : ℝ) : EReal) := fun k => by
      rw [EReal.coe_mul, ← ha, ← ha]
    exact ⟨_, (congrArg Ideal.exp ((Finset.sum_congr rfl fun k _ => e k).trans (coe_sum _))).trans (Ideal.exp_coe _)⟩
  obtain ⟨q, hq⟩ := hs 0 1
  obtain ⟨q', hq'⟩ := hs 2 3
  refine ⟨q - q' + EReal.toReal (li (ix1 0)), ?_⟩
  rw [weight_at, hq, hq', EReal.coe_add, EReal.coe_sub, ← hl]

theorem lam_eq (c : Dev nD) (t : Fin cfg0.N) : lam (iblk m c 7 t) ((m ((c : Thread nD τ).loc main_arg4) : FVec Ideal S1 .f32) (ix1 0))
    = weight (m ((c : Thread nD τ).loc main_arg5)) (m ((c : Thread nD τ).loc main_arg4)) (ix1 0) := by
  rw [weight_at]
  unfold lam
  simp only [read7]

theorem point (c : Dev nD) (H : Reals m c) (t : Fin cfg0.N) (y : S1x64x128.Idx) :
    outsAt0 m c t y = result m c (((cfg0.win 9).blk t).view.emb y) := by
  idx_vars y
  obtain ⟨e0, e1, e2, e3, e4, e5, e6, e7, e8, e9, e10⟩ := idx t
  obtain rfl : y0 = 0 := Subsingleton.elim _ _
  have hemb : (((cfg0.win 9).blk t).view.emb (ix3 0 y1 y2) : S16x64x512.Idx) = ix3 (bat t) y1 (⟨(head t).val * 128 + y2.val, by omega⟩ : Fin 512) := by
    blk_ext [e9]
  rw [hemb, stored m c t _ (read0 m c t)]
  obtain ⟨l, hl⟩ := weight_real _ _ H.a H.li
  refine (block_at _ _ _ _ _ _ _ _ _ y1 (fun j => sc m c (bat t) 0 (head t) y1 ⟨j.val, by omega⟩)
    (fun j => sc m c (bat t) 1 (head t) y1 ⟨j.val, by omega⟩) (fun j => sc m c (bat t) 0 (head t) y1 ⟨2048 + j.val, by omega⟩)
    (fun j => sc m c (bat t) 1 (head t) y1 ⟨2048 + j.val, by omega⟩)
    (fun j e => EReal.toReal (vals (m ((c : Thread nD τ).loc main_arg0)) (m ((c : Thread nD τ).loc main_arg2)) (ix4 (bat t) ⟨j.val, by omega⟩ (head t) e)))
    (fun j e => EReal.toReal (vals (m ((c : Thread nD τ).loc main_arg0)) (m ((c : Thread nD τ).loc main_arg2)) (ix4 (bat t) ⟨2048 + j.val, by omega⟩ (head t) e)))
    (old0_real m c H t y1) (old1_real m c H t y1) (new0_real m c H t y1) (new1_real m c H t y1)
    (fun j e => ?_) (fun j e => ?_) y2).trans ?_
  · rw [read3, ← vals_real _ _ H.p H.cv]; exact (vals_old _ _ _ _ _ _).symm
  · rw [read5, ← vals_real _ _ H.p H.cv]; exact (vals_new _ _ _ _ _ _).symm
  refine Eq.trans ?_ (scaled_at _ _ _ (bat t) y1 (head t) y2).symm
  simp only [row_at _ _ _ (bat t) y1 (head t) (sc m c (bat t) 0 (head t) y1) (sc m c (bat t) 1 (head t) y1)
    (fun j e => EReal.toReal (vals (m ((c : Thread nD τ).loc main_arg0)) (m ((c : Thread nD τ).loc main_arg2)) (ix4 (bat t) j (head t) e))) l
    (logits_real _ _ _ H.p H.ck H.t (bat t) 0 (head t) y1) (logits_real _ _ _ H.p H.ck H.t (bat t) 1 (head t) y1)
    (fun j e => vals_real _ _ H.p H.cv _ _ _ _) hl]
  unfold normed
  rw [lam_eq, hl]
  simp only [mean_split, EReal.coe_sub, EReal.coe_mul, read8]

/-- The result array after the launch. -/
theorem final (c : Dev nD) (H : Reals m c) : (dats m 0 c).arrAt 9 (cfgs 0).N = result m c := by
  refine (dats m 0 c).arrAt_eq_of_covers 9 _ (by decide +kernel) fun t _ y => ?_
  refine Eq.trans ?_ (point m c H t y)
  blk_simp
  rw [after0_9]

end Cert.FullIdeal.Attn
-- ==== Proof.FullPre.lean ====
module

public import proofs.«01_k».proof.Defs
public import proofs.«01_k».proof.Proof.Gen.Pre_finite
public import proofs.«01_k».proof.Proof.Gen.FullRefIdeal.Run
public import proofs.«01_k».proof.Proof.FullPoint
public import Idealize.ShloMosaic.Lib.ReduceAll

@[expose] public section

set_option maxRecDepth 16384

noncomputable section

open Idealize.ShloMosaic Idealize.ShloMosaic.TcCoe Idealize.SL.Sem

namespace Cert.FullIdeal.Attn
open Cert.FullIdeal Cert.FullIdeal.Gen

/-! ## The precondition says that every element is real -/

theorem inf_bits : Ideal.ofBits .f32 0x7F800000#32 = (⊤ : EReal) := by
  simp [Ideal.ofBits, Ideal.ieee]

theorem real_of_bit (x : EReal) (h : Ideal.cmp .olt (max x (-x)) (Ideal.ofBits .f32 0x7F800000#32) = 1#1) :
    x = ((EReal.toReal x : ℝ) : EReal) := by
  rw [inf_bits] at h
  have hlt : max x (-x) < ⊤ := by
    by_contra hn
    simp [Ideal.cmp, hn] at h
  have ht : x ≠ ⊤ := fun e => by simp [e] at hlt
  have hb : x ≠ ⊥ := fun e => by simp [e] at hlt
  exact (EReal.coe_toReal ht hb).symm

theorem scalar_unique (i j : Cert.Pre_finite.S_.Idx) : i = j := funext fun k => k.elim0

instance : Subsingleton Cert.Pre_finite.S_.Idx := ⟨scalar_unique⟩

/-- One `all(|x| < ∞)` of the precondition, read at an element. -/
theorem all_real {s : Shape} {axes : List (Fin s.rank)} (x : FVec Ideal s .f32)
    (hb : Cert.Pre_finite.S_.BroadcastsInDim s (![] : Fin 0 → Fin s.rank))
    (hr : s.ReducesTo axes Cert.Pre_finite.S_) (hu : 0 < Cert.Pre_finite.S_.numel) (j : Cert.Pre_finite.S_.Idx)
    (h : Host.reduce IntOp.andi
        (cmpf .olt (Host.absf x) (broadcastInDim s ![] hb (constant (F := Ideal) Cert.Pre_finite.S_ .f32 0x7F800000#32)))
        (constantI Cert.Pre_finite.S_ 1 1#1) hr hu j = 1#1) : AllReal x := fun i =>
  real_of_bit (x i) (Host.reduce_andi_all _ _ hr hu j h i)

theorem both {x y : IVec Cert.Pre_finite.S_ 1} {j : Cert.Pre_finite.S_.Idx} (h : andi x y j = 1#1) : x j = 1#1 ∧ y j = 1#1 :=
  IntOp.andi_eq_one.1 h

theorem reals_of (p : FVec Ideal Cert.Pre_finite.S16x64x10240 .f32) (ck cv : FVec Ideal Cert.Pre_finite.S4x16x2048x4x128 .f32)
    (t : FVec Ideal Cert.Pre_finite.S32x12 .f32) (li : FVec Ideal Cert.Pre_finite.S1 .f32)
    (a : FVec Ideal Cert.Pre_finite.S4x64 .f32) (g : FVec Ideal Cert.Pre_finite.S128 .f32) (j : Cert.Pre_finite.S_.Idx)
    (h : Cert.Pre_finite.fn (F := Ideal) p ck cv t li a g j = 1#1) :
    AllReal p ∧ AllReal ck ∧ AllReal cv ∧ AllReal t ∧ AllReal li ∧ AllReal a := by
  unfold Cert.Pre_finite.fn Cert.Pre_finite.fn_part1 at h
  obtain ⟨h, h5⟩ := both h
  obtain ⟨h, h4⟩ := both h
  obtain ⟨h, h3⟩ := both h
  obtain ⟨h, h2⟩ := both h
  obtain ⟨h0, h1⟩ := both h
  exact ⟨all_real p _ _ _ j h0, all_real ck _ _ _ j h1, all_real cv _ _ _ j h2, all_real t _ _ _ j h3,
    all_real li _ _ _ j h4, all_real a _ _ _ j h5⟩

theorem reals (m : (ℓ : Loc nD τ sig) → Buf (Elt Ideal) ℓ) (h : Cert.Pre_FullIdeal_finite m) (c : Dev nD) : Reals m c := by
  obtain ⟨h0, h1, h2, h3, h4, h5⟩ := reals_of _ _ _ _ _ _ _ (fun k => k.elim0) (congrFun (h c) _)
  exact ⟨h0, h1, h2, h3, h4, h5⟩

end Cert.FullIdeal.Attn

namespace Cert.FullRefIdeal.Attn
open Cert.FullRefIdeal Cert.FullRefIdeal.Gen

/-! ## What the reference's run returns -/

theorem returned (V0 : Valuation τ sig (Elt Ideal)) :
    scaled (Value.res_main_v108 V0) (V0 (Proc.devRef .tc main_arg6)) (V0 (Proc.devRef .tc main_arg4)) =
      attended (V0 (Proc.devRef .tc main_arg0)) (V0 (Proc.devRef .tc main_arg1)) (V0 (Proc.devRef .tc main_arg2))
        (V0 (Proc.devRef .tc main_arg3)) (V0 (Proc.devRef .tc main_arg4)) (V0 (Proc.devRef .tc main_arg5))
        (V0 (Proc.devRef .tc main_arg6)) := by
  rw [mixed_eq, attended]

/-- Equal arguments, equal results. -/
theorem attended_congr {p p' : FVec Ideal S16x64x10240 .f32} {ck ck' cv cv' : FVec Ideal S4x16x2048x4x128 .f32}
    {t t' : FVec Ideal S32x12 .f32} {li li' : FVec Ideal S1 .f32} {a a' : FVec Ideal S4x64 .f32} {g g' : FVec Ideal S128 .f32}
    (e0 : p' = p) (e1 : ck' = ck) (e2 : cv' = cv) (e3 : t' = t) (e4 : li' = li) (e5 : a' = a) (e6 : g' = g) :
    attended p' ck' cv' t' li' a' g' = attended p ck cv t li a g := by
  rw [e0, e1, e2, e3, e4, e5, e6]

end Cert.FullRefIdeal.Attn

end

end
-- ==== Proof.ModValue.lean ====
module

public import proofs.«01_k».proof.Proof.Gen.ModulateIdeal.Value
public import proofs.«01_k».proof.Proof.Gen.ModulateRefIdeal.Run
public import Idealize.ShloMosaic.Lib.Pipeline.ReadBack
public import Idealize.ShloMosaic.Lib.Pipeline.ValueKit

@[expose] public section

set_option maxRecDepth 16384

noncomputable section

open Idealize.ShloMosaic Idealize.ShloMosaic.TcCoe Idealize.SL.Sem

namespace Cert.ModulateRefIdeal.Md
open Cert.ModulateRefIdeal Cert.ModulateRefIdeal.Gen

/-- The rows of both batches. -/
def rows (p s : FVec Ideal S16x1024 .f32) : FVec Ideal S32x1024 .f32 :=
  concatenate S32x1024 0 [⟨S16x1024, p⟩, ⟨S16x1024, s⟩] concatenates_S16x1024_S16x1024_S32x1024_d0

/-- The modulation of every layer, from the rows. -/
def modulated (c : FVec Ideal S32x1024 .f32) (w : FVec Ideal S4x1024x6144 .f32) (b : FVec Ideal S4x6144 .f32) : FVec Ideal S4x32x6144 .f32 :=
  addf (transpose S4x32x6144 [0, 2, 1] (Host.dotGeneral dot_S4x1024x6144_S32x1024_S4x6144x32_1_1_02_0_n_n none w
    (mulf c (Host.divf (broadcastInDim S32x1024 ![] bcast_S_S32x1024 (constant S_ .f32 0x3F800000#32))
      (addf (broadcastInDim S32x1024 ![] bcast_S_S32x1024 (constant S_ .f32 0x3F800000#32)) (Host.exp (Host.negf c))))))
    transposes_S4x6144x32_S4x32x6144_0_2_1)
    (broadcastInDim S4x32x6144 ![0, 1, 2] bcast_S4x1x6144_S4x32x6144_0_1_2 (broadcastInDim S4x1x6144 ![0, 2] bcast_S4x6144_S4x1x6144_0_2 b))

theorem modulated_at (c : FVec Ideal S32x1024 .f32) (w : FVec Ideal S4x1024x6144 .f32) (b : FVec Ideal S4x6144 .f32)
    (l : Fin 4) (r : Fin 32) (n : Fin 6144) : modulated c w b (ix3 l r n) =
      (∑ k : Fin 1024, w (ix3 l k n) * (c (ix2 r k) * Ideal.div 1 (1 + Ideal.exp (-c (ix2 r k))))) + b (ix2 l n) := by
  pointwise [modulated]

end Cert.ModulateRefIdeal.Md

namespace Cert.ModulateIdeal.Md
open Cert.ModulateIdeal Cert.ModulateIdeal.Gen
open Cert.ModulateRefIdeal.Md (rows modulated modulated_at)

theorem pay_at (c : Vec Ideal S32x1024 .f32) (w : Vec Ideal S1x1024x1024 .f32) (b : Vec Ideal S1x1x1024 .f32) (z : Fin 1) (r : Fin 32) (n : Fin 1024) :
    k0_pay1 (F := Ideal) c w b (ix3 z r n) =
      (∑ k : Fin 1024, c (ix2 r k) * Ideal.logistic (c (ix2 r k)) * w (ix3 0 k n)) + b (ix3 0 0 n) := by
  pointwise [k0_pay1]

variable (m : (ℓ : Loc nD τ sig) → Buf (Elt Ideal) ℓ)

theorem V_rows (c : Dev nD) : V m c main_v0 = rows (m ((c : Thread nD τ).loc main_arg0)) (m ((c : Thread nD τ).loc main_arg1)) := by
  entry_read
  rfl

theorem idx : ∀ t : Fin cfg0.N, win0_0.index t = ![0, 0] ∧ win0_1.index t = ![t.val / 6, 0, t.val % 6]
    ∧ win0_2.index t = ![t.val / 6, 0, t.val % 6] ∧ win0_3.index t = ![t.val / 6, 0, t.val % 6] ∧ t.val < 24 :=
  (by decide +kernel : ∀ t : Fin grid0.N, _)

/-- What the launch leaves in the result. -/
abbrev result (c : Dev nD) : FVec Ideal S4x32x6144 .f32 :=
  modulated (rows (m ((c : Thread nD τ).loc main_arg0)) (m ((c : Thread nD τ).loc main_arg1)))
    (m ((c : Thread nD τ).loc main_arg2)) (m ((c : Thread nD τ).loc main_arg3))

theorem stored (c : Dev nD) (t : Fin cfg0.N) (y : S1x32x1024.Idx) :
    k0_pay1 (F := Ideal) (iblk m c 0 t) (iblk m c 1 t) (iblk m c 2 t) y = result m c (((cfg0.win 3).blk t).view.emb y) := by
  idx_vars y
  obtain ⟨e0, e1, e2, e3, ht⟩ := idx t
  have h0 : y0.val < 1 := y0.isLt
  have h1 : t.val / 6 < 4 := by omega
  have h2 : t.val % 6 * 1024 + y2.val < 6144 := by omega
  have hemb : (((cfg0.win 3).blk t).view.emb (ix3 y0 y1 y2) : S4x32x6144.Idx) = ix3 ⟨t.val / 6, h1⟩ y1 ⟨t.val % 6 * 1024 + y2.val, h2⟩ := by
    blk_ext [e3]
  have hr : ∀ k : Fin 1024, (show FVec Ideal S32x1024 .f32 from iblk m c 0 t) (ix2 y1 k)
      = rows (m ((c : Thread nD τ).loc main_arg0)) (m ((c : Thread nD τ).loc main_arg1)) (ix2 y1 k) := fun k => by
    rw [← V_rows]
    blk_point [iblk, e0]
  have hw : ∀ k : Fin 1024, (show FVec Ideal S1x1024x1024 .f32 from iblk m c 1 t) (ix3 0 k y2)
      = (show FVec Ideal S4x1024x6144 .f32 from m ((c : Thread nD τ).loc main_arg2)) (ix3 ⟨t.val / 6, h1⟩ k ⟨t.val % 6 * 1024 + y2.val, h2⟩) := fun k => by
    blk_point [iblk, V, e1]
  have hb : (show FVec Ideal S1x1x1024 .f32 from iblk m c 2 t) (ix3 0 0 y2)
      = (show FVec Ideal S4x6144 .f32 from m ((c : Thread nD τ).loc main_arg3)) (ix2 ⟨t.val / 6, h1⟩ ⟨t.val % 6 * 1024 + y2.val, h2⟩) := by
    blk_point [iblk, V, e2]
  rw [hemb]
  refine (pay_at _ _ _ y0 y1 y2).trans (Eq.trans ?_ (modulated_at _ _ _ _ _ _).symm)
  refine congrArg₂ (· + ·) (Finset.sum_congr rfl fun k _ => ?_) hb
  refine (congrArg₂ (· * ·) (congrArg (fun x : EReal => x * Ideal.logistic x) (hr k)) (hw k)).trans ?_
  exact mul_comm _ _

/-- The result array after the launch. -/
theorem final (c : Dev nD) : (dats m 0 c).arrAt 3 (cfgs 0).N = result m c := by
  refine (dats m 0 c).arrAt_eq_of_covers 3 _ (by decide +kernel) fun t hf y => ?_
  refine Eq.trans ?_ (stored m c t y)
  blk_simp
  rw [after0_3]
  frame_out

end Cert.ModulateIdeal.Md
-- ==== Proof.ConvRef.lean ====
module

public import proofs.«01_k».proof.Proof.Gen.ConvRefIdeal.Run
public import Idealize.ShloMosaic.Lib.Pipeline.ValueKit

@[expose] public section

set_option maxRecDepth 16384

noncomputable section

open Idealize.ShloMosaic Idealize.ShloMosaic.TcCoe Idealize.SL.Sem

namespace Cert.ConvRefIdeal.Cv
open Cert.ConvRefIdeal Cert.ConvRefIdeal.Gen Cert.ConvRefIdeal.Value

/-- The 31 products of one output, summed from the first. -/
def taps (w a : ℕ → EReal) : EReal :=
  w 0 * a 0 + w 1 * a 1 + w 2 * a 2 + w 3 * a 3 + w 4 * a 4 + w 5 * a 5 + w 6 * a 6 + w 7 * a 7 + w 8 * a 8 + w 9 * a 9 + w 10 * a 10
    + w 11 * a 11 + w 12 * a 12 + w 13 * a 13 + w 14 * a 14 + w 15 * a 15 + w 16 * a 16 + w 17 * a 17 + w 18 * a 18 + w 19 * a 19
    + w 20 * a 20 + w 21 * a 21 + w 22 * a 22 + w 23 * a 23 + w 24 * a 24 + w 25 * a 25 + w 26 * a 26 + w 27 * a 27 + w 28 * a 28
    + w 29 * a 29 + w 30 * a 30

/-- Layer norm of a row and silu. -/
def normed (y g b : Fin 512 → EReal) (d : Fin 512) : EReal :=
  let mean := Ideal.div (∑ k : Fin 512, y k) (Ideal.ofBits .f32 0x44000000#32)
  let var := Ideal.div (∑ k : Fin 512, (y k - mean) * (y k - mean)) (Ideal.ofBits .f32 0x44000000#32)
  let n := (y d - mean) * Ideal.rsqrt (var + Ideal.ofBits .f32 0x358637BD#32) * g d + b d
  n * Ideal.div 1 (1 + Ideal.exp (-n))

/-- The gated linear unit's rows, after 32 rows of zeros. -/
def glu (x : FVec Ideal S16x4096x10240 .f32) (b : Fin 16) (n : ℕ) (e : Fin 512) : EReal :=
  if h : 32 ≤ n ∧ n < 4128 then
    x (ix3 b ⟨n - 32, by omega⟩ ⟨1536 + e.val, by omega⟩)
      * Ideal.div 1 (1 + Ideal.exp (-(x (ix3 b ⟨n - 32, by omega⟩ ⟨2048 + e.val, by omega⟩))))
  else 0

/-- The convolution with its bias, from the launch's arguments. -/
def row (x : FVec Ideal S16x4096x10240 .f32) (w : FVec Ideal S31x512 .f32) (dwb : FVec Ideal S512 .f32) (q : Fin 16) (p : ℕ)
    (e : Fin 512) : EReal :=
  taps (fun k => w (ix2 (Fin.ofNat 31 k) e)) (fun k => glu x q (k + p + 2) e) + dwb (ix1 e)

/-- The convolution module's row at position `p`. -/
def outRow (x : FVec Ideal S16x4096x10240 .f32) (w : FVec Ideal S31x512 .f32) (dwb g b : FVec Ideal S512 .f32) (q : Fin 16) (p : ℕ)
    (d : Fin 512) : EReal :=
  normed (row x w dwb q p) (fun e => g (ix1 e)) (fun e => b (ix1 e)) d

variable (V0 : Valuation τ sig (Elt Ideal))

/-- An entry of the gated linear unit. -/
theorem v9_at (q : Fin 16) (p : Fin 4096) (e : Fin 512) :
    (res_main_v9 V0 : FVec Ideal S16x4096x512 .f32) (ix3 q p e)
      = glu (V0 (Proc.devRef .tc main_arg0) : FVec Ideal S16x4096x10240 .f32) q (p.val + 32) e := by
  have h : 32 ≤ p.val + 32 ∧ p.val + 32 < 4128 := by omega
  have e1 : p.val + 32 - 32 = p.val := by omega
  unfold glu
  rw [dif_pos h]
  simp only [e1]
  have e2 : 1536 + (512 + e.val) = 2048 + e.val := by omega
  pointwise [res_main_v9, res_main_v0]
  simp only [e2]

/-- An entry of the rows of zeros joined with the gated rows. -/
theorem v11_at (q : Fin 16) (n : Fin 4126) (e : Fin 512) :
    (res_main_v11 V0 : FVec Ideal S16x4126x512 .f32) (ix3 q n e)
      = glu (V0 (Proc.devRef .tc main_arg0) : FVec Ideal S16x4096x10240 .f32) q (n.val + 2) e := by
  by_cases h : n.val < 30
  · have h' : ¬ (32 ≤ n.val + 2 ∧ n.val + 2 < 4128) := by omega
    unfold glu
    rw [dif_neg h']
    pointwise [res_main_v11]
    rw [dif_pos h]
  · have e1 : n.val + 2 = n.val - 30 + 32 := by omega
    rw [e1]
    refine Eq.trans ?_ (v9_at V0 q ⟨n.val - 30, by omega⟩ e)
    pointwise [res_main_v11]
    rw [dif_neg h]

/-- An entry of the convolution, before the bias. -/
theorem v230_at (q : Fin 16) (p : Fin 4096) (e : Fin 512) :
    (res_main_v230 V0 : FVec Ideal S16x4096x512 .f32) (ix3 q p e)
      = row (V0 (Proc.devRef .tc main_arg0)) (V0 (Proc.devRef .tc main_arg1)) (V0 (Proc.devRef .tc main_arg2)) q p.val e := by
  pointwise [res_main_v230, res_main_v164, res_main_v87]
  simp only [v11_at]
  unfold row taps
  simp only [Nat.zero_add]
  rfl

/-- The first result, at an entry. -/
theorem out_at (q : Fin 16) (p : Fin 4096) (d : Fin 512) :
    mulf (res_main_v252 V0 : FVec Ideal S16x4096x512 .f32) (Host.divf (broadcastInDim S16x4096x512 ![] bcast_S_S16x4096x512 (constant S_ .f32 0x3F800000#32))
      (addf (broadcastInDim S16x4096x512 ![] bcast_S_S16x4096x512 (constant S_ .f32 0x3F800000#32)) (Host.exp (Host.negf (res_main_v252 V0))))) (ix3 q p d)
      = outRow (V0 (Proc.devRef .tc main_arg0)) (V0 (Proc.devRef .tc main_arg1)) (V0 (Proc.devRef .tc main_arg2))
          (V0 (Proc.devRef .tc main_arg3)) (V0 (Proc.devRef .tc main_arg4)) q p.val d := by
  pointwise [res_main_v252, res_main_v236]
  simp only [v230_at]
  rfl

/-- The second result, at an entry. -/
theorem tail_at (q : Fin 16) (r : Fin 32) (d : Fin 512) :
    extractStridedSlice S16x32x512 ![0, 4064, 0] (res_main_v9 V0 : FVec Ideal S16x4096x512 .f32) slices_S16x4096x512_S16x32x512_0_4064_0 (ix3 q r d)
      = glu (V0 (Proc.devRef .tc main_arg0)) q (4096 + r.val) d := by
  have e1 : 4096 + r.val = 4064 + r.val + 32 := by omega
  rw [e1]
  refine Eq.trans ?_ (v9_at V0 q ⟨4064 + r.val, by omega⟩ d)
  pointwise []

end Cert.ConvRefIdeal.Cv
-- ==== Proof.ConvPay.lean ====
module

public import proofs.«01_k».proof.Proof.Gen.ConvIdeal.Skeleton
public import proofs.«01_k».proof.Proof.ConvRef

@[expose] public section

set_option maxRecDepth 16384

noncomputable section

open Idealize.ShloMosaic Idealize.ShloMosaic.TcCoe Idealize.SL.Sem

namespace Cert.ConvIdeal.Cv
open Cert.ConvIdeal Cert.ConvIdeal.Gen
open Cert.ConvRefIdeal.Cv (taps normed)

/-! The four chunks of a tile, from what their loads read: `A k` row `i` of tap `k`'s rows, `W k` its weights. -/

/-- The products of the first chunk of 64 rows, summed as far as the chunk's last payload takes them. -/
theorem acc0_at {W A : ℕ → Fin 512 → EReal} (i : Fin 64) {a0 a1 a2 a3 a4 a5 a7 a8 a9 a10 a11 a12 a13 a15 a16 a17 a18 a19 a20 a21 a23 a24 a25 a26 a27
    a28 a29 : Vec Ideal S1x64x512 .f32} {w0 w1 w2 w3 w4 w5 w6 w7 w8 w9 w10 w11 w12 w13 w14 w15 w16 w17 w18 w19 w20 w21 w22 w23 w24 w25 w26 w27 w28 w29 :
    Vec Ideal S1x512 .f32} {a6 a14 a22 : Vec Ideal S64x512 .f32} (ha0 : ∀ e : Fin 512, a0 (ix3 0 i e) = A 0 e) (hw0 : ∀ e : Fin 512, w0 (ix2 0 e) = W 0 e)
    (ha1 : ∀ e : Fin 512, a1 (ix3 0 i e) = A 1 e) (hw1 : ∀ e : Fin 512, w1 (ix2 0 e) = W 1 e) (ha2 : ∀ e : Fin 512, a2 (ix3 0 i e) = A 2 e) (hw2 : ∀ e :
    Fin 512, w2 (ix2 0 e) = W 2 e) (ha3 : ∀ e : Fin 512, a3 (ix3 0 i e) = A 3 e) (hw3 : ∀ e : Fin 512, w3 (ix2 0 e) = W 3 e) (ha4 : ∀ e : Fin 512, a4 (ix3
    0 i e) = A 4 e) (hw4 : ∀ e : Fin 512, w4 (ix2 0 e) = W 4 e) (ha5 : ∀ e : Fin 512, a5 (ix3 0 i e) = A 5 e) (hw5 : ∀ e : Fin 512, w5 (ix2 0 e) = W 5 e)
    (ha6 : ∀ e : Fin 512, a6 (ix2 i e) = A 6 e) (hw6 : ∀ e : Fin 512, w6 (ix2 0 e) = W 6 e) (ha7 : ∀ e : Fin 512, a7 (ix3 0 i e) = A 7 e) (hw7 : ∀ e : Fin
    512, w7 (ix2 0 e) = W 7 e) (ha8 : ∀ e : Fin 512, a8 (ix3 0 i e) = A 8 e) (hw8 : ∀ e : Fin 512, w8 (ix2 0 e) = W 8 e) (ha9 : ∀ e : Fin 512, a9 (ix3 0 i
    e) = A 9 e) (hw9 : ∀ e : Fin 512, w9 (ix2 0 e) = W 9 e) (ha10 : ∀ e : Fin 512, a10 (ix3 0 i e) = A 10 e) (hw10 : ∀ e : Fin 512, w10 (ix2 0 e) = W 10
    e) (ha11 : ∀ e : Fin 512, a11 (ix3 0 i e) = A 11 e) (hw11 : ∀ e : Fin 512, w11 (ix2 0 e) = W 11 e) (ha12 : ∀ e : Fin 512, a12 (ix3 0 i e) = A 12 e)
    (hw12 : ∀ e : Fin 512, w12 (ix2 0 e) = W 12 e) (ha13 : ∀ e : Fin 512, a13 (ix3 0 i e) = A 13 e) (hw13 : ∀ e : Fin 512, w13 (ix2 0 e) = W 13 e) (ha14 :
    ∀ e : Fin 512, a14 (ix2 i e) = A 14 e) (hw14 : ∀ e : Fin 512, w14 (ix2 0 e) = W 14 e) (ha15 : ∀ e : Fin 512, a15 (ix3 0 i e) = A 15 e) (hw15 : ∀ e :
    Fin 512, w15 (ix2 0 e) = W 15 e) (ha16 : ∀ e : Fin 512, a16 (ix3 0 i e) = A 16 e) (hw16 : ∀ e : Fin 512, w16 (ix2 0 e) = W 16 e) (ha17 : ∀ e : Fin
    512, a17 (ix3 0 i e) = A 17 e) (hw17 : ∀ e : Fin 512, w17 (ix2 0 e) = W 17 e) (ha18 : ∀ e : Fin 512, a18 (ix3 0 i e) = A 18 e) (hw18 : ∀ e : Fin 512,
    w18 (ix2 0 e) = W 18 e) (ha19 : ∀ e : Fin 512, a19 (ix3 0 i e) = A 19 e) (hw19 : ∀ e : Fin 512, w19 (ix2 0 e) = W 19 e) (ha20 : ∀ e : Fin 512, a20
    (ix3 0 i e) = A 20 e) (hw20 : ∀ e : Fin 512, w20 (ix2 0 e) = W 20 e) (ha21 : ∀ e : Fin 512, a21 (ix3 0 i e) = A 21 e) (hw21 : ∀ e : Fin 512, w21 (ix2
    0 e) = W 21 e) (ha22 : ∀ e : Fin 512, a22 (ix2 i e) = A 22 e) (hw22 : ∀ e : Fin 512, w22 (ix2 0 e) = W 22 e) (ha23 : ∀ e : Fin 512, a23 (ix3 0 i e) =
    A 23 e) (hw23 : ∀ e : Fin 512, w23 (ix2 0 e) = W 23 e) (ha24 : ∀ e : Fin 512, a24 (ix3 0 i e) = A 24 e) (hw24 : ∀ e : Fin 512, w24 (ix2 0 e) = W 24 e)
    (ha25 : ∀ e : Fin 512, a25 (ix3 0 i e) = A 25 e) (hw25 : ∀ e : Fin 512, w25 (ix2 0 e) = W 25 e) (ha26 : ∀ e : Fin 512, a26 (ix3 0 i e) = A 26 e) (hw26
    : ∀ e : Fin 512, w26 (ix2 0 e) = W 26 e) (ha27 : ∀ e : Fin 512, a27 (ix3 0 i e) = A 27 e) (hw27 : ∀ e : Fin 512, w27 (ix2 0 e) = W 27 e) (ha28 : ∀ e :
    Fin 512, a28 (ix3 0 i e) = A 28 e) (hw28 : ∀ e : Fin 512, w28 (ix2 0 e) = W 28 e) (ha29 : ∀ e : Fin 512, a29 (ix3 0 i e) = A 29 e) (hw29 : ∀ e : Fin
    512, w29 (ix2 0 e) = W 29 e) (e : Fin 512) : (k0_pay19 (k0_pay17 (k0_pay16 (k0_pay15 (k0_pay13 (k0_pay12 a0 w0 a1 w1) a2 w2 a3 w3 a4 w4 a5 w5 a6 w6)
    (k0_pay14 a7 w7) a8 w8 a9 w9 a10 w10 a11 w11 a12 w12) a13 w13 a14 w14 a15 w15 a16 w16 a17 w17 a18 w18) a19 w19 a20 w20 a21 w21 a22 w22 a23 w23)
    (k0_pay18 a24) w24 a25 w25 a26 w26 a27 w27 a28 w28 a29 w29 : FVec Ideal S64x512 .f32) (ix2 i e) = W 0 e * A 0 e + W 1 e * A 1 e + W 2 e * A 2 e + W 3
    e * A 3 e + W 4 e * A 4 e + W 5 e * A 5 e + W 6 e * A 6 e + W 7 e * A 7 e + W 8 e * A 8 e + W 9 e * A 9 e + W 10 e * A 10 e + W 11 e * A 11 e + W 12 e
    * A 12 e + W 13 e * A 13 e + W 14 e * A 14 e + W 15 e * A 15 e + W 16 e * A 16 e + W 17 e * A 17 e + W 18 e * A 18 e + W 19 e * A 19 e + W 20 e * A 20
    e + W 21 e * A 21 e + W 22 e * A 22 e + W 23 e * A 23 e + W 24 e * A 24 e + W 25 e * A 25 e + W 26 e * A 26 e + W 27 e * A 27 e + W 28 e * A 28 e + W
    29 e * A 29 e := by
  pointwise [k0_pay19, k0_pay17, k0_pay16, k0_pay15, k0_pay13, k0_pay12, k0_pay14, k0_pay18]
  simp only [ha0, hw0, ha1, hw1, ha2, hw2, ha3, hw3, ha4, hw4, ha5, hw5, ha6, hw6, ha7, hw7, ha8, hw8, ha9, hw9, ha10, hw10, ha11, hw11, ha12, hw12, ha13, hw13, ha14, hw14, ha15, hw15, ha16, hw16, ha17, hw17, ha18, hw18, ha19, hw19, ha20, hw20, ha21, hw21, ha22, hw22, ha23, hw23, ha24, hw24, ha25, hw25, ha26, hw26, ha27, hw27, ha28, hw28, ha29, hw29]

/-- The rest of the first chunk: the last products, the bias, the norm and silu. -/
theorem tail0_at {W A : ℕ → Fin 512 → EReal} {B G H : Fin 512 → EReal} (i : Fin 64) {acc : FVec Ideal S64x512 .f32} {a30 : Vec Ideal S64x512 .f32}
    {w30 dw g b : Vec Ideal S1x512 .f32} (hacc : ∀ e : Fin 512, acc (ix2 i e) = W 0 e * A 0 e + W 1 e * A 1 e + W 2 e * A 2 e + W 3 e * A 3 e + W 4 e * A
    4 e + W 5 e * A 5 e + W 6 e * A 6 e + W 7 e * A 7 e + W 8 e * A 8 e + W 9 e * A 9 e + W 10 e * A 10 e + W 11 e * A 11 e + W 12 e * A 12 e + W 13 e * A
    13 e + W 14 e * A 14 e + W 15 e * A 15 e + W 16 e * A 16 e + W 17 e * A 17 e + W 18 e * A 18 e + W 19 e * A 19 e + W 20 e * A 20 e + W 21 e * A 21 e +
    W 22 e * A 22 e + W 23 e * A 23 e + W 24 e * A 24 e + W 25 e * A 25 e + W 26 e * A 26 e + W 27 e * A 27 e + W 28 e * A 28 e + W 29 e * A 29 e) (ha30 :
    ∀ e : Fin 512, a30 (ix2 i e) = A 30 e) (hw30 : ∀ e : Fin 512, w30 (ix2 0 e) = W 30 e) (hdw : ∀ e : Fin 512, dw (ix2 0 e) = B e) (hg : ∀ e : Fin 512, g
    (ix2 0 e) = G e) (hb : ∀ e : Fin 512, b (ix2 0 e) = H e) (z : Fin 1) (d : Fin 512) : (k0_pay20 acc a30 w30 dw g b : FVec Ideal S1x64x512 .f32) (ix3 z
    i d) = normed (fun e => taps (fun k => W k e) (fun k => A k e) + B e) G H d := by
  pointwise [k0_pay20]
  simp only [hacc, ha30, hw30, hdw, hg, hb]
  rfl

/-- An entry of the first chunk, from the loads. -/
theorem chunk0_at {W A : ℕ → Fin 512 → EReal} {B G H : Fin 512 → EReal} (i : Fin 64) {a0 a1 a2 a3 a4 a5 a7 a8 a9 a10 a11 a12 a13 a15 a16 a17 a18 a19
    a20 a21 a23 a24 a25 a26 a27 a28 a29 : Vec Ideal S1x64x512 .f32} {w0 w1 w2 w3 w4 w5 w6 w7 w8 w9 w10 w11 w12 w13 w14 w15 w16 w17 w18 w19 w20 w21 w22 w23
    w24 w25 w26 w27 w28 w29 w30 dw g b : Vec Ideal S1x512 .f32} {a6 a14 a22 a30 : Vec Ideal S64x512 .f32} (ha0 : ∀ e : Fin 512, a0 (ix3 0 i e) = A 0 e)
    (hw0 : ∀ e : Fin 512, w0 (ix2 0 e) = W 0 e) (ha1 : ∀ e : Fin 512, a1 (ix3 0 i e) = A 1 e) (hw1 : ∀ e : Fin 512, w1 (ix2 0 e) = W 1 e) (ha2 : ∀ e : Fin
    512, a2 (ix3 0 i e) = A 2 e) (hw2 : ∀ e : Fin 512, w2 (ix2 0 e) = W 2 e) (ha3 : ∀ e : Fin 512, a3 (ix3 0 i e) = A 3 e) (hw3 : ∀ e : Fin 512, w3 (ix2 0
    e) = W 3 e) (ha4 : ∀ e : Fin 512, a4 (ix3 0 i e) = A 4 e) (hw4 : ∀ e : Fin 512, w4 (ix2 0 e) = W 4 e) (ha5 : ∀ e : Fin 512, a5 (ix3 0 i e) = A 5 e)
    (hw5 : ∀ e : Fin 512, w5 (ix2 0 e) = W 5 e) (ha6 : ∀ e : Fin 512, a6 (ix2 i e) = A 6 e) (hw6 : ∀ e : Fin 512, w6 (ix2 0 e) = W 6 e) (ha7 : ∀ e : Fin
    512, a7 (ix3 0 i e) = A 7 e) (hw7 : ∀ e : Fin 512, w7 (ix2 0 e) = W 7 e) (ha8 : ∀ e : Fin 512, a8 (ix3 0 i e) = A 8 e) (hw8 : ∀ e : Fin 512, w8 (ix2 0
    e) = W 8 e) (ha9 : ∀ e : Fin 512, a9 (ix3 0 i e) = A 9 e) (hw9 : ∀ e : Fin 512, w9 (ix2 0 e) = W 9 e) (ha10 : ∀ e : Fin 512, a10 (ix3 0 i e) = A 10 e)
    (hw10 : ∀ e : Fin 512, w10 (ix2 0 e) = W 10 e) (ha11 : ∀ e : Fin 512, a11 (ix3 0 i e) = A 11 e) (hw11 : ∀ e : Fin 512, w11 (ix2 0 e) = W 11 e) (ha12 :
    ∀ e : Fin 512, a12 (ix3 0 i e) = A 12 e) (hw12 : ∀ e : Fin 512, w12 (ix2 0 e) = W 12 e) (ha13 : ∀ e : Fin 512, a13 (ix3 0 i e) = A 13 e) (hw13 : ∀ e :
    Fin 512, w13 (ix2 0 e) = W 13 e) (ha14 : ∀ e : Fin 512, a14 (ix2 i e) = A 14 e) (hw14 : ∀ e : Fin 512, w14 (ix2 0 e) = W 14 e) (ha15 : ∀ e : Fin 512,
    a15 (ix3 0 i e) = A 15 e) (hw15 : ∀ e : Fin 512, w15 (ix2 0 e) = W 15 e) (ha16 : ∀ e : Fin 512, a16 (ix3 0 i e) = A 16 e) (hw16 : ∀ e : Fin 512, w16
    (ix2 0 e) = W 16 e) (ha17 : ∀ e : Fin 512, a17 (ix3 0 i e) = A 17 e) (hw17 : ∀ e : Fin 512, w17 (ix2 0 e) = W 17 e) (ha18 : ∀ e : Fin 512, a18 (ix3 0
    i e) = A 18 e) (hw18 : ∀ e : Fin 512, w18 (ix2 0 e) = W 18 e) (ha19 : ∀ e : Fin 512, a19 (ix3 0 i e) = A 19 e) (hw19 : ∀ e : Fin 512, w19 (ix2 0 e) =
    W 19 e) (ha20 : ∀ e : Fin 512, a20 (ix3 0 i e) = A 20 e) (hw20 : ∀ e : Fin 512, w20 (ix2 0 e) = W 20 e) (ha21 : ∀ e : Fin 512, a21 (ix3 0 i e) = A 21
    e) (hw21 : ∀ e : Fin 512, w21 (ix2 0 e) = W 21 e) (ha22 : ∀ e : Fin 512, a22 (ix2 i e) = A 22 e) (hw22 : ∀ e : Fin 512, w22 (ix2 0 e) = W 22 e) (ha23
    : ∀ e : Fin 512, a23 (ix3 0 i e) = A 23 e) (hw23 : ∀ e : Fin 512, w23 (ix2 0 e) = W 23 e) (ha24 : ∀ e : Fin 512, a24 (ix3 0 i e) = A 24 e) (hw24 : ∀ e
    : Fin 512, w24 (ix2 0 e) = W 24 e) (ha25 : ∀ e : Fin 512, a25 (ix3 0 i e) = A 25 e) (hw25 : ∀ e : Fin 512, w25 (ix2 0 e) = W 25 e) (ha26 : ∀ e : Fin
    512, a26 (ix3 0 i e) = A 26 e) (hw26 : ∀ e : Fin 512, w26 (ix2 0 e) = W 26 e) (ha27 : ∀ e : Fin 512, a27 (ix3 0 i e) = A 27 e) (hw27 : ∀ e : Fin 512,
    w27 (ix2 0 e) = W 27 e) (ha28 : ∀ e : Fin 512, a28 (ix3 0 i e) = A 28 e) (hw28 : ∀ e : Fin 512, w28 (ix2 0 e) = W 28 e) (ha29 : ∀ e : Fin 512, a29
    (ix3 0 i e) = A 29 e) (hw29 : ∀ e : Fin 512, w29 (ix2 0 e) = W 29 e) (ha30 : ∀ e : Fin 512, a30 (ix2 i e) = A 30 e) (hw30 : ∀ e : Fin 512, w30 (ix2 0
    e) = W 30 e) (hdw : ∀ e : Fin 512, dw (ix2 0 e) = B e) (hg : ∀ e : Fin 512, g (ix2 0 e) = G e) (hb : ∀ e : Fin 512, b (ix2 0 e) = H e) (z : Fin 1) (d
    : Fin 512) : (k0_pay20 (k0_pay19 (k0_pay17 (k0_pay16 (k0_pay15 (k0_pay13 (k0_pay12 a0 w0 a1 w1) a2 w2 a3 w3 a4 w4 a5 w5 a6 w6) (k0_pay14 a7 w7) a8 w8
    a9 w9 a10 w10 a11 w11 a12 w12) a13 w13 a14 w14 a15 w15 a16 w16 a17 w17 a18 w18) a19 w19 a20 w20 a21 w21 a22 w22 a23 w23) (k0_pay18 a24) w24 a25 w25
    a26 w26 a27 w27 a28 w28 a29 w29) a30 w30 dw g b : FVec Ideal S1x64x512 .f32) (ix3 z i d) = normed (fun e => taps (fun k => W k e) (fun k => A k e) + B
    e) G H d :=
  tail0_at i (acc0_at i ha0 hw0 ha1 hw1 ha2 hw2 ha3 hw3 ha4 hw4 ha5 hw5 ha6 hw6 ha7 hw7 ha8 hw8 ha9 hw9 ha10 hw10 ha11 hw11 ha12 hw12 ha13 hw13 ha14
    hw14 ha15 hw15 ha16 hw16 ha17 hw17 ha18 hw18 ha19 hw19 ha20 hw20 ha21 hw21 ha22 hw22 ha23 hw23 ha24 hw24 ha25 hw25 ha26 hw26 ha27 hw27 ha28 hw28 ha29
    hw29) ha30 hw30 hdw hg hb z d

/-- The products of the second chunk of 64 rows, summed as far as the chunk's last payload takes them. -/
theorem acc1_at {W A : ℕ → Fin 512 → EReal} (i : Fin 64) {a0 a1 a2 a3 a4 a5 a7 a8 a9 a10 a11 a12 a13 a15 a16 a17 a18 a19 a20 a21 a23 a24 a25 a26 a27 :
    Vec Ideal S1x64x512 .f32} {w0 w1 w2 w3 w4 w5 w6 w7 w8 w9 w10 w11 w12 w13 w14 w15 w16 w17 w18 w19 w20 w21 w22 w23 w24 w25 w26 w27 : Vec Ideal S1x512
    .f32} {a6 a14 a22 : Vec Ideal S64x512 .f32} (ha0 : ∀ e : Fin 512, a0 (ix3 0 i e) = A 0 e) (hw0 : ∀ e : Fin 512, w0 (ix2 0 e) = W 0 e) (ha1 : ∀ e : Fin
    512, a1 (ix3 0 i e) = A 1 e) (hw1 : ∀ e : Fin 512, w1 (ix2 0 e) = W 1 e) (ha2 : ∀ e : Fin 512, a2 (ix3 0 i e) = A 2 e) (hw2 : ∀ e : Fin 512, w2 (ix2 0
    e) = W 2 e) (ha3 : ∀ e : Fin 512, a3 (ix3 0 i e) = A 3 e) (hw3 : ∀ e : Fin 512, w3 (ix2 0 e) = W 3 e) (ha4 : ∀ e : Fin 512, a4 (ix3 0 i e) = A 4 e)
    (hw4 : ∀ e : Fin 512, w4 (ix2 0 e) = W 4 e) (ha5 : ∀ e : Fin 512, a5 (ix3 0 i e) = A 5 e) (hw5 : ∀ e : Fin 512, w5 (ix2 0 e) = W 5 e) (ha6 : ∀ e : Fin
    512, a6 (ix2 i e) = A 6 e) (hw6 : ∀ e : Fin 512, w6 (ix2 0 e) = W 6 e) (ha7 : ∀ e : Fin 512, a7 (ix3 0 i e) = A 7 e) (hw7 : ∀ e : Fin 512, w7 (ix2 0
    e) = W 7 e) (ha8 : ∀ e : Fin 512, a8 (ix3 0 i e) = A 8 e) (hw8 : ∀ e : Fin 512, w8 (ix2 0 e) = W 8 e) (ha9 : ∀ e : Fin 512, a9 (ix3 0 i e) = A 9 e)
    (hw9 : ∀ e : Fin 512, w9 (ix2 0 e) = W 9 e) (ha10 : ∀ e : Fin 512, a10 (ix3 0 i e) = A 10 e) (hw10 : ∀ e : Fin 512, w10 (ix2 0 e) = W 10 e) (ha11 : ∀
    e : Fin 512, a11 (ix3 0 i e) = A 11 e) (hw11 : ∀ e : Fin 512, w11 (ix2 0 e) = W 11 e) (ha12 : ∀ e : Fin 512, a12 (ix3 0 i e) = A 12 e) (hw12 : ∀ e :
    Fin 512, w12 (ix2 0 e) = W 12 e) (ha13 : ∀ e : Fin 512, a13 (ix3 0 i e) = A 13 e) (hw13 : ∀ e : Fin 512, w13 (ix2 0 e) = W 13 e) (ha14 : ∀ e : Fin
    512, a14 (ix2 i e) = A 14 e) (hw14 : ∀ e : Fin 512, w14 (ix2 0 e) = W 14 e) (ha15 : ∀ e : Fin 512, a15 (ix3 0 i e) = A 15 e) (hw15 : ∀ e : Fin 512,
    w15 (ix2 0 e) = W 15 e) (ha16 : ∀ e : Fin 512, a16 (ix3 0 i e) = A 16 e) (hw16 : ∀ e : Fin 512, w16 (ix2 0 e) = W 16 e) (ha17 : ∀ e : Fin 512, a17
    (ix3 0 i e) = A 17 e) (hw17 : ∀ e : Fin 512, w17 (ix2 0 e) = W 17 e) (ha18 : ∀ e : Fin 512, a18 (ix3 0 i e) = A 18 e) (hw18 : ∀ e : Fin 512, w18 (ix2
    0 e) = W 18 e) (ha19 : ∀ e : Fin 512, a19 (ix3 0 i e) = A 19 e) (hw19 : ∀ e : Fin 512, w19 (ix2 0 e) = W 19 e) (ha20 : ∀ e : Fin 512, a20 (ix3 0 i e)
    = A 20 e) (hw20 : ∀ e : Fin 512, w20 (ix2 0 e) = W 20 e) (ha21 : ∀ e : Fin 512, a21 (ix3 0 i e) = A 21 e) (hw21 : ∀ e : Fin 512, w21 (ix2 0 e) = W 21
    e) (ha22 : ∀ e : Fin 512, a22 (ix2 i e) = A 22 e) (hw22 : ∀ e : Fin 512, w22 (ix2 0 e) = W 22 e) (ha23 : ∀ e : Fin 512, a23 (ix3 0 i e) = A 23 e)
    (hw23 : ∀ e : Fin 512, w23 (ix2 0 e) = W 23 e) (ha24 : ∀ e : Fin 512, a24 (ix3 0 i e) = A 24 e) (hw24 : ∀ e : Fin 512, w24 (ix2 0 e) = W 24 e) (ha25 :
    ∀ e : Fin 512, a25 (ix3 0 i e) = A 25 e) (hw25 : ∀ e : Fin 512, w25 (ix2 0 e) = W 25 e) (ha26 : ∀ e : Fin 512, a26 (ix3 0 i e) = A 26 e) (hw26 : ∀ e :
    Fin 512, w26 (ix2 0 e) = W 26 e) (ha27 : ∀ e : Fin 512, a27 (ix3 0 i e) = A 27 e) (hw27 : ∀ e : Fin 512, w27 (ix2 0 e) = W 27 e) (e : Fin 512) :
    (k0_pay28 (k0_pay26 (k0_pay25 (k0_pay23 (k0_pay21 a0 w0 a1 w1 a2 w2 a3 w3 a4 w4) (k0_pay22 a5 w5) a6 w6 a7 w7 a8 w8 a9 w9 a10 w10) (k0_pay24 a11) w11
    a12 w12 a13 w13 a14 w14 a15 w15 a16 w16) a17 w17 a18 w18 a19 w19 a20 w20 a21 w21) a22 (k0_pay27 w22) a23 w23 a24 w24 a25 w25 a26 w26 a27 w27 : FVec
    Ideal S64x512 .f32) (ix2 i e) = W 0 e * A 0 e + W 1 e * A 1 e + W 2 e * A 2 e + W 3 e * A 3 e + W 4 e * A 4 e + W 5 e * A 5 e + W 6 e * A 6 e + W 7 e
    * A 7 e + W 8 e * A 8 e + W 9 e * A 9 e + W 10 e * A 10 e + W 11 e * A 11 e + W 12 e * A 12 e + W 13 e * A 13 e + W 14 e * A 14 e + W 15 e * A 15 e +
    W 16 e * A 16 e + W 17 e * A 17 e + W 18 e * A 18 e + W 19 e * A 19 e + W 20 e * A 20 e + W 21 e * A 21 e + W 22 e * A 22 e + W 23 e * A 23 e + W 24 e
    * A 24 e + W 25 e * A 25 e + W 26 e * A 26 e + W 27 e * A 27 e := by
  pointwise [k0_pay28, k0_pay26, k0_pay25, k0_pay23, k0_pay21, k0_pay22, k0_pay24, k0_pay27]
  simp only [ha0, hw0, ha1, hw1, ha2, hw2, ha3, hw3, ha4, hw4, ha5, hw5, ha6, hw6, ha7, hw7, ha8, hw8, ha9, hw9, ha10, hw10, ha11, hw11, ha12, hw12, ha13, hw13, ha14, hw14, ha15, hw15, ha16, hw16, ha17, hw17, ha18, hw18, ha19, hw19, ha20, hw20, ha21, hw21, ha22, hw22, ha23, hw23, ha24, hw24, ha25, hw25, ha26, hw26, ha27, hw27]

/-- The rest of the second chunk: the last products, the bias, the norm and silu. -/
theorem tail1_at {W A : ℕ → Fin 512 → EReal} {B G H : Fin 512 → EReal} (i : Fin 64) {acc : FVec Ideal S64x512 .f32} {a28 a29 : Vec Ideal S1x64x512
    .f32} {w28 w29 w30 dw g b : Vec Ideal S1x512 .f32} {a30 : Vec Ideal S64x512 .f32} (hacc : ∀ e : Fin 512, acc (ix2 i e) = W 0 e * A 0 e + W 1 e * A 1 e
    + W 2 e * A 2 e + W 3 e * A 3 e + W 4 e * A 4 e + W 5 e * A 5 e + W 6 e * A 6 e + W 7 e * A 7 e + W 8 e * A 8 e + W 9 e * A 9 e + W 10 e * A 10 e + W
    11 e * A 11 e + W 12 e * A 12 e + W 13 e * A 13 e + W 14 e * A 14 e + W 15 e * A 15 e + W 16 e * A 16 e + W 17 e * A 17 e + W 18 e * A 18 e + W 19 e *
    A 19 e + W 20 e * A 20 e + W 21 e * A 21 e + W 22 e * A 22 e + W 23 e * A 23 e + W 24 e * A 24 e + W 25 e * A 25 e + W 26 e * A 26 e + W 27 e * A 27
    e) (ha28 : ∀ e : Fin 512, a28 (ix3 0 i e) = A 28 e) (hw28 : ∀ e : Fin 512, w28 (ix2 0 e) = W 28 e) (ha29 : ∀ e : Fin 512, a29 (ix3 0 i e) = A 29 e)
    (hw29 : ∀ e : Fin 512, w29 (ix2 0 e) = W 29 e) (ha30 : ∀ e : Fin 512, a30 (ix2 i e) = A 30 e) (hw30 : ∀ e : Fin 512, w30 (ix2 0 e) = W 30 e) (hdw : ∀
    e : Fin 512, dw (ix2 0 e) = B e) (hg : ∀ e : Fin 512, g (ix2 0 e) = G e) (hb : ∀ e : Fin 512, b (ix2 0 e) = H e) (z : Fin 1) (d : Fin 512) : (k0_pay31
    (k0_pay29 acc a28 w28 a29 w29 a30 w30 dw) (k0_pay30 g) b : FVec Ideal S1x64x512 .f32) (ix3 z i d) = normed (fun e => taps (fun k => W k e) (fun k => A
    k e) + B e) G H d := by
  pointwise [k0_pay31, k0_pay29, k0_pay30]
  simp only [hacc, ha28, hw28, ha29, hw29, ha30, hw30, hdw, hg, hb]
  rfl

/-- An entry of the second chunk, from the loads. -/
theorem chunk1_at {W A : ℕ → Fin 512 → EReal} {B G H : Fin 512 → EReal} (i : Fin 64) {a0 a1 a2 a3 a4 a5 a7 a8 a9 a10 a11 a12 a13 a15 a16 a17 a18 a19
    a20 a21 a23 a24 a25 a26 a27 a28 a29 : Vec Ideal S1x64x512 .f32} {w0 w1 w2 w3 w4 w5 w6 w7 w8 w9 w10 w11 w12 w13 w14 w15 w16 w17 w18 w19 w20 w21 w22 w23
    w24 w25 w26 w27 w28 w29 w30 dw g b : Vec Ideal S1x512 .f32} {a6 a14 a22 a30 : Vec Ideal S64x512 .f32} (ha0 : ∀ e : Fin 512, a0 (ix3 0 i e) = A 0 e)
    (hw0 : ∀ e : Fin 512, w0 (ix2 0 e) = W 0 e) (ha1 : ∀ e : Fin 512, a1 (ix3 0 i e) = A 1 e) (hw1 : ∀ e : Fin 512, w1 (ix2 0 e) = W 1 e) (ha2 : ∀ e : Fin
    512, a2 (ix3 0 i e) = A 2 e) (hw2 : ∀ e : Fin 512, w2 (ix2 0 e) = W 2 e) (ha3 : ∀ e : Fin 512, a3 (ix3 0 i e) = A 3 e) (hw3 : ∀ e : Fin 512, w3 (ix2 0
    e) = W 3 e) (ha4 : ∀ e : Fin 512, a4 (ix3 0 i e) = A 4 e) (hw4 : ∀ e : Fin 512, w4 (ix2 0 e) = W 4 e) (ha5 : ∀ e : Fin 512, a5 (ix3 0 i e) = A 5 e)
    (hw5 : ∀ e : Fin 512, w5 (ix2 0 e) = W 5 e) (ha6 : ∀ e : Fin 512, a6 (ix2 i e) = A 6 e) (hw6 : ∀ e : Fin 512, w6 (ix2 0 e) = W 6 e) (ha7 : ∀ e : Fin
    512, a7 (ix3 0 i e) = A 7 e) (hw7 : ∀ e : Fin 512, w7 (ix2 0 e) = W 7 e) (ha8 : ∀ e : Fin 512, a8 (ix3 0 i e) = A 8 e) (hw8 : ∀ e : Fin 512, w8 (ix2 0
    e) = W 8 e) (ha9 : ∀ e : Fin 512, a9 (ix3 0 i e) = A 9 e) (hw9 : ∀ e : Fin 512, w9 (ix2 0 e) = W 9 e) (ha10 : ∀ e : Fin 512, a10 (ix3 0 i e) = A 10 e)
    (hw10 : ∀ e : Fin 512, w10 (ix2 0 e) = W 10 e) (ha11 : ∀ e : Fin 512, a11 (ix3 0 i e) = A 11 e) (hw11 : ∀ e : Fin 512, w11 (ix2 0 e) = W 11 e) (ha12 :
    ∀ e : Fin 512, a12 (ix3 0 i e) = A 12 e) (hw12 : ∀ e : Fin 512, w12 (ix2 0 e) = W 12 e) (ha13 : ∀ e : Fin 512, a13 (ix3 0 i e) = A 13 e) (hw13 : ∀ e :
    Fin 512, w13 (ix2 0 e) = W 13 e) (ha14 : ∀ e : Fin 512, a14 (ix2 i e) = A 14 e) (hw14 : ∀ e : Fin 512, w14 (ix2 0 e) = W 14 e) (ha15 : ∀ e : Fin 512,
    a15 (ix3 0 i e) = A 15 e) (hw15 : ∀ e : Fin 512, w15 (ix2 0 e) = W 15 e) (ha16 : ∀ e : Fin 512, a16 (ix3 0 i e) = A 16 e) (hw16 : ∀ e : Fin 512, w16
    (ix2 0 e) = W 16 e) (ha17 : ∀ e : Fin 512, a17 (ix3 0 i e) = A 17 e) (hw17 : ∀ e : Fin 512, w17 (ix2 0 e) = W 17 e) (ha18 : ∀ e : Fin 512, a18 (ix3 0
    i e) = A 18 e) (hw18 : ∀ e : Fin 512, w18 (ix2 0 e) = W 18 e) (ha19 : ∀ e : Fin 512, a19 (ix3 0 i e) = A 19 e) (hw19 : ∀ e : Fin 512, w19 (ix2 0 e) =
    W 19 e) (ha20 : ∀ e : Fin 512, a20 (ix3 0 i e) = A 20 e) (hw20 : ∀ e : Fin 512, w20 (ix2 0 e) = W 20 e) (ha21 : ∀ e : Fin 512, a21 (ix3 0 i e) = A 21
    e) (hw21 : ∀ e : Fin 512, w21 (ix2 0 e) = W 21 e) (ha22 : ∀ e : Fin 512, a22 (ix2 i e) = A 22 e) (hw22 : ∀ e : Fin 512, w22 (ix2 0 e) = W 22 e) (ha23
    : ∀ e : Fin 512, a23 (ix3 0 i e) = A 23 e) (hw23 : ∀ e : Fin 512, w23 (ix2 0 e) = W 23 e) (ha24 : ∀ e : Fin 512, a24 (ix3 0 i e) = A 24 e) (hw24 : ∀ e
    : Fin 512, w24 (ix2 0 e) = W 24 e) (ha25 : ∀ e : Fin 512, a25 (ix3 0 i e) = A 25 e) (hw25 : ∀ e : Fin 512, w25 (ix2 0 e) = W 25 e) (ha26 : ∀ e : Fin
    512, a26 (ix3 0 i e) = A 26 e) (hw26 : ∀ e : Fin 512, w26 (ix2 0 e) = W 26 e) (ha27 : ∀ e : Fin 512, a27 (ix3 0 i e) = A 27 e) (hw27 : ∀ e : Fin 512,
    w27 (ix2 0 e) = W 27 e) (ha28 : ∀ e : Fin 512, a28 (ix3 0 i e) = A 28 e) (hw28 : ∀ e : Fin 512, w28 (ix2 0 e) = W 28 e) (ha29 : ∀ e : Fin 512, a29
    (ix3 0 i e) = A 29 e) (hw29 : ∀ e : Fin 512, w29 (ix2 0 e) = W 29 e) (ha30 : ∀ e : Fin 512, a30 (ix2 i e) = A 30 e) (hw30 : ∀ e : Fin 512, w30 (ix2 0
    e) = W 30 e) (hdw : ∀ e : Fin 512, dw (ix2 0 e) = B e) (hg : ∀ e : Fin 512, g (ix2 0 e) = G e) (hb : ∀ e : Fin 512, b (ix2 0 e) = H e) (z : Fin 1) (d
    : Fin 512) : (k0_pay31 (k0_pay29 (k0_pay28 (k0_pay26 (k0_pay25 (k0_pay23 (k0_pay21 a0 w0 a1 w1 a2 w2 a3 w3 a4 w4) (k0_pay22 a5 w5) a6 w6 a7 w7 a8 w8
    a9 w9 a10 w10) (k0_pay24 a11) w11 a12 w12 a13 w13 a14 w14 a15 w15 a16 w16) a17 w17 a18 w18 a19 w19 a20 w20 a21 w21) a22 (k0_pay27 w22) a23 w23 a24 w24
    a25 w25 a26 w26 a27 w27) a28 w28 a29 w29 a30 w30 dw) (k0_pay30 g) b : FVec Ideal S1x64x512 .f32) (ix3 z i d) = normed (fun e => taps (fun k => W k e)
    (fun k => A k e) + B e) G H d :=
  tail1_at i (acc1_at i ha0 hw0 ha1 hw1 ha2 hw2 ha3 hw3 ha4 hw4 ha5 hw5 ha6 hw6 ha7 hw7 ha8 hw8 ha9 hw9 ha10 hw10 ha11 hw11 ha12 hw12 ha13 hw13 ha14
    hw14 ha15 hw15 ha16 hw16 ha17 hw17 ha18 hw18 ha19 hw19 ha20 hw20 ha21 hw21 ha22 hw22 ha23 hw23 ha24 hw24 ha25 hw25 ha26 hw26 ha27 hw27) ha28 hw28 ha29
    hw29 ha30 hw30 hdw hg hb z d

/-- The products of the third chunk of 64 rows, summed as far as the chunk's last payload takes them. -/
theorem acc2_at {W A : ℕ → Fin 512 → EReal} (i : Fin 64) {a0 a1 a2 a3 a4 a5 a7 a8 a9 a10 a11 a12 a13 a15 a16 a17 a18 a19 a20 a21 a23 a24 a25 : Vec
    Ideal S1x64x512 .f32} {w0 w1 w2 w3 w4 w5 w6 w7 w8 w9 w10 w11 w12 w13 w14 w15 w16 w17 w18 w19 w20 w21 w22 w23 w24 w25 : Vec Ideal S1x512 .f32} {a6 a14
    a22 : Vec Ideal S64x512 .f32} (ha0 : ∀ e : Fin 512, a0 (ix3 0 i e) = A 0 e) (hw0 : ∀ e : Fin 512, w0 (ix2 0 e) = W 0 e) (ha1 : ∀ e : Fin 512, a1 (ix3
    0 i e) = A 1 e) (hw1 : ∀ e : Fin 512, w1 (ix2 0 e) = W 1 e) (ha2 : ∀ e : Fin 512, a2 (ix3 0 i e) = A 2 e) (hw2 : ∀ e : Fin 512, w2 (ix2 0 e) = W 2 e)
    (ha3 : ∀ e : Fin 512, a3 (ix3 0 i e) = A 3 e) (hw3 : ∀ e : Fin 512, w3 (ix2 0 e) = W 3 e) (ha4 : ∀ e : Fin 512, a4 (ix3 0 i e) = A 4 e) (hw4 : ∀ e :
    Fin 512, w4 (ix2 0 e) = W 4 e) (ha5 : ∀ e : Fin 512, a5 (ix3 0 i e) = A 5 e) (hw5 : ∀ e : Fin 512, w5 (ix2 0 e) = W 5 e) (ha6 : ∀ e : Fin 512, a6 (ix2
    i e) = A 6 e) (hw6 : ∀ e : Fin 512, w6 (ix2 0 e) = W 6 e) (ha7 : ∀ e : Fin 512, a7 (ix3 0 i e) = A 7 e) (hw7 : ∀ e : Fin 512, w7 (ix2 0 e) = W 7 e)
    (ha8 : ∀ e : Fin 512, a8 (ix3 0 i e) = A 8 e) (hw8 : ∀ e : Fin 512, w8 (ix2 0 e) = W 8 e) (ha9 : ∀ e : Fin 512, a9 (ix3 0 i e) = A 9 e) (hw9 : ∀ e :
    Fin 512, w9 (ix2 0 e) = W 9 e) (ha10 : ∀ e : Fin 512, a10 (ix3 0 i e) = A 10 e) (hw10 : ∀ e : Fin 512, w10 (ix2 0 e) = W 10 e) (ha11 : ∀ e : Fin 512,
    a11 (ix3 0 i e) = A 11 e) (hw11 : ∀ e : Fin 512, w11 (ix2 0 e) = W 11 e) (ha12 : ∀ e : Fin 512, a12 (ix3 0 i e) = A 12 e) (hw12 : ∀ e : Fin 512, w12
    (ix2 0 e) = W 12 e) (ha13 : ∀ e : Fin 512, a13 (ix3 0 i e) = A 13 e) (hw13 : ∀ e : Fin 512, w13 (ix2 0 e) = W 13 e) (ha14 : ∀ e : Fin 512, a14 (ix2 i
    e) = A 14 e) (hw14 : ∀ e : Fin 512, w14 (ix2 0 e) = W 14 e) (ha15 : ∀ e : Fin 512, a15 (ix3 0 i e) = A 15 e) (hw15 : ∀ e : Fin 512, w15 (ix2 0 e) = W
    15 e) (ha16 : ∀ e : Fin 512, a16 (ix3 0 i e) = A 16 e) (hw16 : ∀ e : Fin 512, w16 (ix2 0 e) = W 16 e) (ha17 : ∀ e : Fin 512, a17 (ix3 0 i e) = A 17 e)
    (hw17 : ∀ e : Fin 512, w17 (ix2 0 e) = W 17 e) (ha18 : ∀ e : Fin 512, a18 (ix3 0 i e) = A 18 e) (hw18 : ∀ e : Fin 512, w18 (ix2 0 e) = W 18 e) (ha19 :
    ∀ e : Fin 512, a19 (ix3 0 i e) = A 19 e) (hw19 : ∀ e : Fin 512, w19 (ix2 0 e) = W 19 e) (ha20 : ∀ e : Fin 512, a20 (ix3 0 i e) = A 20 e) (hw20 : ∀ e :
    Fin 512, w20 (ix2 0 e) = W 20 e) (ha21 : ∀ e : Fin 512, a21 (ix3 0 i e) = A 21 e) (hw21 : ∀ e : Fin 512, w21 (ix2 0 e) = W 21 e) (ha22 : ∀ e : Fin
    512, a22 (ix2 i e) = A 22 e) (hw22 : ∀ e : Fin 512, w22 (ix2 0 e) = W 22 e) (ha23 : ∀ e : Fin 512, a23 (ix3 0 i e) = A 23 e) (hw23 : ∀ e : Fin 512,
    w23 (ix2 0 e) = W 23 e) (ha24 : ∀ e : Fin 512, a24 (ix3 0 i e) = A 24 e) (hw24 : ∀ e : Fin 512, w24 (ix2 0 e) = W 24 e) (ha25 : ∀ e : Fin 512, a25
    (ix3 0 i e) = A 25 e) (hw25 : ∀ e : Fin 512, w25 (ix2 0 e) = W 25 e) (e : Fin 512) : (k0_pay39 (k0_pay36 (k0_pay35 (k0_pay33 (k0_pay32 a0 w0 a1 w1 a2
    w2 a3 w3) a4 w4 a5 w5 a6 w6 a7 w7 a8 w8) (k0_pay34 a9) w9 a10 w10 a11 w11 a12 w12 a13 w13 a14 w14) a15 w15 a16 w16 a17 w17 a18 w18 a19 w19) (k0_pay37
    a20) (k0_pay38 w20) a21 w21 a22 w22 a23 w23 a24 w24 a25 w25 : FVec Ideal S64x512 .f32) (ix2 i e) = W 0 e * A 0 e + W 1 e * A 1 e + W 2 e * A 2 e + W 3
    e * A 3 e + W 4 e * A 4 e + W 5 e * A 5 e + W 6 e * A 6 e + W 7 e * A 7 e + W 8 e * A 8 e + W 9 e * A 9 e + W 10 e * A 10 e + W 11 e * A 11 e + W 12 e
    * A 12 e + W 13 e * A 13 e + W 14 e * A 14 e + W 15 e * A 15 e + W 16 e * A 16 e + W 17 e * A 17 e + W 18 e * A 18 e + W 19 e * A 19 e + W 20 e * A 20
    e + W 21 e * A 21 e + W 22 e * A 22 e + W 23 e * A 23 e + W 24 e * A 24 e + W 25 e * A 25 e := by
  pointwise [k0_pay39, k0_pay36, k0_pay35, k0_pay33, k0_pay32, k0_pay34, k0_pay37, k0_pay38]
  simp only [ha0, hw0, ha1, hw1, ha2, hw2, ha3, hw3, ha4, hw4, ha5, hw5, ha6, hw6, ha7, hw7, ha8, hw8, ha9, hw9, ha10, hw10, ha11, hw11, ha12, hw12, ha13, hw13, ha14, hw14, ha15, hw15, ha16, hw16, ha17, hw17, ha18, hw18, ha19, hw19, ha20, hw20, ha21, hw21, ha22, hw22, ha23, hw23, ha24, hw24, ha25, hw25]

/-- The rest of the third chunk: the last products, the bias, the norm and silu. -/
theorem tail2_at {W A : ℕ → Fin 512 → EReal} {B G H : Fin 512 → EReal} (i : Fin 64) {acc : FVec Ideal S64x512 .f32} {a26 a27 a28 a29 : Vec Ideal
    S1x64x512 .f32} {w26 w27 w28 w29 w30 dw g b : Vec Ideal S1x512 .f32} {a30 : Vec Ideal S64x512 .f32} (hacc : ∀ e : Fin 512, acc (ix2 i e) = W 0 e * A 0
    e + W 1 e * A 1 e + W 2 e * A 2 e + W 3 e * A 3 e + W 4 e * A 4 e + W 5 e * A 5 e + W 6 e * A 6 e + W 7 e * A 7 e + W 8 e * A 8 e + W 9 e * A 9 e + W
    10 e * A 10 e + W 11 e * A 11 e + W 12 e * A 12 e + W 13 e * A 13 e + W 14 e * A 14 e + W 15 e * A 15 e + W 16 e * A 16 e + W 17 e * A 17 e + W 18 e *
    A 18 e + W 19 e * A 19 e + W 20 e * A 20 e + W 21 e * A 21 e + W 22 e * A 22 e + W 23 e * A 23 e + W 24 e * A 24 e + W 25 e * A 25 e) (ha26 : ∀ e :
    Fin 512, a26 (ix3 0 i e) = A 26 e) (hw26 : ∀ e : Fin 512, w26 (ix2 0 e) = W 26 e) (ha27 : ∀ e : Fin 512, a27 (ix3 0 i e) = A 27 e) (hw27 : ∀ e : Fin
    512, w27 (ix2 0 e) = W 27 e) (ha28 : ∀ e : Fin 512, a28 (ix3 0 i e) = A 28 e) (hw28 : ∀ e : Fin 512, w28 (ix2 0 e) = W 28 e) (ha29 : ∀ e : Fin 512,
    a29 (ix3 0 i e) = A 29 e) (hw29 : ∀ e : Fin 512, w29 (ix2 0 e) = W 29 e) (ha30 : ∀ e : Fin 512, a30 (ix2 i e) = A 30 e) (hw30 : ∀ e : Fin 512, w30
    (ix2 0 e) = W 30 e) (hdw : ∀ e : Fin 512, dw (ix2 0 e) = B e) (hg : ∀ e : Fin 512, g (ix2 0 e) = G e) (hb : ∀ e : Fin 512, b (ix2 0 e) = H e) (z : Fin
    1) (d : Fin 512) : (k0_pay43 (k0_pay41 acc (k0_pay40 a26) w26 a27 w27 a28 w28 a29 w29 a30 w30 dw) (k0_pay42 acc (k0_pay40 a26) w26 a27 w27 a28 w28 a29
    w29 a30 w30 dw) g b : FVec Ideal S1x64x512 .f32) (ix3 z i d) = normed (fun e => taps (fun k => W k e) (fun k => A k e) + B e) G H d := by
  pointwise [k0_pay43, k0_pay41, k0_pay40, k0_pay42]
  simp only [hacc, ha26, hw26, ha27, hw27, ha28, hw28, ha29, hw29, ha30, hw30, hdw, hg, hb]
  rfl

/-- An entry of the third chunk, from the loads. -/
theorem chunk2_at {W A : ℕ → Fin 512 → EReal} {B G H : Fin 512 → EReal} (i : Fin 64) {a0 a1 a2 a3 a4 a5 a7 a8 a9 a10 a11 a12 a13 a15 a16 a17 a18 a19
    a20 a21 a23 a24 a25 a26 a27 a28 a29 : Vec Ideal S1x64x512 .f32} {w0 w1 w2 w3 w4 w5 w6 w7 w8 w9 w10 w11 w12 w13 w14 w15 w16 w17 w18 w19 w20 w21 w22 w23
    w24 w25 w26 w27 w28 w29 w30 dw g b : Vec Ideal S1x512 .f32} {a6 a14 a22 a30 : Vec Ideal S64x512 .f32} (ha0 : ∀ e : Fin 512, a0 (ix3 0 i e) = A 0 e)
    (hw0 : ∀ e : Fin 512, w0 (ix2 0 e) = W 0 e) (ha1 : ∀ e : Fin 512, a1 (ix3 0 i e) = A 1 e) (hw1 : ∀ e : Fin 512, w1 (ix2 0 e) = W 1 e) (ha2 : ∀ e : Fin
    512, a2 (ix3 0 i e) = A 2 e) (hw2 : ∀ e : Fin 512, w2 (ix2 0 e) = W 2 e) (ha3 : ∀ e : Fin 512, a3 (ix3 0 i e) = A 3 e) (hw3 : ∀ e : Fin 512, w3 (ix2 0
    e) = W 3 e) (ha4 : ∀ e : Fin 512, a4 (ix3 0 i e) = A 4 e) (hw4 : ∀ e : Fin 512, w4 (ix2 0 e) = W 4 e) (ha5 : ∀ e : Fin 512, a5 (ix3 0 i e) = A 5 e)
    (hw5 : ∀ e : Fin 512, w5 (ix2 0 e) = W 5 e) (ha6 : ∀ e : Fin 512, a6 (ix2 i e) = A 6 e) (hw6 : ∀ e : Fin 512, w6 (ix2 0 e) = W 6 e) (ha7 : ∀ e : Fin
    512, a7 (ix3 0 i e) = A 7 e) (hw7 : ∀ e : Fin 512, w7 (ix2 0 e) = W 7 e) (ha8 : ∀ e : Fin 512, a8 (ix3 0 i e) = A 8 e) (hw8 : ∀ e : Fin 512, w8 (ix2 0
    e) = W 8 e) (ha9 : ∀ e : Fin 512, a9 (ix3 0 i e) = A 9 e) (hw9 : ∀ e : Fin 512, w9 (ix2 0 e) = W 9 e) (ha10 : ∀ e : Fin 512, a10 (ix3 0 i e) = A 10 e)
    (hw10 : ∀ e : Fin 512, w10 (ix2 0 e) = W 10 e) (ha11 : ∀ e : Fin 512, a11 (ix3 0 i e) = A 11 e) (hw11 : ∀ e : Fin 512, w11 (ix2 0 e) = W 11 e) (ha12 :
    ∀ e : Fin 512, a12 (ix3 0 i e) = A 12 e) (hw12 : ∀ e : Fin 512, w12 (ix2 0 e) = W 12 e) (ha13 : ∀ e : Fin 512, a13 (ix3 0 i e) = A 13 e) (hw13 : ∀ e :
    Fin 512, w13 (ix2 0 e) = W 13 e) (ha14 : ∀ e : Fin 512, a14 (ix2 i e) = A 14 e) (hw14 : ∀ e : Fin 512, w14 (ix2 0 e) = W 14 e) (ha15 : ∀ e : Fin 512,
    a15 (ix3 0 i e) = A 15 e) (hw15 : ∀ e : Fin 512, w15 (ix2 0 e) = W 15 e) (ha16 : ∀ e : Fin 512, a16 (ix3 0 i e) = A 16 e) (hw16 : ∀ e : Fin 512, w16
    (ix2 0 e) = W 16 e) (ha17 : ∀ e : Fin 512, a17 (ix3 0 i e) = A 17 e) (hw17 : ∀ e : Fin 512, w17 (ix2 0 e) = W 17 e) (ha18 : ∀ e : Fin 512, a18 (ix3 0
    i e) = A 18 e) (hw18 : ∀ e : Fin 512, w18 (ix2 0 e) = W 18 e) (ha19 : ∀ e : Fin 512, a19 (ix3 0 i e) = A 19 e) (hw19 : ∀ e : Fin 512, w19 (ix2 0 e) =
    W 19 e) (ha20 : ∀ e : Fin 512, a20 (ix3 0 i e) = A 20 e) (hw20 : ∀ e : Fin 512, w20 (ix2 0 e) = W 20 e) (ha21 : ∀ e : Fin 512, a21 (ix3 0 i e) = A 21
    e) (hw21 : ∀ e : Fin 512, w21 (ix2 0 e) = W 21 e) (ha22 : ∀ e : Fin 512, a22 (ix2 i e) = A 22 e) (hw22 : ∀ e : Fin 512, w22 (ix2 0 e) = W 22 e) (ha23
    : ∀ e : Fin 512, a23 (ix3 0 i e) = A 23 e) (hw23 : ∀ e : Fin 512, w23 (ix2 0 e) = W 23 e) (ha24 : ∀ e : Fin 512, a24 (ix3 0 i e) = A 24 e) (hw24 : ∀ e
    : Fin 512, w24 (ix2 0 e) = W 24 e) (ha25 : ∀ e : Fin 512, a25 (ix3 0 i e) = A 25 e) (hw25 : ∀ e : Fin 512, w25 (ix2 0 e) = W 25 e) (ha26 : ∀ e : Fin
    512, a26 (ix3 0 i e) = A 26 e) (hw26 : ∀ e : Fin 512, w26 (ix2 0 e) = W 26 e) (ha27 : ∀ e : Fin 512, a27 (ix3 0 i e) = A 27 e) (hw27 : ∀ e : Fin 512,
    w27 (ix2 0 e) = W 27 e) (ha28 : ∀ e : Fin 512, a28 (ix3 0 i e) = A 28 e) (hw28 : ∀ e : Fin 512, w28 (ix2 0 e) = W 28 e) (ha29 : ∀ e : Fin 512, a29
    (ix3 0 i e) = A 29 e) (hw29 : ∀ e : Fin 512, w29 (ix2 0 e) = W 29 e) (ha30 : ∀ e : Fin 512, a30 (ix2 i e) = A 30 e) (hw30 : ∀ e : Fin 512, w30 (ix2 0
    e) = W 30 e) (hdw : ∀ e : Fin 512, dw (ix2 0 e) = B e) (hg : ∀ e : Fin 512, g (ix2 0 e) = G e) (hb : ∀ e : Fin 512, b (ix2 0 e) = H e) (z : Fin 1) (d
    : Fin 512) : (k0_pay43 (k0_pay41 (k0_pay39 (k0_pay36 (k0_pay35 (k0_pay33 (k0_pay32 a0 w0 a1 w1 a2 w2 a3 w3) a4 w4 a5 w5 a6 w6 a7 w7 a8 w8) (k0_pay34
    a9) w9 a10 w10 a11 w11 a12 w12 a13 w13 a14 w14) a15 w15 a16 w16 a17 w17 a18 w18 a19 w19) (k0_pay37 a20) (k0_pay38 w20) a21 w21 a22 w22 a23 w23 a24 w24
    a25 w25) (k0_pay40 a26) w26 a27 w27 a28 w28 a29 w29 a30 w30 dw) (k0_pay42 (k0_pay39 (k0_pay36 (k0_pay35 (k0_pay33 (k0_pay32 a0 w0 a1 w1 a2 w2 a3 w3)
    a4 w4 a5 w5 a6 w6 a7 w7 a8 w8) (k0_pay34 a9) w9 a10 w10 a11 w11 a12 w12 a13 w13 a14 w14) a15 w15 a16 w16 a17 w17 a18 w18 a19 w19) (k0_pay37 a20)
    (k0_pay38 w20) a21 w21 a22 w22 a23 w23 a24 w24 a25 w25) (k0_pay40 a26) w26 a27 w27 a28 w28 a29 w29 a30 w30 dw) g b : FVec Ideal S1x64x512 .f32) (ix3 z
    i d) = normed (fun e => taps (fun k => W k e) (fun k => A k e) + B e) G H d :=
  tail2_at i (acc2_at i ha0 hw0 ha1 hw1 ha2 hw2 ha3 hw3 ha4 hw4 ha5 hw5 ha6 hw6 ha7 hw7 ha8 hw8 ha9 hw9 ha10 hw10 ha11 hw11 ha12 hw12 ha13 hw13 ha14
    hw14 ha15 hw15 ha16 hw16 ha17 hw17 ha18 hw18 ha19 hw19 ha20 hw20 ha21 hw21 ha22 hw22 ha23 hw23 ha24 hw24 ha25 hw25) ha26 hw26 ha27 hw27 ha28 hw28 ha29
    hw29 ha30 hw30 hdw hg hb z d

/-- The products of the fourth chunk of 64 rows, summed as far as the chunk's last payload takes them. -/
theorem acc3_at {W A : ℕ → Fin 512 → EReal} (i : Fin 64) {a0 a1 a2 a3 a4 a5 a7 a8 a9 a10 a11 a12 a13 a15 a16 a17 a18 a19 a20 a21 a23 a24 a25 a26 a27
    a28 a29 : Vec Ideal S1x64x512 .f32} {w0 w1 w2 w3 w4 w5 w6 w7 w8 w9 w10 w11 w12 w13 w14 w15 w16 w17 w18 w19 w20 w21 w22 w23 w24 w25 w26 w27 w28 w29 :
    Vec Ideal S1x512 .f32} {a6 a14 a22 : Vec Ideal S64x512 .f32} (ha0 : ∀ e : Fin 512, a0 (ix3 0 i e) = A 0 e) (hw0 : ∀ e : Fin 512, w0 (ix2 0 e) = W 0 e)
    (ha1 : ∀ e : Fin 512, a1 (ix3 0 i e) = A 1 e) (hw1 : ∀ e : Fin 512, w1 (ix2 0 e) = W 1 e) (ha2 : ∀ e : Fin 512, a2 (ix3 0 i e) = A 2 e) (hw2 : ∀ e :
    Fin 512, w2 (ix2 0 e) = W 2 e) (ha3 : ∀ e : Fin 512, a3 (ix3 0 i e) = A 3 e) (hw3 : ∀ e : Fin 512, w3 (ix2 0 e) = W 3 e) (ha4 : ∀ e : Fin 512, a4 (ix3
    0 i e) = A 4 e) (hw4 : ∀ e : Fin 512, w4 (ix2 0 e) = W 4 e) (ha5 : ∀ e : Fin 512, a5 (ix3 0 i e) = A 5 e) (hw5 : ∀ e : Fin 512, w5 (ix2 0 e) = W 5 e)
    (ha6 : ∀ e : Fin 512, a6 (ix2 i e) = A 6 e) (hw6 : ∀ e : Fin 512, w6 (ix2 0 e) = W 6 e) (ha7 : ∀ e : Fin 512, a7 (ix3 0 i e) = A 7 e) (hw7 : ∀ e : Fin
    512, w7 (ix2 0 e) = W 7 e) (ha8 : ∀ e : Fin 512, a8 (ix3 0 i e) = A 8 e) (hw8 : ∀ e : Fin 512, w8 (ix2 0 e) = W 8 e) (ha9 : ∀ e : Fin 512, a9 (ix3 0 i
    e) = A 9 e) (hw9 : ∀ e : Fin 512, w9 (ix2 0 e) = W 9 e) (ha10 : ∀ e : Fin 512, a10 (ix3 0 i e) = A 10 e) (hw10 : ∀ e : Fin 512, w10 (ix2 0 e) = W 10
    e) (ha11 : ∀ e : Fin 512, a11 (ix3 0 i e) = A 11 e) (hw11 : ∀ e : Fin 512, w11 (ix2 0 e) = W 11 e) (ha12 : ∀ e : Fin 512, a12 (ix3 0 i e) = A 12 e)
    (hw12 : ∀ e : Fin 512, w12 (ix2 0 e) = W 12 e) (ha13 : ∀ e : Fin 512, a13 (ix3 0 i e) = A 13 e) (hw13 : ∀ e : Fin 512, w13 (ix2 0 e) = W 13 e) (ha14 :
    ∀ e : Fin 512, a14 (ix2 i e) = A 14 e) (hw14 : ∀ e : Fin 512, w14 (ix2 0 e) = W 14 e) (ha15 : ∀ e : Fin 512, a15 (ix3 0 i e) = A 15 e) (hw15 : ∀ e :
    Fin 512, w15 (ix2 0 e) = W 15 e) (ha16 : ∀ e : Fin 512, a16 (ix3 0 i e) = A 16 e) (hw16 : ∀ e : Fin 512, w16 (ix2 0 e) = W 16 e) (ha17 : ∀ e : Fin
    512, a17 (ix3 0 i e) = A 17 e) (hw17 : ∀ e : Fin 512, w17 (ix2 0 e) = W 17 e) (ha18 : ∀ e : Fin 512, a18 (ix3 0 i e) = A 18 e) (hw18 : ∀ e : Fin 512,
    w18 (ix2 0 e) = W 18 e) (ha19 : ∀ e : Fin 512, a19 (ix3 0 i e) = A 19 e) (hw19 : ∀ e : Fin 512, w19 (ix2 0 e) = W 19 e) (ha20 : ∀ e : Fin 512, a20
    (ix3 0 i e) = A 20 e) (hw20 : ∀ e : Fin 512, w20 (ix2 0 e) = W 20 e) (ha21 : ∀ e : Fin 512, a21 (ix3 0 i e) = A 21 e) (hw21 : ∀ e : Fin 512, w21 (ix2
    0 e) = W 21 e) (ha22 : ∀ e : Fin 512, a22 (ix2 i e) = A 22 e) (hw22 : ∀ e : Fin 512, w22 (ix2 0 e) = W 22 e) (ha23 : ∀ e : Fin 512, a23 (ix3 0 i e) =
    A 23 e) (hw23 : ∀ e : Fin 512, w23 (ix2 0 e) = W 23 e) (ha24 : ∀ e : Fin 512, a24 (ix3 0 i e) = A 24 e) (hw24 : ∀ e : Fin 512, w24 (ix2 0 e) = W 24 e)
    (ha25 : ∀ e : Fin 512, a25 (ix3 0 i e) = A 25 e) (hw25 : ∀ e : Fin 512, w25 (ix2 0 e) = W 25 e) (ha26 : ∀ e : Fin 512, a26 (ix3 0 i e) = A 26 e) (hw26
    : ∀ e : Fin 512, w26 (ix2 0 e) = W 26 e) (ha27 : ∀ e : Fin 512, a27 (ix3 0 i e) = A 27 e) (hw27 : ∀ e : Fin 512, w27 (ix2 0 e) = W 27 e) (ha28 : ∀ e :
    Fin 512, a28 (ix3 0 i e) = A 28 e) (hw28 : ∀ e : Fin 512, w28 (ix2 0 e) = W 28 e) (ha29 : ∀ e : Fin 512, a29 (ix3 0 i e) = A 29 e) (hw29 : ∀ e : Fin
    512, w29 (ix2 0 e) = W 29 e) (e : Fin 512) : (k0_pay51 (k0_pay49 (k0_pay48 (k0_pay47 (k0_pay45 (k0_pay44 a0 w0 a1 w1) a2 w2 a3 w3 a4 w4 a5 w5 a6 w6)
    (k0_pay46 a7 w7) a8 w8 a9 w9 a10 w10 a11 w11 a12 w12) a13 w13 a14 w14 a15 w15 a16 w16 a17 w17 a18 w18) a19 w19 a20 w20 a21 w21 a22 w22 a23 w23)
    (k0_pay50 a24) w24 a25 w25 a26 w26 a27 w27 a28 w28 a29 w29 : FVec Ideal S64x512 .f32) (ix2 i e) = W 0 e * A 0 e + W 1 e * A 1 e + W 2 e * A 2 e + W 3
    e * A 3 e + W 4 e * A 4 e + W 5 e * A 5 e + W 6 e * A 6 e + W 7 e * A 7 e + W 8 e * A 8 e + W 9 e * A 9 e + W 10 e * A 10 e + W 11 e * A 11 e + W 12 e
    * A 12 e + W 13 e * A 13 e + W 14 e * A 14 e + W 15 e * A 15 e + W 16 e * A 16 e + W 17 e * A 17 e + W 18 e * A 18 e + W 19 e * A 19 e + W 20 e * A 20
    e + W 21 e * A 21 e + W 22 e * A 22 e + W 23 e * A 23 e + W 24 e * A 24 e + W 25 e * A 25 e + W 26 e * A 26 e + W 27 e * A 27 e + W 28 e * A 28 e + W
    29 e * A 29 e := by
  pointwise [k0_pay51, k0_pay49, k0_pay48, k0_pay47, k0_pay45, k0_pay44, k0_pay46, k0_pay50]
  simp only [ha0, hw0, ha1, hw1, ha2, hw2, ha3, hw3, ha4, hw4, ha5, hw5, ha6, hw6, ha7, hw7, ha8, hw8, ha9, hw9, ha10, hw10, ha11, hw11, ha12, hw12, ha13, hw13, ha14, hw14, ha15, hw15, ha16, hw16, ha17, hw17, ha18, hw18, ha19, hw19, ha20, hw20, ha21, hw21, ha22, hw22, ha23, hw23, ha24, hw24, ha25, hw25, ha26, hw26, ha27, hw27, ha28, hw28, ha29, hw29]

/-- The rest of the fourth chunk: the last products, the bias, the norm and silu. -/
theorem tail3_at {W A : ℕ → Fin 512 → EReal} {B G H : Fin 512 → EReal} (i : Fin 64) {acc : FVec Ideal S64x512 .f32} {a30 : Vec Ideal S64x512 .f32}
    {w30 dw g b : Vec Ideal S1x512 .f32} (hacc : ∀ e : Fin 512, acc (ix2 i e) = W 0 e * A 0 e + W 1 e * A 1 e + W 2 e * A 2 e + W 3 e * A 3 e + W 4 e * A
    4 e + W 5 e * A 5 e + W 6 e * A 6 e + W 7 e * A 7 e + W 8 e * A 8 e + W 9 e * A 9 e + W 10 e * A 10 e + W 11 e * A 11 e + W 12 e * A 12 e + W 13 e * A
    13 e + W 14 e * A 14 e + W 15 e * A 15 e + W 16 e * A 16 e + W 17 e * A 17 e + W 18 e * A 18 e + W 19 e * A 19 e + W 20 e * A 20 e + W 21 e * A 21 e +
    W 22 e * A 22 e + W 23 e * A 23 e + W 24 e * A 24 e + W 25 e * A 25 e + W 26 e * A 26 e + W 27 e * A 27 e + W 28 e * A 28 e + W 29 e * A 29 e) (ha30 :
    ∀ e : Fin 512, a30 (ix2 i e) = A 30 e) (hw30 : ∀ e : Fin 512, w30 (ix2 0 e) = W 30 e) (hdw : ∀ e : Fin 512, dw (ix2 0 e) = B e) (hg : ∀ e : Fin 512, g
    (ix2 0 e) = G e) (hb : ∀ e : Fin 512, b (ix2 0 e) = H e) (z : Fin 1) (d : Fin 512) : (k0_pay52 acc a30 w30 dw g b : FVec Ideal S1x64x512 .f32) (ix3 z
    i d) = normed (fun e => taps (fun k => W k e) (fun k => A k e) + B e) G H d := by
  pointwise [k0_pay52]
  simp only [hacc, ha30, hw30, hdw, hg, hb]
  rfl

/-- An entry of the fourth chunk, from the loads. -/
theorem chunk3_at {W A : ℕ → Fin 512 → EReal} {B G H : Fin 512 → EReal} (i : Fin 64) {a0 a1 a2 a3 a4 a5 a7 a8 a9 a10 a11 a12 a13 a15 a16 a17 a18 a19
    a20 a21 a23 a24 a25 a26 a27 a28 a29 : Vec Ideal S1x64x512 .f32} {w0 w1 w2 w3 w4 w5 w6 w7 w8 w9 w10 w11 w12 w13 w14 w15 w16 w17 w18 w19 w20 w21 w22 w23
    w24 w25 w26 w27 w28 w29 w30 dw g b : Vec Ideal S1x512 .f32} {a6 a14 a22 a30 : Vec Ideal S64x512 .f32} (ha0 : ∀ e : Fin 512, a0 (ix3 0 i e) = A 0 e)
    (hw0 : ∀ e : Fin 512, w0 (ix2 0 e) = W 0 e) (ha1 : ∀ e : Fin 512, a1 (ix3 0 i e) = A 1 e) (hw1 : ∀ e : Fin 512, w1 (ix2 0 e) = W 1 e) (ha2 : ∀ e : Fin
    512, a2 (ix3 0 i e) = A 2 e) (hw2 : ∀ e : Fin 512, w2 (ix2 0 e) = W 2 e) (ha3 : ∀ e : Fin 512, a3 (ix3 0 i e) = A 3 e) (hw3 : ∀ e : Fin 512, w3 (ix2 0
    e) = W 3 e) (ha4 : ∀ e : Fin 512, a4 (ix3 0 i e) = A 4 e) (hw4 : ∀ e : Fin 512, w4 (ix2 0 e) = W 4 e) (ha5 : ∀ e : Fin 512, a5 (ix3 0 i e) = A 5 e)
    (hw5 : ∀ e : Fin 512, w5 (ix2 0 e) = W 5 e) (ha6 : ∀ e : Fin 512, a6 (ix2 i e) = A 6 e) (hw6 : ∀ e : Fin 512, w6 (ix2 0 e) = W 6 e) (ha7 : ∀ e : Fin
    512, a7 (ix3 0 i e) = A 7 e) (hw7 : ∀ e : Fin 512, w7 (ix2 0 e) = W 7 e) (ha8 : ∀ e : Fin 512, a8 (ix3 0 i e) = A 8 e) (hw8 : ∀ e : Fin 512, w8 (ix2 0
    e) = W 8 e) (ha9 : ∀ e : Fin 512, a9 (ix3 0 i e) = A 9 e) (hw9 : ∀ e : Fin 512, w9 (ix2 0 e) = W 9 e) (ha10 : ∀ e : Fin 512, a10 (ix3 0 i e) = A 10 e)
    (hw10 : ∀ e : Fin 512, w10 (ix2 0 e) = W 10 e) (ha11 : ∀ e : Fin 512, a11 (ix3 0 i e) = A 11 e) (hw11 : ∀ e : Fin 512, w11 (ix2 0 e) = W 11 e) (ha12 :
    ∀ e : Fin 512, a12 (ix3 0 i e) = A 12 e) (hw12 : ∀ e : Fin 512, w12 (ix2 0 e) = W 12 e) (ha13 : ∀ e : Fin 512, a13 (ix3 0 i e) = A 13 e) (hw13 : ∀ e :
    Fin 512, w13 (ix2 0 e) = W 13 e) (ha14 : ∀ e : Fin 512, a14 (ix2 i e) = A 14 e) (hw14 : ∀ e : Fin 512, w14 (ix2 0 e) = W 14 e) (ha15 : ∀ e : Fin 512,
    a15 (ix3 0 i e) = A 15 e) (hw15 : ∀ e : Fin 512, w15 (ix2 0 e) = W 15 e) (ha16 : ∀ e : Fin 512, a16 (ix3 0 i e) = A 16 e) (hw16 : ∀ e : Fin 512, w16
    (ix2 0 e) = W 16 e) (ha17 : ∀ e : Fin 512, a17 (ix3 0 i e) = A 17 e) (hw17 : ∀ e : Fin 512, w17 (ix2 0 e) = W 17 e) (ha18 : ∀ e : Fin 512, a18 (ix3 0
    i e) = A 18 e) (hw18 : ∀ e : Fin 512, w18 (ix2 0 e) = W 18 e) (ha19 : ∀ e : Fin 512, a19 (ix3 0 i e) = A 19 e) (hw19 : ∀ e : Fin 512, w19 (ix2 0 e) =
    W 19 e) (ha20 : ∀ e : Fin 512, a20 (ix3 0 i e) = A 20 e) (hw20 : ∀ e : Fin 512, w20 (ix2 0 e) = W 20 e) (ha21 : ∀ e : Fin 512, a21 (ix3 0 i e) = A 21
    e) (hw21 : ∀ e : Fin 512, w21 (ix2 0 e) = W 21 e) (ha22 : ∀ e : Fin 512, a22 (ix2 i e) = A 22 e) (hw22 : ∀ e : Fin 512, w22 (ix2 0 e) = W 22 e) (ha23
    : ∀ e : Fin 512, a23 (ix3 0 i e) = A 23 e) (hw23 : ∀ e : Fin 512, w23 (ix2 0 e) = W 23 e) (ha24 : ∀ e : Fin 512, a24 (ix3 0 i e) = A 24 e) (hw24 : ∀ e
    : Fin 512, w24 (ix2 0 e) = W 24 e) (ha25 : ∀ e : Fin 512, a25 (ix3 0 i e) = A 25 e) (hw25 : ∀ e : Fin 512, w25 (ix2 0 e) = W 25 e) (ha26 : ∀ e : Fin
    512, a26 (ix3 0 i e) = A 26 e) (hw26 : ∀ e : Fin 512, w26 (ix2 0 e) = W 26 e) (ha27 : ∀ e : Fin 512, a27 (ix3 0 i e) = A 27 e) (hw27 : ∀ e : Fin 512,
    w27 (ix2 0 e) = W 27 e) (ha28 : ∀ e : Fin 512, a28 (ix3 0 i e) = A 28 e) (hw28 : ∀ e : Fin 512, w28 (ix2 0 e) = W 28 e) (ha29 : ∀ e : Fin 512, a29
    (ix3 0 i e) = A 29 e) (hw29 : ∀ e : Fin 512, w29 (ix2 0 e) = W 29 e) (ha30 : ∀ e : Fin 512, a30 (ix2 i e) = A 30 e) (hw30 : ∀ e : Fin 512, w30 (ix2 0
    e) = W 30 e) (hdw : ∀ e : Fin 512, dw (ix2 0 e) = B e) (hg : ∀ e : Fin 512, g (ix2 0 e) = G e) (hb : ∀ e : Fin 512, b (ix2 0 e) = H e) (z : Fin 1) (d
    : Fin 512) : (k0_pay52 (k0_pay51 (k0_pay49 (k0_pay48 (k0_pay47 (k0_pay45 (k0_pay44 a0 w0 a1 w1) a2 w2 a3 w3 a4 w4 a5 w5 a6 w6) (k0_pay46 a7 w7) a8 w8
    a9 w9 a10 w10 a11 w11 a12 w12) a13 w13 a14 w14 a15 w15 a16 w16 a17 w17 a18 w18) a19 w19 a20 w20 a21 w21 a22 w22 a23 w23) (k0_pay50 a24) w24 a25 w25
    a26 w26 a27 w27 a28 w28 a29 w29) a30 w30 dw g b : FVec Ideal S1x64x512 .f32) (ix3 z i d) = normed (fun e => taps (fun k => W k e) (fun k => A k e) + B
    e) G H d :=
  tail3_at i (acc3_at i ha0 hw0 ha1 hw1 ha2 hw2 ha3 hw3 ha4 hw4 ha5 hw5 ha6 hw6 ha7 hw7 ha8 hw8 ha9 hw9 ha10 hw10 ha11 hw11 ha12 hw12 ha13 hw13 ha14
    hw14 ha15 hw15 ha16 hw16 ha17 hw17 ha18 hw18 ha19 hw19 ha20 hw20 ha21 hw21 ha22 hw22 ha23 hw23 ha24 hw24 ha25 hw25 ha26 hw26 ha27 hw27 ha28 hw28 ha29
    hw29) ha30 hw30 hdw hg hb z d

/-- An entry of a tile's gated rows. -/
theorem pay4_at (u v : Vec Ideal S1x256x512 .f32) (r : Fin 256) (e : Fin 512) :
    k0_pay4 (F := Ideal) u v (ix2 r e) = u (ix3 0 r e) * Ideal.logistic (v (ix3 0 r e)) := by
  pointwise [k0_pay4]

end Cert.ConvIdeal.Cv
-- ==== Proof.ConvValue.lean ====
module

public import proofs.«01_k».proof.Proof.Gen.ConvIdeal.Value
public import proofs.«01_k».proof.Proof.ConvPay
public import Idealize.ShloMosaic.Lib.Pipeline.ReadBack
public import Idealize.ShloMosaic.Lib.WritesUnit
public import Idealize.ShloMosaic.Lib.Pipeline.ValueKit

@[expose] public section

set_option maxRecDepth 16384

noncomputable section

open Idealize.ShloMosaic Idealize.ShloMosaic.TcCoe Idealize.SL.Sem

namespace Cert.ConvIdeal.Cv
open Cert.ConvIdeal Cert.ConvIdeal.Gen
open Cert.ConvRefIdeal.Cv (taps normed glu row outRow)

variable (m : (ℓ : Loc nD τ sig) → Buf (Elt Ideal) ℓ)

/-- The block that each window takes at each grid point. -/
theorem idx : ∀ t : Fin cfg0.N, win0_0.index t = ![t.val / 16, t.val % 16, 3] ∧ win0_1.index t = ![t.val / 16, t.val % 16, 4]
    ∧ win0_2.index t = ![t.val / 16, 0, 0] ∧ win0_3.index t = ![0, 0] ∧ win0_4.index t = ![0, 0] ∧ win0_5.index t = ![0, 0]
    ∧ win0_6.index t = ![0, 0] ∧ win0_7.index t = ![t.val / 16, t.val % 16, 0] ∧ win0_8.index t = ![t.val / 16, 0, 0] ∧ t.val < 256 :=
  (by decide +kernel : ∀ t : Fin grid0.N, _)

/-- The combined projection, as given. -/
abbrev proj (c : Dev nD) : FVec Ideal S16x4096x10240 .f32 := m ((c : Thread nD τ).loc main_arg0)

/-- Row `n` of the tile's buffer: the gated rows from 32 before the tile. -/
def frow (c : Dev nD) (n : ℕ) (j : ℕ) (e : Fin 512) : EReal :=
  if h : n / 16 < 16 then glu (proj m c) ⟨n / 16, h⟩ (n % 16 * 256 + j) e else 0

/-- The gated rows of a tile are rows 32 to 287 of its buffer. -/
theorem fresh_at (c : Dev nD) (t : Fin cfg0.N) (r : Fin 256) (e : Fin 512) :
    k0_pay4 (F := Ideal) (iblk m c 0 t) (iblk m c 1 t) (ix2 r e) = frow m c t.val (32 + r.val) e := by
  obtain ⟨e0, e1, e2, e3, e4, e5, e6, e7, e8, ht⟩ := idx t
  have h1 : t.val / 16 < 16 := by omega
  have h2 : 32 ≤ t.val % 16 * 256 + (32 + r.val) ∧ t.val % 16 * 256 + (32 + r.val) < 4128 := by omega
  have h3 : t.val % 16 * 256 + (32 + r.val) - 32 = t.val % 16 * 256 + r.val := by omega
  have h4 : t.val % 16 * 256 + r.val < 4096 := by omega
  have hu : (show FVec Ideal S1x256x512 .f32 from iblk m c 0 t) (ix3 0 r e)
      = proj m c (ix3 ⟨t.val / 16, h1⟩ ⟨t.val % 16 * 256 + r.val, h4⟩ ⟨1536 + e.val, by omega⟩) := by
    blk_point [iblk, V, e0]
  have hv : (show FVec Ideal S1x256x512 .f32 from iblk m c 1 t) (ix3 0 r e)
      = proj m c (ix3 ⟨t.val / 16, h1⟩ ⟨t.val % 16 * 256 + r.val, h4⟩ ⟨2048 + e.val, by omega⟩) := by
    blk_point [iblk, V, e1]
  refine (pay4_at _ _ r e).trans ?_
  unfold frow glu
  rw [dif_pos h1, dif_pos h2]
  simp only [h3]
  exact congrArg₂ (· * ·) hu (congrArg Ideal.logistic hv)

/-- The rows before the first position are zeros. -/
theorem V_zero (c : Dev nD) : @Eq (FVec Ideal S16x32x512 .f32) (V m c main_v0)
    (broadcastInDim S16x32x512 ![] bcast_S_S16x32x512 (constant (F := Ideal) S_ .f32 0x00000000#32)) := by
  entry_read
  rfl

/-- The bias, as a row. -/
theorem V_dwb (c : Dev nD) : V m c main_v1 = shapeCast S1x512 (m ((c : Thread nD τ).loc main_arg2)) shapeCasts_S512_S1x512 := by
  entry_read
  rfl

/-- The norm's gain, as a row. -/
theorem V_g (c : Dev nD) : V m c main_v2 = shapeCast S1x512 (m ((c : Thread nD τ).loc main_arg3)) shapeCasts_S512_S1x512 := by
  entry_read
  rfl

/-- The norm's offset, as a row. -/
theorem V_b (c : Dev nD) : V m c main_v3 = shapeCast S1x512 (m ((c : Thread nD τ).loc main_arg4)) shapeCasts_S512_S1x512 := by
  entry_read
  rfl

/-- The block of rows before the first position holds the first tile's rows 0 to 31. -/
theorem zero_at (c : Dev nD) (t : Fin cfg0.N) (h : t.val % 16 = 0) (r : Fin 32) (e : Fin 512) :
    k0_pay3 (F := Ideal) (iblk m c 2 t) (ix2 r e) = frow m c t.val r.val e := by
  obtain ⟨e0, e1, e2, e3, e4, e5, e6, e7, e8, ht⟩ := idx t
  have h1 : t.val / 16 < 16 := by omega
  have h2 : ¬ (32 ≤ t.val % 16 * 256 + r.val ∧ t.val % 16 * 256 + r.val < 4128) := by omega
  have hz : (show FVec Ideal S1x32x512 .f32 from iblk m c 2 t) (ix3 0 r e)
      = (V m c main_v0 : FVec Ideal S16x32x512 .f32) (ix3 ⟨t.val / 16, h1⟩ r e) := by
    blk_point [iblk, e2]
  unfold frow glu
  rw [dif_pos h1, dif_neg h2]
  refine Eq.trans ?_ (hz.trans ?_)
  · pointwise [k0_pay3]
  · rw [V_zero]
    pointwise []

/-- An entry of the taps' block. -/
theorem w_at (c : Dev nD) (t : Fin cfg0.N) (k : Fin 31) (e : Fin 512) :
    (show FVec Ideal S31x512 .f32 from iblk m c 3 t) (ix2 k e) = (show FVec Ideal S31x512 .f32 from m ((c : Thread nD τ).loc main_arg1)) (ix2 k e) := by
  obtain ⟨e0, e1, e2, e3, e4, e5, e6, e7, e8, ht⟩ := idx t
  blk_point [iblk, V, e3]

/-- An entry of the bias's block. -/
theorem dwb_at (c : Dev nD) (t : Fin cfg0.N) (e : Fin 512) :
    (show FVec Ideal S1x512 .f32 from iblk m c 4 t) (ix2 0 e) = (show FVec Ideal S512 .f32 from m ((c : Thread nD τ).loc main_arg2)) (ix1 e) := by
  obtain ⟨e0, e1, e2, e3, e4, e5, e6, e7, e8, ht⟩ := idx t
  have h : (show FVec Ideal S1x512 .f32 from iblk m c 4 t) (ix2 0 e) = (V m c main_v1 : FVec Ideal S1x512 .f32) (ix2 0 e) := by
    blk_point [iblk, e4]
  rw [h, V_dwb]
  pointwise []

/-- An entry of the gain's block. -/
theorem g_at (c : Dev nD) (t : Fin cfg0.N) (e : Fin 512) :
    (show FVec Ideal S1x512 .f32 from iblk m c 5 t) (ix2 0 e) = (show FVec Ideal S512 .f32 from m ((c : Thread nD τ).loc main_arg3)) (ix1 e) := by
  obtain ⟨e0, e1, e2, e3, e4, e5, e6, e7, e8, ht⟩ := idx t
  have h : (show FVec Ideal S1x512 .f32 from iblk m c 5 t) (ix2 0 e) = (V m c main_v2 : FVec Ideal S1x512 .f32) (ix2 0 e) := by
    blk_point [iblk, e5]
  rw [h, V_g]
  pointwise []

/-- An entry of the offset's block. -/
theorem b_at (c : Dev nD) (t : Fin cfg0.N) (e : Fin 512) :
    (show FVec Ideal S1x512 .f32 from iblk m c 6 t) (ix2 0 e) = (show FVec Ideal S512 .f32 from m ((c : Thread nD τ).loc main_arg4)) (ix1 e) := by
  obtain ⟨e0, e1, e2, e3, e4, e5, e6, e7, e8, ht⟩ := idx t
  have h : (show FVec Ideal S1x512 .f32 from iblk m c 6 t) (ix2 0 e) = (V m c main_v3 : FVec Ideal S1x512 .f32) (ix2 0 e) := by
    blk_point [iblk, e6]
  rw [h, V_b]
  pointwise []

/-- The shifted copies of the buffer, as they are stored. -/
abbrev shifted (x1 x2 x3 x4 x5 x6 x7 : Vec Ideal S280x512 .f32) : List (View.Piece (Elt Ideal) S8x280x512 .f32) :=
  [⟨Rect.unit (s := S8x280x512) ![7, 0, 0] S1x280x512.size inb_S8x280x512_S1x280x512_7_0_0, k0_pay11 x7⟩,
    ⟨Rect.unit (s := S8x280x512) ![6, 0, 0] S1x280x512.size inb_S8x280x512_S1x280x512_6_0_0, k0_pay10 x6⟩,
    ⟨Rect.unit (s := S8x280x512) ![5, 0, 0] S1x280x512.size inb_S8x280x512_S1x280x512_5_0_0, k0_pay9 x5⟩,
    ⟨Rect.unit (s := S8x280x512) ![4, 0, 0] S1x280x512.size inb_S8x280x512_S1x280x512_4_0_0, k0_pay8 x4⟩,
    ⟨Rect.unit (s := S8x280x512) ![3, 0, 0] S1x280x512.size inb_S8x280x512_S1x280x512_3_0_0, k0_pay7 x3⟩,
    ⟨Rect.unit (s := S8x280x512) ![2, 0, 0] S1x280x512.size inb_S8x280x512_S1x280x512_2_0_0, k0_pay6 x2⟩,
    ⟨Rect.unit (s := S8x280x512) ![1, 0, 0] S1x280x512.size inb_S8x280x512_S1x280x512_1_0_0, k0_pay5 x1⟩]

/-- One shifted copy, at a row: the buffer at that row and the shift. -/
theorem piece_at {F : ℕ → Fin 512 → EReal} (p : ℕ) {x : Vec Ideal S280x512 .f32} (hx : ∀ (r : Fin 280) (e : Fin 512), x (ix2 r e) = F (p + r.val) e)
    (inb : ∀ a, (![p, 0, 0] : Fin 3 → ℕ) a + S1x280x512.size a ≤ S8x280x512.size a) (w : FVec Ideal S1x280x512 .f32)
    (hw : ∀ (z : Fin 1) (r : Fin 280) (e : Fin 512), w (ix3 z r e) = x (ix2 r e)) (y : S1x280x512.Idx) :
    w y = (fun y : S8x280x512.Idx => F ((y 0).val + (y 1).val) (y 2)) ((Rect.unit (s := S8x280x512) ![p, 0, 0] S1x280x512.size inb).emb y) := by
  idx_vars y
  refine (hw y0 y1 y2).trans ((hx y1 y2).trans ?_)
  have e0 : ((Rect.unit (s := S8x280x512) ![p, 0, 0] S1x280x512.size inb).emb (ix3 y0 y1 y2) 0).val = p := by
    refine (Rect.idx_unit_val _ _ _ _ _).trans ?_
    show p + y0.val = p
    omega
  have e1 : ((Rect.unit (s := S8x280x512) ![p, 0, 0] S1x280x512.size inb).emb (ix3 y0 y1 y2) 1).val = y1.val :=
    (Rect.idx_unit_val _ _ _ _ _).trans (Nat.zero_add _)
  have e2 : (Rect.unit (s := S8x280x512) ![p, 0, 0] S1x280x512.size inb).emb (ix3 y0 y1 y2) 2 = y2 :=
    Fin.ext ((Rect.idx_unit_val _ _ _ _ _).trans (Nat.zero_add _))
  show _ = F (_ + _) _
  rw [e0, e1, e2]

/-- The shifted copies, read back. -/
theorem shift_at {F : ℕ → Fin 512 → EReal} {x1 x2 x3 x4 x5 x6 x7 : Vec Ideal S280x512 .f32}
    (h1 : ∀ (r : Fin 280) (e : Fin 512), x1 (ix2 r e) = F (1 + r.val) e) (h2 : ∀ (r : Fin 280) (e : Fin 512), x2 (ix2 r e) = F (2 + r.val) e)
    (h3 : ∀ (r : Fin 280) (e : Fin 512), x3 (ix2 r e) = F (3 + r.val) e) (h4 : ∀ (r : Fin 280) (e : Fin 512), x4 (ix2 r e) = F (4 + r.val) e)
    (h5 : ∀ (r : Fin 280) (e : Fin 512), x5 (ix2 r e) = F (5 + r.val) e) (h6 : ∀ (r : Fin 280) (e : Fin 512), x6 (ix2 r e) = F (6 + r.val) e)
    (h7 : ∀ (r : Fin 280) (e : Fin 512), x7 (ix2 r e) = F (7 + r.val) e)
    (v : View sig .tc .vmem S8x280x512 .f32) (p s : ℕ) (hp : 1 ≤ p ∧ p ≤ 7) (hs : s + 64 ≤ 280)
    (inb : ∀ a, (![p, s, 0] : Fin 3 → ℕ) a + S1x64x512.size a ≤ S8x280x512.size a) (i : Fin 64) (e : Fin 512) :
    v.readCov (Val := Elt Ideal) (shifted x1 x2 x3 x4 x5 x6 x7)
      (Rect.unit (s := S8x280x512) ![p, s, 0] S1x64x512.size inb).toLoadRect (ix3 (0 : Fin 1) i e) = F (p + s + i.val) e := by
  rw [View.readCov_eq_canon']
  have hr : s + i.val < 280 := by omega
  have hy : ((Rect.unit (s := S8x280x512) ![p, s, 0] S1x64x512.size inb).toLoadRect.idx (ix3 (0 : Fin 1) i e) : S8x280x512.Idx)
      = ix3 ⟨p, by omega⟩ ⟨s + i.val, hr⟩ e := by
    funext a
    refine Fin.ext ?_
    refine (Rect.idx_unit_val _ _ _ _ _).trans ?_
    match a with
    | ⟨0, _⟩ => rfl
    | ⟨1, _⟩ => rfl
    | ⟨2, _⟩ => exact Nat.zero_add _
  have e9 : p + s + i.val = p + (s + i.val) := by omega
  show View.canon _ _ = _
  rw [hy, e9]
  have key := View.canon_append_of_piecesOf (Val := Elt Ideal) (s := S8x280x512) (e := .f32)
    (fun y : S8x280x512.Idx => F ((y 0).val + (y 1).val) (y 2)) [] (shifted x1 x2 x3 x4 x5 x6 x7)
    ⟨piece_at 7 h7 inb_S8x280x512_S1x280x512_7_0_0 (k0_pay11 x7) (fun z r e => by pointwise [k0_pay11]), piece_at 6 h6 inb_S8x280x512_S1x280x512_6_0_0 (k0_pay10 x6) (fun z r e => by pointwise [k0_pay10]),
      piece_at 5 h5 inb_S8x280x512_S1x280x512_5_0_0 (k0_pay9 x5) (fun z r e => by pointwise [k0_pay9]), piece_at 4 h4 inb_S8x280x512_S1x280x512_4_0_0 (k0_pay8 x4) (fun z r e => by pointwise [k0_pay8]),
      piece_at 3 h3 inb_S8x280x512_S1x280x512_3_0_0 (k0_pay7 x3) (fun z r e => by pointwise [k0_pay7]), piece_at 2 h2 inb_S8x280x512_S1x280x512_2_0_0 (k0_pay6 x2) (fun z r e => by pointwise [k0_pay6]),
      piece_at 1 h1 inb_S8x280x512_S1x280x512_1_0_0 (k0_pay5 x1) (fun z r e => by pointwise [k0_pay5]), trivial⟩ (ix3 ⟨p, by omega⟩ ⟨s + i.val, hr⟩ e)
  refine key ?_
  have hm : ∀ (q : ℕ) (hq : q = p) (inb : ∀ a, (![q, 0, 0] : Fin 3 → ℕ) a + S1x280x512.size a ≤ S8x280x512.size a),
      (ix3 ⟨p, by omega⟩ ⟨s + i.val, hr⟩ e : S8x280x512.Idx) ∈ (Rect.unit (s := S8x280x512) ![q, 0, 0] S1x280x512.size inb).set := by
    intro q hq inb
    subst hq
    refine Rect.mem_set_unit.mpr fun a => ?_
    match a with
    | ⟨0, _⟩ => exact ⟨le_rfl, Nat.lt_succ_self _⟩
    | ⟨1, _⟩ => exact ⟨Nat.zero_le _, by show s + i.val < 0 + 280; omega⟩
    | ⟨2, _⟩ => exact ⟨Nat.zero_le _, by show e.val < 0 + 512; omega⟩
  have hc : p = 1 ∨ p = 2 ∨ p = 3 ∨ p = 4 ∨ p = 5 ∨ p = 6 ∨ p = 7 := by omega
  rcases hc with h | h | h | h | h | h | h
  · exact ⟨_, .tail _ (.tail _ (.tail _ (.tail _ (.tail _ (.tail _ (.head _)))))), hm 1 h.symm inb_S8x280x512_S1x280x512_1_0_0⟩
  · exact ⟨_, .tail _ (.tail _ (.tail _ (.tail _ (.tail _ (.head _))))), hm 2 h.symm inb_S8x280x512_S1x280x512_2_0_0⟩
  · exact ⟨_, .tail _ (.tail _ (.tail _ (.tail _ (.head _)))), hm 3 h.symm inb_S8x280x512_S1x280x512_3_0_0⟩
  · exact ⟨_, .tail _ (.tail _ (.tail _ (.head _))), hm 4 h.symm inb_S8x280x512_S1x280x512_4_0_0⟩
  · exact ⟨_, .tail _ (.tail _ (.head _)), hm 5 h.symm inb_S8x280x512_S1x280x512_5_0_0⟩
  · exact ⟨_, .tail _ (.head _), hm 6 h.symm inb_S8x280x512_S1x280x512_6_0_0⟩
  · exact ⟨_, .head _, hm 7 h.symm inb_S8x280x512_S1x280x512_7_0_0⟩

/-- What a tile finds in its buffer's first rows, the point before having left the rows it carries. -/
theorem buffer_at (c : Dev nD) (t : Fin cfg0.N) (X : S288x512.Idx → EReal) (h : ∀ (j : Fin 32) (e : Fin 512), X (ix2 ⟨j.val, by omega⟩ e) = frow m c t.val j.val e)
    (f : (⟨S288x512, .f32⟩ : BufTy).Contents (Elt Ideal)) (hf : View.read (Elt Ideal) (View.whole cc0_scratch0) f = X)
    (j : Fin 288) (e : Fin 512) :
    View.read (Elt Ideal) (View.whole cc0_scratch0) ((View.whole cc0_scratch0).writes (Elt Ideal) f
      [⟨Rect.unit (s := S288x512) ![32, 0] S256x512.size inb_S288x512_S256x512_32_0, k0_pay4 (F := Ideal) (iblk m c 0 t) (iblk m c 1 t)⟩]) (ix2 j e)
      = frow m c t.val j.val e := by
  by_cases hj : j.val < 32
  · refine (View.read_writes_cons_rows_of_not_mem (View.whole cc0_scratch0) f _ _ [] (ix2 j e) rfl rfl (.inl hj)).trans ?_
    rw [View.writes_nil, hf]
    exact h ⟨j.val, hj⟩ e
  · have hj' : j.val - 32 < 256 := by omega
    refine (View.read_writes_cons_rows_of_mem (View.whole cc0_scratch0) f _ _ [] (ix2 j e) (ix2 ⟨j.val - 32, hj'⟩ e) rfl ?_ rfl).trans ?_
    · show j.val = 32 + (j.val - 32)
      omega
    · refine (fresh_at m c t ⟨j.val - 32, hj'⟩ e).trans ?_
      have : 32 + (j.val - 32) = j.val := by omega
      show frow m c t.val (32 + (j.val - 32)) e = _
      rw [this]

/-- The rows a tile writes into its buffer, read at a row. -/
theorem canon_fresh (c : Dev nD) (t : Fin cfg0.N) (L : List (View.Piece (Elt Ideal) S288x512 .f32)) (j : Fin 288) (hj : 32 ≤ j.val) (e : Fin 512) :
    View.canon (Val := Elt Ideal) (s := S288x512) (e := .f32) (⟨Rect.unit (s := S288x512) ![32, 0] S256x512.size inb_S288x512_S256x512_32_0, k0_pay4 (F := Ideal) (iblk m c 0 t) (iblk m c 1 t)⟩ :: L)
      (ix2 j e) = frow m c t.val j.val e := by
  have hj' : j.val - 32 < 256 := by omega
  have e1 : 32 + (j.val - 32) = j.val := by omega
  refine (View.read_writes_junk_apply_eq_canon (Val := Elt Ideal) (View.whole cc0_scratch0) (ix2 j e) _).symm.trans ?_
  refine (View.read_writes_cons_rows_of_mem (View.whole cc0_scratch0) _ _ _ L (ix2 j e) (ix2 ⟨j.val - 32, hj'⟩ e) rfl ?_ rfl).trans ?_
  · show j.val = 32 + (j.val - 32)
    omega
  · refine (fresh_at m c t ⟨j.val - 32, hj'⟩ e).trans ?_
    show frow m c t.val (32 + (j.val - 32)) e = _
    rw [e1]

/-- A write of the first 32 rows, read at one of them. -/
theorem canon_head (w : FVec Ideal S32x512 .f32) (L : List (View.Piece (Elt Ideal) S288x512 .f32)) (j : Fin 288) (hj : j.val < 32) (e : Fin 512) :
    View.canon (Val := Elt Ideal) (s := S288x512) (e := .f32) (⟨Rect.unit (s := S288x512) ![0, 0] S32x512.size inb_S288x512_S32x512_0_0, w⟩ :: L) (ix2 j e) = w (ix2 ⟨j.val, hj⟩ e) := by
  refine (View.read_writes_junk_apply_eq_canon (Val := Elt Ideal) (View.whole cc0_scratch0) (ix2 j e) _).symm.trans ?_
  refine (View.read_writes_cons_rows_of_mem (o := 0) (View.whole cc0_scratch0) _ _ _ L (ix2 j e) (ix2 ⟨j.val, hj⟩ e) rfl ?_ rfl).trans ?_
  · show j.val = 0 + j.val
    omega
  · rfl

/-- A write of the rows from 32 on leaves those before it. -/
theorem canon_below (w : FVec Ideal S256x512 .f32) (L : List (View.Piece (Elt Ideal) S288x512 .f32)) (j : Fin 288) (hj : j.val < 32) (e : Fin 512) :
    View.canon (Val := Elt Ideal) (s := S288x512) (e := .f32) (⟨Rect.unit (s := S288x512) ![32, 0] S256x512.size inb_S288x512_S256x512_32_0, w⟩ :: L)
      (ix2 j e) = View.canon (Val := Elt Ideal) (s := S288x512) (e := .f32) L (ix2 j e) := by
  refine View.canon_cons_of_not_mem (Val := Elt Ideal) (e := .f32) _ L fun hm => ?_
  have h := (Rect.mem_set_unit (s := S288x512) (off := ![32, 0]) (size := S256x512.size) (inb := inb_S288x512_S256x512_32_0)).mp hm (0 : Fin 2)
  have : 32 ≤ j.val := h.1
  omega

/-- The first tile's buffer after both of its writes. -/
theorem canon_first (c : Dev nD) (t : Fin cfg0.N) (h : t.val % 16 = 0) (j : Fin 288) (e : Fin 512) :
    View.canon (Val := Elt Ideal) (s := S288x512) (e := .f32) (⟨Rect.unit (s := S288x512) ![32, 0] S256x512.size inb_S288x512_S256x512_32_0, k0_pay4 (F := Ideal) (iblk m c 0 t) (iblk m c 1 t)⟩ ::
      (⟨Rect.unit (s := S288x512) ![0, 0] S32x512.size inb_S288x512_S32x512_0_0, k0_pay3 (F := Ideal) (iblk m c 2 t)⟩ :: []))
      (ix2 j e) = frow m c t.val j.val e := by
  by_cases hj : j.val < 32
  · rw [canon_below _ _ j hj e, canon_head _ _ j hj e]
    exact zero_at m c t h ⟨j.val, hj⟩ e
  · exact canon_fresh m c t _ j (by omega) e

/-- A load of `n` rows of the buffer. -/
theorem cov_at {F : ℕ → Fin 512 → EReal} {L : List (View.Piece (Elt Ideal) S288x512 .f32)} {lo n s : ℕ}
    (hL : ∀ (j : Fin 288) (e : Fin 512), lo ≤ j.val → View.canon L (ix2 j e) = F j.val e) (v : View sig .tc .vmem S288x512 .f32)
    (inb : ∀ a, (![s, 0] : Fin 2 → ℕ) a + (![n, 512] : Fin 2 → ℕ) a ≤ S288x512.size a) (hs : lo ≤ s) (i : Fin n) (e : Fin 512) :
    v.readCov (Val := Elt Ideal) L (Rect.unit (s := S288x512) ![s, 0] ![n, 512] inb).toLoadRect (ix2 i e) = F (s + i.val) e := by
  have h0 : s + n ≤ 288 := inb 0
  have hr : s + i.val < 288 := by omega
  have hy : ((Rect.unit (s := S288x512) ![s, 0] ![n, 512] inb).toLoadRect.idx (ix2 i e) : S288x512.Idx) = ix2 ⟨s + i.val, hr⟩ e := by
    funext a
    refine Fin.ext ((Rect.idx_unit_val _ _ _ _ _).trans ?_)
    match a with
    | ⟨0, _⟩ => rfl
    | ⟨1, _⟩ => exact Nat.zero_add _
  rw [View.readCov_eq_canon']
  show View.canon _ _ = _
  rw [hy]
  exact hL ⟨s + i.val, hr⟩ e (by show lo ≤ s + i.val; omega)

/-- A load of `n` rows from contents that are known. -/
theorem ld_at {F : ℕ → Fin 512 → EReal} {X : S288x512.Idx → EReal} {n s : ℕ} (hX : ∀ (j : Fin 288) (e : Fin 512), X (ix2 j e) = F j.val e)
    (inb : ∀ a, (![s, 0] : Fin 2 → ℕ) a + (![n, 512] : Fin 2 → ℕ) a ≤ S288x512.size a) (i : Fin n) (e : Fin 512) :
    View.ld (Val := Elt Ideal) (e' := .f32) X (Rect.unit (s := S288x512) ![s, 0] ![n, 512] inb) (ix2 i e) = F (s + i.val) e := by
  have h0 : s + n ≤ 288 := inb 0
  have hr : s + i.val < 288 := by omega
  refine (View.ld_unit_apply_of (Val := Elt Ideal) (e := .f32) X _ _ inb _ (ix2 ⟨s + i.val, hr⟩ e) fun a => ?_).trans (hX ⟨s + i.val, hr⟩ e)
  match a with
  | ⟨0, _⟩ => rfl
  | ⟨1, _⟩ => exact (Nat.zero_add _).symm

/-- The carried rows are stored as they are loaded. -/
theorem pay2_at (w : Vec Ideal S32x512 .f32) (j : Fin 32) (e : Fin 512) : k0_pay2 (F := Ideal) w (ix2 j e) = w (ix2 j e) := by
  pointwise [k0_pay2]

/-- The last rows are returned as they are loaded. -/
theorem pay1_at (w : Vec Ideal S32x512 .f32) (z : Fin 1) (j : Fin 32) (e : Fin 512) : k0_pay1 (F := Ideal) w (ix3 z j e) = w (ix2 j e) := by
  pointwise [k0_pay1]

/-- The rows a tile leaves for the next one. -/
theorem carried_at (c : Dev nD) (t : Fin cfg0.N) (j : Fin 32) (e : Fin 512) :
    (outsAt0 m c t.val t.isLt).2.2 (ix2 ⟨j.val, by omega⟩ e) = frow m c t.val (256 + j.val) e := by
  by_cases h : t.val % 16 = 0
  · rw [outsAt0_A m c t h]
    frame_out
    refine (canon_head _ _ ⟨j.val, by omega⟩ j.isLt e).trans ((pay2_at _ j e).trans ?_)
    exact cov_at (n := 32) (s := 256) (lo := 32) (fun i e hi => canon_fresh m c t _ i hi e) _ _ (by decide) j e
  · rw [outsAt0_B m c t h]
    frame_out
    refine (canon_head _ _ ⟨j.val, by omega⟩ j.isLt e).trans ((pay2_at _ j e).trans ?_)
    exact cov_at (n := 32) (s := 256) (lo := 32) (fun i e hi => canon_fresh m c t _ i hi e) _ _ (by decide) j e

/-- The rows a tile returns as the last ones. -/
theorem last_at (c : Dev nD) (t : Fin cfg0.N) (z : Fin 1) (j : Fin 32) (e : Fin 512) :
    (outsAt0 m c t.val t.isLt).2.1 (ix3 z j e) = frow m c t.val (256 + j.val) e := by
  by_cases h : t.val % 16 = 0
  · rw [outsAt0_A m c t h]
    frame_out
    refine (pay1_at _ z j e).trans ?_
    exact cov_at (n := 32) (s := 256) (lo := 32) (fun i e hi => canon_fresh m c t _ i hi e) _ _ (by decide) j e
  · rw [outsAt0_B m c t h]
    frame_out
    refine (pay1_at _ z j e).trans ?_
    exact cov_at (n := 32) (s := 256) (lo := 32) (fun i e hi => canon_fresh m c t _ i hi e) _ _ (by decide) j e

/-- A tile that is not the first of its sequence finds the carried rows. -/
theorem found_at (c : Dev nD) (t : Fin cfg0.N) (h : ¬ t.val % 16 = 0) (hp : t.val - 1 < cfg0.N) (j : Fin 32) (e : Fin 512) :
    (outsAt0 m c (t.val - 1) hp).2.2 (ix2 ⟨j.val, by omega⟩ e) = frow m c t.val j.val e := by
  refine (carried_at m c ⟨t.val - 1, hp⟩ j e).trans ?_
  have e1 : (t.val - 1) / 16 = t.val / 16 := by omega
  have e2 : (t.val - 1) % 16 * 256 + (256 + j.val) = t.val % 16 * 256 + j.val := by omega
  unfold frow
  simp only [e1, e2]

/-- A load of one tap. -/
theorem wld_at (c : Dev nD) (t : Fin cfg0.N) (k : ℕ) (hk : k < 31)
    (inb : ∀ a, (![k, 0] : Fin 2 → ℕ) a + (![1, 512] : Fin 2 → ℕ) a ≤ S31x512.size a) (e : Fin 512) :
    View.ld (Val := Elt Ideal) (e' := .f32) (iblk m c 3 t : S31x512.Idx → EReal) (Rect.unit (s := S31x512) ![k, 0] ![1, 512] inb) (ix2 (0 : Fin 1) e)
      = (show FVec Ideal S31x512 .f32 from m ((c : Thread nD τ).loc main_arg1)) (ix2 (Fin.ofNat 31 k) e) := by
  have hk' : (Fin.ofNat 31 k).val = k := Nat.mod_eq_of_lt hk
  refine (View.ld_unit_apply_of (Val := Elt Ideal) (e := .f32) (iblk m c 3 t : S31x512.Idx → EReal) _ _ inb _ (ix2 (Fin.ofNat 31 k) e) fun a => ?_).trans
    (w_at m c t (Fin.ofNat 31 k) e)
  match a with
  | ⟨0, _⟩ => exact hk'
  | ⟨1, _⟩ => exact (Nat.zero_add _).symm

/-- Row `p` of the sequence, of the tile's buffer and of the reference. -/
theorem row_eq (c : Dev nD) (t : Fin cfg0.N) (h : t.val / 16 < 16) (o : ℕ) (i : ℕ) (e : Fin 512) :
    taps (fun k => (show FVec Ideal S31x512 .f32 from m ((c : Thread nD τ).loc main_arg1)) (ix2 (Fin.ofNat 31 k) e)) (fun k => frow m c t.val (o + 2 + k + i) e)
        + (show FVec Ideal S512 .f32 from m ((c : Thread nD τ).loc main_arg2)) (ix1 e)
      = row (proj m c) (m ((c : Thread nD τ).loc main_arg1)) (m ((c : Thread nD τ).loc main_arg2)) ⟨t.val / 16, h⟩ (t.val % 16 * 256 + (o + i)) e := by
  have e1 : ∀ k, frow m c t.val (o + 2 + k + i) e = glu (proj m c) ⟨t.val / 16, h⟩ (k + (t.val % 16 * 256 + (o + i)) + 2) e := fun k => by
    unfold frow
    rw [dif_pos h]
    exact congrArg (fun n => glu (proj m c) ⟨t.val / 16, h⟩ n e) (by omega)
  unfold row
  simp only [e1]

/-- The rows a first tile of a sequence returns. -/
theorem outA (c : Dev nD) (t : Fin cfg0.N) (h : t.val % 16 = 0) (h1 : t.val / 16 < 16) (y0 : Fin 1) (y1 : Fin 256) (y2 : Fin 512) :
    (outsAt0 m c t.val t.isLt).1 (ix3 y0 y1 y2)
      = outRow (proj m c) (m ((c : Thread nD τ).loc main_arg1)) (m ((c : Thread nD τ).loc main_arg2)) (m ((c : Thread nD τ).loc main_arg3))
          (m ((c : Thread nD τ).loc main_arg4)) ⟨t.val / 16, h1⟩ (t.val % 16 * 256 + y1.val) y2 := by
  rw [outsAt0_A m c t h]
  frame_out
  have hbuf := fun (j : Fin 288) (e : Fin 512) (_ : 0 ≤ j.val) => canon_first m c t h j e
  have X1 := fun v inb (r : Fin 280) (e : Fin 512) => cov_at (n := 280) (s := 1) (lo := 0) hbuf v inb (by decide) r e
  have X2 := fun v inb (r : Fin 280) (e : Fin 512) => cov_at (n := 280) (s := 2) (lo := 0) hbuf v inb (by decide) r e
  have X3 := fun v inb (r : Fin 280) (e : Fin 512) => cov_at (n := 280) (s := 3) (lo := 0) hbuf v inb (by decide) r e
  have X4 := fun v inb (r : Fin 280) (e : Fin 512) => cov_at (n := 280) (s := 4) (lo := 0) hbuf v inb (by decide) r e
  have X5 := fun v inb (r : Fin 280) (e : Fin 512) => cov_at (n := 280) (s := 5) (lo := 0) hbuf v inb (by decide) r e
  have X6 := fun v inb (r : Fin 280) (e : Fin 512) => cov_at (n := 280) (s := 6) (lo := 0) hbuf v inb (by decide) r e
  have X7 := fun v inb (r : Fin 280) (e : Fin 512) => cov_at (n := 280) (s := 7) (lo := 0) hbuf v inb (by decide) r e
  have w := fun (k : ℕ) (hk : k < 31) inb e => wld_at m c t k hk inb e
  have ey : ∀ o : ℕ, ∀ i : Fin 64, y1.val = o + i.val → ∀ d : Fin 512, y2.val = d.val →
      normed (fun e => taps (fun k => (show FVec Ideal S31x512 .f32 from m ((c : Thread nD τ).loc main_arg1)) (ix2 (Fin.ofNat 31 k) e))
          (fun k => frow m c t.val (o + 2 + k + i.val) e) + (show FVec Ideal S512 .f32 from m ((c : Thread nD τ).loc main_arg2)) (ix1 e))
        (fun e => (show FVec Ideal S512 .f32 from m ((c : Thread nD τ).loc main_arg3)) (ix1 e))
        (fun e => (show FVec Ideal S512 .f32 from m ((c : Thread nD τ).loc main_arg4)) (ix1 e)) d
      = outRow (proj m c) (m ((c : Thread nD τ).loc main_arg1)) (m ((c : Thread nD τ).loc main_arg2)) (m ((c : Thread nD τ).loc main_arg3))
          (m ((c : Thread nD τ).loc main_arg4)) ⟨t.val / 16, h1⟩ (t.val % 16 * 256 + y1.val) y2 := by
    intro o i hi d hd
    have hd' : y2 = d := Fin.ext hd
    rw [hi, hd']
    exact congrArg (fun y => normed y _ _ d) (funext fun e => row_eq m c t h1 o i.val e)
  canon_tiles x hx
  · idx_vars x
    refine Eq.trans ?_ (ey 192 x1 hx1 x2 hx2)
    exact chunk3_at x1
      (fun e => shift_at (F := frow m c t.val) (X1 _ _) (X2 _ _) (X3 _ _) (X4 _ _) (X5 _ _) (X6 _ _) (X7 _ _) _ 2 192 (by decide) (by decide) _ x1 e)
      (fun e => w 0 (by decide) _ e)
      (fun e => shift_at (F := frow m c t.val) (X1 _ _) (X2 _ _) (X3 _ _) (X4 _ _) (X5 _ _) (X6 _ _) (X7 _ _) _ 3 192 (by decide) (by decide) _ x1 e)
      (fun e => w 1 (by decide) _ e)
      (fun e => shift_at (F := frow m c t.val) (X1 _ _) (X2 _ _) (X3 _ _) (X4 _ _) (X5 _ _) (X6 _ _) (X7 _ _) _ 4 192 (by decide) (by decide) _ x1 e)
      (fun e => w 2 (by decide) _ e)
      (fun e => shift_at (F := frow m c t.val) (X1 _ _) (X2 _ _) (X3 _ _) (X4 _ _) (X5 _ _) (X6 _ _) (X7 _ _) _ 5 192 (by decide) (by decide) _ x1 e)
      (fun e => w 3 (by decide) _ e)
      (fun e => shift_at (F := frow m c t.val) (X1 _ _) (X2 _ _) (X3 _ _) (X4 _ _) (X5 _ _) (X6 _ _) (X7 _ _) _ 6 192 (by decide) (by decide) _ x1 e)
      (fun e => w 4 (by decide) _ e)
      (fun e => shift_at (F := frow m c t.val) (X1 _ _) (X2 _ _) (X3 _ _) (X4 _ _) (X5 _ _) (X6 _ _) (X7 _ _) _ 7 192 (by decide) (by decide) _ x1 e)
      (fun e => w 5 (by decide) _ e)
      (fun e => cov_at (n := 64) (s := 200) (lo := 32) (fun j e hj => canon_fresh m c t _ j hj e) _ _ (by decide) x1 e)
      (fun e => w 6 (by decide) _ e)
      (fun e => shift_at (F := frow m c t.val) (X1 _ _) (X2 _ _) (X3 _ _) (X4 _ _) (X5 _ _) (X6 _ _) (X7 _ _) _ 1 200 (by decide) (by decide) _ x1 e)
      (fun e => w 7 (by decide) _ e)
      (fun e => shift_at (F := frow m c t.val) (X1 _ _) (X2 _ _) (X3 _ _) (X4 _ _) (X5 _ _) (X6 _ _) (X7 _ _) _ 2 200 (by decide) (by decide) _ x1 e)
      (fun e => w 8 (by decide) _ e)
      (fun e => shift_at (F := frow m c t.val) (X1 _ _) (X2 _ _) (X3 _ _) (X4 _ _) (X5 _ _) (X6 _ _) (X7 _ _) _ 3 200 (by decide) (by decide) _ x1 e)
      (fun e => w 9 (by decide) _ e)
      (fun e => shift_at (F := frow m c t.val) (X1 _ _) (X2 _ _) (X3 _ _) (X4 _ _) (X5 _ _) (X6 _ _) (X7 _ _) _ 4 200 (by decide) (by decide) _ x1 e)
      (fun e => w 10 (by decide) _ e)
      (fun e => shift_at (F := frow m c t.val) (X1 _ _) (X2 _ _) (X3 _ _) (X4 _ _) (X5 _ _) (X6 _ _) (X7 _ _) _ 5 200 (by decide) (by decide) _ x1 e)
      (fun e => w 11 (by decide) _ e)
      (fun e => shift_at (F := frow m c t.val) (X1 _ _) (X2 _ _) (X3 _ _) (X4 _ _) (X5 _ _) (X6 _ _) (X7 _ _) _ 6 200 (by decide) (by decide) _ x1 e)
      (fun e => w 12 (by decide) _ e)
      (fun e => shift_at (F := frow m c t.val) (X1 _ _) (X2 _ _) (X3 _ _) (X4 _ _) (X5 _ _) (X6 _ _) (X7 _ _) _ 7 200 (by decide) (by decide) _ x1 e)
      (fun e => w 13 (by decide) _ e)
      (fun e => cov_at (n := 64) (s := 208) (lo := 32) (fun j e hj => canon_fresh m c t _ j hj e) _ _ (by decide) x1 e)
      (fun e => w 14 (by decide) _ e)
      (fun e => shift_at (F := frow m c t.val) (X1 _ _) (X2 _ _) (X3 _ _) (X4 _ _) (X5 _ _) (X6 _ _) (X7 _ _) _ 1 208 (by decide) (by decide) _ x1 e)
      (fun e => w 15 (by decide) _ e)
      (fun e => shift_at (F := frow m c t.val) (X1 _ _) (X2 _ _) (X3 _ _) (X4 _ _) (X5 _ _) (X6 _ _) (X7 _ _) _ 2 208 (by decide) (by decide) _ x1 e)
      (fun e => w 16 (by decide) _ e)
      (fun e => shift_at (F := frow m c t.val) (X1 _ _) (X2 _ _) (X3 _ _) (X4 _ _) (X5 _ _) (X6 _ _) (X7 _ _) _ 3 208 (by decide) (by decide) _ x1 e)
      (fun e => w 17 (by decide) _ e)
      (fun e => shift_at (F := frow m c t.val) (X1 _ _) (X2 _ _) (X3 _ _) (X4 _ _) (X5 _ _) (X6 _ _) (X7 _ _) _ 4 208 (by decide) (by decide) _ x1 e)
      (fun e => w 18 (by decide) _ e)
      (fun e => shift_at (F := frow m c t.val) (X1 _ _) (X2 _ _) (X3 _ _) (X4 _ _) (X5 _ _) (X6 _ _) (X7 _ _) _ 5 208 (by decide) (by decide) _ x1 e)
      (fun e => w 19 (by decide) _ e)
      (fun e => shift_at (F := frow m c t.val) (X1 _ _) (X2 _ _) (X3 _ _) (X4 _ _) (X5 _ _) (X6 _ _) (X7 _ _) _ 6 208 (by decide) (by decide) _ x1 e)
      (fun e => w 20 (by decide) _ e)
      (fun e => shift_at (F := frow m c t.val) (X1 _ _) (X2 _ _) (X3 _ _) (X4 _ _) (X5 _ _) (X6 _ _) (X7 _ _) _ 7 208 (by decide) (by decide) _ x1 e)
      (fun e => w 21 (by decide) _ e)
      (fun e => cov_at (n := 64) (s := 216) (lo := 32) (fun j e hj => canon_fresh m c t _ j hj e) _ _ (by decide) x1 e)
      (fun e => w 22 (by decide) _ e)
      (fun e => shift_at (F := frow m c t.val) (X1 _ _) (X2 _ _) (X3 _ _) (X4 _ _) (X5 _ _) (X6 _ _) (X7 _ _) _ 1 216 (by decide) (by decide) _ x1 e)
      (fun e => w 23 (by decide) _ e)
      (fun e => shift_at (F := frow m c t.val) (X1 _ _) (X2 _ _) (X3 _ _) (X4 _ _) (X5 _ _) (X6 _ _) (X7 _ _) _ 2 216 (by decide) (by decide) _ x1 e)
      (fun e => w 24 (by decide) _ e)
      (fun e => shift_at (F := frow m c t.val) (X1 _ _) (X2 _ _) (X3 _ _) (X4 _ _) (X5 _ _) (X6 _ _) (X7 _ _) _ 3 216 (by decide) (by decide) _ x1 e)
      (fun e => w 25 (by decide) _ e)
      (fun e => shift_at (F := frow m c t.val) (X1 _ _) (X2 _ _) (X3 _ _) (X4 _ _) (X5 _ _) (X6 _ _) (X7 _ _) _ 4 216 (by decide) (by decide) _ x1 e)
      (fun e => w 26 (by decide) _ e)
      (fun e => shift_at (F := frow m c t.val) (X1 _ _) (X2 _ _) (X3 _ _) (X4 _ _) (X5 _ _) (X6 _ _) (X7 _ _) _ 5 216 (by decide) (by decide) _ x1 e)
      (fun e => w 27 (by decide) _ e)
      (fun e => shift_at (F := frow m c t.val) (X1 _ _) (X2 _ _) (X3 _ _) (X4 _ _) (X5 _ _) (X6 _ _) (X7 _ _) _ 6 216 (by decide) (by decide) _ x1 e)
      (fun e => w 28 (by decide) _ e)
      (fun e => shift_at (F := frow m c t.val) (X1 _ _) (X2 _ _) (X3 _ _) (X4 _ _) (X5 _ _) (X6 _ _) (X7 _ _) _ 7 216 (by decide) (by decide) _ x1 e)
      (fun e => w 29 (by decide) _ e)
      (fun e => cov_at (n := 64) (s := 224) (lo := 32) (fun j e hj => canon_fresh m c t _ j hj e) _ _ (by decide) x1 e)
      (fun e => w 30 (by decide) _ e)
      (fun e => dwb_at m c t e)
      (fun e => g_at m c t e)
      (fun e => b_at m c t e) x0 x2
  · idx_vars x
    refine Eq.trans ?_ (ey 128 x1 hx1 x2 hx2)
    exact chunk2_at x1
      (fun e => shift_at (F := frow m c t.val) (X1 _ _) (X2 _ _) (X3 _ _) (X4 _ _) (X5 _ _) (X6 _ _) (X7 _ _) _ 2 128 (by decide) (by decide) _ x1 e)
      (fun e => w 0 (by decide) _ e)
      (fun e => shift_at (F := frow m c t.val) (X1 _ _) (X2 _ _) (X3 _ _) (X4 _ _) (X5 _ _) (X6 _ _) (X7 _ _) _ 3 128 (by decide) (by decide) _ x1 e)
      (fun e => w 1 (by decide) _ e)
      (fun e => shift_at (F := frow m c t.val) (X1 _ _) (X2 _ _) (X3 _ _) (X4 _ _) (X5 _ _) (X6 _ _) (X7 _ _) _ 4 128 (by decide) (by decide) _ x1 e)
      (fun e => w 2 (by decide) _ e)
      (fun e => shift_at (F := frow m c t.val) (X1 _ _) (X2 _ _) (X3 _ _) (X4 _ _) (X5 _ _) (X6 _ _) (X7 _ _) _ 5 128 (by decide) (by decide) _ x1 e)
      (fun e => w 3 (by decide) _ e)
      (fun e => shift_at (F := frow m c t.val) (X1 _ _) (X2 _ _) (X3 _ _) (X4 _ _) (X5 _ _) (X6 _ _) (X7 _ _) _ 6 128 (by decide) (by decide) _ x1 e)
      (fun e => w 4 (by decide) _ e)
      (fun e => shift_at (F := frow m c t.val) (X1 _ _) (X2 _ _) (X3 _ _) (X4 _ _) (X5 _ _) (X6 _ _) (X7 _ _) _ 7 128 (by decide) (by decide) _ x1 e)
      (fun e => w 5 (by decide) _ e)
      (fun e => cov_at (n := 64) (s := 136) (lo := 32) (fun j e hj => canon_fresh m c t _ j hj e) _ _ (by decide) x1 e)
      (fun e => w 6 (by decide) _ e)
      (fun e => shift_at (F := frow m c t.val) (X1 _ _) (X2 _ _) (X3 _ _) (X4 _ _) (X5 _ _) (X6 _ _) (X7 _ _) _ 1 136 (by decide) (by decide) _ x1 e)
      (fun e => w 7 (by decide) _ e)
      (fun e => shift_at (F := frow m c t.val) (X1 _ _) (X2 _ _) (X3 _ _) (X4 _ _) (X5 _ _) (X6 _ _) (X7 _ _) _ 2 136 (by decide) (by decide) _ x1 e)
      (fun e => w 8 (by decide) _ e)
      (fun e => shift_at (F := frow m c t.val) (X1 _ _) (X2 _ _) (X3 _ _) (X4 _ _) (X5 _ _) (X6 _ _) (X7 _ _) _ 3 136 (by decide) (by decide) _ x1 e)
      (fun e => w 9 (by decide) _ e)
      (fun e => shift_at (F := frow m c t.val) (X1 _ _) (X2 _ _) (X3 _ _) (X4 _ _) (X5 _ _) (X6 _ _) (X7 _ _) _ 4 136 (by decide) (by decide) _ x1 e)
      (fun e => w 10 (by decide) _ e)
      (fun e => shift_at (F := frow m c t.val) (X1 _ _) (X2 _ _) (X3 _ _) (X4 _ _) (X5 _ _) (X6 _ _) (X7 _ _) _ 5 136 (by decide) (by decide) _ x1 e)
      (fun e => w 11 (by decide) _ e)
      (fun e => shift_at (F := frow m c t.val) (X1 _ _) (X2 _ _) (X3 _ _) (X4 _ _) (X5 _ _) (X6 _ _) (X7 _ _) _ 6 136 (by decide) (by decide) _ x1 e)
      (fun e => w 12 (by decide) _ e)
      (fun e => shift_at (F := frow m c t.val) (X1 _ _) (X2 _ _) (X3 _ _) (X4 _ _) (X5 _ _) (X6 _ _) (X7 _ _) _ 7 136 (by decide) (by decide) _ x1 e)
      (fun e => w 13 (by decide) _ e)
      (fun e => cov_at (n := 64) (s := 144) (lo := 32) (fun j e hj => canon_fresh m c t _ j hj e) _ _ (by decide) x1 e)
      (fun e => w 14 (by decide) _ e)
      (fun e => shift_at (F := frow m c t.val) (X1 _ _) (X2 _ _) (X3 _ _) (X4 _ _) (X5 _ _) (X6 _ _) (X7 _ _) _ 1 144 (by decide) (by decide) _ x1 e)
      (fun e => w 15 (by decide) _ e)
      (fun e => shift_at (F := frow m c t.val) (X1 _ _) (X2 _ _) (X3 _ _) (X4 _ _) (X5 _ _) (X6 _ _) (X7 _ _) _ 2 144 (by decide) (by decide) _ x1 e)
      (fun e => w 16 (by decide) _ e)
      (fun e => shift_at (F := frow m c t.val) (X1 _ _) (X2 _ _) (X3 _ _) (X4 _ _) (X5 _ _) (X6 _ _) (X7 _ _) _ 3 144 (by decide) (by decide) _ x1 e)
      (fun e => w 17 (by decide) _ e)
      (fun e => shift_at (F := frow m c t.val) (X1 _ _) (X2 _ _) (X3 _ _) (X4 _ _) (X5 _ _) (X6 _ _) (X7 _ _) _ 4 144 (by decide) (by decide) _ x1 e)
      (fun e => w 18 (by decide) _ e)
      (fun e => shift_at (F := frow m c t.val) (X1 _ _) (X2 _ _) (X3 _ _) (X4 _ _) (X5 _ _) (X6 _ _) (X7 _ _) _ 5 144 (by decide) (by decide) _ x1 e)
      (fun e => w 19 (by decide) _ e)
      (fun e => shift_at (F := frow m c t.val) (X1 _ _) (X2 _ _) (X3 _ _) (X4 _ _) (X5 _ _) (X6 _ _) (X7 _ _) _ 6 144 (by decide) (by decide) _ x1 e)
      (fun e => w 20 (by decide) _ e)
      (fun e => shift_at (F := frow m c t.val) (X1 _ _) (X2 _ _) (X3 _ _) (X4 _ _) (X5 _ _) (X6 _ _) (X7 _ _) _ 7 144 (by decide) (by decide) _ x1 e)
      (fun e => w 21 (by decide) _ e)
      (fun e => cov_at (n := 64) (s := 152) (lo := 32) (fun j e hj => canon_fresh m c t _ j hj e) _ _ (by decide) x1 e)
      (fun e => w 22 (by decide) _ e)
      (fun e => shift_at (F := frow m c t.val) (X1 _ _) (X2 _ _) (X3 _ _) (X4 _ _) (X5 _ _) (X6 _ _) (X7 _ _) _ 1 152 (by decide) (by decide) _ x1 e)
      (fun e => w 23 (by decide) _ e)
      (fun e => shift_at (F := frow m c t.val) (X1 _ _) (X2 _ _) (X3 _ _) (X4 _ _) (X5 _ _) (X6 _ _) (X7 _ _) _ 2 152 (by decide) (by decide) _ x1 e)
      (fun e => w 24 (by decide) _ e)
      (fun e => shift_at (F := frow m c t.val) (X1 _ _) (X2 _ _) (X3 _ _) (X4 _ _) (X5 _ _) (X6 _ _) (X7 _ _) _ 3 152 (by decide) (by decide) _ x1 e)
      (fun e => w 25 (by decide) _ e)
      (fun e => shift_at (F := frow m c t.val) (X1 _ _) (X2 _ _) (X3 _ _) (X4 _ _) (X5 _ _) (X6 _ _) (X7 _ _) _ 4 152 (by decide) (by decide) _ x1 e)
      (fun e => w 26 (by decide) _ e)
      (fun e => shift_at (F := frow m c t.val) (X1 _ _) (X2 _ _) (X3 _ _) (X4 _ _) (X5 _ _) (X6 _ _) (X7 _ _) _ 5 152 (by decide) (by decide) _ x1 e)
      (fun e => w 27 (by decide) _ e)
      (fun e => shift_at (F := frow m c t.val) (X1 _ _) (X2 _ _) (X3 _ _) (X4 _ _) (X5 _ _) (X6 _ _) (X7 _ _) _ 6 152 (by decide) (by decide) _ x1 e)
      (fun e => w 28 (by decide) _ e)
      (fun e => shift_at (F := frow m c t.val) (X1 _ _) (X2 _ _) (X3 _ _) (X4 _ _) (X5 _ _) (X6 _ _) (X7 _ _) _ 7 152 (by decide) (by decide) _ x1 e)
      (fun e => w 29 (by decide) _ e)
      (fun e => cov_at (n := 64) (s := 160) (lo := 32) (fun j e hj => canon_fresh m c t _ j hj e) _ _ (by decide) x1 e)
      (fun e => w 30 (by decide) _ e)
      (fun e => dwb_at m c t e)
      (fun e => g_at m c t e)
      (fun e => b_at m c t e) x0 x2
  · idx_vars x
    refine Eq.trans ?_ (ey 64 x1 hx1 x2 hx2)
    exact chunk1_at x1
      (fun e => shift_at (F := frow m c t.val) (X1 _ _) (X2 _ _) (X3 _ _) (X4 _ _) (X5 _ _) (X6 _ _) (X7 _ _) _ 2 64 (by decide) (by decide) _ x1 e)
      (fun e => w 0 (by decide) _ e)
      (fun e => shift_at (F := frow m c t.val) (X1 _ _) (X2 _ _) (X3 _ _) (X4 _ _) (X5 _ _) (X6 _ _) (X7 _ _) _ 3 64 (by decide) (by decide) _ x1 e)
      (fun e => w 1 (by decide) _ e)
      (fun e => shift_at (F := frow m c t.val) (X1 _ _) (X2 _ _) (X3 _ _) (X4 _ _) (X5 _ _) (X6 _ _) (X7 _ _) _ 4 64 (by decide) (by decide) _ x1 e)
      (fun e => w 2 (by decide) _ e)
      (fun e => shift_at (F := frow m c t.val) (X1 _ _) (X2 _ _) (X3 _ _) (X4 _ _) (X5 _ _) (X6 _ _) (X7 _ _) _ 5 64 (by decide) (by decide) _ x1 e)
      (fun e => w 3 (by decide) _ e)
      (fun e => shift_at (F := frow m c t.val) (X1 _ _) (X2 _ _) (X3 _ _) (X4 _ _) (X5 _ _) (X6 _ _) (X7 _ _) _ 6 64 (by decide) (by decide) _ x1 e)
      (fun e => w 4 (by decide) _ e)
      (fun e => shift_at (F := frow m c t.val) (X1 _ _) (X2 _ _) (X3 _ _) (X4 _ _) (X5 _ _) (X6 _ _) (X7 _ _) _ 7 64 (by decide) (by decide) _ x1 e)
      (fun e => w 5 (by decide) _ e)
      (fun e => cov_at (n := 64) (s := 72) (lo := 32) (fun j e hj => canon_fresh m c t _ j hj e) _ _ (by decide) x1 e)
      (fun e => w 6 (by decide) _ e)
      (fun e => shift_at (F := frow m c t.val) (X1 _ _) (X2 _ _) (X3 _ _) (X4 _ _) (X5 _ _) (X6 _ _) (X7 _ _) _ 1 72 (by decide) (by decide) _ x1 e)
      (fun e => w 7 (by decide) _ e)
      (fun e => shift_at (F := frow m c t.val) (X1 _ _) (X2 _ _) (X3 _ _) (X4 _ _) (X5 _ _) (X6 _ _) (X7 _ _) _ 2 72 (by decide) (by decide) _ x1 e)
      (fun e => w 8 (by decide) _ e)
      (fun e => shift_at (F := frow m c t.val) (X1 _ _) (X2 _ _) (X3 _ _) (X4 _ _) (X5 _ _) (X6 _ _) (X7 _ _) _ 3 72 (by decide) (by decide) _ x1 e)
      (fun e => w 9 (by decide) _ e)
      (fun e => shift_at (F := frow m c t.val) (X1 _ _) (X2 _ _) (X3 _ _) (X4 _ _) (X5 _ _) (X6 _ _) (X7 _ _) _ 4 72 (by decide) (by decide) _ x1 e)
      (fun e => w 10 (by decide) _ e)
      (fun e => shift_at (F := frow m c t.val) (X1 _ _) (X2 _ _) (X3 _ _) (X4 _ _) (X5 _ _) (X6 _ _) (X7 _ _) _ 5 72 (by decide) (by decide) _ x1 e)
      (fun e => w 11 (by decide) _ e)
      (fun e => shift_at (F := frow m c t.val) (X1 _ _) (X2 _ _) (X3 _ _) (X4 _ _) (X5 _ _) (X6 _ _) (X7 _ _) _ 6 72 (by decide) (by decide) _ x1 e)
      (fun e => w 12 (by decide) _ e)
      (fun e => shift_at (F := frow m c t.val) (X1 _ _) (X2 _ _) (X3 _ _) (X4 _ _) (X5 _ _) (X6 _ _) (X7 _ _) _ 7 72 (by decide) (by decide) _ x1 e)
      (fun e => w 13 (by decide) _ e)
      (fun e => cov_at (n := 64) (s := 80) (lo := 32) (fun j e hj => canon_fresh m c t _ j hj e) _ _ (by decide) x1 e)
      (fun e => w 14 (by decide) _ e)
      (fun e => shift_at (F := frow m c t.val) (X1 _ _) (X2 _ _) (X3 _ _) (X4 _ _) (X5 _ _) (X6 _ _) (X7 _ _) _ 1 80 (by decide) (by decide) _ x1 e)
      (fun e => w 15 (by decide) _ e)
      (fun e => shift_at (F := frow m c t.val) (X1 _ _) (X2 _ _) (X3 _ _) (X4 _ _) (X5 _ _) (X6 _ _) (X7 _ _) _ 2 80 (by decide) (by decide) _ x1 e)
      (fun e => w 16 (by decide) _ e)
      (fun e => shift_at (F := frow m c t.val) (X1 _ _) (X2 _ _) (X3 _ _) (X4 _ _) (X5 _ _) (X6 _ _) (X7 _ _) _ 3 80 (by decide) (by decide) _ x1 e)
      (fun e => w 17 (by decide) _ e)
      (fun e => shift_at (F := frow m c t.val) (X1 _ _) (X2 _ _) (X3 _ _) (X4 _ _) (X5 _ _) (X6 _ _) (X7 _ _) _ 4 80 (by decide) (by decide) _ x1 e)
      (fun e => w 18 (by decide) _ e)
      (fun e => shift_at (F := frow m c t.val) (X1 _ _) (X2 _ _) (X3 _ _) (X4 _ _) (X5 _ _) (X6 _ _) (X7 _ _) _ 5 80 (by decide) (by decide) _ x1 e)
      (fun e => w 19 (by decide) _ e)
      (fun e => shift_at (F := frow m c t.val) (X1 _ _) (X2 _ _) (X3 _ _) (X4 _ _) (X5 _ _) (X6 _ _) (X7 _ _) _ 6 80 (by decide) (by decide) _ x1 e)
      (fun e => w 20 (by decide) _ e)
      (fun e => shift_at (F := frow m c t.val) (X1 _ _) (X2 _ _) (X3 _ _) (X4 _ _) (X5 _ _) (X6 _ _) (X7 _ _) _ 7 80 (by decide) (by decide) _ x1 e)
      (fun e => w 21 (by decide) _ e)
      (fun e => cov_at (n := 64) (s := 88) (lo := 32) (fun j e hj => canon_fresh m c t _ j hj e) _ _ (by decide) x1 e)
      (fun e => w 22 (by decide) _ e)
      (fun e => shift_at (F := frow m c t.val) (X1 _ _) (X2 _ _) (X3 _ _) (X4 _ _) (X5 _ _) (X6 _ _) (X7 _ _) _ 1 88 (by decide) (by decide) _ x1 e)
      (fun e => w 23 (by decide) _ e)
      (fun e => shift_at (F := frow m c t.val) (X1 _ _) (X2 _ _) (X3 _ _) (X4 _ _) (X5 _ _) (X6 _ _) (X7 _ _) _ 2 88 (by decide) (by decide) _ x1 e)
      (fun e => w 24 (by decide) _ e)
      (fun e => shift_at (F := frow m c t.val) (X1 _ _) (X2 _ _) (X3 _ _) (X4 _ _) (X5 _ _) (X6 _ _) (X7 _ _) _ 3 88 (by decide) (by decide) _ x1 e)
      (fun e => w 25 (by decide) _ e)
      (fun e => shift_at (F := frow m c t.val) (X1 _ _) (X2 _ _) (X3 _ _) (X4 _ _) (X5 _ _) (X6 _ _) (X7 _ _) _ 4 88 (by decide) (by decide) _ x1 e)
      (fun e => w 26 (by decide) _ e)
      (fun e => shift_at (F := frow m c t.val) (X1 _ _) (X2 _ _) (X3 _ _) (X4 _ _) (X5 _ _) (X6 _ _) (X7 _ _) _ 5 88 (by decide) (by decide) _ x1 e)
      (fun e => w 27 (by decide) _ e)
      (fun e => shift_at (F := frow m c t.val) (X1 _ _) (X2 _ _) (X3 _ _) (X4 _ _) (X5 _ _) (X6 _ _) (X7 _ _) _ 6 88 (by decide) (by decide) _ x1 e)
      (fun e => w 28 (by decide) _ e)
      (fun e => shift_at (F := frow m c t.val) (X1 _ _) (X2 _ _) (X3 _ _) (X4 _ _) (X5 _ _) (X6 _ _) (X7 _ _) _ 7 88 (by decide) (by decide) _ x1 e)
      (fun e => w 29 (by decide) _ e)
      (fun e => cov_at (n := 64) (s := 96) (lo := 32) (fun j e hj => canon_fresh m c t _ j hj e) _ _ (by decide) x1 e)
      (fun e => w 30 (by decide) _ e)
      (fun e => dwb_at m c t e)
      (fun e => g_at m c t e)
      (fun e => b_at m c t e) x0 x2
  · idx_vars x
    refine Eq.trans ?_ (ey 0 x1 (by omega) x2 hx2)
    exact chunk0_at x1
      (fun e => shift_at (F := frow m c t.val) (X1 _ _) (X2 _ _) (X3 _ _) (X4 _ _) (X5 _ _) (X6 _ _) (X7 _ _) _ 2 0 (by decide) (by decide) _ x1 e)
      (fun e => w 0 (by decide) _ e)
      (fun e => shift_at (F := frow m c t.val) (X1 _ _) (X2 _ _) (X3 _ _) (X4 _ _) (X5 _ _) (X6 _ _) (X7 _ _) _ 3 0 (by decide) (by decide) _ x1 e)
      (fun e => w 1 (by decide) _ e)
      (fun e => shift_at (F := frow m c t.val) (X1 _ _) (X2 _ _) (X3 _ _) (X4 _ _) (X5 _ _) (X6 _ _) (X7 _ _) _ 4 0 (by decide) (by decide) _ x1 e)
      (fun e => w 2 (by decide) _ e)
      (fun e => shift_at (F := frow m c t.val) (X1 _ _) (X2 _ _) (X3 _ _) (X4 _ _) (X5 _ _) (X6 _ _) (X7 _ _) _ 5 0 (by decide) (by decide) _ x1 e)
      (fun e => w 3 (by decide) _ e)
      (fun e => shift_at (F := frow m c t.val) (X1 _ _) (X2 _ _) (X3 _ _) (X4 _ _) (X5 _ _) (X6 _ _) (X7 _ _) _ 6 0 (by decide) (by decide) _ x1 e)
      (fun e => w 4 (by decide) _ e)
      (fun e => shift_at (F := frow m c t.val) (X1 _ _) (X2 _ _) (X3 _ _) (X4 _ _) (X5 _ _) (X6 _ _) (X7 _ _) _ 7 0 (by decide) (by decide) _ x1 e)
      (fun e => w 5 (by decide) _ e)
      (fun e => cov_at (n := 64) (s := 8) (lo := 0) hbuf _ _ (by decide) x1 e)
      (fun e => w 6 (by decide) _ e)
      (fun e => shift_at (F := frow m c t.val) (X1 _ _) (X2 _ _) (X3 _ _) (X4 _ _) (X5 _ _) (X6 _ _) (X7 _ _) _ 1 8 (by decide) (by decide) _ x1 e)
      (fun e => w 7 (by decide) _ e)
      (fun e => shift_at (F := frow m c t.val) (X1 _ _) (X2 _ _) (X3 _ _) (X4 _ _) (X5 _ _) (X6 _ _) (X7 _ _) _ 2 8 (by decide) (by decide) _ x1 e)
      (fun e => w 8 (by decide) _ e)
      (fun e => shift_at (F := frow m c t.val) (X1 _ _) (X2 _ _) (X3 _ _) (X4 _ _) (X5 _ _) (X6 _ _) (X7 _ _) _ 3 8 (by decide) (by decide) _ x1 e)
      (fun e => w 9 (by decide) _ e)
      (fun e => shift_at (F := frow m c t.val) (X1 _ _) (X2 _ _) (X3 _ _) (X4 _ _) (X5 _ _) (X6 _ _) (X7 _ _) _ 4 8 (by decide) (by decide) _ x1 e)
      (fun e => w 10 (by decide) _ e)
      (fun e => shift_at (F := frow m c t.val) (X1 _ _) (X2 _ _) (X3 _ _) (X4 _ _) (X5 _ _) (X6 _ _) (X7 _ _) _ 5 8 (by decide) (by decide) _ x1 e)
      (fun e => w 11 (by decide) _ e)
      (fun e => shift_at (F := frow m c t.val) (X1 _ _) (X2 _ _) (X3 _ _) (X4 _ _) (X5 _ _) (X6 _ _) (X7 _ _) _ 6 8 (by decide) (by decide) _ x1 e)
      (fun e => w 12 (by decide) _ e)
      (fun e => shift_at (F := frow m c t.val) (X1 _ _) (X2 _ _) (X3 _ _) (X4 _ _) (X5 _ _) (X6 _ _) (X7 _ _) _ 7 8 (by decide) (by decide) _ x1 e)
      (fun e => w 13 (by decide) _ e)
      (fun e => cov_at (n := 64) (s := 16) (lo := 0) hbuf _ _ (by decide) x1 e)
      (fun e => w 14 (by decide) _ e)
      (fun e => shift_at (F := frow m c t.val) (X1 _ _) (X2 _ _) (X3 _ _) (X4 _ _) (X5 _ _) (X6 _ _) (X7 _ _) _ 1 16 (by decide) (by decide) _ x1 e)
      (fun e => w 15 (by decide) _ e)
      (fun e => shift_at (F := frow m c t.val) (X1 _ _) (X2 _ _) (X3 _ _) (X4 _ _) (X5 _ _) (X6 _ _) (X7 _ _) _ 2 16 (by decide) (by decide) _ x1 e)
      (fun e => w 16 (by decide) _ e)
      (fun e => shift_at (F := frow m c t.val) (X1 _ _) (X2 _ _) (X3 _ _) (X4 _ _) (X5 _ _) (X6 _ _) (X7 _ _) _ 3 16 (by decide) (by decide) _ x1 e)
      (fun e => w 17 (by decide) _ e)
      (fun e => shift_at (F := frow m c t.val) (X1 _ _) (X2 _ _) (X3 _ _) (X4 _ _) (X5 _ _) (X6 _ _) (X7 _ _) _ 4 16 (by decide) (by decide) _ x1 e)
      (fun e => w 18 (by decide) _ e)
      (fun e => shift_at (F := frow m c t.val) (X1 _ _) (X2 _ _) (X3 _ _) (X4 _ _) (X5 _ _) (X6 _ _) (X7 _ _) _ 5 16 (by decide) (by decide) _ x1 e)
      (fun e => w 19 (by decide) _ e)
      (fun e => shift_at (F := frow m c t.val) (X1 _ _) (X2 _ _) (X3 _ _) (X4 _ _) (X5 _ _) (X6 _ _) (X7 _ _) _ 6 16 (by decide) (by decide) _ x1 e)
      (fun e => w 20 (by decide) _ e)
      (fun e => shift_at (F := frow m c t.val) (X1 _ _) (X2 _ _) (X3 _ _) (X4 _ _) (X5 _ _) (X6 _ _) (X7 _ _) _ 7 16 (by decide) (by decide) _ x1 e)
      (fun e => w 21 (by decide) _ e)
      (fun e => cov_at (n := 64) (s := 24) (lo := 0) hbuf _ _ (by decide) x1 e)
      (fun e => w 22 (by decide) _ e)
      (fun e => shift_at (F := frow m c t.val) (X1 _ _) (X2 _ _) (X3 _ _) (X4 _ _) (X5 _ _) (X6 _ _) (X7 _ _) _ 1 24 (by decide) (by decide) _ x1 e)
      (fun e => w 23 (by decide) _ e)
      (fun e => shift_at (F := frow m c t.val) (X1 _ _) (X2 _ _) (X3 _ _) (X4 _ _) (X5 _ _) (X6 _ _) (X7 _ _) _ 2 24 (by decide) (by decide) _ x1 e)
      (fun e => w 24 (by decide) _ e)
      (fun e => shift_at (F := frow m c t.val) (X1 _ _) (X2 _ _) (X3 _ _) (X4 _ _) (X5 _ _) (X6 _ _) (X7 _ _) _ 3 24 (by decide) (by decide) _ x1 e)
      (fun e => w 25 (by decide) _ e)
      (fun e => shift_at (F := frow m c t.val) (X1 _ _) (X2 _ _) (X3 _ _) (X4 _ _) (X5 _ _) (X6 _ _) (X7 _ _) _ 4 24 (by decide) (by decide) _ x1 e)
      (fun e => w 26 (by decide) _ e)
      (fun e => shift_at (F := frow m c t.val) (X1 _ _) (X2 _ _) (X3 _ _) (X4 _ _) (X5 _ _) (X6 _ _) (X7 _ _) _ 5 24 (by decide) (by decide) _ x1 e)
      (fun e => w 27 (by decide) _ e)
      (fun e => shift_at (F := frow m c t.val) (X1 _ _) (X2 _ _) (X3 _ _) (X4 _ _) (X5 _ _) (X6 _ _) (X7 _ _) _ 6 24 (by decide) (by decide) _ x1 e)
      (fun e => w 28 (by decide) _ e)
      (fun e => shift_at (F := frow m c t.val) (X1 _ _) (X2 _ _) (X3 _ _) (X4 _ _) (X5 _ _) (X6 _ _) (X7 _ _) _ 7 24 (by decide) (by decide) _ x1 e)
      (fun e => w 29 (by decide) _ e)
      (fun e => cov_at (n := 64) (s := 32) (lo := 32) (fun j e hj => canon_fresh m c t _ j hj e) _ _ (by decide) x1 e)
      (fun e => w 30 (by decide) _ e)
      (fun e => dwb_at m c t e)
      (fun e => g_at m c t e)
      (fun e => b_at m c t e) x0 x2

/-- The rows a later tile returns. -/
theorem outB (c : Dev nD) (t : Fin cfg0.N) (h : ¬ t.val % 16 = 0) (h1 : t.val / 16 < 16) (y0 : Fin 1) (y1 : Fin 256) (y2 : Fin 512) :
    (outsAt0 m c t.val t.isLt).1 (ix3 y0 y1 y2)
      = outRow (proj m c) (m ((c : Thread nD τ).loc main_arg1)) (m ((c : Thread nD τ).loc main_arg2)) (m ((c : Thread nD τ).loc main_arg3))
          (m ((c : Thread nD τ).loc main_arg4)) ⟨t.val / 16, h1⟩ (t.val % 16 * 256 + y1.val) y2 := by
  rw [outsAt0_B m c t h]
  frame_out
  have hp : t.val - 1 < cfg0.N := lt_of_le_of_lt (Nat.sub_le _ _) t.isLt
  have hbuf := fun (j : Fin 288) (e : Fin 512) => buffer_at m c t (outsAt0 m c (t.val - 1) hp).2.2 (fun j e => found_at m c t h hp j e)
    ((Memref.isWhole_whole cc0_scratch0).unread (outsAt0 m c (t.val - 1) hp).2.2) (read_unread_whole cc0_scratch0 _ _) j e
  generalize View.read (Elt Ideal) (View.whole cc0_scratch0) ((View.whole cc0_scratch0).writes (Elt Ideal)
    ((Memref.isWhole_whole cc0_scratch0).unread (outsAt0 m c (t.val - 1) hp).2.2)
      [⟨Rect.unit (s := S288x512) ![32, 0] S256x512.size inb_S288x512_S256x512_32_0, k0_pay4 (F := Ideal) (iblk m c 0 t) (iblk m c 1 t)⟩]) = X at hbuf ⊢
  have X1 := fun inb (r : Fin 280) (e : Fin 512) => ld_at (n := 280) (s := 1) hbuf inb r e
  have X2 := fun inb (r : Fin 280) (e : Fin 512) => ld_at (n := 280) (s := 2) hbuf inb r e
  have X3 := fun inb (r : Fin 280) (e : Fin 512) => ld_at (n := 280) (s := 3) hbuf inb r e
  have X4 := fun inb (r : Fin 280) (e : Fin 512) => ld_at (n := 280) (s := 4) hbuf inb r e
  have X5 := fun inb (r : Fin 280) (e : Fin 512) => ld_at (n := 280) (s := 5) hbuf inb r e
  have X6 := fun inb (r : Fin 280) (e : Fin 512) => ld_at (n := 280) (s := 6) hbuf inb r e
  have X7 := fun inb (r : Fin 280) (e : Fin 512) => ld_at (n := 280) (s := 7) hbuf inb r e
  have w := fun (k : ℕ) (hk : k < 31) inb e => wld_at m c t k hk inb e
  have ey : ∀ o : ℕ, ∀ i : Fin 64, y1.val = o + i.val → ∀ d : Fin 512, y2.val = d.val →
      normed (fun e => taps (fun k => (show FVec Ideal S31x512 .f32 from m ((c : Thread nD τ).loc main_arg1)) (ix2 (Fin.ofNat 31 k) e))
          (fun k => frow m c t.val (o + 2 + k + i.val) e) + (show FVec Ideal S512 .f32 from m ((c : Thread nD τ).loc main_arg2)) (ix1 e))
        (fun e => (show FVec Ideal S512 .f32 from m ((c : Thread nD τ).loc main_arg3)) (ix1 e))
        (fun e => (show FVec Ideal S512 .f32 from m ((c : Thread nD τ).loc main_arg4)) (ix1 e)) d
      = outRow (proj m c) (m ((c : Thread nD τ).loc main_arg1)) (m ((c : Thread nD τ).loc main_arg2)) (m ((c : Thread nD τ).loc main_arg3))
          (m ((c : Thread nD τ).loc main_arg4)) ⟨t.val / 16, h1⟩ (t.val % 16 * 256 + y1.val) y2 := by
    intro o i hi d hd
    have hd' : y2 = d := Fin.ext hd
    rw [hi, hd']
    exact congrArg (fun y => normed y _ _ d) (funext fun e => row_eq m c t h1 o i.val e)
  canon_tiles x hx
  · idx_vars x
    refine Eq.trans ?_ (ey 192 x1 hx1 x2 hx2)
    exact chunk3_at x1
      (fun e => shift_at (F := frow m c t.val) (X1 _) (X2 _) (X3 _) (X4 _) (X5 _) (X6 _) (X7 _) _ 2 192 (by decide) (by decide) _ x1 e)
      (fun e => w 0 (by decide) _ e)
      (fun e => shift_at (F := frow m c t.val) (X1 _) (X2 _) (X3 _) (X4 _) (X5 _) (X6 _) (X7 _) _ 3 192 (by decide) (by decide) _ x1 e)
      (fun e => w 1 (by decide) _ e)
      (fun e => shift_at (F := frow m c t.val) (X1 _) (X2 _) (X3 _) (X4 _) (X5 _) (X6 _) (X7 _) _ 4 192 (by decide) (by decide) _ x1 e)
      (fun e => w 2 (by decide) _ e)
      (fun e => shift_at (F := frow m c t.val) (X1 _) (X2 _) (X3 _) (X4 _) (X5 _) (X6 _) (X7 _) _ 5 192 (by decide) (by decide) _ x1 e)
      (fun e => w 3 (by decide) _ e)
      (fun e => shift_at (F := frow m c t.val) (X1 _) (X2 _) (X3 _) (X4 _) (X5 _) (X6 _) (X7 _) _ 6 192 (by decide) (by decide) _ x1 e)
      (fun e => w 4 (by decide) _ e)
      (fun e => shift_at (F := frow m c t.val) (X1 _) (X2 _) (X3 _) (X4 _) (X5 _) (X6 _) (X7 _) _ 7 192 (by decide) (by decide) _ x1 e)
      (fun e => w 5 (by decide) _ e)
      (fun e => cov_at (n := 64) (s := 200) (lo := 32) (fun j e hj => canon_fresh m c t _ j hj e) _ _ (by decide) x1 e)
      (fun e => w 6 (by decide) _ e)
      (fun e => shift_at (F := frow m c t.val) (X1 _) (X2 _) (X3 _) (X4 _) (X5 _) (X6 _) (X7 _) _ 1 200 (by decide) (by decide) _ x1 e)
      (fun e => w 7 (by decide) _ e)
      (fun e => shift_at (F := frow m c t.val) (X1 _) (X2 _) (X3 _) (X4 _) (X5 _) (X6 _) (X7 _) _ 2 200 (by decide) (by decide) _ x1 e)
      (fun e => w 8 (by decide) _ e)
      (fun e => shift_at (F := frow m c t.val) (X1 _) (X2 _) (X3 _) (X4 _) (X5 _) (X6 _) (X7 _) _ 3 200 (by decide) (by decide) _ x1 e)
      (fun e => w 9 (by decide) _ e)
      (fun e => shift_at (F := frow m c t.val) (X1 _) (X2 _) (X3 _) (X4 _) (X5 _) (X6 _) (X7 _) _ 4 200 (by decide) (by decide) _ x1 e)
      (fun e => w 10 (by decide) _ e)
      (fun e => shift_at (F := frow m c t.val) (X1 _) (X2 _) (X3 _) (X4 _) (X5 _) (X6 _) (X7 _) _ 5 200 (by decide) (by decide) _ x1 e)
      (fun e => w 11 (by decide) _ e)
      (fun e => shift_at (F := frow m c t.val) (X1 _) (X2 _) (X3 _) (X4 _) (X5 _) (X6 _) (X7 _) _ 6 200 (by decide) (by decide) _ x1 e)
      (fun e => w 12 (by decide) _ e)
      (fun e => shift_at (F := frow m c t.val) (X1 _) (X2 _) (X3 _) (X4 _) (X5 _) (X6 _) (X7 _) _ 7 200 (by decide) (by decide) _ x1 e)
      (fun e => w 13 (by decide) _ e)
      (fun e => cov_at (n := 64) (s := 208) (lo := 32) (fun j e hj => canon_fresh m c t _ j hj e) _ _ (by decide) x1 e)
      (fun e => w 14 (by decide) _ e)
      (fun e => shift_at (F := frow m c t.val) (X1 _) (X2 _) (X3 _) (X4 _) (X5 _) (X6 _) (X7 _) _ 1 208 (by decide) (by decide) _ x1 e)
      (fun e => w 15 (by decide) _ e)
      (fun e => shift_at (F := frow m c t.val) (X1 _) (X2 _) (X3 _) (X4 _) (X5 _) (X6 _) (X7 _) _ 2 208 (by decide) (by decide) _ x1 e)
      (fun e => w 16 (by decide) _ e)
      (fun e => shift_at (F := frow m c t.val) (X1 _) (X2 _) (X3 _) (X4 _) (X5 _) (X6 _) (X7 _) _ 3 208 (by decide) (by decide) _ x1 e)
      (fun e => w 17 (by decide) _ e)
      (fun e => shift_at (F := frow m c t.val) (X1 _) (X2 _) (X3 _) (X4 _) (X5 _) (X6 _) (X7 _) _ 4 208 (by decide) (by decide) _ x1 e)
      (fun e => w 18 (by decide) _ e)
      (fun e => shift_at (F := frow m c t.val) (X1 _) (X2 _) (X3 _) (X4 _) (X5 _) (X6 _) (X7 _) _ 5 208 (by decide) (by decide) _ x1 e)
      (fun e => w 19 (by decide) _ e)
      (fun e => shift_at (F := frow m c t.val) (X1 _) (X2 _) (X3 _) (X4 _) (X5 _) (X6 _) (X7 _) _ 6 208 (by decide) (by decide) _ x1 e)
      (fun e => w 20 (by decide) _ e)
      (fun e => shift_at (F := frow m c t.val) (X1 _) (X2 _) (X3 _) (X4 _) (X5 _) (X6 _) (X7 _) _ 7 208 (by decide) (by decide) _ x1 e)
      (fun e => w 21 (by decide) _ e)
      (fun e => cov_at (n := 64) (s := 216) (lo := 32) (fun j e hj => canon_fresh m c t _ j hj e) _ _ (by decide) x1 e)
      (fun e => w 22 (by decide) _ e)
      (fun e => shift_at (F := frow m c t.val) (X1 _) (X2 _) (X3 _) (X4 _) (X5 _) (X6 _) (X7 _) _ 1 216 (by decide) (by decide) _ x1 e)
      (fun e => w 23 (by decide) _ e)
      (fun e => shift_at (F := frow m c t.val) (X1 _) (X2 _) (X3 _) (X4 _) (X5 _) (X6 _) (X7 _) _ 2 216 (by decide) (by decide) _ x1 e)
      (fun e => w 24 (by decide) _ e)
      (fun e => shift_at (F := frow m c t.val) (X1 _) (X2 _) (X3 _) (X4 _) (X5 _) (X6 _) (X7 _) _ 3 216 (by decide) (by decide) _ x1 e)
      (fun e => w 25 (by decide) _ e)
      (fun e => shift_at (F := frow m c t.val) (X1 _) (X2 _) (X3 _) (X4 _) (X5 _) (X6 _) (X7 _) _ 4 216 (by decide) (by decide) _ x1 e)
      (fun e => w 26 (by decide) _ e)
      (fun e => shift_at (F := frow m c t.val) (X1 _) (X2 _) (X3 _) (X4 _) (X5 _) (X6 _) (X7 _) _ 5 216 (by decide) (by decide) _ x1 e)
      (fun e => w 27 (by decide) _ e)
      (fun e => shift_at (F := frow m c t.val) (X1 _) (X2 _) (X3 _) (X4 _) (X5 _) (X6 _) (X7 _) _ 6 216 (by decide) (by decide) _ x1 e)
      (fun e => w 28 (by decide) _ e)
      (fun e => shift_at (F := frow m c t.val) (X1 _) (X2 _) (X3 _) (X4 _) (X5 _) (X6 _) (X7 _) _ 7 216 (by decide) (by decide) _ x1 e)
      (fun e => w 29 (by decide) _ e)
      (fun e => cov_at (n := 64) (s := 224) (lo := 32) (fun j e hj => canon_fresh m c t _ j hj e) _ _ (by decide) x1 e)
      (fun e => w 30 (by decide) _ e)
      (fun e => dwb_at m c t e)
      (fun e => g_at m c t e)
      (fun e => b_at m c t e) x0 x2
  · idx_vars x
    refine Eq.trans ?_ (ey 128 x1 hx1 x2 hx2)
    exact chunk2_at x1
      (fun e => shift_at (F := frow m c t.val) (X1 _) (X2 _) (X3 _) (X4 _) (X5 _) (X6 _) (X7 _) _ 2 128 (by decide) (by decide) _ x1 e)
      (fun e => w 0 (by decide) _ e)
      (fun e => shift_at (F := frow m c t.val) (X1 _) (X2 _) (X3 _) (X4 _) (X5 _) (X6 _) (X7 _) _ 3 128 (by decide) (by decide) _ x1 e)
      (fun e => w 1 (by decide) _ e)
      (fun e => shift_at (F := frow m c t.val) (X1 _) (X2 _) (X3 _) (X4 _) (X5 _) (X6 _) (X7 _) _ 4 128 (by decide) (by decide) _ x1 e)
      (fun e => w 2 (by decide) _ e)
      (fun e => shift_at (F := frow m c t.val) (X1 _) (X2 _) (X3 _) (X4 _) (X5 _) (X6 _) (X7 _) _ 5 128 (by decide) (by decide) _ x1 e)
      (fun e => w 3 (by decide) _ e)
      (fun e => shift_at (F := frow m c t.val) (X1 _) (X2 _) (X3 _) (X4 _) (X5 _) (X6 _) (X7 _) _ 6 128 (by decide) (by decide) _ x1 e)
      (fun e => w 4 (by decide) _ e)
      (fun e => shift_at (F := frow m c t.val) (X1 _) (X2 _) (X3 _) (X4 _) (X5 _) (X6 _) (X7 _) _ 7 128 (by decide) (by decide) _ x1 e)
      (fun e => w 5 (by decide) _ e)
      (fun e => cov_at (n := 64) (s := 136) (lo := 32) (fun j e hj => canon_fresh m c t _ j hj e) _ _ (by decide) x1 e)
      (fun e => w 6 (by decide) _ e)
      (fun e => shift_at (F := frow m c t.val) (X1 _) (X2 _) (X3 _) (X4 _) (X5 _) (X6 _) (X7 _) _ 1 136 (by decide) (by decide) _ x1 e)
      (fun e => w 7 (by decide) _ e)
      (fun e => shift_at (F := frow m c t.val) (X1 _) (X2 _) (X3 _) (X4 _) (X5 _) (X6 _) (X7 _) _ 2 136 (by decide) (by decide) _ x1 e)
      (fun e => w 8 (by decide) _ e)
      (fun e => shift_at (F := frow m c t.val) (X1 _) (X2 _) (X3 _) (X4 _) (X5 _) (X6 _) (X7 _) _ 3 136 (by decide) (by decide) _ x1 e)
      (fun e => w 9 (by decide) _ e)
      (fun e => shift_at (F := frow m c t.val) (X1 _) (X2 _) (X3 _) (X4 _) (X5 _) (X6 _) (X7 _) _ 4 136 (by decide) (by decide) _ x1 e)
      (fun e => w 10 (by decide) _ e)
      (fun e => shift_at (F := frow m c t.val) (X1 _) (X2 _) (X3 _) (X4 _) (X5 _) (X6 _) (X7 _) _ 5 136 (by decide) (by decide) _ x1 e)
      (fun e => w 11 (by decide) _ e)
      (fun e => shift_at (F := frow m c t.val) (X1 _) (X2 _) (X3 _) (X4 _) (X5 _) (X6 _) (X7 _) _ 6 136 (by decide) (by decide) _ x1 e)
      (fun e => w 12 (by decide) _ e)
      (fun e => shift_at (F := frow m c t.val) (X1 _) (X2 _) (X3 _) (X4 _) (X5 _) (X6 _) (X7 _) _ 7 136 (by decide) (by decide) _ x1 e)
      (fun e => w 13 (by decide) _ e)
      (fun e => cov_at (n := 64) (s := 144) (lo := 32) (fun j e hj => canon_fresh m c t _ j hj e) _ _ (by decide) x1 e)
      (fun e => w 14 (by decide) _ e)
      (fun e => shift_at (F := frow m c t.val) (X1 _) (X2 _) (X3 _) (X4 _) (X5 _) (X6 _) (X7 _) _ 1 144 (by decide) (by decide) _ x1 e)
      (fun e => w 15 (by decide) _ e)
      (fun e => shift_at (F := frow m c t.val) (X1 _) (X2 _) (X3 _) (X4 _) (X5 _) (X6 _) (X7 _) _ 2 144 (by decide) (by decide) _ x1 e)
      (fun e => w 16 (by decide) _ e)
      (fun e => shift_at (F := frow m c t.val) (X1 _) (X2 _) (X3 _) (X4 _) (X5 _) (X6 _) (X7 _) _ 3 144 (by decide) (by decide) _ x1 e)
      (fun e => w 17 (by decide) _ e)
      (fun e => shift_at (F := frow m c t.val) (X1 _) (X2 _) (X3 _) (X4 _) (X5 _) (X6 _) (X7 _) _ 4 144 (by decide) (by decide) _ x1 e)
      (fun e => w 18 (by decide) _ e)
      (fun e => shift_at (F := frow m c t.val) (X1 _) (X2 _) (X3 _) (X4 _) (X5 _) (X6 _) (X7 _) _ 5 144 (by decide) (by decide) _ x1 e)
      (fun e => w 19 (by decide) _ e)
      (fun e => shift_at (F := frow m c t.val) (X1 _) (X2 _) (X3 _) (X4 _) (X5 _) (X6 _) (X7 _) _ 6 144 (by decide) (by decide) _ x1 e)
      (fun e => w 20 (by decide) _ e)
      (fun e => shift_at (F := frow m c t.val) (X1 _) (X2 _) (X3 _) (X4 _) (X5 _) (X6 _) (X7 _) _ 7 144 (by decide) (by decide) _ x1 e)
      (fun e => w 21 (by decide) _ e)
      (fun e => cov_at (n := 64) (s := 152) (lo := 32) (fun j e hj => canon_fresh m c t _ j hj e) _ _ (by decide) x1 e)
      (fun e => w 22 (by decide) _ e)
      (fun e => shift_at (F := frow m c t.val) (X1 _) (X2 _) (X3 _) (X4 _) (X5 _) (X6 _) (X7 _) _ 1 152 (by decide) (by decide) _ x1 e)
      (fun e => w 23 (by decide) _ e)
      (fun e => shift_at (F := frow m c t.val) (X1 _) (X2 _) (X3 _) (X4 _) (X5 _) (X6 _) (X7 _) _ 2 152 (by decide) (by decide) _ x1 e)
      (fun e => w 24 (by decide) _ e)
      (fun e => shift_at (F := frow m c t.val) (X1 _) (X2 _) (X3 _) (X4 _) (X5 _) (X6 _) (X7 _) _ 3 152 (by decide) (by decide) _ x1 e)
      (fun e => w 25 (by decide) _ e)
      (fun e => shift_at (F := frow m c t.val) (X1 _) (X2 _) (X3 _) (X4 _) (X5 _) (X6 _) (X7 _) _ 4 152 (by decide) (by decide) _ x1 e)
      (fun e => w 26 (by decide) _ e)
      (fun e => shift_at (F := frow m c t.val) (X1 _) (X2 _) (X3 _) (X4 _) (X5 _) (X6 _) (X7 _) _ 5 152 (by decide) (by decide) _ x1 e)
      (fun e => w 27 (by decide) _ e)
      (fun e => shift_at (F := frow m c t.val) (X1 _) (X2 _) (X3 _) (X4 _) (X5 _) (X6 _) (X7 _) _ 6 152 (by decide) (by decide) _ x1 e)
      (fun e => w 28 (by decide) _ e)
      (fun e => shift_at (F := frow m c t.val) (X1 _) (X2 _) (X3 _) (X4 _) (X5 _) (X6 _) (X7 _) _ 7 152 (by decide) (by decide) _ x1 e)
      (fun e => w 29 (by decide) _ e)
      (fun e => cov_at (n := 64) (s := 160) (lo := 32) (fun j e hj => canon_fresh m c t _ j hj e) _ _ (by decide) x1 e)
      (fun e => w 30 (by decide) _ e)
      (fun e => dwb_at m c t e)
      (fun e => g_at m c t e)
      (fun e => b_at m c t e) x0 x2
  · idx_vars x
    refine Eq.trans ?_ (ey 64 x1 hx1 x2 hx2)
    exact chunk1_at x1
      (fun e => shift_at (F := frow m c t.val) (X1 _) (X2 _) (X3 _) (X4 _) (X5 _) (X6 _) (X7 _) _ 2 64 (by decide) (by decide) _ x1 e)
      (fun e => w 0 (by decide) _ e)
      (fun e => shift_at (F := frow m c t.val) (X1 _) (X2 _) (X3 _) (X4 _) (X5 _) (X6 _) (X7 _) _ 3 64 (by decide) (by decide) _ x1 e)
      (fun e => w 1 (by decide) _ e)
      (fun e => shift_at (F := frow m c t.val) (X1 _) (X2 _) (X3 _) (X4 _) (X5 _) (X6 _) (X7 _) _ 4 64 (by decide) (by decide) _ x1 e)
      (fun e => w 2 (by decide) _ e)
      (fun e => shift_at (F := frow m c t.val) (X1 _) (X2 _) (X3 _) (X4 _) (X5 _) (X6 _) (X7 _) _ 5 64 (by decide) (by decide) _ x1 e)
      (fun e => w 3 (by decide) _ e)
      (fun e => shift_at (F := frow m c t.val) (X1 _) (X2 _) (X3 _) (X4 _) (X5 _) (X6 _) (X7 _) _ 6 64 (by decide) (by decide) _ x1 e)
      (fun e => w 4 (by decide) _ e)
      (fun e => shift_at (F := frow m c t.val) (X1 _) (X2 _) (X3 _) (X4 _) (X5 _) (X6 _) (X7 _) _ 7 64 (by decide) (by decide) _ x1 e)
      (fun e => w 5 (by decide) _ e)
      (fun e => cov_at (n := 64) (s := 72) (lo := 32) (fun j e hj => canon_fresh m c t _ j hj e) _ _ (by decide) x1 e)
      (fun e => w 6 (by decide) _ e)
      (fun e => shift_at (F := frow m c t.val) (X1 _) (X2 _) (X3 _) (X4 _) (X5 _) (X6 _) (X7 _) _ 1 72 (by decide) (by decide) _ x1 e)
      (fun e => w 7 (by decide) _ e)
      (fun e => shift_at (F := frow m c t.val) (X1 _) (X2 _) (X3 _) (X4 _) (X5 _) (X6 _) (X7 _) _ 2 72 (by decide) (by decide) _ x1 e)
      (fun e => w 8 (by decide) _ e)
      (fun e => shift_at (F := frow m c t.val) (X1 _) (X2 _) (X3 _) (X4 _) (X5 _) (X6 _) (X7 _) _ 3 72 (by decide) (by decide) _ x1 e)
      (fun e => w 9 (by decide) _ e)
      (fun e => shift_at (F := frow m c t.val) (X1 _) (X2 _) (X3 _) (X4 _) (X5 _) (X6 _) (X7 _) _ 4 72 (by decide) (by decide) _ x1 e)
      (fun e => w 10 (by decide) _ e)
      (fun e => shift_at (F := frow m c t.val) (X1 _) (X2 _) (X3 _) (X4 _) (X5 _) (X6 _) (X7 _) _ 5 72 (by decide) (by decide) _ x1 e)
      (fun e => w 11 (by decide) _ e)
      (fun e => shift_at (F := frow m c t.val) (X1 _) (X2 _) (X3 _) (X4 _) (X5 _) (X6 _) (X7 _) _ 6 72 (by decide) (by decide) _ x1 e)
      (fun e => w 12 (by decide) _ e)
      (fun e => shift_at (F := frow m c t.val) (X1 _) (X2 _) (X3 _) (X4 _) (X5 _) (X6 _) (X7 _) _ 7 72 (by decide) (by decide) _ x1 e)
      (fun e => w 13 (by decide) _ e)
      (fun e => cov_at (n := 64) (s := 80) (lo := 32) (fun j e hj => canon_fresh m c t _ j hj e) _ _ (by decide) x1 e)
      (fun e => w 14 (by decide) _ e)
      (fun e => shift_at (F := frow m c t.val) (X1 _) (X2 _) (X3 _) (X4 _) (X5 _) (X6 _) (X7 _) _ 1 80 (by decide) (by decide) _ x1 e)
      (fun e => w 15 (by decide) _ e)
      (fun e => shift_at (F := frow m c t.val) (X1 _) (X2 _) (X3 _) (X4 _) (X5 _) (X6 _) (X7 _) _ 2 80 (by decide) (by decide) _ x1 e)
      (fun e => w 16 (by decide) _ e)
      (fun e => shift_at (F := frow m c t.val) (X1 _) (X2 _) (X3 _) (X4 _) (X5 _) (X6 _) (X7 _) _ 3 80 (by decide) (by decide) _ x1 e)
      (fun e => w 17 (by decide) _ e)
      (fun e => shift_at (F := frow m c t.val) (X1 _) (X2 _) (X3 _) (X4 _) (X5 _) (X6 _) (X7 _) _ 4 80 (by decide) (by decide) _ x1 e)
      (fun e => w 18 (by decide) _ e)
      (fun e => shift_at (F := frow m c t.val) (X1 _) (X2 _) (X3 _) (X4 _) (X5 _) (X6 _) (X7 _) _ 5 80 (by decide) (by decide) _ x1 e)
      (fun e => w 19 (by decide) _ e)
      (fun e => shift_at (F := frow m c t.val) (X1 _) (X2 _) (X3 _) (X4 _) (X5 _) (X6 _) (X7 _) _ 6 80 (by decide) (by decide) _ x1 e)
      (fun e => w 20 (by decide) _ e)
      (fun e => shift_at (F := frow m c t.val) (X1 _) (X2 _) (X3 _) (X4 _) (X5 _) (X6 _) (X7 _) _ 7 80 (by decide) (by decide) _ x1 e)
      (fun e => w 21 (by decide) _ e)
      (fun e => cov_at (n := 64) (s := 88) (lo := 32) (fun j e hj => canon_fresh m c t _ j hj e) _ _ (by decide) x1 e)
      (fun e => w 22 (by decide) _ e)
      (fun e => shift_at (F := frow m c t.val) (X1 _) (X2 _) (X3 _) (X4 _) (X5 _) (X6 _) (X7 _) _ 1 88 (by decide) (by decide) _ x1 e)
      (fun e => w 23 (by decide) _ e)
      (fun e => shift_at (F := frow m c t.val) (X1 _) (X2 _) (X3 _) (X4 _) (X5 _) (X6 _) (X7 _) _ 2 88 (by decide) (by decide) _ x1 e)
      (fun e => w 24 (by decide) _ e)
      (fun e => shift_at (F := frow m c t.val) (X1 _) (X2 _) (X3 _) (X4 _) (X5 _) (X6 _) (X7 _) _ 3 88 (by decide) (by decide) _ x1 e)
      (fun e => w 25 (by decide) _ e)
      (fun e => shift_at (F := frow m c t.val) (X1 _) (X2 _) (X3 _) (X4 _) (X5 _) (X6 _) (X7 _) _ 4 88 (by decide) (by decide) _ x1 e)
      (fun e => w 26 (by decide) _ e)
      (fun e => shift_at (F := frow m c t.val) (X1 _) (X2 _) (X3 _) (X4 _) (X5 _) (X6 _) (X7 _) _ 5 88 (by decide) (by decide) _ x1 e)
      (fun e => w 27 (by decide) _ e)
      (fun e => shift_at (F := frow m c t.val) (X1 _) (X2 _) (X3 _) (X4 _) (X5 _) (X6 _) (X7 _) _ 6 88 (by decide) (by decide) _ x1 e)
      (fun e => w 28 (by decide) _ e)
      (fun e => shift_at (F := frow m c t.val) (X1 _) (X2 _) (X3 _) (X4 _) (X5 _) (X6 _) (X7 _) _ 7 88 (by decide) (by decide) _ x1 e)
      (fun e => w 29 (by decide) _ e)
      (fun e => cov_at (n := 64) (s := 96) (lo := 32) (fun j e hj => canon_fresh m c t _ j hj e) _ _ (by decide) x1 e)
      (fun e => w 30 (by decide) _ e)
      (fun e => dwb_at m c t e)
      (fun e => g_at m c t e)
      (fun e => b_at m c t e) x0 x2
  · idx_vars x
    refine Eq.trans ?_ (ey 0 x1 (by omega) x2 hx2)
    exact chunk0_at x1
      (fun e => shift_at (F := frow m c t.val) (X1 _) (X2 _) (X3 _) (X4 _) (X5 _) (X6 _) (X7 _) _ 2 0 (by decide) (by decide) _ x1 e)
      (fun e => w 0 (by decide) _ e)
      (fun e => shift_at (F := frow m c t.val) (X1 _) (X2 _) (X3 _) (X4 _) (X5 _) (X6 _) (X7 _) _ 3 0 (by decide) (by decide) _ x1 e)
      (fun e => w 1 (by decide) _ e)
      (fun e => shift_at (F := frow m c t.val) (X1 _) (X2 _) (X3 _) (X4 _) (X5 _) (X6 _) (X7 _) _ 4 0 (by decide) (by decide) _ x1 e)
      (fun e => w 2 (by decide) _ e)
      (fun e => shift_at (F := frow m c t.val) (X1 _) (X2 _) (X3 _) (X4 _) (X5 _) (X6 _) (X7 _) _ 5 0 (by decide) (by decide) _ x1 e)
      (fun e => w 3 (by decide) _ e)
      (fun e => shift_at (F := frow m c t.val) (X1 _) (X2 _) (X3 _) (X4 _) (X5 _) (X6 _) (X7 _) _ 6 0 (by decide) (by decide) _ x1 e)
      (fun e => w 4 (by decide) _ e)
      (fun e => shift_at (F := frow m c t.val) (X1 _) (X2 _) (X3 _) (X4 _) (X5 _) (X6 _) (X7 _) _ 7 0 (by decide) (by decide) _ x1 e)
      (fun e => w 5 (by decide) _ e)
      (fun e => ld_at (n := 64) (s := 8) hbuf _ x1 e)
      (fun e => w 6 (by decide) _ e)
      (fun e => shift_at (F := frow m c t.val) (X1 _) (X2 _) (X3 _) (X4 _) (X5 _) (X6 _) (X7 _) _ 1 8 (by decide) (by decide) _ x1 e)
      (fun e => w 7 (by decide) _ e)
      (fun e => shift_at (F := frow m c t.val) (X1 _) (X2 _) (X3 _) (X4 _) (X5 _) (X6 _) (X7 _) _ 2 8 (by decide) (by decide) _ x1 e)
      (fun e => w 8 (by decide) _ e)
      (fun e => shift_at (F := frow m c t.val) (X1 _) (X2 _) (X3 _) (X4 _) (X5 _) (X6 _) (X7 _) _ 3 8 (by decide) (by decide) _ x1 e)
      (fun e => w 9 (by decide) _ e)
      (fun e => shift_at (F := frow m c t.val) (X1 _) (X2 _) (X3 _) (X4 _) (X5 _) (X6 _) (X7 _) _ 4 8 (by decide) (by decide) _ x1 e)
      (fun e => w 10 (by decide) _ e)
      (fun e => shift_at (F := frow m c t.val) (X1 _) (X2 _) (X3 _) (X4 _) (X5 _) (X6 _) (X7 _) _ 5 8 (by decide) (by decide) _ x1 e)
      (fun e => w 11 (by decide) _ e)
      (fun e => shift_at (F := frow m c t.val) (X1 _) (X2 _) (X3 _) (X4 _) (X5 _) (X6 _) (X7 _) _ 6 8 (by decide) (by decide) _ x1 e)
      (fun e => w 12 (by decide) _ e)
      (fun e => shift_at (F := frow m c t.val) (X1 _) (X2 _) (X3 _) (X4 _) (X5 _) (X6 _) (X7 _) _ 7 8 (by decide) (by decide) _ x1 e)
      (fun e => w 13 (by decide) _ e)
      (fun e => ld_at (n := 64) (s := 16) hbuf _ x1 e)
      (fun e => w 14 (by decide) _ e)
      (fun e => shift_at (F := frow m c t.val) (X1 _) (X2 _) (X3 _) (X4 _) (X5 _) (X6 _) (X7 _) _ 1 16 (by decide) (by decide) _ x1 e)
      (fun e => w 15 (by decide) _ e)
      (fun e => shift_at (F := frow m c t.val) (X1 _) (X2 _) (X3 _) (X4 _) (X5 _) (X6 _) (X7 _) _ 2 16 (by decide) (by decide) _ x1 e)
      (fun e => w 16 (by decide) _ e)
      (fun e => shift_at (F := frow m c t.val) (X1 _) (X2 _) (X3 _) (X4 _) (X5 _) (X6 _) (X7 _) _ 3 16 (by decide) (by decide) _ x1 e)
      (fun e => w 17 (by decide) _ e)
      (fun e => shift_at (F := frow m c t.val) (X1 _) (X2 _) (X3 _) (X4 _) (X5 _) (X6 _) (X7 _) _ 4 16 (by decide) (by decide) _ x1 e)
      (fun e => w 18 (by decide) _ e)
      (fun e => shift_at (F := frow m c t.val) (X1 _) (X2 _) (X3 _) (X4 _) (X5 _) (X6 _) (X7 _) _ 5 16 (by decide) (by decide) _ x1 e)
      (fun e => w 19 (by decide) _ e)
      (fun e => shift_at (F := frow m c t.val) (X1 _) (X2 _) (X3 _) (X4 _) (X5 _) (X6 _) (X7 _) _ 6 16 (by decide) (by decide) _ x1 e)
      (fun e => w 20 (by decide) _ e)
      (fun e => shift_at (F := frow m c t.val) (X1 _) (X2 _) (X3 _) (X4 _) (X5 _) (X6 _) (X7 _) _ 7 16 (by decide) (by decide) _ x1 e)
      (fun e => w 21 (by decide) _ e)
      (fun e => ld_at (n := 64) (s := 24) hbuf _ x1 e)
      (fun e => w 22 (by decide) _ e)
      (fun e => shift_at (F := frow m c t.val) (X1 _) (X2 _) (X3 _) (X4 _) (X5 _) (X6 _) (X7 _) _ 1 24 (by decide) (by decide) _ x1 e)
      (fun e => w 23 (by decide) _ e)
      (fun e => shift_at (F := frow m c t.val) (X1 _) (X2 _) (X3 _) (X4 _) (X5 _) (X6 _) (X7 _) _ 2 24 (by decide) (by decide) _ x1 e)
      (fun e => w 24 (by decide) _ e)
      (fun e => shift_at (F := frow m c t.val) (X1 _) (X2 _) (X3 _) (X4 _) (X5 _) (X6 _) (X7 _) _ 3 24 (by decide) (by decide) _ x1 e)
      (fun e => w 25 (by decide) _ e)
      (fun e => shift_at (F := frow m c t.val) (X1 _) (X2 _) (X3 _) (X4 _) (X5 _) (X6 _) (X7 _) _ 4 24 (by decide) (by decide) _ x1 e)
      (fun e => w 26 (by decide) _ e)
      (fun e => shift_at (F := frow m c t.val) (X1 _) (X2 _) (X3 _) (X4 _) (X5 _) (X6 _) (X7 _) _ 5 24 (by decide) (by decide) _ x1 e)
      (fun e => w 27 (by decide) _ e)
      (fun e => shift_at (F := frow m c t.val) (X1 _) (X2 _) (X3 _) (X4 _) (X5 _) (X6 _) (X7 _) _ 6 24 (by decide) (by decide) _ x1 e)
      (fun e => w 28 (by decide) _ e)
      (fun e => shift_at (F := frow m c t.val) (X1 _) (X2 _) (X3 _) (X4 _) (X5 _) (X6 _) (X7 _) _ 7 24 (by decide) (by decide) _ x1 e)
      (fun e => w 29 (by decide) _ e)
      (fun e => cov_at (n := 64) (s := 32) (lo := 32) (fun j e hj => canon_fresh m c t _ j hj e) _ _ (by decide) x1 e)
      (fun e => w 30 (by decide) _ e)
      (fun e => dwb_at m c t e)
      (fun e => g_at m c t e)
      (fun e => b_at m c t e) x0 x2

end Cert.ConvIdeal.Cv
-- ==== Proof.ConvFinal.lean ====
module

public import proofs.«01_k».proof.Proof.ConvValue

@[expose] public section

set_option maxRecDepth 16384

noncomputable section

open Idealize.ShloMosaic Idealize.ShloMosaic.TcCoe Idealize.SL.Sem

namespace Cert.ConvRefIdeal.Cv

/-- The module's rows. -/
def outs (x : FVec Ideal S16x4096x10240 .f32) (w : FVec Ideal S31x512 .f32) (dwb g b : FVec Ideal S512 .f32) : FVec Ideal S16x4096x512 .f32 :=
  fun y => outRow x w dwb g b (y 0) (y 1).val (y 2)

/-- The rows it carries on. -/
def lasts (x : FVec Ideal S16x4096x10240 .f32) : FVec Ideal S16x32x512 .f32 := fun y => glu x (y 0) (4096 + (y 1).val) (y 2)

end Cert.ConvRefIdeal.Cv

namespace Cert.ConvIdeal.Cv
open Cert.ConvIdeal Cert.ConvIdeal.Gen
open Cert.ConvRefIdeal.Cv (taps normed glu row outRow outs lasts)

variable (m : (ℓ : Loc nD τ sig) → Buf (Elt Ideal) ℓ)

/-- The module's rows from the arguments of the launch. -/
abbrev result (c : Dev nD) : FVec Ideal S16x4096x512 .f32 :=
  outs (proj m c) (m ((c : Thread nD τ).loc main_arg1)) (m ((c : Thread nD τ).loc main_arg2)) (m ((c : Thread nD τ).loc main_arg3))
    (m ((c : Thread nD τ).loc main_arg4))

/-- The first result after the launch. -/
theorem final (c : Dev nD) : (dats m 0 c).arrAt 7 (cfgs 0).N = result m c := by
  refine (dats m 0 c).arrAt_eq_of_covers 7 _ (by decide +kernel) fun t hf y => ?_
  obtain ⟨e0, e1, e2, e3, e4, e5, e6, e7, e8, ht⟩ := idx t
  have h1 : t.val / 16 < 16 := by omega
  refine Eq.trans (b := (outsAt0 m c t.val t.isLt).1 y) ?_ ?_
  · blk_simp
    rw [after0_7]
  · idx_vars y
    have h2 : t.val % 16 * 256 + y1.val < 4096 := by omega
    have hemb : (((cfg0.win 7).blk t).view.emb (ix3 y0 y1 y2) : S16x4096x512.Idx)
        = ix3 ⟨t.val / 16, h1⟩ ⟨t.val % 16 * 256 + y1.val, h2⟩ y2 := by
      blk_ext [e7]
    refine Eq.trans ?_ (congrArg (result m c) hemb).symm
    by_cases h : t.val % 16 = 0
    · exact outA m c t h h1 y0 y1 y2
    · exact outB m c t h h1 y0 y1 y2

/-- The last rows are returned after the last tile of each sequence. -/
theorem flush8 : ∀ t : Fin cfg0.N, (cfg0.win 8).flush t = true → t.val % 16 = 15 :=
  (by decide +kernel : ∀ t : Fin grid0.N, (win0_8.flush t = true → t.val % 16 = 15))

/-- The second result after the launch. -/
theorem final_last (c : Dev nD) : (dats m 0 c).arrAt 8 (cfgs 0).N = lasts (proj m c) := by
  refine (dats m 0 c).arrAt_eq_of_covers 8 _ (by decide +kernel) fun t hf y => ?_
  obtain ⟨e0, e1, e2, e3, e4, e5, e6, e7, e8, ht⟩ := idx t
  have h1 : t.val / 16 < 16 := by omega
  have h15 : t.val % 16 = 15 := flush8 t hf
  refine Eq.trans (b := (outsAt0 m c t.val t.isLt).2.1 y) ?_ ?_
  · blk_simp
    rw [after0_8]
  · idx_vars y
    have hemb : (((cfg0.win 8).blk t).view.emb (ix3 y0 y1 y2) : S16x32x512.Idx) = ix3 ⟨t.val / 16, h1⟩ y1 y2 := by
      blk_ext [e8]
    refine Eq.trans ?_ (congrArg (lasts (proj m c)) hemb).symm
    refine (last_at m c t y0 y1 y2).trans ?_
    have e9 : t.val % 16 * 256 + (256 + y1.val) = 4096 + y1.val := by omega
    unfold frow
    rw [dif_pos h1, e9]
    rfl

end Cert.ConvIdeal.Cv

namespace Cert.ConvRefIdeal.Cv
open Cert.ConvRefIdeal Cert.ConvRefIdeal.Gen Cert.ConvRefIdeal.Value

variable (V0 : Valuation τ sig (Elt Ideal))

/-- The reference's first result. -/
theorem returned : mulf (res_main_v252 V0 : FVec Ideal S16x4096x512 .f32) (Host.divf (broadcastInDim S16x4096x512 ![] bcast_S_S16x4096x512 (constant S_ .f32 0x3F800000#32))
      (addf (broadcastInDim S16x4096x512 ![] bcast_S_S16x4096x512 (constant S_ .f32 0x3F800000#32)) (Host.exp (Host.negf (res_main_v252 V0)))))
      = outs (V0 (Proc.devRef .tc main_arg0)) (V0 (Proc.devRef .tc main_arg1)) (V0 (Proc.devRef .tc main_arg2))
          (V0 (Proc.devRef .tc main_arg3)) (V0 (Proc.devRef .tc main_arg4)) := by
  funext y
  idx_vars y
  exact out_at V0 y0 y1 y2

/-- The reference's second result. -/
theorem returned_last : extractStridedSlice S16x32x512 ![0, 4064, 0] (res_main_v9 V0 : FVec Ideal S16x4096x512 .f32) slices_S16x4096x512_S16x32x512_0_4064_0
      = lasts (V0 (Proc.devRef .tc main_arg0)) := by
  funext y
  idx_vars y
  exact tail_at V0 y0 y1 y2

end Cert.ConvRefIdeal.Cv
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.MlpIdeal.Value
public import proofs.«01_k».proof.Proof.Gen.MlpRefIdeal
public import proofs.«01_k».proof.Proof.Gen.MlpRefIdeal.Run
public import proofs.«01_k».proof.Proof.MlpValue
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.InprojValue
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.MergeValue
public import proofs.«01_k».proof.Proof.Gen.Full
public import proofs.«01_k».proof.Proof.Gen.Full.Frame
public import proofs.«01_k».proof.Proof.Gen.FullIdeal
public import proofs.«01_k».proof.Proof.Gen.FullIdeal.Frame
public import proofs.«01_k».proof.Proof.Gen.FullIdeal.Value
public import proofs.«01_k».proof.Proof.Gen.FullRefIdeal
public import proofs.«01_k».proof.Proof.Gen.FullRefIdeal.Run
public import proofs.«01_k».proof.Proof.Gen.Pre_finite
public import proofs.«01_k».proof.Proof.FullPre
public import proofs.«01_k».proof.Proof.Gen.Modulate
public import proofs.«01_k».proof.Proof.Gen.Modulate.Frame
public import proofs.«01_k».proof.Proof.Gen.ModulateIdeal
public import proofs.«01_k».proof.Proof.Gen.ModulateIdeal.Frame
public import proofs.«01_k».proof.Proof.Gen.ModulateIdeal.Value
public import proofs.«01_k».proof.Proof.Gen.ModulateRefIdeal
public import proofs.«01_k».proof.Proof.Gen.ModulateRefIdeal.Run
public import proofs.«01_k».proof.Proof.ModValue
public import proofs.«01_k».proof.Proof.Gen.Conv
public import proofs.«01_k».proof.Proof.Gen.Conv.Frame
public import proofs.«01_k».proof.Proof.Gen.ConvIdeal
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.ConvFinal
public import Idealize.ShloMosaic.Lib.Quiescent
public import Idealize.ShloMosaic.Lib.Pipeline.ValueKit
public import Idealize.ShloMosaic.Adequacy
public import Idealize.ShloMosaic.Init

@[expose] public section

set_option maxRecDepth 16384

noncomputable section

namespace Cert.Proof

open Idealize.ShloMosaic Idealize.ShloMosaic.TcCoe Idealize.SL.Sem

theorem mlpRef_frame : Cert.quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

theorem inprojRef_frame : Cert.quiescent_InprojRefIdeal := fun m ρ _ =>
  (θ_run Cert.InprojRefIdeal.defs _ _).mono (fun r h => ⟨fun c => (h c).2, sem_eq_zero_of_no_sems (by decide) r.2⟩)
    (Cert.InprojRefIdeal.Value.run (F := Ideal) m ρ)

theorem mergeRef_frame : Cert.quiescent_MergeRefIdeal := fun m ρ _ =>
  (θ_run Cert.MergeRefIdeal.defs _ _).mono (fun r h => ⟨fun c => (h c).2, sem_eq_zero_of_no_sems (by decide) r.2⟩)
    (Cert.MergeRefIdeal.Value.run (F := Ideal) m ρ)

theorem fullRef_frame : Cert.quiescent_FullRefIdeal := fun m ρ _ =>
  (θ_run Cert.FullRefIdeal.defs _ _).mono (fun r h => ⟨fun c => (h c).2, sem_eq_zero_of_no_sems (by decide) r.2⟩)
    (Cert.FullRefIdeal.Value.run (F := Ideal) m ρ)

theorem modRef_frame : Cert.quiescent_ModulateRefIdeal := fun m ρ _ =>
  (θ_run Cert.ModulateRefIdeal.defs _ _).mono (fun r h => ⟨fun c => (h c).2, sem_eq_zero_of_no_sems (by decide) r.2⟩)
    (Cert.ModulateRefIdeal.Value.run (F := Ideal) m ρ)

theorem convRef_frame : Cert.quiescent_ConvRefIdeal := fun m ρ _ =>
  (θ_run Cert.ConvRefIdeal.defs _ _).mono (fun r h => ⟨fun c => (h c).2.2, sem_eq_zero_of_no_sems (by decide) r.2⟩)
    (Cert.ConvRefIdeal.Value.run (F := Ideal) m ρ)

theorem attention_preserves : Cert.preserves_Kernel_KernelIdeal :=
  ⟨IdealRules.named_const.statement Cert.KernelIdeal.κ "qscale" .f32 0x3E38AA3B#32 ((8⁻¹ * (Real.log 2)⁻¹ : ℝ) : EReal) rfl,
    IdealRules.named_const.statement Cert.KernelIdeal.κ "mask" .f32 0xF149F2CA#32 ⊥ rfl,
    IdealRules.named_const.statement Cert.KernelIdeal.κ "log2e" .f32 0x3FB8AA3B#32 (((Real.log 2)⁻¹ : ℝ) : EReal) rfl⟩

theorem full_preserves : Cert.preserves_Full_FullIdeal :=
  ⟨IdealRules.named_const.statement Cert.FullIdeal.κ "qscale" .f32 0x3E38AA3B#32 ((8⁻¹ * (Real.log 2)⁻¹ : ℝ) : EReal) rfl,
    IdealRules.named_const.statement Cert.FullIdeal.κ "mask" .f32 0xF149F2CA#32 ⊥ rfl,
    IdealRules.named_const.statement Cert.FullIdeal.κ "log2e" .f32 0x3FB8AA3B#32 (((Real.log 2)⁻¹ : ℝ) : EReal) rfl⟩

theorem mlp_algebraic : Cert.algebraic_MlpIdeal_MlpRefIdeal := by
  pair_intro
  · run_from Cert.MlpIdeal.Gen.run_main m g
  · run_from Cert.MlpRefIdeal.Value.run m' g'
    obtain ⟨e0, e1, e2, e3, e4⟩ := hagree c
    exact (Cert.MlpIdeal.Ff.ref_eq m m' c e0 e1 e2 e3 e4).trans (Cert.MlpIdeal.Ff.final m c).symm

theorem inproj_algebraic : Cert.algebraic_InprojIdeal_InprojRefIdeal := by
  pair_intro
  · run_from Cert.InprojIdeal.Gen.run_main m g
  · run_from Cert.InprojRefIdeal.Value.run m' g'
    obtain ⟨e0, e1, e2, e3, e4⟩ := hagree c
    refine (Cert.InprojRefIdeal.Proj.res_rows m' c).trans (Eq.trans ?_ (Cert.InprojIdeal.Proj.final m c).symm)
    rw [e0, e1, e2, e3, e4]

theorem merge_algebraic : Cert.algebraic_MergeIdeal_MergeRefIdeal := by
  pair_intro
  · run_from Cert.MergeIdeal.Gen.run_main m g
  · run_from Cert.MergeRefIdeal.Value.run m' g'
    obtain ⟨e0, e1, e2, e3, e4, e5, e6, e7, e8, e9⟩ := hagree c
    exact (Cert.MergeIdeal.Out.ref_eq m m' c e0 e1 e2 e3 e4 e5 e6 e7 e8 e9).trans (Cert.MergeIdeal.Out.final m c).symm

theorem full_algebraic : Cert.algebraic_FullIdeal_FullRefIdeal_pre_finite := by
  pair_intro
  · exact Cert.FullIdeal.Value.run_blocks m g
  · refine (θ_run Cert.FullRefIdeal.defs _ _).mono (fun r h c => ⟨?_, (h c).2⟩) (Cert.FullRefIdeal.Value.run (F := Ideal) m' g')
    obtain ⟨e0, e1, e2, e3, e4, e5, e6⟩ := hagree c
    exact ((h c).1.trans (Cert.FullRefIdeal.Attn.returned _)).trans
      ((Cert.FullRefIdeal.Attn.attended_congr e0 e1 e2 e3 e4 e5 e6).trans
        (Cert.FullIdeal.Attn.final m c (Cert.FullIdeal.Attn.reals m hpre c)).symm)

theorem mod_algebraic : Cert.algebraic_ModulateIdeal_ModulateRefIdeal := by
  pair_intro
  · exact Cert.ModulateIdeal.Value.run_blocks m g
  · refine (θ_run Cert.ModulateRefIdeal.defs _ _).mono (fun r h c => ⟨?_, (h c).2⟩) (Cert.ModulateRefIdeal.Value.run (F := Ideal) m' g')
    obtain ⟨e0, e1, e2, e3⟩ := hagree c
    refine (h c).1.trans (Eq.trans ?_ (Cert.ModulateIdeal.Md.final m c).symm)
    show _ = Cert.ModulateRefIdeal.Md.modulated _ _ _
    rw [e0, e1, e2, e3]
    rfl

theorem conv_algebraic : Cert.algebraic_ConvIdeal_ConvRefIdeal := by
  pair_intro
  · exact Cert.ConvIdeal.Value.run_blocks m g
  · refine (θ_run Cert.ConvRefIdeal.defs _ _).mono (fun r h c => ⟨?_, ?_, (h c).2.2⟩) (Cert.ConvRefIdeal.Value.run (F := Ideal) m' g')
    · obtain ⟨e0, e1, e2, e3, e4⟩ := hagree c
      refine ((h c).1.trans (Cert.ConvRefIdeal.Cv.returned _)).trans (Eq.trans ?_ (Cert.ConvIdeal.Cv.final m c).symm)
      show Cert.ConvRefIdeal.Cv.outs (m' (c.tc.loc Cert.ConvRefIdeal.main_arg0)) (m' (c.tc.loc Cert.ConvRefIdeal.main_arg1)) (m' (c.tc.loc Cert.ConvRefIdeal.main_arg2))
        (m' (c.tc.loc Cert.ConvRefIdeal.main_arg3)) (m' (c.tc.loc Cert.ConvRefIdeal.main_arg4)) = Cert.ConvRefIdeal.Cv.outs _ _ _ _ _
      rw [e0, e1, e2, e3, e4]
    · obtain ⟨e0, e1, e2, e3, e4⟩ := hagree c
      refine ((h c).2.1.trans (Cert.ConvRefIdeal.Cv.returned_last _)).trans (Eq.trans ?_ (Cert.ConvIdeal.Cv.final_last m c).symm)
      show Cert.ConvRefIdeal.Cv.lasts (m' (c.tc.loc Cert.ConvRefIdeal.main_arg0)) = Cert.ConvRefIdeal.Cv.lasts _
      rw [e0]

theorem claim : Cert.Claim :=
  ⟨Cert.Kernel.Gen.facts, Cert.KernelIdeal.Gen.facts, Cert.Mlp.Gen.facts, Cert.MlpIdeal.Gen.facts, Cert.MlpRefIdeal.Gen.facts,
    Cert.Inproj.Gen.facts, Cert.InprojIdeal.Gen.facts, Cert.InprojRefIdeal.Gen.facts,
    Cert.Merge.Gen.facts, Cert.MergeIdeal.Gen.facts, Cert.MergeRefIdeal.Gen.facts,
    Cert.Full.Gen.facts, Cert.FullIdeal.Gen.facts, Cert.FullRefIdeal.Gen.facts,
    Cert.Modulate.Gen.facts, Cert.ModulateIdeal.Gen.facts, Cert.ModulateRefIdeal.Gen.facts,
    Cert.Conv.Gen.facts, Cert.ConvIdeal.Gen.facts, Cert.ConvRefIdeal.Gen.facts, Cert.Pre_finite.Gen.facts,
    fun m g _ => Cert.Kernel.Gen.frame m g, fun m g _ => Cert.KernelIdeal.Gen.frame m g,
    fun m g _ => Cert.Mlp.Gen.frame m g, fun m g _ => Cert.MlpIdeal.Gen.frame m g, mlpRef_frame,
    fun m g _ => Cert.Inproj.Gen.frame m g, fun m g _ => Cert.InprojIdeal.Gen.frame m g, inprojRef_frame,
    fun m g _ => Cert.Merge.Gen.frame m g, fun m g _ => Cert.MergeIdeal.Gen.frame m g, mergeRef_frame,
    fun m g _ => Cert.Full.Gen.frame m g, fun m g _ => Cert.FullIdeal.Gen.frame m g, fun m g _ => Cert.FullIdeal.Gen.frame m g,
    fullRef_frame, fun m g _ => fullRef_frame m g trivial,
    fun m g _ => Cert.Modulate.Gen.frame m g, fun m g _ => Cert.ModulateIdeal.Gen.frame m g, modRef_frame,
    fun m g _ => Cert.Conv.Gen.frame m g, fun m g _ => Cert.ConvIdeal.Gen.frame m g, convRef_frame,
    attention_preserves, trivial, mlp_algebraic, trivial, inproj_algebraic, trivial, merge_algebraic,
    full_preserves, full_algebraic, trivial, mod_algebraic, trivial, conv_algebraic⟩

end Cert.Proof

end

end
